-- ==== Defs.lean ====
def Pre_Kernel [hPre_names_experts : Cert.Pre_names_experts.Facts] (m : (ℓ : Loc Cert.Kernel.nD Cert.Kernel.τ Cert.Kernel.sig) → Buf (Elt Bits) ℓ) : Prop :=
  ∀ c : Dev Cert.Kernel.nD,
    (Cert.Pre_names_experts.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_names_experts : Cert.Pre_names_experts.Facts] (m : (ℓ : Loc Cert.KernelIdeal.nD Cert.KernelIdeal.τ Cert.KernelIdeal.sig) → Buf (Elt Ideal) ℓ) : Prop :=
  ∀ c : Dev Cert.KernelIdeal.nD,
    (Cert.Pre_names_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_names_experts : Cert.Pre_names_experts.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_names_experts : Cert.Pre_names_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_names_experts : Cert.Pre_names_experts.Facts) (hPre_routed : Cert.Pre_routed.Facts),
    quiescent_Kernel (hKernel := hKernel) (hPre_names_experts := hPre_names_experts)
    ∧ quiescent_KernelIdeal (hKernelIdeal := hKernelIdeal) (hPre_names_experts := hPre_names_experts)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ preserves_Kernel_KernelIdeal
    ∧ algebraic_KernelIdeal_ReferenceIdeal_pre_routed (hKernelIdeal := hKernelIdeal) (hReferenceIdeal := hReferenceIdeal) (hPre_routed := hPre_routed)
-- ==== Pre_names_experts.lean ====
abbrev S24x1x2048 : Shape := ⟨3, ![24, 1, 2048]⟩
abbrev S24x1x4 : Shape := ⟨3, ![24, 1, 4]⟩
abbrev S8x8192x64x16 : Shape := ⟨4, ![8, 8192, 64, 16]⟩
abbrev S8x8192x64 : Shape := ⟨3, ![8, 8192, 64]⟩
abbrev S8x8192 : Shape := ⟨2, ![8, 8192]⟩
abbrev S8x2048x128x16 : Shape := ⟨4, ![8, 2048, 128, 16]⟩
abbrev S8x2048x128 : Shape := ⟨3, ![8, 2048, 128]⟩
abbrev S8x2048 : Shape := ⟨2, ![8, 2048]⟩
abbrev S_ : Shape := ⟨0, ![]⟩

class Facts : Prop where
  bcast_S_S24x1x4 : S_.BroadcastsInDim S24x1x4 (![] : Fin 0 → Fin S24x1x4.rank)
  reducesTo_S24x1x4_S_d0_1_2 : S24x1x4.ReducesTo [0, 1, 2] S_
  h_S_ : 0 < S_.numel

variable [Facts]

def fn {F : FTy → Type} [FloatOps F] (main_arg0 : FVec F S24x1x2048 .bf16) (main_arg1 : IVec S24x1x4 32) (main_arg2 : FVec F S24x1x4 .f32) (main_arg3 : IVec S8x8192x64x16 8) (main_arg4 : IVec S8x8192x64 8) (main_arg5 : FVec F S8x8192 .f32) (main_arg6 : IVec S8x2048x128x16 8) (main_arg7 : IVec S8x2048x128 8) (main_arg8 : FVec F S8x2048 .f32) : IVec S_ 1 :=
  let main_c : IVec S_ 32 := constantI S_ 32 0#32
  let main_v0 : IVec S24x1x4 32 := broadcastInDim S24x1x4 ![] bcast_S_S24x1x4 main_c
  let main_v1 : IVec S24x1x4 1 := cmpi .sge main_arg1 main_v0
  let main_c_0 : IVec S_ 32 := constantI S_ 32 8#32
  let main_v2 : IVec S24x1x4 32 := broadcastInDim S24x1x4 ![] bcast_S_S24x1x4 main_c_0
  let main_v3 : IVec S24x1x4 1 := cmpi .slt main_arg1 main_v2
  let main_v4 : IVec S24x1x4 1 := andi main_v1 main_v3
  let main_c_1 : IVec S_ 1 := constantI S_ 1 1#1
  let main_v5 : IVec S_ 1 := (fun x v => Host.reduce IntOp.andi x v reducesTo_S24x1x4_S_d0_1_2 h_S_) main_v4 main_c_1
  main_v5
-- ==== Pre_routed.lean ====
abbrev S24x1x2048 : Shape := ⟨3, ![24, 1, 2048]⟩
abbrev S24x1x4 : Shape := ⟨3, ![24, 1, 4]⟩
abbrev S8x8192x64x16 : Shape := ⟨4, ![8, 8192, 64, 16]⟩
abbrev S8x8192x64 : Shape := ⟨3, ![8, 8192, 64]⟩
abbrev S8x8192 : Shape := ⟨2, ![8, 8192]⟩
abbrev S8x2048x128x16 : Shape := ⟨4, ![8, 2048, 128, 16]⟩
abbrev S8x2048x128 : Shape := ⟨3, ![8, 2048, 128]⟩
abbrev S8x2048 : Shape := ⟨2, ![8, 2048]⟩
abbrev S24x4 : Shape := ⟨2, ![24, 4]⟩
abbrev S24x1 : Shape := ⟨2, ![24, 1]⟩
abbrev S24 : Shape := ⟨1, ![24]⟩
abbrev S_ : Shape := ⟨0, ![]⟩

class Facts : Prop where
  shapeCasts_S24x1x4_S24x4 : S24x1x4.ShapeCasts S24x4
  slices_S24x4_S24x1_0_0 : S24x4.Slices ![0, 0] S24x1
  shapeCasts_S24x1_S24 : S24x1.ShapeCasts S24
  slices_S24x4_S24x1_0_1 : S24x4.Slices ![0, 1] S24x1
  slices_S24x4_S24x1_0_2 : S24x4.Slices ![0, 2] S24x1
  slices_S24x4_S24x1_0_3 : S24x4.Slices ![0, 3] S24x1
  reducesTo_S24_S_d0 : S24.ReducesTo [0] S_
  h_S_ : 0 < S_.numel
  bcast_S_S24x1x4 : S_.BroadcastsInDim S24x1x4 (![] : Fin 0 → Fin S24x1x4.rank)
  reducesTo_S24x1x4_S_d0_1_2 : S24x1x4.ReducesTo [0, 1, 2] S_
  bcast_S_S8x8192x64 : S_.BroadcastsInDim S8x8192x64 (![] : Fin 0 → Fin S8x8192x64.rank)
  reducesTo_S8x8192x64_S_d0_1_2 : S8x8192x64.ReducesTo [0, 1, 2] S_
  bcast_S_S8x2048x128 : S_.BroadcastsInDim S8x2048x128 (![] : Fin 0 → Fin S8x2048x128.rank)
  reducesTo_S8x2048x128_S_d0_1_2 : S8x2048x128.ReducesTo [0, 1, 2] S_

variable [Facts]

def fn_part2 {F : FTy → Type} [FloatOps F] (main_arg4 : IVec S8x8192x64 8) (main_arg7 : IVec S8x2048x128 8) (main_v43 : IVec S_ 1) : IVec S_ 1 :=
  let main_c_3 : IVec S_ 8 := constantI S_ 8 0#8
  let main_v44 : IVec S8x8192x64 8 := broadcastInDim S8x8192x64 ![] bcast_S_S8x8192x64 main_c_3
  let main_v45 : IVec S8x8192x64 1 := cmpi .ne main_arg4 main_v44
  let main_c_4 : IVec S_ 1 := constantI S_ 1 1#1
  let main_v46 : IVec S_ 1 := (fun x v => Host.reduce IntOp.andi x v reducesTo_S8x8192x64_S_d0_1_2 h_S_) main_v45 main_c_4
  let main_v47 : IVec S_ 1 := andi main_v43 main_v46
  let main_c_5 : IVec S_ 8 := constantI S_ 8 0#8
  let main_v48 : IVec S8x2048x128 8 := broadcastInDim S8x2048x128 ![] bcast_S_S8x2048x128 main_c_5
  let main_v49 : IVec S8x2048x128 1 := cmpi .ne main_arg7 main_v48
  let main_c_6 : IVec S_ 1 := constantI S_ 1 1#1
  let main_v50 : IVec S_ 1 := (fun x v => Host.reduce IntOp.andi x v reducesTo_S8x2048x128_S_d0_1_2 h_S_) main_v49 main_c_6
  let main_v51 : IVec S_ 1 := andi main_v47 main_v50
  main_v51

def fn_part1 {F : FTy → Type} [FloatOps F] (main_arg1 : IVec S24x1x4 32) (main_arg4 : IVec S8x8192x64 8) (main_arg7 : IVec S8x2048x128 8) (main_v0 : IVec S24x4 32) (main_v23 : IVec S24 1) : IVec S_ 1 :=
  let main_v24 : IVec S24x1 32 := (extractStridedSlice S24x1 ![0, 1] · slices_S24x4_S24x1_0_1) main_v0
  let main_v25 : IVec S24 32 := shapeCast S24 main_v24 shapeCasts_S24x1_S24
  let main_v26 : IVec S24x1 32 := (extractStridedSlice S24x1 ![0, 3] · slices_S24x4_S24x1_0_3) main_v0
  let main_v27 : IVec S24 32 := shapeCast S24 main_v26 shapeCasts_S24x1_S24
  let main_v28 : IVec S24 1 := cmpi .ne main_v25 main_v27
  let main_v29 : IVec S24 1 := andi main_v23 main_v28
  let main_v30 : IVec S24x1 32 := (extractStridedSlice S24x1 ![0, 2] · slices_S24x4_S24x1_0_2) main_v0
  let main_v31 : IVec S24 32 := shapeCast S24 main_v30 shapeCasts_S24x1_S24
  let main_v32 : IVec S24x1 32 := (extractStridedSlice S24x1 ![0, 3] · slices_S24x4_S24x1_0_3) main_v0
  let main_v33 : IVec S24 32 := shapeCast S24 main_v32 shapeCasts_S24x1_S24
  let main_v34 : IVec S24 1 := cmpi .ne main_v31 main_v33
  let main_v35 : IVec S24 1 := andi main_v29 main_v34
  let main_c : IVec S_ 1 := constantI S_ 1 1#1
  let main_v36 : IVec S_ 1 := (fun x v => Host.reduce IntOp.andi x v reducesTo_S24_S_d0 h_S_) main_v35 main_c
  let main_c_0 : IVec S_ 32 := constantI S_ 32 0#32
  let main_v37 : IVec S24x1x4 32 := broadcastInDim S24x1x4 ![] bcast_S_S24x1x4 main_c_0
  let main_v38 : IVec S24x1x4 1 := cmpi .sge main_arg1 main_v37
  let main_c_1 : IVec S_ 32 := constantI S_ 32 8#32
  let main_v39 : IVec S24x1x4 32 := broadcastInDim S24x1x4 ![] bcast_S_S24x1x4 main_c_1
  let main_v40 : IVec S24x1x4 1 := cmpi .slt main_arg1 main_v39
  let main_v41 : IVec S24x1x4 1 := andi main_v38 main_v40
  let main_c_2 : IVec S_ 1 := constantI S_ 1 1#1
  let main_v42 : IVec S_ 1 := (fun x v => Host.reduce IntOp.andi x v reducesTo_S24x1x4_S_d0_1_2 h_S_) main_v41 main_c_2
  let main_v43 : IVec S_ 1 := andi main_v42 main_v36
  fn_part2 (F := F) main_arg4 main_arg7 main_v43

def fn {F : FTy → Type} [FloatOps F] (main_arg0 : FVec F S24x1x2048 .bf16) (main_arg1 : IVec S24x1x4 32) (main_arg2 : FVec F S24x1x4 .f32) (main_arg3 : IVec S8x8192x64x16 8) (main_arg4 : IVec S8x8192x64 8) (main_arg5 : FVec F S8x8192 .f32) (main_arg6 : IVec S8x2048x128x16 8) (main_arg7 : IVec S8x2048x128 8) (main_arg8 : FVec F S8x2048 .f32) : IVec S_ 1 :=
  let main_v0 : IVec S24x4 32 := shapeCast S24x4 main_arg1 shapeCasts_S24x1x4_S24x4
  let main_v1 : IVec S24x1 32 := (extractStridedSlice S24x1 ![0, 0] · slices_S24x4_S24x1_0_0) main_v0
  let main_v2 : IVec S24 32 := shapeCast S24 main_v1 shapeCasts_S24x1_S24
  let main_v3 : IVec S24x1 32 := (extractStridedSlice S24x1 ![0, 1] · slices_S24x4_S24x1_0_1) main_v0
  let main_v4 : IVec S24 32 := shapeCast S24 main_v3 shapeCasts_S24x1_S24
  let main_v5 : IVec S24 1 := cmpi .ne main_v2 main_v4
  let main_v6 : IVec S24x1 32 := (extractStridedSlice S24x1 ![0, 0] · slices_S24x4_S24x1_0_0) main_v0
  let main_v7 : IVec S24 32 := shapeCast S24 main_v6 shapeCasts_S24x1_S24
  let main_v8 : IVec S24x1 32 := (extractStridedSlice S24x1 ![0, 2] · slices_S24x4_S24x1_0_2) main_v0
  let main_v9 : IVec S24 32 := shapeCast S24 main_v8 shapeCasts_S24x1_S24
  let main_v10 : IVec S24 1 := cmpi .ne main_v7 main_v9
  let main_v11 : IVec S24 1 := andi main_v5 main_v10
  let main_v12 : IVec S24x1 32 := (extractStridedSlice S24x1 ![0, 0] · slices_S24x4_S24x1_0_0) main_v0
  let main_v13 : IVec S24 32 := shapeCast S24 main_v12 shapeCasts_S24x1_S24
  let main_v14 : IVec S24x1 32 := (extractStridedSlice S24x1 ![0, 3] · slices_S24x4_S24x1_0_3) main_v0
  let main_v15 : IVec S24 32 := shapeCast S24 main_v14 shapeCasts_S24x1_S24
  let main_v16 : IVec S24 1 := cmpi .ne main_v13 main_v15
  let main_v17 : IVec S24 1 := andi main_v11 main_v16
  let main_v18 : IVec S24x1 32 := (extractStridedSlice S24x1 ![0, 1] · slices_S24x4_S24x1_0_1) main_v0
  let main_v19 : IVec S24 32 := shapeCast S24 main_v18 shapeCasts_S24x1_S24
  let main_v20 : IVec S24x1 32 := (extractStridedSlice S24x1 ![0, 2] · slices_S24x4_S24x1_0_2) main_v0
  let main_v21 : IVec S24 32 := shapeCast S24 main_v20 shapeCasts_S24x1_S24
  let main_v22 : IVec S24 1 := cmpi .ne main_v19 main_v21
  let main_v23 : IVec S24 1 := andi main_v17 main_v22
  fn_part1 (F := F) main_arg1 main_arg4 main_arg7 main_v0 main_v23
-- ==== Kernel.lean ====
abbrev S24x1x2048 : Shape := ⟨3, ![24, 1, 2048]⟩
abbrev S24x1x4 : Shape := ⟨3, ![24, 1, 4]⟩
abbrev S8x8192x64x16 : Shape := ⟨4, ![8, 8192, 64, 16]⟩
abbrev S8x8192x64 : Shape := ⟨3, ![8, 8192, 64]⟩
abbrev S8x8192 : Shape := ⟨2, ![8, 8192]⟩
abbrev S8x2048x128x16 : Shape := ⟨4, ![8, 2048, 128, 16]⟩
abbrev S8x2048x128 : Shape := ⟨3, ![8, 2048, 128]⟩
abbrev S8x2048 : Shape := ⟨2, ![8, 2048]⟩
abbrev S8x64x128x64x2x8 : Shape := ⟨6, ![8, 64, 128, 64, 2, 8]⟩
abbrev S8x64x2x64x8x128 : Shape := ⟨6, ![8, 64, 2, 64, 8, 128]⟩
abbrev S8x64x8192 : Shape := ⟨3, ![8, 64, 8192]⟩
abbrev S8x2048x128x2x8 : Shape := ⟨5, ![8, 2048, 128, 2, 8]⟩
abbrev S8x2048x2x8x128 : Shape := ⟨5, ![8, 2048, 2, 8, 128]⟩
abbrev S24x4 : Shape := ⟨2, ![24, 4]⟩
abbrev S4x24 : Shape := ⟨2, ![4, 24]⟩
abbrev S24x2048 : Shape := ⟨2, ![24, 2048]⟩
abbrev S9 : Shape := ⟨1, ![9]⟩
abbrev S128x8 : Shape := ⟨2, ![128, 8]⟩
abbrev S16x64x2x4x8x128 : Shape := ⟨6, ![16, 64, 2, 4, 8, 128]⟩
abbrev S4x512x2x8x128 : Shape := ⟨5, ![4, 512, 2, 8, 128]⟩
abbrev S16x64x512 : Shape := ⟨3, ![16, 64, 512]⟩
abbrev S4x512x128 : Shape := ⟨3, ![4, 512, 128]⟩
abbrev S64x512 : Shape := ⟨2, ![64, 512]⟩
abbrev S8x128 : Shape := ⟨2, ![8, 128]⟩
abbrev S16x24x256 : Shape := ⟨3, ![16, 24, 256]⟩
abbrev S512x256 : Shape := ⟨2, ![512, 256]⟩
abbrev S4x24x512 : Shape := ⟨3, ![4, 24, 512]⟩
abbrev S4x16 : Shape := ⟨2, ![4, 16]⟩
abbrev S1x1 : Shape := ⟨2, ![1, 1]⟩
abbrev S1 : Shape := ⟨1, ![1]⟩
abbrev S24 : Shape := ⟨1, ![24]⟩
abbrev S1x24 : Shape := ⟨2, ![1, 24]⟩
abbrev S8x24 : Shape := ⟨2, ![8, 24]⟩
abbrev S8x104 : Shape := ⟨2, ![8, 104]⟩
abbrev S_ : Shape := ⟨0, ![]⟩
abbrev S1x64x2x4x8x128 : Shape := ⟨6, ![1, 64, 2, 4, 8, 128]⟩
abbrev S64x2x4x8x128 : Shape := ⟨5, ![64, 2, 4, 8, 128]⟩
abbrev S1x64x512 : Shape := ⟨3, ![1, 64, 512]⟩
abbrev S1x512x2x8x128 : Shape := ⟨5, ![1, 512, 2, 8, 128]⟩
abbrev S512x2x8x128 : Shape := ⟨4, ![512, 2, 8, 128]⟩
abbrev S1x512x128 : Shape := ⟨3, ![1, 512, 128]⟩
abbrev S512x128 : Shape := ⟨2, ![512, 128]⟩
abbrev S4096x128 : Shape := ⟨2, ![4096, 128]⟩
abbrev S1024x128 : Shape := ⟨2, ![1024, 128]⟩
abbrev S1024x8x128 : Shape := ⟨3, ![1024, 8, 128]⟩
abbrev S1024x1x128 : Shape := ⟨3, ![1024, 1, 128]⟩
abbrev S8192x128 : Shape := ⟨2, ![8192, 128]⟩
abbrev S128x4x16x128 : Shape := ⟨4, ![128, 4, 16, 128]⟩
abbrev S64x1x512 : Shape := ⟨3, ![64, 1, 512]⟩
abbrev S64x16x512 : Shape := ⟨3, ![64, 16, 512]⟩
abbrev S1024x512 : Shape := ⟨2, ![1024, 512]⟩
abbrev S2048x512 : Shape := ⟨2, ![2048, 512]⟩
abbrev S128x1x16x128 : Shape := ⟨4, ![128, 1, 16, 128]⟩
abbrev S128x16x128 : Shape := ⟨3, ![128, 16, 128]⟩
abbrev S2048x128 : Shape := ⟨2, ![2048, 128]⟩
abbrev S24x512 : Shape := ⟨2, ![24, 512]⟩
abbrev S1x512 : Shape := ⟨2, ![1, 512]⟩
abbrev S24x256 : Shape := ⟨2, ![24, 256]⟩
abbrev S1x24x256 : Shape := ⟨3, ![1, 24, 256]⟩
abbrev S128 : Shape := ⟨1, ![128]⟩
abbrev S128x1 : Shape := ⟨2, ![128, 1]⟩
abbrev S24x1 : Shape := ⟨2, ![24, 1]⟩
abbrev S512x4x128 : Shape := ⟨3, ![512, 4, 128]⟩
abbrev S128x1x128 : Shape := ⟨3, ![128, 1, 128]⟩
abbrev S128x128 : Shape := ⟨2, ![128, 128]⟩
abbrev S2048x8x128 : Shape := ⟨3, ![2048, 8, 128]⟩
abbrev S2048x1x128 : Shape := ⟨3, ![2048, 1, 128]⟩
abbrev S16384x128 : Shape := ⟨2, ![16384, 128]⟩
abbrev S16x1024x128 : Shape := ⟨3, ![16, 1024, 128]⟩
abbrev S1x128x128 : Shape := ⟨3, ![1, 128, 128]⟩
abbrev S128x4x128 : Shape := ⟨3, ![128, 4, 128]⟩
abbrev S1x1024x128 : Shape := ⟨3, ![1, 1024, 128]⟩
abbrev S16x64x128 : Shape := ⟨3, ![16, 64, 128]⟩
abbrev S16x256x128 : Shape := ⟨3, ![16, 256, 128]⟩
abbrev S4096x512 : Shape := ⟨2, ![4096, 512]⟩
abbrev S24x4096 : Shape := ⟨2, ![24, 4096]⟩
abbrev S1x24x512 : Shape := ⟨3, ![1, 24, 512]⟩

abbrev nBuf : Space → Nat
  | .hbm => 21
  | .vmem => 16
  | .smem => 2
  | _ => 0

abbrev bufTy : (tb : Table) → Fin (tcTables nBuf tb) → BufTy
  | .hbm, ⟨0, _⟩ => ⟨S24x1x2048, .bf16⟩
  | .hbm, ⟨1, _⟩ => ⟨S24x1x4, .i32⟩
  | .hbm, ⟨2, _⟩ => ⟨S24x1x4, .f32⟩
  | .hbm, ⟨3, _⟩ => ⟨S8x8192x64x16, .i8⟩
  | .hbm, ⟨4, _⟩ => ⟨S8x8192x64, .i8⟩
  | .hbm, ⟨5, _⟩ => ⟨S8x8192, .f32⟩
  | .hbm, ⟨6, _⟩ => ⟨S8x2048x128x16, .i8⟩
  | .hbm, ⟨7, _⟩ => ⟨S8x2048x128, .i8⟩
  | .hbm, ⟨8, _⟩ => ⟨S8x2048, .f32⟩
  | .hbm, ⟨9, _⟩ => ⟨S8x64x128x64x2x8, .i8⟩
  | .hbm, ⟨10, _⟩ => ⟨S8x64x2x64x8x128, .i8⟩
  | .hbm, ⟨11, _⟩ => ⟨S8x64x8192, .i8⟩
  | .hbm, ⟨12, _⟩ => ⟨S8x2048x128x2x8, .i8⟩
  | .hbm, ⟨13, _⟩ => ⟨S8x2048x2x8x128, .i8⟩
  | .hbm, ⟨14, _⟩ => ⟨S24x4, .i32⟩
  | .hbm, ⟨15, _⟩ => ⟨S4x24, .i32⟩
  | .hbm, ⟨16, _⟩ => ⟨S24x4, .f32⟩
  | .hbm, ⟨17, _⟩ => ⟨S4x24, .f32⟩
  | .hbm, ⟨18, _⟩ => ⟨S24x2048, .bf16⟩
  | .hbm, ⟨19, _⟩ => ⟨S24x2048, .bf16⟩
  | .hbm, ⟨20, _⟩ => ⟨S24x1x2048, .bf16⟩
  | .local _ .vmem, ⟨0, _⟩ => ⟨S4x24, .i32⟩
  | .local _ .vmem, ⟨1, _⟩ => ⟨S4x24, .f32⟩
  | .local _ .vmem, ⟨2, _⟩ => ⟨S24x2048, .bf16⟩
  | .local _ .vmem, ⟨3, _⟩ => ⟨S8x8192, .f32⟩
  | .local _ .vmem, ⟨4, _⟩ => ⟨S8x2048, .f32⟩
  | .local _ .vmem, ⟨5, _⟩ => ⟨S24x2048, .bf16⟩
  | .local _ .vmem, ⟨6, _⟩ => ⟨S128x8, .f32⟩
  | .local _ .vmem, ⟨7, _⟩ => ⟨S16x64x2x4x8x128, .i8⟩
  | .local _ .vmem, ⟨8, _⟩ => ⟨S4x512x2x8x128, .i8⟩
  | .local _ .vmem, ⟨9, _⟩ => ⟨S16x64x512, .i8⟩
  | .local _ .vmem, ⟨10, _⟩ => ⟨S4x512x128, .i8⟩
  | .local _ .vmem, ⟨11, _⟩ => ⟨S64x512, .i32⟩
  | .local _ .vmem, ⟨12, _⟩ => ⟨S8x128, .i32⟩
  | .local _ .vmem, ⟨13, _⟩ => ⟨S16x24x256, .bf16⟩
  | .local _ .vmem, ⟨14, _⟩ => ⟨S512x256, .bf16⟩
  | .local _ .vmem, ⟨15, _⟩ => ⟨S4x24x512, .f32⟩
  | .local _ .smem, ⟨0, _⟩ => ⟨S4x24, .i32⟩
  | .local _ .smem, ⟨1, _⟩ => ⟨S9, .i32⟩
  | _, _ => ⟨S24x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_scratch10 : Ref sig .tc := ⟨.vmem, 15, rfl⟩
abbrev cc0_stg0_0 : Ref sig .tc := ⟨.smem, 0, rfl⟩
abbrev cc0_scratch0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32_0 : BitVec 32 := 0#32
  let c96_i32 : BitVec 32 := 96#32
  let v0 : BitVec 32 := Scalar.addi c0_i32_0 c96_i32
  let c1_i32 : BitVec 32 := 1#32
  ⟨c0_i32_0, v0, c1_i32⟩
def k0_off1 (k0_t1 : Fin k0_t1_loop.trips) : Fin 2 → Nat :=
  let c0_i32_0 : BitVec 32 := 0#32
  let c1_i32 : BitVec 32 := 1#32
  let arg23 : BitVec 32 := Scf.iv c0_i32_0 c1_i32 k0_t1
  let c0_i32_446 : BitVec 32 := 0#32
  let v430 : BitVec 1 := Scalar.cmpi .sgt arg23 c0_i32_446
  let v431 : BitVec 32 := Scalar.extui v430
  let c0_i32_447 : BitVec 32 := 0#32
  let v432 : BitVec 1 := Scalar.cmpi .slt arg23 c0_i32_447
  let v433 : BitVec 32 := Scalar.extui v432
  let v434 : BitVec 32 := Scalar.subi v431 v433
  let c24_i32_445 : BitVec 32 := 24#32
  let c0_i32_448 : BitVec 32 := 0#32
  let v435 : BitVec 1 := Scalar.cmpi .sgt c24_i32_445 c0_i32_448
  let v436 : BitVec 32 := Scalar.extui v435
  let c0_i32_449 : BitVec 32 := 0#32
  let v437 : BitVec 1 := Scalar.cmpi .slt c24_i32_445 c0_i32_449
  let v438 : BitVec 32 := Scalar.extui v437
  let v439 : BitVec 32 := Scalar.subi v436 v438
  let v440 : BitVec 1 := Scalar.cmpi .ne v434 v439
  let v441 : BitVec 32 := Scalar.remsi arg23 c24_i32_445
  let c0_i32_450 : BitVec 32 := 0#32
  let v442 : BitVec 1 := Scalar.cmpi .ne v441 c0_i32_450
  let v443 : BitVec 1 := Scalar.andi v440 v442
  let v429 : BitVec 32 := Scalar.divsi arg23 c24_i32_445
  let c1_i32_451 : BitVec 32 := 1#32
  let v444 : BitVec 32 := Scalar.subi v429 c1_i32_451
  let v445 : BitVec 32 := Scalar.select v443 v444 v429
  let v456 : Index := Scalar.indexCast v445
  let c24_i32_452 : BitVec 32 := 24#32
  let c0_i32_453 : BitVec 32 := 0#32
  let v446 : BitVec 1 := Scalar.cmpi .eq c24_i32_452 c0_i32_453
  let c1_i32_454 : BitVec 32 := 1#32
  let v447 : BitVec 32 := Scalar.select v446 c1_i32_454 c24_i32_452
  let v448 : BitVec 32 := Scalar.remsi arg23 v447
  let c0_i32_456 : BitVec 32 := 0#32
  let v450 : BitVec 1 := Scalar.cmpi .slt v448 c0_i32_456
  let c0_i32_457 : BitVec 32 := 0#32
  let v451 : BitVec 1 := Scalar.cmpi .slt v447 c0_i32_457
  let v452 : BitVec 1 := Scalar.xori v450 v451
  let c0_i32_455 : BitVec 32 := 0#32
  let v449 : BitVec 1 := Scalar.cmpi .ne v448 c0_i32_455
  let v453 : BitVec 1 := Scalar.andi v452 v449
  let v454 : BitVec 32 := Scalar.addi v448 v447
  let v455 : BitVec 32 := Scalar.select v453 v454 v448
  let v457 : Index := Scalar.indexCast v455
  ![v456.toNat, v457.toNat]
@[reducible] def k0_t2_loop : Scf.Loop 32 :=
  let c0_i32_3 : BitVec 32 := 0#32
  let c8_i32 : BitVec 32 := 8#32
  let v2 : BitVec 32 := Scalar.addi c0_i32_3 c8_i32
  let c1_i32_4 : BitVec 32 := 1#32
  ⟨c0_i32_3, v2, c1_i32_4⟩
def k0_off2 (arg24 : BitVec 32) : Fin 1 → Nat :=
  let v429 : Index := Scalar.indexCast arg24
  ![v429.toNat]

def k0_chk1 (arg24 : BitVec 32) : Prop :=
  (∀ a, (k0_off2 arg24) a + S1.size a ≤ S9.size a)
theorem k0_off2_inb : ∀ (arg24 : BitVec 32) (k0_hw1 : k0_chk1 arg24), ∀ a, (k0_off2 arg24) a + S1.size a ≤ S9.size a := fun arg24 k0_hw1 => k0_hw1

def k0_off3 (v165 : BitVec 32) : Fin 6 → Nat :=
  let c0_i32_73 : BitVec 32 := 0#32
  let c0_i32_74 : BitVec 32 := 0#32
  let c0_i32_75 : BitVec 32 := 0#32
  let c0_i32_76 : BitVec 32 := 0#32
  let c0_i32_77 : BitVec 32 := 0#32
  ![v165.toNat, 0, 0, 0, 0, 0]

def k0_off4 (v165 : BitVec 32) : Fin 3 → Nat :=
  let c0_i32_83 : BitVec 32 := 0#32
  let c0_i32_84 : BitVec 32 := 0#32
  ![v165.toNat, 0, 0]
def k0_off5 (v165 : BitVec 32) : Fin 6 → Nat :=
  let c0_i32_93 : BitVec 32 := 0#32
  let c0_i32_94 : BitVec 32 := 0#32
  let c4_i32_95 : BitVec 32 := 4#32
  let c0_i32_96 : BitVec 32 := 0#32
  let c0_i32_97 : BitVec 32 := 0#32
  ![v165.toNat, 0, 0, 4, 0, 0]
def k0_off6 (v165 : BitVec 32) : Fin 3 → Nat :=
  let c0_i32_103 : BitVec 32 := 0#32
  let c512_i32 : BitVec 32 := 512#32
  ![v165.toNat, 0, 512]
def k0_off7 (v165 : BitVec 32) : Fin 6 → Nat :=
  let c0_i32_112 : BitVec 32 := 0#32
  let c0_i32_113 : BitVec 32 := 0#32
  let c8_i32_114 : BitVec 32 := 8#32
  let c0_i32_115 : BitVec 32 := 0#32
  let c0_i32_116 : BitVec 32 := 0#32
  ![v165.toNat, 0, 0, 8, 0, 0]
def k0_off8 (v165 : BitVec 32) : Fin 3 → Nat :=
  let c0_i32_122 : BitVec 32 := 0#32
  let c1024_i32 : BitVec 32 := 1024#32
  ![v165.toNat, 0, 1024]
def k0_off9 (v165 : BitVec 32) : Fin 6 → Nat :=
  let c0_i32_131 : BitVec 32 := 0#32
  let c0_i32_132 : BitVec 32 := 0#32
  let c12_i32 : BitVec 32 := 12#32
  let c0_i32_133 : BitVec 32 := 0#32
  let c0_i32_134 : BitVec 32 := 0#32
  ![v165.toNat, 0, 0, 12, 0, 0]
def k0_off10 (v165 : BitVec 32) : Fin 3 → Nat :=
  let c0_i32_140 : BitVec 32 := 0#32
  let c1536_i32 : BitVec 32 := 1536#32
  ![v165.toNat, 0, 1536]
def k0_off11 (v165 : BitVec 32) : Fin 6 → Nat :=
  let c0_i32_149 : BitVec 32 := 0#32
  let c0_i32_150 : BitVec 32 := 0#32
  let c16_i32 : BitVec 32 := 16#32
  let c0_i32_151 : BitVec 32 := 0#32
  let c0_i32_152 : BitVec 32 := 0#32
  ![v165.toNat, 0, 0, 16, 0, 0]
def k0_off12 (v165 : BitVec 32) : Fin 3 → Nat :=
  let c0_i32_158 : BitVec 32 := 0#32
  let c2048_i32 : BitVec 32 := 2048#32
  ![v165.toNat, 0, 2048]
def k0_off13 (v165 : BitVec 32) : Fin 6 → Nat :=
  let c0_i32_167 : BitVec 32 := 0#32
  let c0_i32_168 : BitVec 32 := 0#32
  let c20_i32 : BitVec 32 := 20#32
  let c0_i32_169 : BitVec 32 := 0#32
  let c0_i32_170 : BitVec 32 := 0#32
  ![v165.toNat, 0, 0, 20, 0, 0]
def k0_off14 (v165 : BitVec 32) : Fin 3 → Nat :=
  let c0_i32_176 : BitVec 32 := 0#32
  let c2560_i32 : BitVec 32 := 2560#32
  ![v165.toNat, 0, 2560]
def k0_off15 (v165 : BitVec 32) : Fin 6 → Nat :=
  let c0_i32_185 : BitVec 32 := 0#32
  let c0_i32_186 : BitVec 32 := 0#32
  let c24_i32 : BitVec 32 := 24#32
  let c0_i32_187 : BitVec 32 := 0#32
  let c0_i32_188 : BitVec 32 := 0#32
  ![v165.toNat, 0, 0, 24, 0, 0]
def k0_off16 (v165 : BitVec 32) : Fin 3 → Nat :=
  let c0_i32_194 : BitVec 32 := 0#32
  let c3072_i32 : BitVec 32 := 3072#32
  ![v165.toNat, 0, 3072]
def k0_off17 (v165 : BitVec 32) : Fin 6 → Nat :=
  let c0_i32_203 : BitVec 32 := 0#32
  let c0_i32_204 : BitVec 32 := 0#32
  let c28_i32 : BitVec 32 := 28#32
  let c0_i32_205 : BitVec 32 := 0#32
  let c0_i32_206 : BitVec 32 := 0#32
  ![v165.toNat, 0, 0, 28, 0, 0]
def k0_off18 (v165 : BitVec 32) : Fin 3 → Nat :=
  let c0_i32_212 : BitVec 32 := 0#32
  let c3584_i32 : BitVec 32 := 3584#32
  ![v165.toNat, 0, 3584]
def k0_off19 (v165 : BitVec 32) : Fin 6 → Nat :=
  let c0_i32_221 : BitVec 32 := 0#32
  let c0_i32_222 : BitVec 32 := 0#32
  let c32_i32_223 : BitVec 32 := 32#32
  let c0_i32_224 : BitVec 32 := 0#32
  let c0_i32_225 : BitVec 32 := 0#32
  ![v165.toNat, 0, 0, 32, 0, 0]
def k0_off20 (v165 : BitVec 32) : Fin 3 → Nat :=
  let c0_i32_231 : BitVec 32 := 0#32
  let c4096_i32 : BitVec 32 := 4096#32
  ![v165.toNat, 0, 4096]
def k0_off21 (v165 : BitVec 32) : Fin 6 → Nat :=
  let c0_i32_239 : BitVec 32 := 0#32
  let c0_i32_240 : BitVec 32 := 0#32
  let c36_i32 : BitVec 32 := 36#32
  let c0_i32_241 : BitVec 32 := 0#32
  let c0_i32_242 : BitVec 32 := 0#32
  ![v165.toNat, 0, 0, 36, 0, 0]
def k0_off22 (v165 : BitVec 32) : Fin 3 → Nat :=
  let c0_i32_248 : BitVec 32 := 0#32
  let c4608_i32 : BitVec 32 := 4608#32
  ![v165.toNat, 0, 4608]
def k0_off23 (v165 : BitVec 32) : Fin 6 → Nat :=
  let c0_i32_256 : BitVec 32 := 0#32
  let c0_i32_257 : BitVec 32 := 0#32
  let c40_i32 : BitVec 32 := 40#32
  let c0_i32_258 : BitVec 32 := 0#32
  let c0_i32_259 : BitVec 32 := 0#32
  ![v165.toNat, 0, 0, 40, 0, 0]
def k0_off24 (v165 : BitVec 32) : Fin 3 → Nat :=
  let c0_i32_265 : BitVec 32 := 0#32
  let c5120_i32 : BitVec 32 := 5120#32
  ![v165.toNat, 0, 5120]
def k0_off25 (v165 : BitVec 32) : Fin 6 → Nat :=
  let c0_i32_273 : BitVec 32 := 0#32
  let c0_i32_274 : BitVec 32 := 0#32
  let c44_i32 : BitVec 32 := 44#32
  let c0_i32_275 : BitVec 32 := 0#32
  let c0_i32_276 : BitVec 32 := 0#32
  ![v165.toNat, 0, 0, 44, 0, 0]
def k0_off26 (v165 : BitVec 32) : Fin 3 → Nat :=
  let c0_i32_282 : BitVec 32 := 0#32
  let c5632_i32 : BitVec 32 := 5632#32
  ![v165.toNat, 0, 5632]
def k0_off27 (v165 : BitVec 32) : Fin 6 → Nat :=
  let c0_i32_291 : BitVec 32 := 0#32
  let c0_i32_292 : BitVec 32 := 0#32
  let c48_i32 : BitVec 32 := 48#32
  let c0_i32_293 : BitVec 32 := 0#32
  let c0_i32_294 : BitVec 32 := 0#32
  ![v165.toNat, 0, 0, 48, 0, 0]
def k0_off28 (v165 : BitVec 32) : Fin 3 → Nat :=
  let c0_i32_300 : BitVec 32 := 0#32
  let c6144_i32 : BitVec 32 := 6144#32
  ![v165.toNat, 0, 6144]
def k0_off29 (v165 : BitVec 32) : Fin 6 → Nat :=
  let c0_i32_308 : BitVec 32 := 0#32
  let c0_i32_309 : BitVec 32 := 0#32
  let c52_i32 : BitVec 32 := 52#32
  let c0_i32_310 : BitVec 32 := 0#32
  let c0_i32_311 : BitVec 32 := 0#32
  ![v165.toNat, 0, 0, 52, 0, 0]
def k0_off30 (v165 : BitVec 32) : Fin 3 → Nat :=
  let c0_i32_317 : BitVec 32 := 0#32
  let c6656_i32 : BitVec 32 := 6656#32
  ![v165.toNat, 0, 6656]
def k0_off31 (v165 : BitVec 32) : Fin 6 → Nat :=
  let c0_i32_325 : BitVec 32 := 0#32
  let c0_i32_326 : BitVec 32 := 0#32
  let c56_i32 : BitVec 32 := 56#32
  let c0_i32_327 : BitVec 32 := 0#32
  let c0_i32_328 : BitVec 32 := 0#32
  ![v165.toNat, 0, 0, 56, 0, 0]
def k0_off32 (v165 : BitVec 32) : Fin 3 → Nat :=
  let c0_i32_334 : BitVec 32 := 0#32
  let c7168_i32 : BitVec 32 := 7168#32
  ![v165.toNat, 0, 7168]
def k0_off33 (v165 : BitVec 32) : Fin 6 → Nat :=
  let c0_i32_342 : BitVec 32 := 0#32
  let c0_i32_343 : BitVec 32 := 0#32
  let c60_i32 : BitVec 32 := 60#32
  let c0_i32_344 : BitVec 32 := 0#32
  let c0_i32_345 : BitVec 32 := 0#32
  ![v165.toNat, 0, 0, 60, 0, 0]
def k0_off34 (v165 : BitVec 32) : Fin 3 → Nat :=
  let c0_i32_351 : BitVec 32 := 0#32
  let c7680_i32 : BitVec 32 := 7680#32
  ![v165.toNat, 0, 7680]
def k0_off35 (v165 : BitVec 32) : Fin 5 → Nat :=
  let c0_i32_359 : BitVec 32 := 0#32
  let c0_i32_360 : BitVec 32 := 0#32
  let c0_i32_361 : BitVec 32 := 0#32
  let c0_i32_362 : BitVec 32 := 0#32
  ![v165.toNat, 0, 0, 0, 0]
def k0_off36 (v165 : BitVec 32) : Fin 3 → Nat :=
  let c0_i32_368 : BitVec 32 := 0#32
  let c0_i32_369 : BitVec 32 := 0#32
  ![v165.toNat, 0, 0]
def k0_off37 (v165 : BitVec 32) : Fin 5 → Nat :=
  let c512_i32_377 : BitVec 32 := 512#32
  let c0_i32_378 : BitVec 32 := 0#32
  let c0_i32_379 : BitVec 32 := 0#32
  let c0_i32_380 : BitVec 32 := 0#32
  ![v165.toNat, 512, 0, 0, 0]
def k0_off38 (v165 : BitVec 32) : Fin 3 → Nat :=
  let c512_i32_386 : BitVec 32 := 512#32
  let c0_i32_387 : BitVec 32 := 0#32
  ![v165.toNat, 512, 0]
def k0_off39 (v165 : BitVec 32) : Fin 5 → Nat :=
  let c1024_i32_395 : BitVec 32 := 1024#32
  let c0_i32_396 : BitVec 32 := 0#32
  let c0_i32_397 : BitVec 32 := 0#32
  let c0_i32_398 : BitVec 32 := 0#32
  ![v165.toNat, 1024, 0, 0, 0]
def k0_off40 (v165 : BitVec 32) : Fin 3 → Nat :=
  let c1024_i32_404 : BitVec 32 := 1024#32
  let c0_i32_405 : BitVec 32 := 0#32
  ![v165.toNat, 1024, 0]
def k0_off41 (v165 : BitVec 32) : Fin 5 → Nat :=
  let c1536_i32_413 : BitVec 32 := 1536#32
  let c0_i32_414 : BitVec 32 := 0#32
  let c0_i32_415 : BitVec 32 := 0#32
  let c0_i32_416 : BitVec 32 := 0#32
  ![v165.toNat, 1536, 0, 0, 0]
def k0_off42 (v165 : BitVec 32) : Fin 3 → Nat :=
  let c1536_i32_422 : BitVec 32 := 1536#32
  let c0_i32_423 : BitVec 32 := 0#32
  ![v165.toNat, 1536, 0]

def k0_chk2_0 (v165 : BitVec 32) : Prop :=
  (∀ a, (k0_off3 v165) a + S1x64x2x4x8x128.size a ≤ S8x64x2x64x8x128.size a) ∧
  (∀ (hinb : ∀ a, (k0_off3 v165) a + S1x64x2x4x8x128.size a ≤ S8x64x2x64x8x128.size a), (Rect.unit (s := S8x64x2x64x8x128) (k0_off3 v165) S1x64x2x4x8x128.size hinb).WholeWords (EltTy.packing .i8)) ∧
  (∀ a, (k0_off4 v165) a + S1x64x512.size a ≤ S8x64x8192.size a) ∧
  (∀ (hinb : ∀ a, (k0_off4 v165) a + S1x64x512.size a ≤ S8x64x8192.size a), (Rect.unit (s := S8x64x8192) (k0_off4 v165) S1x64x512.size hinb).WholeWords (EltTy.packing .i8)) ∧
  (∀ a, (k0_off5 v165) a + S1x64x2x4x8x128.size a ≤ S8x64x2x64x8x128.size a) ∧
  (∀ (hinb : ∀ a, (k0_off5 v165) a + S1x64x2x4x8x128.size a ≤ S8x64x2x64x8x128.size a), (Rect.unit (s := S8x64x2x64x8x128) (k0_off5 v165) S1x64x2x4x8x128.size hinb).WholeWords (EltTy.packing .i8)) ∧
  (∀ a, (k0_off6 v165) a + S1x64x512.size a ≤ S8x64x8192.size a) ∧
  (∀ (hinb : ∀ a, (k0_off6 v165) a + S1x64x512.size a ≤ S8x64x8192.size a), (Rect.unit (s := S8x64x8192) (k0_off6 v165) S1x64x512.size hinb).WholeWords (EltTy.packing .i8)) ∧
  (∀ a, (k0_off7 v165) a + S1x64x2x4x8x128.size a ≤ S8x64x2x64x8x128.size a) ∧
  (∀ (hinb : ∀ a, (k0_off7 v165) a + S1x64x2x4x8x128.size a ≤ S8x64x2x64x8x128.size a), (Rect.unit (s := S8x64x2x64x8x128) (k0_off7 v165) S1x64x2x4x8x128.size hinb).WholeWords (EltTy.packing .i8)) ∧
  (∀ a, (k0_off8 v165) a + S1x64x512.size a ≤ S8x64x8192.size a) ∧
  (∀ (hinb : ∀ a, (k0_off8 v165) a + S1x64x512.size a ≤ S8x64x8192.size a), (Rect.unit (s := S8x64x8192) (k0_off8 v165) S1x64x512.size hinb).WholeWords (EltTy.packing .i8)) ∧
  (∀ a, (k0_off9 v165) a + S1x64x2x4x8x128.size a ≤ S8x64x2x64x8x128.size a) ∧
  (∀ (hinb : ∀ a, (k0_off9 v165) a + S1x64x2x4x8x128.size a ≤ S8x64x2x64x8x128.size a), (Rect.unit (s := S8x64x2x64x8x128) (k0_off9 v165) S1x64x2x4x8x128.size hinb).WholeWords (EltTy.packing .i8)) ∧
  (∀ a, (k0_off10 v165) a + S1x64x512.size a ≤ S8x64x8192.size a) ∧
  (∀ (hinb : ∀ a, (k0_off10 v165) a + S1x64x512.size a ≤ S8x64x8192.size a), (Rect.unit (s := S8x64x8192) (k0_off10 v165) S1x64x512.size hinb).WholeWords (EltTy.packing .i8)) ∧
  (∀ a, (k0_off11 v165) a + S1x64x2x4x8x128.size a ≤ S8x64x2x64x8x128.size a) ∧
  (∀ (hinb : ∀ a, (k0_off11 v165) a + S1x64x2x4x8x128.size a ≤ S8x64x2x64x8x128.size a), (Rect.unit (s := S8x64x2x64x8x128) (k0_off11 v165) S1x64x2x4x8x128.size hinb).WholeWords (EltTy.packing .i8)) ∧
  (∀ a, (k0_off12 v165) a + S1x64x512.size a ≤ S8x64x8192.size a) ∧
  (∀ (hinb : ∀ a, (k0_off12 v165) a + S1x64x512.size a ≤ S8x64x8192.size a), (Rect.unit (s := S8x64x8192) (k0_off12 v165) S1x64x512.size hinb).WholeWords (EltTy.packing .i8)) ∧
  (∀ a, (k0_off13 v165) a + S1x64x2x4x8x128.size a ≤ S8x64x2x64x8x128.size a) ∧
  (∀ (hinb : ∀ a, (k0_off13 v165) a + S1x64x2x4x8x128.size a ≤ S8x64x2x64x8x128.size a), (Rect.unit (s := S8x64x2x64x8x128) (k0_off13 v165) S1x64x2x4x8x128.size hinb).WholeWords (EltTy.packing .i8)) ∧
  (∀ a, (k0_off14 v165) a + S1x64x512.size a ≤ S8x64x8192.size a) ∧
  (∀ (hinb : ∀ a, (k0_off14 v165) a + S1x64x512.size a ≤ S8x64x8192.size a), (Rect.unit (s := S8x64x8192) (k0_off14 v165) S1x64x512.size hinb).WholeWords (EltTy.packing .i8)) ∧
  (∀ a, (k0_off15 v165) a + S1x64x2x4x8x128.size a ≤ S8x64x2x64x8x128.size a) ∧
  (∀ (hinb : ∀ a, (k0_off15 v165) a + S1x64x2x4x8x128.size a ≤ S8x64x2x64x8x128.size a), (Rect.unit (s := S8x64x2x64x8x128) (k0_off15 v165) S1x64x2x4x8x128.size hinb).WholeWords (EltTy.packing .i8)) ∧
  (∀ a, (k0_off16 v165) a + S1x64x512.size a ≤ S8x64x8192.size a) ∧
  (∀ (hinb : ∀ a, (k0_off16 v165) a + S1x64x512.size a ≤ S8x64x8192.size a), (Rect.unit (s := S8x64x8192) (k0_off16 v165) S1x64x512.size hinb).WholeWords (EltTy.packing .i8)) ∧
  (∀ a, (k0_off17 v165) a + S1x64x2x4x8x128.size a ≤ S8x64x2x64x8x128.size a) ∧
  (∀ (hinb : ∀ a, (k0_off17 v165) a + S1x64x2x4x8x128.size a ≤ S8x64x2x64x8x128.size a), (Rect.unit (s := S8x64x2x64x8x128) (k0_off17 v165) S1x64x2x4x8x128.size hinb).WholeWords (EltTy.packing .i8)) ∧
  (∀ a, (k0_off18 v165) a + S1x64x512.size a ≤ S8x64x8192.size a) ∧
  (∀ (hinb : ∀ a, (k0_off18 v165) a + S1x64x512.size a ≤ S8x64x8192.size a), (Rect.unit (s := S8x64x8192) (k0_off18 v165) S1x64x512.size hinb).WholeWords (EltTy.packing .i8))
def k0_chk2_1 (v165 : BitVec 32) : Prop :=
  (∀ a, (k0_off19 v165) a + S1x64x2x4x8x128.size a ≤ S8x64x2x64x8x128.size a) ∧
  (∀ (hinb : ∀ a, (k0_off19 v165) a + S1x64x2x4x8x128.size a ≤ S8x64x2x64x8x128.size a), (Rect.unit (s := S8x64x2x64x8x128) (k0_off19 v165) S1x64x2x4x8x128.size hinb).WholeWords (EltTy.packing .i8)) ∧
  (∀ a, (k0_off20 v165) a + S1x64x512.size a ≤ S8x64x8192.size a) ∧
  (∀ (hinb : ∀ a, (k0_off20 v165) a + S1x64x512.size a ≤ S8x64x8192.size a), (Rect.unit (s := S8x64x8192) (k0_off20 v165) S1x64x512.size hinb).WholeWords (EltTy.packing .i8)) ∧
  (∀ a, (k0_off21 v165) a + S1x64x2x4x8x128.size a ≤ S8x64x2x64x8x128.size a) ∧
  (∀ (hinb : ∀ a, (k0_off21 v165) a + S1x64x2x4x8x128.size a ≤ S8x64x2x64x8x128.size a), (Rect.unit (s := S8x64x2x64x8x128) (k0_off21 v165) S1x64x2x4x8x128.size hinb).WholeWords (EltTy.packing .i8)) ∧
  (∀ a, (k0_off22 v165) a + S1x64x512.size a ≤ S8x64x8192.size a) ∧
  (∀ (hinb : ∀ a, (k0_off22 v165) a + S1x64x512.size a ≤ S8x64x8192.size a), (Rect.unit (s := S8x64x8192) (k0_off22 v165) S1x64x512.size hinb).WholeWords (EltTy.packing .i8)) ∧
  (∀ a, (k0_off23 v165) a + S1x64x2x4x8x128.size a ≤ S8x64x2x64x8x128.size a) ∧
  (∀ (hinb : ∀ a, (k0_off23 v165) a + S1x64x2x4x8x128.size a ≤ S8x64x2x64x8x128.size a), (Rect.unit (s := S8x64x2x64x8x128) (k0_off23 v165) S1x64x2x4x8x128.size hinb).WholeWords (EltTy.packing .i8)) ∧
  (∀ a, (k0_off24 v165) a + S1x64x512.size a ≤ S8x64x8192.size a) ∧
  (∀ (hinb : ∀ a, (k0_off24 v165) a + S1x64x512.size a ≤ S8x64x8192.size a), (Rect.unit (s := S8x64x8192) (k0_off24 v165) S1x64x512.size hinb).WholeWords (EltTy.packing .i8)) ∧
  (∀ a, (k0_off25 v165) a + S1x64x2x4x8x128.size a ≤ S8x64x2x64x8x128.size a) ∧
  (∀ (hinb : ∀ a, (k0_off25 v165) a + S1x64x2x4x8x128.size a ≤ S8x64x2x64x8x128.size a), (Rect.unit (s := S8x64x2x64x8x128) (k0_off25 v165) S1x64x2x4x8x128.size hinb).WholeWords (EltTy.packing .i8)) ∧
  (∀ a, (k0_off26 v165) a + S1x64x512.size a ≤ S8x64x8192.size a) ∧
  (∀ (hinb : ∀ a, (k0_off26 v165) a + S1x64x512.size a ≤ S8x64x8192.size a), (Rect.unit (s := S8x64x8192) (k0_off26 v165) S1x64x512.size hinb).WholeWords (EltTy.packing .i8)) ∧
  (∀ a, (k0_off27 v165) a + S1x64x2x4x8x128.size a ≤ S8x64x2x64x8x128.size a) ∧
  (∀ (hinb : ∀ a, (k0_off27 v165) a + S1x64x2x4x8x128.size a ≤ S8x64x2x64x8x128.size a), (Rect.unit (s := S8x64x2x64x8x128) (k0_off27 v165) S1x64x2x4x8x128.size hinb).WholeWords (EltTy.packing .i8)) ∧
  (∀ a, (k0_off28 v165) a + S1x64x512.size a ≤ S8x64x8192.size a) ∧
  (∀ (hinb : ∀ a, (k0_off28 v165) a + S1x64x512.size a ≤ S8x64x8192.size a), (Rect.unit (s := S8x64x8192) (k0_off28 v165) S1x64x512.size hinb).WholeWords (EltTy.packing .i8)) ∧
  (∀ a, (k0_off29 v165) a + S1x64x2x4x8x128.size a ≤ S8x64x2x64x8x128.size a) ∧
  (∀ (hinb : ∀ a, (k0_off29 v165) a + S1x64x2x4x8x128.size a ≤ S8x64x2x64x8x128.size a), (Rect.unit (s := S8x64x2x64x8x128) (k0_off29 v165) S1x64x2x4x8x128.size hinb).WholeWords (EltTy.packing .i8)) ∧
  (∀ a, (k0_off30 v165) a + S1x64x512.size a ≤ S8x64x8192.size a) ∧
  (∀ (hinb : ∀ a, (k0_off30 v165) a + S1x64x512.size a ≤ S8x64x8192.size a), (Rect.unit (s := S8x64x8192) (k0_off30 v165) S1x64x512.size hinb).WholeWords (EltTy.packing .i8)) ∧
  (∀ a, (k0_off31 v165) a + S1x64x2x4x8x128.size a ≤ S8x64x2x64x8x128.size a) ∧
  (∀ (hinb : ∀ a, (k0_off31 v165) a + S1x64x2x4x8x128.size a ≤ S8x64x2x64x8x128.size a), (Rect.unit (s := S8x64x2x64x8x128) (k0_off31 v165) S1x64x2x4x8x128.size hinb).WholeWords (EltTy.packing .i8)) ∧
  (∀ a, (k0_off32 v165) a + S1x64x512.size a ≤ S8x64x8192.size a) ∧
  (∀ (hinb : ∀ a, (k0_off32 v165) a + S1x64x512.size a ≤ S8x64x8192.size a), (Rect.unit (s := S8x64x8192) (k0_off32 v165) S1x64x512.size hinb).WholeWords (EltTy.packing .i8)) ∧
  (∀ a, (k0_off33 v165) a + S1x64x2x4x8x128.size a ≤ S8x64x2x64x8x128.size a) ∧
  (∀ (hinb : ∀ a, (k0_off33 v165) a + S1x64x2x4x8x128.size a ≤ S8x64x2x64x8x128.size a), (Rect.unit (s := S8x64x2x64x8x128) (k0_off33 v165) S1x64x2x4x8x128.size hinb).WholeWords (EltTy.packing .i8)) ∧
  (∀ a, (k0_off34 v165) a + S1x64x512.size a ≤ S8x64x8192.size a) ∧
  (∀ (hinb : ∀ a, (k0_off34 v165) a + S1x64x512.size a ≤ S8x64x8192.size a), (Rect.unit (s := S8x64x8192) (k0_off34 v165) S1x64x512.size hinb).WholeWords (EltTy.packing .i8))
def k0_chk2_2 (v165 : BitVec 32) : Prop :=
  (∀ a, (k0_off35 v165) a + S1x512x2x8x128.size a ≤ S8x2048x2x8x128.size a) ∧
  (∀ (hinb : ∀ a, (k0_off35 v165) a + S1x512x2x8x128.size a ≤ S8x2048x2x8x128.size a), (Rect.unit (s := S8x2048x2x8x128) (k0_off35 v165) S1x512x2x8x128.size hinb).WholeWords (EltTy.packing .i8)) ∧
  (∀ a, (k0_off36 v165) a + S1x512x128.size a ≤ S8x2048x128.size a) ∧
  (∀ (hinb : ∀ a, (k0_off36 v165) a + S1x512x128.size a ≤ S8x2048x128.size a), (Rect.unit (s := S8x2048x128) (k0_off36 v165) S1x512x128.size hinb).WholeWords (EltTy.packing .i8)) ∧
  (∀ a, (k0_off37 v165) a + S1x512x2x8x128.size a ≤ S8x2048x2x8x128.size a) ∧
  (∀ (hinb : ∀ a, (k0_off37 v165) a + S1x512x2x8x128.size a ≤ S8x2048x2x8x128.size a), (Rect.unit (s := S8x2048x2x8x128) (k0_off37 v165) S1x512x2x8x128.size hinb).WholeWords (EltTy.packing .i8)) ∧
  (∀ a, (k0_off38 v165) a + S1x512x128.size a ≤ S8x2048x128.size a) ∧
  (∀ (hinb : ∀ a, (k0_off38 v165) a + S1x512x128.size a ≤ S8x2048x128.size a), (Rect.unit (s := S8x2048x128) (k0_off38 v165) S1x512x128.size hinb).WholeWords (EltTy.packing .i8)) ∧
  (∀ a, (k0_off39 v165) a + S1x512x2x8x128.size a ≤ S8x2048x2x8x128.size a) ∧
  (∀ (hinb : ∀ a, (k0_off39 v165) a + S1x512x2x8x128.size a ≤ S8x2048x2x8x128.size a), (Rect.unit (s := S8x2048x2x8x128) (k0_off39 v165) S1x512x2x8x128.size hinb).WholeWords (EltTy.packing .i8)) ∧
  (∀ a, (k0_off40 v165) a + S1x512x128.size a ≤ S8x2048x128.size a) ∧
  (∀ (hinb : ∀ a, (k0_off40 v165) a + S1x512x128.size a ≤ S8x2048x128.size a), (Rect.unit (s := S8x2048x128) (k0_off40 v165) S1x512x128.size hinb).WholeWords (EltTy.packing .i8)) ∧
  (∀ a, (k0_off41 v165) a + S1x512x2x8x128.size a ≤ S8x2048x2x8x128.size a) ∧
  (∀ (hinb : ∀ a, (k0_off41 v165) a + S1x512x2x8x128.size a ≤ S8x2048x2x8x128.size a), (Rect.unit (s := S8x2048x2x8x128) (k0_off41 v165) S1x512x2x8x128.size hinb).WholeWords (EltTy.packing .i8)) ∧
  (∀ a, (k0_off42 v165) a + S1x512x128.size a ≤ S8x2048x128.size a) ∧
  (∀ (hinb : ∀ a, (k0_off42 v165) a + S1x512x128.size a ≤ S8x2048x128.size a), (Rect.unit (s := S8x2048x128) (k0_off42 v165) S1x512x128.size hinb).WholeWords (EltTy.packing .i8))
def k0_chk2 (v165 : BitVec 32) : Prop :=
  k0_chk2_0 v165 ∧
  k0_chk2_1 v165 ∧
  k0_chk2_2 v165
theorem k0_off3_inb : ∀ (v165 : BitVec 32) (k0_hw2 : k0_chk2 v165), ∀ a, (k0_off3 v165) a + S1x64x2x4x8x128.size a ≤ S8x64x2x64x8x128.size a := fun v165 k0_hw2 => k0_hw2.1.1
theorem k0_off3_wordsi8 : ∀ (v165 : BitVec 32) (k0_hw2 : k0_chk2 v165), (Rect.unit (s := S8x64x2x64x8x128) (k0_off3 v165) S1x64x2x4x8x128.size (k0_off3_inb v165 k0_hw2)).WholeWords (EltTy.packing .i8) := fun v165 k0_hw2 => k0_hw2.1.2.1 (k0_off3_inb v165 k0_hw2)
theorem k0_off4_inb : ∀ (v165 : BitVec 32) (k0_hw2 : k0_chk2 v165), ∀ a, (k0_off4 v165) a + S1x64x512.size a ≤ S8x64x8192.size a := fun v165 k0_hw2 => k0_hw2.1.2.2.1
theorem k0_off4_wordsi8 : ∀ (v165 : BitVec 32) (k0_hw2 : k0_chk2 v165), (Rect.unit (s := S8x64x8192) (k0_off4 v165) S1x64x512.size (k0_off4_inb v165 k0_hw2)).WholeWords (EltTy.packing .i8) := fun v165 k0_hw2 => k0_hw2.1.2.2.2.1 (k0_off4_inb v165 k0_hw2)
theorem k0_off5_inb : ∀ (v165 : BitVec 32) (k0_hw2 : k0_chk2 v165), ∀ a, (k0_off5 v165) a + S1x64x2x4x8x128.size a ≤ S8x64x2x64x8x128.size a := fun v165 k0_hw2 => k0_hw2.1.2.2.2.2.1
theorem k0_off5_wordsi8 : ∀ (v165 : BitVec 32) (k0_hw2 : k0_chk2 v165), (Rect.unit (s := S8x64x2x64x8x128) (k0_off5 v165) S1x64x2x4x8x128.size (k0_off5_inb v165 k0_hw2)).WholeWords (EltTy.packing .i8) := fun v165 k0_hw2 => k0_hw2.1.2.2.2.2.2.1 (k0_off5_inb v165 k0_hw2)
theorem k0_off6_inb : ∀ (v165 : BitVec 32) (k0_hw2 : k0_chk2 v165), ∀ a, (k0_off6 v165) a + S1x64x512.size a ≤ S8x64x8192.size a := fun v165 k0_hw2 => k0_hw2.1.2.2.2.2.2.2.1
theorem k0_off6_wordsi8 : ∀ (v165 : BitVec 32) (k0_hw2 : k0_chk2 v165), (Rect.unit (s := S8x64x8192) (k0_off6 v165) S1x64x512.size (k0_off6_inb v165 k0_hw2)).WholeWords (EltTy.packing .i8) := fun v165 k0_hw2 => k0_hw2.1.2.2.2.2.2.2.2.1 (k0_off6_inb v165 k0_hw2)
theorem k0_off7_inb : ∀ (v165 : BitVec 32) (k0_hw2 : k0_chk2 v165), ∀ a, (k0_off7 v165) a + S1x64x2x4x8x128.size a ≤ S8x64x2x64x8x128.size a := fun v165 k0_hw2 => k0_hw2.1.2.2.2.2.2.2.2.2.1
theorem k0_off7_wordsi8 : ∀ (v165 : BitVec 32) (k0_hw2 : k0_chk2 v165), (Rect.unit (s := S8x64x2x64x8x128) (k0_off7 v165) S1x64x2x4x8x128.size (k0_off7_inb v165 k0_hw2)).WholeWords (EltTy.packing .i8) := fun v165 k0_hw2 => k0_hw2.1.2.2.2.2.2.2.2.2.2.1 (k0_off7_inb v165 k0_hw2)
theorem k0_off8_inb : ∀ (v165 : BitVec 32) (k0_hw2 : k0_chk2 v165), ∀ a, (k0_off8 v165) a + S1x64x512.size a ≤ S8x64x8192.size a := fun v165 k0_hw2 => k0_hw2.1.2.2.2.2.2.2.2.2.2.2.1
theorem k0_off8_wordsi8 : ∀ (v165 : BitVec 32) (k0_hw2 : k0_chk2 v165), (Rect.unit (s := S8x64x8192) (k0_off8 v165) S1x64x512.size (k0_off8_inb v165 k0_hw2)).WholeWords (EltTy.packing .i8) := fun v165 k0_hw2 => k0_hw2.1.2.2.2.2.2.2.2.2.2.2.2.1 (k0_off8_inb v165 k0_hw2)
theorem k0_off9_inb : ∀ (v165 : BitVec 32) (k0_hw2 : k0_chk2 v165), ∀ a, (k0_off9 v165) a + S1x64x2x4x8x128.size a ≤ S8x64x2x64x8x128.size a := fun v165 k0_hw2 => k0_hw2.1.2.2.2.2.2.2.2.2.2.2.2.2.1
theorem k0_off9_wordsi8 : ∀ (v165 : BitVec 32) (k0_hw2 : k0_chk2 v165), (Rect.unit (s := S8x64x2x64x8x128) (k0_off9 v165) S1x64x2x4x8x128.size (k0_off9_inb v165 k0_hw2)).WholeWords (EltTy.packing .i8) := fun v165 k0_hw2 => k0_hw2.1.2.2.2.2.2.2.2.2.2.2.2.2.2.1 (k0_off9_inb v165 k0_hw2)
theorem k0_off10_inb : ∀ (v165 : BitVec 32) (k0_hw2 : k0_chk2 v165), ∀ a, (k0_off10 v165) a + S1x64x512.size a ≤ S8x64x8192.size a := fun v165 k0_hw2 => k0_hw2.1.2.2.2.2.2.2.2.2.2.2.2.2.2.2.1
theorem k0_off10_wordsi8 : ∀ (v165 : BitVec 32) (k0_hw2 : k0_chk2 v165), (Rect.unit (s := S8x64x8192) (k0_off10 v165) S1x64x512.size (k0_off10_inb v165 k0_hw2)).WholeWords (EltTy.packing .i8) := fun v165 k0_hw2 => k0_hw2.1.2.2.2.2.2.2.2.2.2.2.2.2.2.2.2.1 (k0_off10_inb v165 k0_hw2)
theorem k0_off11_inb : ∀ (v165 : BitVec 32) (k0_hw2 : k0_chk2 v165), ∀ a, (k0_off11 v165) a + S1x64x2x4x8x128.size a ≤ S8x64x2x64x8x128.size a := fun v165 k0_hw2 => k0_hw2.1.2.2.2.2.2.2.2.2.2.2.2.2.2.2.2.2.1
theorem k0_off11_wordsi8 : ∀ (v165 : BitVec 32) (k0_hw2 : k0_chk2 v165), (Rect.unit (s := S8x64x2x64x8x128) (k0_off11 v165) S1x64x2x4x8x128.size (k0_off11_inb v165 k0_hw2)).WholeWords (EltTy.packing .i8) := fun v165 k0_hw2 => k0_hw2.1.2.2.2.2.2.2.2.2.2.2.2.2.2.2.2.2.2.1 (k0_off11_inb v165 k0_hw2)
theorem k0_off12_inb : ∀ (v165 : BitVec 32) (k0_hw2 : k0_chk2 v165), ∀ a, (k0_off12 v165) a + S1x64x512.size a ≤ S8x64x8192.size a := fun v165 k0_hw2 => k0_hw2.1.2.2.2.2.2.2.2.2.2.2.2.2.2.2.2.2.2.2.1
theorem k0_off12_wordsi8 : ∀ (v165 : BitVec 32) (k0_hw2 : k0_chk2 v165), (Rect.unit (s := S8x64x8192) (k0_off12 v165) S1x64x512.size (k0_off12_inb v165 k0_hw2)).WholeWords (EltTy.packing .i8) := fun v165 k0_hw2 => k0_hw2.1.2.2.2.2.2.2.2.2.2.2.2.2.2.2.2.2.2.2.2.1 (k0_off12_inb v165 k0_hw2)
theorem k0_off13_inb : ∀ (v165 : BitVec 32) (k0_hw2 : k0_chk2 v165), ∀ a, (k0_off13 v165) a + S1x64x2x4x8x128.size a ≤ S8x64x2x64x8x128.size a := fun v165 k0_hw2 => k0_hw2.1.2.2.2.2.2.2.2.2.2.2.2.2.2.2.2.2.2.2.2.2.1
theorem k0_off13_wordsi8 : ∀ (v165 : BitVec 32) (k0_hw2 : k0_chk2 v165), (Rect.unit (s := S8x64x2x64x8x128) (k0_off13 v165) S1x64x2x4x8x128.size (k0_off13_inb v165 k0_hw2)).WholeWords (EltTy.packing .i8) := fun v165 k0_hw2 => k0_hw2.1.2.2.2.2.2.2.2.2.2.2.2.2.2.2.2.2.2.2.2.2.2.1 (k0_off13_inb v165 k0_hw2)
theorem k0_off14_inb : ∀ (v165 : BitVec 32) (k0_hw2 : k0_chk2 v165), ∀ a, (k0_off14 v165) a + S1x64x512.size a ≤ S8x64x8192.size a := fun v165 k0_hw2 => k0_hw2.1.2.2.2.2.2.2.2.2.2.2.2.2.2.2.2.2.2.2.2.2.2.2.1
theorem k0_off14_wordsi8 : ∀ (v165 : BitVec 32) (k0_hw2 : k0_chk2 v165), (Rect.unit (s := S8x64x8192) (k0_off14 v165) S1x64x512.size (k0_off14_inb v165 k0_hw2)).WholeWords (EltTy.packing .i8) := fun v165 k0_hw2 => k0_hw2.1.2.2.2.2.2.2.2.2.2.2.2.2.2.2.2.2.2.2.2.2.2.2.2.1 (k0_off14_inb v165 k0_hw2)
theorem k0_off15_inb : ∀ (v165 : BitVec 32) (k0_hw2 : k0_chk2 v165), ∀ a, (k0_off15 v165) a + S1x64x2x4x8x128.size a ≤ S8x64x2x64x8x128.size a := fun v165 k0_hw2 => k0_hw2.1.2.2.2.2.2.2.2.2.2.2.2.2.2.2.2.2.2.2.2.2.2.2.2.2.1
theorem k0_off15_wordsi8 : ∀ (v165 : BitVec 32) (k0_hw2 : k0_chk2 v165), (Rect.unit (s := S8x64x2x64x8x128) (k0_off15 v165) S1x64x2x4x8x128.size (k0_off15_inb v165 k0_hw2)).WholeWords (EltTy.packing .i8) := fun v165 k0_hw2 => k0_hw2.1.2.2.2.2.2.2.2.2.2.2.2.2.2.2.2.2.2.2.2.2.2.2.2.2.2.1 (k0_off15_inb v165 k0_hw2)
theorem k0_off16_inb : ∀ (v165 : BitVec 32) (k0_hw2 : k0_chk2 v165), ∀ a, (k0_off16 v165) a + S1x64x512.size a ≤ S8x64x8192.size a := fun v165 k0_hw2 => k0_hw2.1.2.2.2.2.2.2.2.2.2.2.2.2.2.2.2.2.2.2.2.2.2.2.2.2.2.2.1
theorem k0_off16_wordsi8 : ∀ (v165 : BitVec 32) (k0_hw2 : k0_chk2 v165), (Rect.unit (s := S8x64x8192) (k0_off16 v165) S1x64x512.size (k0_off16_inb v165 k0_hw2)).WholeWords (EltTy.packing .i8) := fun v165 k0_hw2 => k0_hw2.1.2.2.2.2.2.2.2.2.2.2.2.2.2.2.2.2.2.2.2.2.2.2.2.2.2.2.2.1 (k0_off16_inb v165 k0_hw2)
theorem k0_off17_inb : ∀ (v165 : BitVec 32) (k0_hw2 : k0_chk2 v165), ∀ a, (k0_off17 v165) a + S1x64x2x4x8x128.size a ≤ S8x64x2x64x8x128.size a := fun v165 k0_hw2 => k0_hw2.1.2.2.2.2.2.2.2.2.2.2.2.2.2.2.2.2.2.2.2.2.2.2.2.2.2.2.2.2.1
theorem k0_off17_wordsi8 : ∀ (v165 : BitVec 32) (k0_hw2 : k0_chk2 v165), (Rect.unit (s := S8x64x2x64x8x128) (k0_off17 v165) S1x64x2x4x8x128.size (k0_off17_inb v165 k0_hw2)).WholeWords (EltTy.packing .i8) := fun v165 k0_hw2 => k0_hw2.1.2.2.2.2.2.2.2.2.2.2.2.2.2.2.2.2.2.2.2.2.2.2.2.2.2.2.2.2.2.1 (k0_off17_inb v165 k0_hw2)
theorem k0_off18_inb : ∀ (v165 : BitVec 32) (k0_hw2 : k0_chk2 v165), ∀ a, (k0_off18 v165) a + S1x64x512.size a ≤ S8x64x8192.size a := fun v165 k0_hw2 => k0_hw2.1.2.2.2.2.2.2.2.2.2.2.2.2.2.2.2.2.2.2.2.2.2.2.2.2.2.2.2.2.2.2.1
theorem k0_off18_wordsi8 : ∀ (v165 : BitVec 32) (k0_hw2 : k0_chk2 v165), (Rect.unit (s := S8x64x8192) (k0_off18 v165) S1x64x512.size (k0_off18_inb v165 k0_hw2)).WholeWords (EltTy.packing .i8) := fun v165 k0_hw2 => k0_hw2.1.2.2.2.2.2.2.2.2.2.2.2.2.2.2.2.2.2.2.2.2.2.2.2.2.2.2.2.2.2.2.2 (k0_off18_inb v165 k0_hw2)
theorem k0_off19_inb : ∀ (v165 : BitVec 32) (k0_hw2 : k0_chk2 v165), ∀ a, (k0_off19 v165) a + S1x64x2x4x8x128.size a ≤ S8x64x2x64x8x128.size a := fun v165 k0_hw2 => k0_hw2.2.1.1
theorem k0_off19_wordsi8 : ∀ (v165 : BitVec 32) (k0_hw2 : k0_chk2 v165), (Rect.unit (s := S8x64x2x64x8x128) (k0_off19 v165) S1x64x2x4x8x128.size (k0_off19_inb v165 k0_hw2)).WholeWords (EltTy.packing .i8) := fun v165 k0_hw2 => k0_hw2.2.1.2.1 (k0_off19_inb v165 k0_hw2)
theorem k0_off20_inb : ∀ (v165 : BitVec 32) (k0_hw2 : k0_chk2 v165), ∀ a, (k0_off20 v165) a + S1x64x512.size a ≤ S8x64x8192.size a := fun v165 k0_hw2 => k0_hw2.2.1.2.2.1
theorem k0_off20_wordsi8 : ∀ (v165 : BitVec 32) (k0_hw2 : k0_chk2 v165), (Rect.unit (s := S8x64x8192) (k0_off20 v165) S1x64x512.size (k0_off20_inb v165 k0_hw2)).WholeWords (EltTy.packing .i8) := fun v165 k0_hw2 => k0_hw2.2.1.2.2.2.1 (k0_off20_inb v165 k0_hw2)
theorem k0_off21_inb : ∀ (v165 : BitVec 32) (k0_hw2 : k0_chk2 v165), ∀ a, (k0_off21 v165) a + S1x64x2x4x8x128.size a ≤ S8x64x2x64x8x128.size a := fun v165 k0_hw2 => k0_hw2.2.1.2.2.2.2.1
theorem k0_off21_wordsi8 : ∀ (v165 : BitVec 32) (k0_hw2 : k0_chk2 v165), (Rect.unit (s := S8x64x2x64x8x128) (k0_off21 v165) S1x64x2x4x8x128.size (k0_off21_inb v165 k0_hw2)).WholeWords (EltTy.packing .i8) := fun v165 k0_hw2 => k0_hw2.2.1.2.2.2.2.2.1 (k0_off21_inb v165 k0_hw2)
theorem k0_off22_inb : ∀ (v165 : BitVec 32) (k0_hw2 : k0_chk2 v165), ∀ a, (k0_off22 v165) a + S1x64x512.size a ≤ S8x64x8192.size a := fun v165 k0_hw2 => k0_hw2.2.1.2.2.2.2.2.2.1
theorem k0_off22_wordsi8 : ∀ (v165 : BitVec 32) (k0_hw2 : k0_chk2 v165), (Rect.unit (s := S8x64x8192) (k0_off22 v165) S1x64x512.size (k0_off22_inb v165 k0_hw2)).WholeWords (EltTy.packing .i8) := fun v165 k0_hw2 => k0_hw2.2.1.2.2.2.2.2.2.2.1 (k0_off22_inb v165 k0_hw2)
theorem k0_off23_inb : ∀ (v165 : BitVec 32) (k0_hw2 : k0_chk2 v165), ∀ a, (k0_off23 v165) a + S1x64x2x4x8x128.size a ≤ S8x64x2x64x8x128.size a := fun v165 k0_hw2 => k0_hw2.2.1.2.2.2.2.2.2.2.2.1
theorem k0_off23_wordsi8 : ∀ (v165 : BitVec 32) (k0_hw2 : k0_chk2 v165), (Rect.unit (s := S8x64x2x64x8x128) (k0_off23 v165) S1x64x2x4x8x128.size (k0_off23_inb v165 k0_hw2)).WholeWords (EltTy.packing .i8) := fun v165 k0_hw2 => k0_hw2.2.1.2.2.2.2.2.2.2.2.2.1 (k0_off23_inb v165 k0_hw2)
theorem k0_off24_inb : ∀ (v165 : BitVec 32) (k0_hw2 : k0_chk2 v165), ∀ a, (k0_off24 v165) a + S1x64x512.size a ≤ S8x64x8192.size a := fun v165 k0_hw2 => k0_hw2.2.1.2.2.2.2.2.2.2.2.2.2.1
theorem k0_off24_wordsi8 : ∀ (v165 : BitVec 32) (k0_hw2 : k0_chk2 v165), (Rect.unit (s := S8x64x8192) (k0_off24 v165) S1x64x512.size (k0_off24_inb v165 k0_hw2)).WholeWords (EltTy.packing .i8) := fun v165 k0_hw2 => k0_hw2.2.1.2.2.2.2.2.2.2.2.2.2.2.1 (k0_off24_inb v165 k0_hw2)
theorem k0_off25_inb : ∀ (v165 : BitVec 32) (k0_hw2 : k0_chk2 v165), ∀ a, (k0_off25 v165) a + S1x64x2x4x8x128.size a ≤ S8x64x2x64x8x128.size a := fun v165 k0_hw2 => k0_hw2.2.1.2.2.2.2.2.2.2.2.2.2.2.2.1
theorem k0_off25_wordsi8 : ∀ (v165 : BitVec 32) (k0_hw2 : k0_chk2 v165), (Rect.unit (s := S8x64x2x64x8x128) (k0_off25 v165) S1x64x2x4x8x128.size (k0_off25_inb v165 k0_hw2)).WholeWords (EltTy.packing .i8) := fun v165 k0_hw2 => k0_hw2.2.1.2.2.2.2.2.2.2.2.2.2.2.2.2.1 (k0_off25_inb v165 k0_hw2)
theorem k0_off26_inb : ∀ (v165 : BitVec 32) (k0_hw2 : k0_chk2 v165), ∀ a, (k0_off26 v165) a + S1x64x512.size a ≤ S8x64x8192.size a := fun v165 k0_hw2 => k0_hw2.2.1.2.2.2.2.2.2.2.2.2.2.2.2.2.2.1
theorem k0_off26_wordsi8 : ∀ (v165 : BitVec 32) (k0_hw2 : k0_chk2 v165), (Rect.unit (s := S8x64x8192) (k0_off26 v165) S1x64x512.size (k0_off26_inb v165 k0_hw2)).WholeWords (EltTy.packing .i8) := fun v165 k0_hw2 => k0_hw2.2.1.2.2.2.2.2.2.2.2.2.2.2.2.2.2.2.1 (k0_off26_inb v165 k0_hw2)
theorem k0_off27_inb : ∀ (v165 : BitVec 32) (k0_hw2 : k0_chk2 v165), ∀ a, (k0_off27 v165) a + S1x64x2x4x8x128.size a ≤ S8x64x2x64x8x128.size a := fun v165 k0_hw2 => k0_hw2.2.1.2.2.2.2.2.2.2.2.2.2.2.2.2.2.2.2.1
theorem k0_off27_wordsi8 : ∀ (v165 : BitVec 32) (k0_hw2 : k0_chk2 v165), (Rect.unit (s := S8x64x2x64x8x128) (k0_off27 v165) S1x64x2x4x8x128.size (k0_off27_inb v165 k0_hw2)).WholeWords (EltTy.packing .i8) := fun v165 k0_hw2 => k0_hw2.2.1.2.2.2.2.2.2.2.2.2.2.2.2.2.2.2.2.2.1 (k0_off27_inb v165 k0_hw2)
theorem k0_off28_inb : ∀ (v165 : BitVec 32) (k0_hw2 : k0_chk2 v165), ∀ a, (k0_off28 v165) a + S1x64x512.size a ≤ S8x64x8192.size a := fun v165 k0_hw2 => k0_hw2.2.1.2.2.2.2.2.2.2.2.2.2.2.2.2.2.2.2.2.2.1
theorem k0_off28_wordsi8 : ∀ (v165 : BitVec 32) (k0_hw2 : k0_chk2 v165), (Rect.unit (s := S8x64x8192) (k0_off28 v165) S1x64x512.size (k0_off28_inb v165 k0_hw2)).WholeWords (EltTy.packing .i8) := fun v165 k0_hw2 => k0_hw2.2.1.2.2.2.2.2.2.2.2.2.2.2.2.2.2.2.2.2.2.2.1 (k0_off28_inb v165 k0_hw2)
theorem k0_off29_inb : ∀ (v165 : BitVec 32) (k0_hw2 : k0_chk2 v165), ∀ a, (k0_off29 v165) a + S1x64x2x4x8x128.size a ≤ S8x64x2x64x8x128.size a := fun v165 k0_hw2 => k0_hw2.2.1.2.2.2.2.2.2.2.2.2.2.2.2.2.2.2.2.2.2.2.2.1
theorem k0_off29_wordsi8 : ∀ (v165 : BitVec 32) (k0_hw2 : k0_chk2 v165), (Rect.unit (s := S8x64x2x64x8x128) (k0_off29 v165) S1x64x2x4x8x128.size (k0_off29_inb v165 k0_hw2)).WholeWords (EltTy.packing .i8) := fun v165 k0_hw2 => k0_hw2.2.1.2.2.2.2.2.2.2.2.2.2.2.2.2.2.2.2.2.2.2.2.2.1 (k0_off29_inb v165 k0_hw2)
theorem k0_off30_inb : ∀ (v165 : BitVec 32) (k0_hw2 : k0_chk2 v165), ∀ a, (k0_off30 v165) a + S1x64x512.size a ≤ S8x64x8192.size a := fun v165 k0_hw2 => k0_hw2.2.1.2.2.2.2.2.2.2.2.2.2.2.2.2.2.2.2.2.2.2.2.2.2.1
theorem k0_off30_wordsi8 : ∀ (v165 : BitVec 32) (k0_hw2 : k0_chk2 v165), (Rect.unit (s := S8x64x8192) (k0_off30 v165) S1x64x512.size (k0_off30_inb v165 k0_hw2)).WholeWords (EltTy.packing .i8) := fun v165 k0_hw2 => k0_hw2.2.1.2.2.2.2.2.2.2.2.2.2.2.2.2.2.2.2.2.2.2.2.2.2.2.1 (k0_off30_inb v165 k0_hw2)
theorem k0_off31_inb : ∀ (v165 : BitVec 32) (k0_hw2 : k0_chk2 v165), ∀ a, (k0_off31 v165) a + S1x64x2x4x8x128.size a ≤ S8x64x2x64x8x128.size a := fun v165 k0_hw2 => k0_hw2.2.1.2.2.2.2.2.2.2.2.2.2.2.2.2.2.2.2.2.2.2.2.2.2.2.2.1
theorem k0_off31_wordsi8 : ∀ (v165 : BitVec 32) (k0_hw2 : k0_chk2 v165), (Rect.unit (s := S8x64x2x64x8x128) (k0_off31 v165) S1x64x2x4x8x128.size (k0_off31_inb v165 k0_hw2)).WholeWords (EltTy.packing .i8) := fun v165 k0_hw2 => k0_hw2.2.1.2.2.2.2.2.2.2.2.2.2.2.2.2.2.2.2.2.2.2.2.2.2.2.2.2.1 (k0_off31_inb v165 k0_hw2)
theorem k0_off32_inb : ∀ (v165 : BitVec 32) (k0_hw2 : k0_chk2 v165), ∀ a, (k0_off32 v165) a + S1x64x512.size a ≤ S8x64x8192.size a := fun v165 k0_hw2 => k0_hw2.2.1.2.2.2.2.2.2.2.2.2.2.2.2.2.2.2.2.2.2.2.2.2.2.2.2.2.2.1
theorem k0_off32_wordsi8 : ∀ (v165 : BitVec 32) (k0_hw2 : k0_chk2 v165), (Rect.unit (s := S8x64x8192) (k0_off32 v165) S1x64x512.size (k0_off32_inb v165 k0_hw2)).WholeWords (EltTy.packing .i8) := fun v165 k0_hw2 => k0_hw2.2.1.2.2.2.2.2.2.2.2.2.2.2.2.2.2.2.2.2.2.2.2.2.2.2.2.2.2.2.1 (k0_off32_inb v165 k0_hw2)
theorem k0_off33_inb : ∀ (v165 : BitVec 32) (k0_hw2 : k0_chk2 v165), ∀ a, (k0_off33 v165) a + S1x64x2x4x8x128.size a ≤ S8x64x2x64x8x128.size a := fun v165 k0_hw2 => k0_hw2.2.1.2.2.2.2.2.2.2.2.2.2.2.2.2.2.2.2.2.2.2.2.2.2.2.2.2.2.2.2.1
theorem k0_off33_wordsi8 : ∀ (v165 : BitVec 32) (k0_hw2 : k0_chk2 v165), (Rect.unit (s := S8x64x2x64x8x128) (k0_off33 v165) S1x64x2x4x8x128.size (k0_off33_inb v165 k0_hw2)).WholeWords (EltTy.packing .i8) := fun v165 k0_hw2 => k0_hw2.2.1.2.2.2.2.2.2.2.2.2.2.2.2.2.2.2.2.2.2.2.2.2.2.2.2.2.2.2.2.2.1 (k0_off33_inb v165 k0_hw2)
theorem k0_off34_inb : ∀ (v165 : BitVec 32) (k0_hw2 : k0_chk2 v165), ∀ a, (k0_off34 v165) a + S1x64x512.size a ≤ S8x64x8192.size a := fun v165 k0_hw2 => k0_hw2.2.1.2.2.2.2.2.2.2.2.2.2.2.2.2.2.2.2.2.2.2.2.2.2.2.2.2.2.2.2.2.2.1
theorem k0_off34_wordsi8 : ∀ (v165 : BitVec 32) (k0_hw2 : k0_chk2 v165), (Rect.unit (s := S8x64x8192) (k0_off34 v165) S1x64x512.size (k0_off34_inb v165 k0_hw2)).WholeWords (EltTy.packing .i8) := fun v165 k0_hw2 => k0_hw2.2.1.2.2.2.2.2.2.2.2.2.2.2.2.2.2.2.2.2.2.2.2.2.2.2.2.2.2.2.2.2.2.2 (k0_off34_inb v165 k0_hw2)
theorem k0_off35_inb : ∀ (v165 : BitVec 32) (k0_hw2 : k0_chk2 v165), ∀ a, (k0_off35 v165) a + S1x512x2x8x128.size a ≤ S8x2048x2x8x128.size a := fun v165 k0_hw2 => k0_hw2.2.2.1
theorem k0_off35_wordsi8 : ∀ (v165 : BitVec 32) (k0_hw2 : k0_chk2 v165), (Rect.unit (s := S8x2048x2x8x128) (k0_off35 v165) S1x512x2x8x128.size (k0_off35_inb v165 k0_hw2)).WholeWords (EltTy.packing .i8) := fun v165 k0_hw2 => k0_hw2.2.2.2.1 (k0_off35_inb v165 k0_hw2)
theorem k0_off36_inb : ∀ (v165 : BitVec 32) (k0_hw2 : k0_chk2 v165), ∀ a, (k0_off36 v165) a + S1x512x128.size a ≤ S8x2048x128.size a := fun v165 k0_hw2 => k0_hw2.2.2.2.2.1
theorem k0_off36_wordsi8 : ∀ (v165 : BitVec 32) (k0_hw2 : k0_chk2 v165), (Rect.unit (s := S8x2048x128) (k0_off36 v165) S1x512x128.size (k0_off36_inb v165 k0_hw2)).WholeWords (EltTy.packing .i8) := fun v165 k0_hw2 => k0_hw2.2.2.2.2.2.1 (k0_off36_inb v165 k0_hw2)
theorem k0_off37_inb : ∀ (v165 : BitVec 32) (k0_hw2 : k0_chk2 v165), ∀ a, (k0_off37 v165) a + S1x512x2x8x128.size a ≤ S8x2048x2x8x128.size a := fun v165 k0_hw2 => k0_hw2.2.2.2.2.2.2.1
theorem k0_off37_wordsi8 : ∀ (v165 : BitVec 32) (k0_hw2 : k0_chk2 v165), (Rect.unit (s := S8x2048x2x8x128) (k0_off37 v165) S1x512x2x8x128.size (k0_off37_inb v165 k0_hw2)).WholeWords (EltTy.packing .i8) := fun v165 k0_hw2 => k0_hw2.2.2.2.2.2.2.2.1 (k0_off37_inb v165 k0_hw2)
theorem k0_off38_inb : ∀ (v165 : BitVec 32) (k0_hw2 : k0_chk2 v165), ∀ a, (k0_off38 v165) a + S1x512x128.size a ≤ S8x2048x128.size a := fun v165 k0_hw2 => k0_hw2.2.2.2.2.2.2.2.2.1
theorem k0_off38_wordsi8 : ∀ (v165 : BitVec 32) (k0_hw2 : k0_chk2 v165), (Rect.unit (s := S8x2048x128) (k0_off38 v165) S1x512x128.size (k0_off38_inb v165 k0_hw2)).WholeWords (EltTy.packing .i8) := fun v165 k0_hw2 => k0_hw2.2.2.2.2.2.2.2.2.2.1 (k0_off38_inb v165 k0_hw2)
theorem k0_off39_inb : ∀ (v165 : BitVec 32) (k0_hw2 : k0_chk2 v165), ∀ a, (k0_off39 v165) a + S1x512x2x8x128.size a ≤ S8x2048x2x8x128.size a := fun v165 k0_hw2 => k0_hw2.2.2.2.2.2.2.2.2.2.2.1
theorem k0_off39_wordsi8 : ∀ (v165 : BitVec 32) (k0_hw2 : k0_chk2 v165), (Rect.unit (s := S8x2048x2x8x128) (k0_off39 v165) S1x512x2x8x128.size (k0_off39_inb v165 k0_hw2)).WholeWords (EltTy.packing .i8) := fun v165 k0_hw2 => k0_hw2.2.2.2.2.2.2.2.2.2.2.2.1 (k0_off39_inb v165 k0_hw2)
theorem k0_off40_inb : ∀ (v165 : BitVec 32) (k0_hw2 : k0_chk2 v165), ∀ a, (k0_off40 v165) a + S1x512x128.size a ≤ S8x2048x128.size a := fun v165 k0_hw2 => k0_hw2.2.2.2.2.2.2.2.2.2.2.2.2.1
theorem k0_off40_wordsi8 : ∀ (v165 : BitVec 32) (k0_hw2 : k0_chk2 v165), (Rect.unit (s := S8x2048x128) (k0_off40 v165) S1x512x128.size (k0_off40_inb v165 k0_hw2)).WholeWords (EltTy.packing .i8) := fun v165 k0_hw2 => k0_hw2.2.2.2.2.2.2.2.2.2.2.2.2.2.1 (k0_off40_inb v165 k0_hw2)
theorem k0_off41_inb : ∀ (v165 : BitVec 32) (k0_hw2 : k0_chk2 v165), ∀ a, (k0_off41 v165) a + S1x512x2x8x128.size a ≤ S8x2048x2x8x128.size a := fun v165 k0_hw2 => k0_hw2.2.2.2.2.2.2.2.2.2.2.2.2.2.2.1
theorem k0_off41_wordsi8 : ∀ (v165 : BitVec 32) (k0_hw2 : k0_chk2 v165), (Rect.unit (s := S8x2048x2x8x128) (k0_off41 v165) S1x512x2x8x128.size (k0_off41_inb v165 k0_hw2)).WholeWords (EltTy.packing .i8) := fun v165 k0_hw2 => k0_hw2.2.2.2.2.2.2.2.2.2.2.2.2.2.2.2.1 (k0_off41_inb v165 k0_hw2)
theorem k0_off42_inb : ∀ (v165 : BitVec 32) (k0_hw2 : k0_chk2 v165), ∀ a, (k0_off42 v165) a + S1x512x128.size a ≤ S8x2048x128.size a := fun v165 k0_hw2 => k0_hw2.2.2.2.2.2.2.2.2.2.2.2.2.2.2.2.2.1
theorem k0_off42_wordsi8 : ∀ (v165 : BitVec 32) (k0_hw2 : k0_chk2 v165), (Rect.unit (s := S8x2048x128) (k0_off42 v165) S1x512x128.size (k0_off42_inb v165 k0_hw2)).WholeWords (EltTy.packing .i8) := fun v165 k0_hw2 => k0_hw2.2.2.2.2.2.2.2.2.2.2.2.2.2.2.2.2.2 (k0_off42_inb v165 k0_hw2)

@[reducible] def k0_t3_loop (v3 : BitVec 32) : Scf.Loop 32 :=
  let c0_i32_427 : BitVec 32 := 0#32
  let v408 : BitVec 32 := Scalar.subi v3 c0_i32_427
  let c1_i32_428 : BitVec 32 := 1#32
  let v410 : BitVec 32 := Scalar.divsi v408 c1_i32_428
  let v411 : BitVec 32 := Scalar.muli v410 c1_i32_428
  let v412 : BitVec 32 := Scalar.addi c0_i32_427 v411
  let c1_i32_429 : BitVec 32 := 1#32
  ⟨c0_i32_427, v412, c1_i32_429⟩

def k0_off43 (v3 : BitVec 32) (k0_t3 : Fin (k0_t3_loop v3).trips) : Fin 1 → Nat :=
  let c0_i32_427 : BitVec 32 := 0#32
  let c1_i32_429 : BitVec 32 := 1#32
  let arg23 : BitVec 32 := Scf.iv c0_i32_427 c1_i32_429 k0_t3
  let v429 : Index := Scalar.indexCast arg23
  ![v429.toNat]
def k0_off44 (v3 : BitVec 32) (k0_t3 : Fin (k0_t3_loop v3).trips) : Fin 1 → Nat :=
  let c0_i32_427 : BitVec 32 := 0#32
  let c1_i32_429 : BitVec 32 := 1#32
  let arg23 : BitVec 32 := Scf.iv c0_i32_427 c1_i32_429 k0_t3
  let c1_i32_445 : BitVec 32 := 1#32
  let v431 : BitVec 32 := Scalar.addi arg23 c1_i32_445
  let c1_i32_446 : BitVec 32 := 1#32
  let v432 : BitVec 32 := Scalar.subi v3 c1_i32_446
  let v433 : BitVec 32 := Scalar.minsi v431 v432
  let v434 : Index := Scalar.indexCast v433
  ![v434.toNat]
@[reducible] def k0_t4_loop : Scf.Loop 32 :=
  let c0_i32_449 : BitVec 32 := 0#32
  let c16_i32_450 : BitVec 32 := 16#32
  let v438 : BitVec 32 := Scalar.addi c0_i32_449 c16_i32_450
  let c1_i32_451 : BitVec 32 := 1#32
  ⟨c0_i32_449, v438, c1_i32_451⟩
def k0_off45 (k0_t4 : Fin k0_t4_loop.trips) : Fin 2 → Nat :=
  let c0_i32_464 : BitVec 32 := 0#32
  let c0_i32_449 : BitVec 32 := 0#32
  let c1_i32_451 : BitVec 32 := 1#32
  let arg24 : BitVec 32 := Scf.iv c0_i32_449 c1_i32_451 k0_t4
  ![0, arg24.toNat]
def k0_off46 (k0_t4 : Fin k0_t4_loop.trips) : Fin 6 → Nat :=
  let c0_i32_449 : BitVec 32 := 0#32
  let c1_i32_451 : BitVec 32 := 1#32
  let arg24 : BitVec 32 := Scf.iv c0_i32_449 c1_i32_451 k0_t4
  let c0_i32_465 : BitVec 32 := 0#32
  let c0_i32_466 : BitVec 32 := 0#32
  let c0_i32_467 : BitVec 32 := 0#32
  let c0_i32_468 : BitVec 32 := 0#32
  let c0_i32_469 : BitVec 32 := 0#32
  ![arg24.toNat, 0, 0, 0, 0, 0]
def k0_off47 (v430 : BitVec 32) (k0_t4 : Fin k0_t4_loop.trips) : Fin 6 → Nat :=
  let c0_i32_470 : BitVec 32 := 0#32
  let c0_i32_471 : BitVec 32 := 0#32
  let c0_i32_449 : BitVec 32 := 0#32
  let c1_i32_451 : BitVec 32 := 1#32
  let arg24 : BitVec 32 := Scf.iv c0_i32_449 c1_i32_451 k0_t4
  let c4_i32_462 : BitVec 32 := 4#32
  let v449 : BitVec 32 := Scalar.muli arg24 c4_i32_462
  let c0_i32_472 : BitVec 32 := 0#32
  let c0_i32_473 : BitVec 32 := 0#32
  ![v430.toNat, 0, 0, v449.toNat, 0, 0]

def k0_off48 (k0_t4 : Fin k0_t4_loop.trips) : Fin 2 → Nat :=
  let c1_i32_474 : BitVec 32 := 1#32
  let c0_i32_449 : BitVec 32 := 0#32
  let c1_i32_451 : BitVec 32 := 1#32
  let arg24 : BitVec 32 := Scf.iv c0_i32_449 c1_i32_451 k0_t4
  ![1, arg24.toNat]
def k0_off49 (k0_t4 : Fin k0_t4_loop.trips) : Fin 3 → Nat :=
  let c0_i32_449 : BitVec 32 := 0#32
  let c1_i32_451 : BitVec 32 := 1#32
  let arg24 : BitVec 32 := Scf.iv c0_i32_449 c1_i32_451 k0_t4
  let c0_i32_475 : BitVec 32 := 0#32
  let c0_i32_476 : BitVec 32 := 0#32
  ![arg24.toNat, 0, 0]
def k0_off50 (v430 : BitVec 32) (k0_t4 : Fin k0_t4_loop.trips) : Fin 3 → Nat :=
  let c0_i32_477 : BitVec 32 := 0#32
  let c0_i32_449 : BitVec 32 := 0#32
  let c1_i32_451 : BitVec 32 := 1#32
  let arg24 : BitVec 32 := Scf.iv c0_i32_449 c1_i32_451 k0_t4
  let c512_i32_463 : BitVec 32 := 512#32
  let v450 : BitVec 32 := Scalar.muli arg24 c512_i32_463
  ![v430.toNat, 0, v450.toNat]
def k0_off51 (k0_t4 : Fin k0_t4_loop.trips) : Fin 3 → Nat :=
  let c0_i32_449 : BitVec 32 := 0#32
  let c1_i32_451 : BitVec 32 := 1#32
  let arg24 : BitVec 32 := Scf.iv c0_i32_449 c1_i32_451 k0_t4
  let v463 : Index := Scalar.indexCast arg24
  let c0_478 : Index := 0#32
  let c0_479 : Index := 0#32
  ![v463.toNat, 0, 0]
def k0_off52 (k0_t4 : Fin k0_t4_loop.trips) : Fin 6 → Nat :=
  let c0_i32_449 : BitVec 32 := 0#32
  let c1_i32_451 : BitVec 32 := 1#32
  let arg24 : BitVec 32 := Scf.iv c0_i32_449 c1_i32_451 k0_t4
  let v474 : Index := Scalar.indexCast arg24
  let c0_482 : Index := 0#32
  let c0_483 : Index := 0#32
  let c0_484 : Index := 0#32
  let c0_485 : Index := 0#32
  let c0_486 : Index := 0#32
  ![v474.toNat, 0, 0, 0, 0, 0]
def k0_off53 (k0_t4 : Fin k0_t4_loop.trips) : Fin 2 → Nat :=
  let c0_i32_524 : BitVec 32 := 0#32
  let c0_i32_449 : BitVec 32 := 0#32
  let c1_i32_451 : BitVec 32 := 1#32
  let arg24 : BitVec 32 := Scf.iv c0_i32_449 c1_i32_451 k0_t4
  ![0, arg24.toNat]
def k0_off54 (k0_t4 : Fin k0_t4_loop.trips) : Fin 6 → Nat :=
  let c0_i32_449 : BitVec 32 := 0#32
  let c1_i32_451 : BitVec 32 := 1#32
  let arg24 : BitVec 32 := Scf.iv c0_i32_449 c1_i32_451 k0_t4
  let c0_i32_525 : BitVec 32 := 0#32
  let c0_i32_526 : BitVec 32 := 0#32
  let c0_i32_527 : BitVec 32 := 0#32
  let c0_i32_528 : BitVec 32 := 0#32
  let c0_i32_529 : BitVec 32 := 0#32
  ![arg24.toNat, 0, 0, 0, 0, 0]
def k0_off55 (v435 : BitVec 32) (k0_t4 : Fin k0_t4_loop.trips) : Fin 6 → Nat :=
  let c0_i32_530 : BitVec 32 := 0#32
  let c0_i32_531 : BitVec 32 := 0#32
  let c0_i32_449 : BitVec 32 := 0#32
  let c1_i32_451 : BitVec 32 := 1#32
  let arg24 : BitVec 32 := Scf.iv c0_i32_449 c1_i32_451 k0_t4
  let c4_i32_522 : BitVec 32 := 4#32
  let v594 : BitVec 32 := Scalar.muli arg24 c4_i32_522
  let c0_i32_532 : BitVec 32 := 0#32
  let c0_i32_533 : BitVec 32 := 0#32
  ![v435.toNat, 0, 0, v594.toNat, 0, 0]
def k0_cond1 (v3 : BitVec 32) (k0_t3 : Fin (k0_t3_loop v3).trips) : BitVec 1 :=
  let c0_i32_427 : BitVec 32 := 0#32
  let c1_i32_429 : BitVec 32 := 1#32
  let arg23 : BitVec 32 := Scf.iv c0_i32_427 c1_i32_429 k0_t3
  let c1_i32_447 : BitVec 32 := 1#32
  let v436 : BitVec 32 := Scalar.addi arg23 c1_i32_447
  let v437 : BitVec 1 := Scalar.cmpi .slt v436 v3
  let v543 : BitVec 32 := Scalar.extui v437
  let c0_i32_502 : BitVec 32 := 0#32
  let v544 : BitVec 1 := Scalar.cmpi .ne v543 c0_i32_502
  v544

def k0_off56 (k0_t4 : Fin k0_t4_loop.trips) : Fin 2 → Nat :=
  let c1_i32_534 : BitVec 32 := 1#32
  let c0_i32_449 : BitVec 32 := 0#32
  let c1_i32_451 : BitVec 32 := 1#32
  let arg24 : BitVec 32 := Scf.iv c0_i32_449 c1_i32_451 k0_t4
  ![1, arg24.toNat]
def k0_off57 (k0_t4 : Fin k0_t4_loop.trips) : Fin 3 → Nat :=
  let c0_i32_449 : BitVec 32 := 0#32
  let c1_i32_451 : BitVec 32 := 1#32
  let arg24 : BitVec 32 := Scf.iv c0_i32_449 c1_i32_451 k0_t4
  let c0_i32_535 : BitVec 32 := 0#32
  let c0_i32_536 : BitVec 32 := 0#32
  ![arg24.toNat, 0, 0]
def k0_off58 (v435 : BitVec 32) (k0_t4 : Fin k0_t4_loop.trips) : Fin 3 → Nat :=
  let c0_i32_537 : BitVec 32 := 0#32
  let c0_i32_449 : BitVec 32 := 0#32
  let c1_i32_451 : BitVec 32 := 1#32
  let arg24 : BitVec 32 := Scf.iv c0_i32_449 c1_i32_451 k0_t4
  let c512_i32_523 : BitVec 32 := 512#32
  let v595 : BitVec 32 := Scalar.muli arg24 c512_i32_523
  ![v435.toNat, 0, v595.toNat]
def k0_off59 (v430 : BitVec 32) (k0_t4 : Fin k0_t4_loop.trips) : Fin 2 → Nat :=
  let v546 : Index := Scalar.indexCast v430
  let c0_i32_449 : BitVec 32 := 0#32
  let c1_i32_451 : BitVec 32 := 1#32
  let arg24 : BitVec 32 := Scf.iv c0_i32_449 c1_i32_451 k0_t4
  let c512_i32_503 : BitVec 32 := 512#32
  let v545 : BitVec 32 := Scalar.muli arg24 c512_i32_503
  let v547 : Index := Scalar.indexCast v545
  ![v546.toNat, v547.toNat]
def k0_off60 (k0_t4 : Fin k0_t4_loop.trips) : Fin 3 → Nat :=
  let c0_i32_449 : BitVec 32 := 0#32
  let c1_i32_451 : BitVec 32 := 1#32
  let arg24 : BitVec 32 := Scf.iv c0_i32_449 c1_i32_451 k0_t4
  let v590 : Index := Scalar.indexCast arg24
  let c0_520 : Index := 0#32
  let c0_521 : Index := 0#32
  ![v590.toNat, 0, 0]
@[reducible] def k0_t5_loop : Scf.Loop 32 :=
  let c0_i32_458 : BitVec 32 := 0#32
  let c4_i32_459 : BitVec 32 := 4#32
  let v448 : BitVec 32 := Scalar.addi c0_i32_458 c4_i32_459
  let c1_i32_460 : BitVec 32 := 1#32
  ⟨c0_i32_458, v448, c1_i32_460⟩
def k0_off61 (k0_t5 : Fin k0_t5_loop.trips) : Fin 2 → Nat :=
  let c2_i32_464 : BitVec 32 := 2#32
  let c0_i32_458 : BitVec 32 := 0#32
  let c1_i32_460 : BitVec 32 := 1#32
  let arg24 : BitVec 32 := Scf.iv c0_i32_458 c1_i32_460 k0_t5
  ![2, arg24.toNat]
def k0_off62 (k0_t5 : Fin k0_t5_loop.trips) : Fin 5 → Nat :=
  let c0_i32_458 : BitVec 32 := 0#32
  let c1_i32_460 : BitVec 32 := 1#32
  let arg24 : BitVec 32 := Scf.iv c0_i32_458 c1_i32_460 k0_t5
  let c0_i32_465 : BitVec 32 := 0#32
  let c0_i32_466 : BitVec 32 := 0#32
  let c0_i32_467 : BitVec 32 := 0#32
  let c0_i32_468 : BitVec 32 := 0#32
  ![arg24.toNat, 0, 0, 0, 0]
def k0_off63 (v430 : BitVec 32) (k0_t5 : Fin k0_t5_loop.trips) : Fin 5 → Nat :=
  let c0_i32_458 : BitVec 32 := 0#32
  let c1_i32_460 : BitVec 32 := 1#32
  let arg24 : BitVec 32 := Scf.iv c0_i32_458 c1_i32_460 k0_t5
  let c512_i32_462 : BitVec 32 := 512#32
  let v449 : BitVec 32 := Scalar.muli arg24 c512_i32_462
  let c0_i32_469 : BitVec 32 := 0#32
  let c0_i32_470 : BitVec 32 := 0#32
  let c0_i32_471 : BitVec 32 := 0#32
  ![v430.toNat, v449.toNat, 0, 0, 0]
def k0_off64 (k0_t5 : Fin k0_t5_loop.trips) : Fin 2 → Nat :=
  let c3_i32_472 : BitVec 32 := 3#32
  let c0_i32_458 : BitVec 32 := 0#32
  let c1_i32_460 : BitVec 32 := 1#32
  let arg24 : BitVec 32 := Scf.iv c0_i32_458 c1_i32_460 k0_t5
  ![3, arg24.toNat]
def k0_off65 (k0_t5 : Fin k0_t5_loop.trips) : Fin 3 → Nat :=
  let c0_i32_458 : BitVec 32 := 0#32
  let c1_i32_460 : BitVec 32 := 1#32
  let arg24 : BitVec 32 := Scf.iv c0_i32_458 c1_i32_460 k0_t5
  let c0_i32_473 : BitVec 32 := 0#32
  let c0_i32_474 : BitVec 32 := 0#32
  ![arg24.toNat, 0, 0]
def k0_off66 (v430 : BitVec 32) (k0_t5 : Fin k0_t5_loop.trips) : Fin 3 → Nat :=
  let c0_i32_458 : BitVec 32 := 0#32
  let c1_i32_460 : BitVec 32 := 1#32
  let arg24 : BitVec 32 := Scf.iv c0_i32_458 c1_i32_460 k0_t5
  let c512_i32_463 : BitVec 32 := 512#32
  let v450 : BitVec 32 := Scalar.muli arg24 c512_i32_463
  let c0_i32_475 : BitVec 32 := 0#32
  ![v430.toNat, v450.toNat, 0]
def k0_off67 (k0_t5 : Fin k0_t5_loop.trips) : Fin 5 → Nat :=
  let c0_i32_458 : BitVec 32 := 0#32
  let c1_i32_460 : BitVec 32 := 1#32
  let arg24 : BitVec 32 := Scf.iv c0_i32_458 c1_i32_460 k0_t5
  let v463 : Index := Scalar.indexCast arg24
  let c0_476 : Index := 0#32
  let c0_477 : Index := 0#32
  let c0_478 : Index := 0#32
  let c0_479 : Index := 0#32
  ![v463.toNat, 0, 0, 0, 0]
def k0_off68 (k0_t5 : Fin k0_t5_loop.trips) : Fin 3 → Nat :=
  let c0_i32_458 : BitVec 32 := 0#32
  let c1_i32_460 : BitVec 32 := 1#32
  let arg24 : BitVec 32 := Scf.iv c0_i32_458 c1_i32_460 k0_t5
  let v554 : Index := Scalar.indexCast arg24
  let c0_492 : Index := 0#32
  let c0_493 : Index := 0#32
  ![v554.toNat, 0, 0]
def k0_off69 (k0_t5 : Fin k0_t5_loop.trips) : Fin 3 → Nat :=
  let c0_i32_458 : BitVec 32 := 0#32
  let c1_i32_460 : BitVec 32 := 1#32
  let arg24 : BitVec 32 := Scf.iv c0_i32_458 c1_i32_460 k0_t5
  let v586 : Index := Scalar.indexCast arg24
  let c128 : Index := 128#32
  let c0_494 : Index := 0#32
  ![v586.toNat, 128, 0]
def k0_off70 (k0_t5 : Fin k0_t5_loop.trips) : Fin 3 → Nat :=
  let c0_i32_458 : BitVec 32 := 0#32
  let c1_i32_460 : BitVec 32 := 1#32
  let arg24 : BitVec 32 := Scf.iv c0_i32_458 c1_i32_460 k0_t5
  let v618 : Index := Scalar.indexCast arg24
  let c256 : Index := 256#32
  let c0_497 : Index := 0#32
  ![v618.toNat, 256, 0]
def k0_off71 (k0_t5 : Fin k0_t5_loop.trips) : Fin 3 → Nat :=
  let c0_i32_458 : BitVec 32 := 0#32
  let c1_i32_460 : BitVec 32 := 1#32
  let arg24 : BitVec 32 := Scf.iv c0_i32_458 c1_i32_460 k0_t5
  let v650 : Index := Scalar.indexCast arg24
  let c384 : Index := 384#32
  let c0_500 : Index := 0#32
  ![v650.toNat, 384, 0]
def k0_off72 (k0_t5 : Fin k0_t5_loop.trips) : Fin 2 → Nat :=
  let c2_i32_550 : BitVec 32 := 2#32
  let c0_i32_458 : BitVec 32 := 0#32
  let c1_i32_460 : BitVec 32 := 1#32
  let arg24 : BitVec 32 := Scf.iv c0_i32_458 c1_i32_460 k0_t5
  ![2, arg24.toNat]
def k0_off73 (k0_t5 : Fin k0_t5_loop.trips) : Fin 5 → Nat :=
  let c0_i32_458 : BitVec 32 := 0#32
  let c1_i32_460 : BitVec 32 := 1#32
  let arg24 : BitVec 32 := Scf.iv c0_i32_458 c1_i32_460 k0_t5
  let c0_i32_551 : BitVec 32 := 0#32
  let c0_i32_552 : BitVec 32 := 0#32
  let c0_i32_553 : BitVec 32 := 0#32
  let c0_i32_554 : BitVec 32 := 0#32
  ![arg24.toNat, 0, 0, 0, 0]
def k0_off74 (v435 : BitVec 32) (k0_t5 : Fin k0_t5_loop.trips) : Fin 5 → Nat :=
  let c0_i32_458 : BitVec 32 := 0#32
  let c1_i32_460 : BitVec 32 := 1#32
  let arg24 : BitVec 32 := Scf.iv c0_i32_458 c1_i32_460 k0_t5
  let c512_i32_548 : BitVec 32 := 512#32
  let v741 : BitVec 32 := Scalar.muli arg24 c512_i32_548
  let c0_i32_555 : BitVec 32 := 0#32
  let c0_i32_556 : BitVec 32 := 0#32
  let c0_i32_557 : BitVec 32 := 0#32
  ![v435.toNat, v741.toNat, 0, 0, 0]
def k0_cond2 (v3 : BitVec 32) (k0_t3 : Fin (k0_t3_loop v3).trips) : BitVec 1 :=
  let c0_i32_427 : BitVec 32 := 0#32
  let c1_i32_429 : BitVec 32 := 1#32
  let arg23 : BitVec 32 := Scf.iv c0_i32_427 c1_i32_429 k0_t3
  let c1_i32_447 : BitVec 32 := 1#32
  let v436 : BitVec 32 := Scalar.addi arg23 c1_i32_447
  let v437 : BitVec 1 := Scalar.cmpi .slt v436 v3
  let v717 : BitVec 32 := Scalar.extui v437
  let c0_i32_540 : BitVec 32 := 0#32
  let v718 : BitVec 1 := Scalar.cmpi .ne v717 c0_i32_540
  v718

def k0_off75 (k0_t5 : Fin k0_t5_loop.trips) : Fin 2 → Nat :=
  let c3_i32_558 : BitVec 32 := 3#32
  let c0_i32_458 : BitVec 32 := 0#32
  let c1_i32_460 : BitVec 32 := 1#32
  let arg24 : BitVec 32 := Scf.iv c0_i32_458 c1_i32_460 k0_t5
  ![3, arg24.toNat]
def k0_off76 (k0_t5 : Fin k0_t5_loop.trips) : Fin 3 → Nat :=
  let c0_i32_458 : BitVec 32 := 0#32
  let c1_i32_460 : BitVec 32 := 1#32
  let arg24 : BitVec 32 := Scf.iv c0_i32_458 c1_i32_460 k0_t5
  let c0_i32_559 : BitVec 32 := 0#32
  let c0_i32_560 : BitVec 32 := 0#32
  ![arg24.toNat, 0, 0]
def k0_off77 (v435 : BitVec 32) (k0_t5 : Fin k0_t5_loop.trips) : Fin 3 → Nat :=
  let c0_i32_458 : BitVec 32 := 0#32
  let c1_i32_460 : BitVec 32 := 1#32
  let arg24 : BitVec 32 := Scf.iv c0_i32_458 c1_i32_460 k0_t5
  let c512_i32_549 : BitVec 32 := 512#32
  let v742 : BitVec 32 := Scalar.muli arg24 c512_i32_549
  let c0_i32_561 : BitVec 32 := 0#32
  ![v435.toNat, v742.toNat, 0]

def k0_chk5 (v3 : BitVec 32) (k0_t3 : Fin (k0_t3_loop v3).trips) (v435 : BitVec 32) : Prop :=
  (∀ k0_t4 : Fin k0_t4_loop.trips, ∀ (k0_h1 : k0_cond1 v3 k0_t3 = 1#1), ∀ a, (k0_off55 v435 k0_t4) a + S1x64x2x4x8x128.size a ≤ S8x64x2x64x8x128.size a) ∧
  (∀ k0_t4 : Fin k0_t4_loop.trips, ∀ (k0_h1 : k0_cond1 v3 k0_t3 = 1#1), ∀ (hinb : ∀ a, (k0_off55 v435 k0_t4) a + S1x64x2x4x8x128.size a ≤ S8x64x2x64x8x128.size a), (Rect.unit (s := S8x64x2x64x8x128) (k0_off55 v435 k0_t4) S1x64x2x4x8x128.size hinb).WholeWords (EltTy.packing .i8)) ∧
  (∀ k0_t4 : Fin k0_t4_loop.trips, ∀ (k0_h1 : k0_cond1 v3 k0_t3 = 1#1), ∀ a, (k0_off58 v435 k0_t4) a + S1x64x512.size a ≤ S8x64x8192.size a) ∧
  (∀ k0_t4 : Fin k0_t4_loop.trips, ∀ (k0_h1 : k0_cond1 v3 k0_t3 = 1#1), ∀ (hinb : ∀ a, (k0_off58 v435 k0_t4) a + S1x64x512.size a ≤ S8x64x8192.size a), (Rect.unit (s := S8x64x8192) (k0_off58 v435 k0_t4) S1x64x512.size hinb).WholeWords (EltTy.packing .i8)) ∧
  (∀ k0_t5 : Fin k0_t5_loop.trips, ∀ (k0_h2 : k0_cond2 v3 k0_t3 = 1#1), ∀ a, (k0_off74 v435 k0_t5) a + S1x512x2x8x128.size a ≤ S8x2048x2x8x128.size a) ∧
  (∀ k0_t5 : Fin k0_t5_loop.trips, ∀ (k0_h2 : k0_cond2 v3 k0_t3 = 1#1), ∀ (hinb : ∀ a, (k0_off74 v435 k0_t5) a + S1x512x2x8x128.size a ≤ S8x2048x2x8x128.size a), (Rect.unit (s := S8x2048x2x8x128) (k0_off74 v435 k0_t5) S1x512x2x8x128.size hinb).WholeWords (EltTy.packing .i8)) ∧
  (∀ k0_t5 : Fin k0_t5_loop.trips, ∀ (k0_h2 : k0_cond2 v3 k0_t3 = 1#1), ∀ a, (k0_off77 v435 k0_t5) a + S1x512x128.size a ≤ S8x2048x128.size a) ∧
  (∀ k0_t5 : Fin k0_t5_loop.trips, ∀ (k0_h2 : k0_cond2 v3 k0_t3 = 1#1), ∀ (hinb : ∀ a, (k0_off77 v435 k0_t5) a + S1x512x128.size a ≤ S8x2048x128.size a), (Rect.unit (s := S8x2048x128) (k0_off77 v435 k0_t5) S1x512x128.size hinb).WholeWords (EltTy.packing .i8))
theorem k0_off55_inb : ∀ (v3 : BitVec 32) (k0_t3 : Fin (k0_t3_loop v3).trips) (v435 : BitVec 32) (k0_hw5 : k0_chk5 v3 k0_t3 v435) (k0_t4 : Fin k0_t4_loop.trips), ∀ (k0_h1 : k0_cond1 v3 k0_t3 = 1#1), ∀ a, (k0_off55 v435 k0_t4) a + S1x64x2x4x8x128.size a ≤ S8x64x2x64x8x128.size a := fun v3 k0_t3 v435 k0_hw5 k0_t4 k0_h1 => k0_hw5.1 k0_t4 k0_h1
theorem k0_off55_wordsi8 : ∀ (v3 : BitVec 32) (k0_t3 : Fin (k0_t3_loop v3).trips) (v435 : BitVec 32) (k0_hw5 : k0_chk5 v3 k0_t3 v435) (k0_t4 : Fin k0_t4_loop.trips), ∀ (k0_h1 : k0_cond1 v3 k0_t3 = 1#1), (Rect.unit (s := S8x64x2x64x8x128) (k0_off55 v435 k0_t4) S1x64x2x4x8x128.size (k0_off55_inb v3 k0_t3 v435 k0_hw5 k0_t4 k0_h1)).WholeWords (EltTy.packing .i8) := fun v3 k0_t3 v435 k0_hw5 k0_t4 k0_h1 => k0_hw5.2.1 k0_t4 k0_h1 (k0_off55_inb v3 k0_t3 v435 k0_hw5 k0_t4 k0_h1)
theorem k0_off58_inb : ∀ (v3 : BitVec 32) (k0_t3 : Fin (k0_t3_loop v3).trips) (v435 : BitVec 32) (k0_hw5 : k0_chk5 v3 k0_t3 v435) (k0_t4 : Fin k0_t4_loop.trips), ∀ (k0_h1 : k0_cond1 v3 k0_t3 = 1#1), ∀ a, (k0_off58 v435 k0_t4) a + S1x64x512.size a ≤ S8x64x8192.size a := fun v3 k0_t3 v435 k0_hw5 k0_t4 k0_h1 => k0_hw5.2.2.1 k0_t4 k0_h1
theorem k0_off58_wordsi8 : ∀ (v3 : BitVec 32) (k0_t3 : Fin (k0_t3_loop v3).trips) (v435 : BitVec 32) (k0_hw5 : k0_chk5 v3 k0_t3 v435) (k0_t4 : Fin k0_t4_loop.trips), ∀ (k0_h1 : k0_cond1 v3 k0_t3 = 1#1), (Rect.unit (s := S8x64x8192) (k0_off58 v435 k0_t4) S1x64x512.size (k0_off58_inb v3 k0_t3 v435 k0_hw5 k0_t4 k0_h1)).WholeWords (EltTy.packing .i8) := fun v3 k0_t3 v435 k0_hw5 k0_t4 k0_h1 => k0_hw5.2.2.2.1 k0_t4 k0_h1 (k0_off58_inb v3 k0_t3 v435 k0_hw5 k0_t4 k0_h1)
theorem k0_off74_inb : ∀ (v3 : BitVec 32) (k0_t3 : Fin (k0_t3_loop v3).trips) (v435 : BitVec 32) (k0_hw5 : k0_chk5 v3 k0_t3 v435) (k0_t5 : Fin k0_t5_loop.trips), ∀ (k0_h2 : k0_cond2 v3 k0_t3 = 1#1), ∀ a, (k0_off74 v435 k0_t5) a + S1x512x2x8x128.size a ≤ S8x2048x2x8x128.size a := fun v3 k0_t3 v435 k0_hw5 k0_t5 k0_h2 => k0_hw5.2.2.2.2.1 k0_t5 k0_h2
theorem k0_off74_wordsi8 : ∀ (v3 : BitVec 32) (k0_t3 : Fin (k0_t3_loop v3).trips) (v435 : BitVec 32) (k0_hw5 : k0_chk5 v3 k0_t3 v435) (k0_t5 : Fin k0_t5_loop.trips), ∀ (k0_h2 : k0_cond2 v3 k0_t3 = 1#1), (Rect.unit (s := S8x2048x2x8x128) (k0_off74 v435 k0_t5) S1x512x2x8x128.size (k0_off74_inb v3 k0_t3 v435 k0_hw5 k0_t5 k0_h2)).WholeWords (EltTy.packing .i8) := fun v3 k0_t3 v435 k0_hw5 k0_t5 k0_h2 => k0_hw5.2.2.2.2.2.1 k0_t5 k0_h2 (k0_off74_inb v3 k0_t3 v435 k0_hw5 k0_t5 k0_h2)
theorem k0_off77_inb : ∀ (v3 : BitVec 32) (k0_t3 : Fin (k0_t3_loop v3).trips) (v435 : BitVec 32) (k0_hw5 : k0_chk5 v3 k0_t3 v435) (k0_t5 : Fin k0_t5_loop.trips), ∀ (k0_h2 : k0_cond2 v3 k0_t3 = 1#1), ∀ a, (k0_off77 v435 k0_t5) a + S1x512x128.size a ≤ S8x2048x128.size a := fun v3 k0_t3 v435 k0_hw5 k0_t5 k0_h2 => k0_hw5.2.2.2.2.2.2.1 k0_t5 k0_h2
theorem k0_off77_wordsi8 : ∀ (v3 : BitVec 32) (k0_t3 : Fin (k0_t3_loop v3).trips) (v435 : BitVec 32) (k0_hw5 : k0_chk5 v3 k0_t3 v435) (k0_t5 : Fin k0_t5_loop.trips), ∀ (k0_h2 : k0_cond2 v3 k0_t3 = 1#1), (Rect.unit (s := S8x2048x128) (k0_off77 v435 k0_t5) S1x512x128.size (k0_off77_inb v3 k0_t3 v435 k0_hw5 k0_t5 k0_h2)).WholeWords (EltTy.packing .i8) := fun v3 k0_t3 v435 k0_hw5 k0_t5 k0_h2 => k0_hw5.2.2.2.2.2.2.2 k0_t5 k0_h2 (k0_off77_inb v3 k0_t3 v435 k0_hw5 k0_t5 k0_h2)

def k0_off78 (v430 : BitVec 32) (k0_t5 : Fin k0_t5_loop.trips) : Fin 2 → Nat :=
  let v720 : Index := Scalar.indexCast v430
  let c0_i32_458 : BitVec 32 := 0#32
  let c1_i32_460 : BitVec 32 := 1#32
  let arg24 : BitVec 32 := Scf.iv c0_i32_458 c1_i32_460 k0_t5
  let c512_i32_541 : BitVec 32 := 512#32
  let v719 : BitVec 32 := Scalar.muli arg24 c512_i32_541
  let v721 : Index := Scalar.indexCast v719
  ![v720.toNat, v721.toNat]

def k0_chk4 (v430 : BitVec 32) : Prop :=
  (∀ k0_t4 : Fin k0_t4_loop.trips, ∀ a, (k0_off47 v430 k0_t4) a + S1x64x2x4x8x128.size a ≤ S8x64x2x64x8x128.size a) ∧
  (∀ k0_t4 : Fin k0_t4_loop.trips, ∀ (hinb : ∀ a, (k0_off47 v430 k0_t4) a + S1x64x2x4x8x128.size a ≤ S8x64x2x64x8x128.size a), (Rect.unit (s := S8x64x2x64x8x128) (k0_off47 v430 k0_t4) S1x64x2x4x8x128.size hinb).WholeWords (EltTy.packing .i8)) ∧
  (∀ k0_t4 : Fin k0_t4_loop.trips, ∀ a, (k0_off50 v430 k0_t4) a + S1x64x512.size a ≤ S8x64x8192.size a) ∧
  (∀ k0_t4 : Fin k0_t4_loop.trips, ∀ (hinb : ∀ a, (k0_off50 v430 k0_t4) a + S1x64x512.size a ≤ S8x64x8192.size a), (Rect.unit (s := S8x64x8192) (k0_off50 v430 k0_t4) S1x64x512.size hinb).WholeWords (EltTy.packing .i8)) ∧
  (∀ k0_t4 : Fin k0_t4_loop.trips, ∀ a, (k0_off59 v430 k0_t4) a + S1x512.size a ≤ S8x8192.size a) ∧
  (∀ k0_t5 : Fin k0_t5_loop.trips, ∀ a, (k0_off63 v430 k0_t5) a + S1x512x2x8x128.size a ≤ S8x2048x2x8x128.size a) ∧
  (∀ k0_t5 : Fin k0_t5_loop.trips, ∀ (hinb : ∀ a, (k0_off63 v430 k0_t5) a + S1x512x2x8x128.size a ≤ S8x2048x2x8x128.size a), (Rect.unit (s := S8x2048x2x8x128) (k0_off63 v430 k0_t5) S1x512x2x8x128.size hinb).WholeWords (EltTy.packing .i8)) ∧
  (∀ k0_t5 : Fin k0_t5_loop.trips, ∀ a, (k0_off66 v430 k0_t5) a + S1x512x128.size a ≤ S8x2048x128.size a) ∧
  (∀ k0_t5 : Fin k0_t5_loop.trips, ∀ (hinb : ∀ a, (k0_off66 v430 k0_t5) a + S1x512x128.size a ≤ S8x2048x128.size a), (Rect.unit (s := S8x2048x128) (k0_off66 v430 k0_t5) S1x512x128.size hinb).WholeWords (EltTy.packing .i8)) ∧
  (∀ k0_t5 : Fin k0_t5_loop.trips, ∀ a, (k0_off78 v430 k0_t5) a + S1x512.size a ≤ S8x2048.size a)
theorem k0_off47_inb : ∀ (v430 : BitVec 32) (k0_hw4 : k0_chk4 v430) (k0_t4 : Fin k0_t4_loop.trips), ∀ a, (k0_off47 v430 k0_t4) a + S1x64x2x4x8x128.size a ≤ S8x64x2x64x8x128.size a := fun v430 k0_hw4 k0_t4 => k0_hw4.1 k0_t4
theorem k0_off47_wordsi8 : ∀ (v430 : BitVec 32) (k0_hw4 : k0_chk4 v430) (k0_t4 : Fin k0_t4_loop.trips), (Rect.unit (s := S8x64x2x64x8x128) (k0_off47 v430 k0_t4) S1x64x2x4x8x128.size (k0_off47_inb v430 k0_hw4 k0_t4)).WholeWords (EltTy.packing .i8) := fun v430 k0_hw4 k0_t4 => k0_hw4.2.1 k0_t4 (k0_off47_inb v430 k0_hw4 k0_t4)
theorem k0_off50_inb : ∀ (v430 : BitVec 32) (k0_hw4 : k0_chk4 v430) (k0_t4 : Fin k0_t4_loop.trips), ∀ a, (k0_off50 v430 k0_t4) a + S1x64x512.size a ≤ S8x64x8192.size a := fun v430 k0_hw4 k0_t4 => k0_hw4.2.2.1 k0_t4
theorem k0_off50_wordsi8 : ∀ (v430 : BitVec 32) (k0_hw4 : k0_chk4 v430) (k0_t4 : Fin k0_t4_loop.trips), (Rect.unit (s := S8x64x8192) (k0_off50 v430 k0_t4) S1x64x512.size (k0_off50_inb v430 k0_hw4 k0_t4)).WholeWords (EltTy.packing .i8) := fun v430 k0_hw4 k0_t4 => k0_hw4.2.2.2.1 k0_t4 (k0_off50_inb v430 k0_hw4 k0_t4)
theorem k0_off59_inb : ∀ (v430 : BitVec 32) (k0_hw4 : k0_chk4 v430) (k0_t4 : Fin k0_t4_loop.trips), ∀ a, (k0_off59 v430 k0_t4) a + S1x512.size a ≤ S8x8192.size a := fun v430 k0_hw4 k0_t4 => k0_hw4.2.2.2.2.1 k0_t4
theorem k0_off63_inb : ∀ (v430 : BitVec 32) (k0_hw4 : k0_chk4 v430) (k0_t5 : Fin k0_t5_loop.trips), ∀ a, (k0_off63 v430 k0_t5) a + S1x512x2x8x128.size a ≤ S8x2048x2x8x128.size a := fun v430 k0_hw4 k0_t5 => k0_hw4.2.2.2.2.2.1 k0_t5
theorem k0_off63_wordsi8 : ∀ (v430 : BitVec 32) (k0_hw4 : k0_chk4 v430) (k0_t5 : Fin k0_t5_loop.trips), (Rect.unit (s := S8x2048x2x8x128) (k0_off63 v430 k0_t5) S1x512x2x8x128.size (k0_off63_inb v430 k0_hw4 k0_t5)).WholeWords (EltTy.packing .i8) := fun v430 k0_hw4 k0_t5 => k0_hw4.2.2.2.2.2.2.1 k0_t5 (k0_off63_inb v430 k0_hw4 k0_t5)
theorem k0_off66_inb : ∀ (v430 : BitVec 32) (k0_hw4 : k0_chk4 v430) (k0_t5 : Fin k0_t5_loop.trips), ∀ a, (k0_off66 v430 k0_t5) a + S1x512x128.size a ≤ S8x2048x128.size a := fun v430 k0_hw4 k0_t5 => k0_hw4.2.2.2.2.2.2.2.1 k0_t5
theorem k0_off66_wordsi8 : ∀ (v430 : BitVec 32) (k0_hw4 : k0_chk4 v430) (k0_t5 : Fin k0_t5_loop.trips), (Rect.unit (s := S8x2048x128) (k0_off66 v430 k0_t5) S1x512x128.size (k0_off66_inb v430 k0_hw4 k0_t5)).WholeWords (EltTy.packing .i8) := fun v430 k0_hw4 k0_t5 => k0_hw4.2.2.2.2.2.2.2.2.1 k0_t5 (k0_off66_inb v430 k0_hw4 k0_t5)
theorem k0_off78_inb : ∀ (v430 : BitVec 32) (k0_hw4 : k0_chk4 v430) (k0_t5 : Fin k0_t5_loop.trips), ∀ a, (k0_off78 v430 k0_t5) a + S1x512.size a ≤ S8x2048.size a := fun v430 k0_hw4 k0_t5 => k0_hw4.2.2.2.2.2.2.2.2.2 k0_t5

def k0_off79 (k0_t5 : Fin k0_t5_loop.trips) : Fin 3 → Nat :=
  let c0_i32_458 : BitVec 32 := 0#32
  let c1_i32_460 : BitVec 32 := 1#32
  let arg24 : BitVec 32 := Scf.iv c0_i32_458 c1_i32_460 k0_t5
  let v725 : Index := Scalar.indexCast arg24
  let c0_542 : Index := 0#32
  let c0_543 : Index := 0#32
  ![v725.toNat, 0, 0]
@[reducible] def k0_t6_loop (v3 : BitVec 32) : Scf.Loop 32 :=
  let c0_i32_427 : BitVec 32 := 0#32
  let v408 : BitVec 32 := Scalar.subi v3 c0_i32_427
  let c1_i32_428 : BitVec 32 := 1#32
  let v410 : BitVec 32 := Scalar.divsi v408 c1_i32_428
  let v411 : BitVec 32 := Scalar.muli v410 c1_i32_428
  let v412 : BitVec 32 := Scalar.addi c0_i32_427 v411
  let v409 : BitVec 32 := Scalar.addi c0_i32_427 v408
  let c1_i32_430 : BitVec 32 := 1#32
  ⟨v412, v409, c1_i32_430⟩
def k0_off80 (v3 : BitVec 32) (k0_t6 : Fin (k0_t6_loop v3).trips) : Fin 1 → Nat :=
  let c0_i32_427 : BitVec 32 := 0#32
  let v408 : BitVec 32 := Scalar.subi v3 c0_i32_427
  let c1_i32_428 : BitVec 32 := 1#32
  let v410 : BitVec 32 := Scalar.divsi v408 c1_i32_428
  let v411 : BitVec 32 := Scalar.muli v410 c1_i32_428
  let v412 : BitVec 32 := Scalar.addi c0_i32_427 v411
  let c1_i32_430 : BitVec 32 := 1#32
  let arg23 : BitVec 32 := Scf.iv v412 c1_i32_430 k0_t6
  let v429 : Index := Scalar.indexCast arg23
  ![v429.toNat]
def k0_off81 (v3 : BitVec 32) (k0_t6 : Fin (k0_t6_loop v3).trips) : Fin 1 → Nat :=
  let c0_i32_427 : BitVec 32 := 0#32
  let v408 : BitVec 32 := Scalar.subi v3 c0_i32_427
  let c1_i32_428 : BitVec 32 := 1#32
  let v410 : BitVec 32 := Scalar.divsi v408 c1_i32_428
  let v411 : BitVec 32 := Scalar.muli v410 c1_i32_428
  let v412 : BitVec 32 := Scalar.addi c0_i32_427 v411
  let c1_i32_430 : BitVec 32 := 1#32
  let arg23 : BitVec 32 := Scf.iv v412 c1_i32_430 k0_t6
  let c1_i32_445 : BitVec 32 := 1#32
  let v431 : BitVec 32 := Scalar.addi arg23 c1_i32_445
  let c1_i32_446 : BitVec 32 := 1#32
  let v432 : BitVec 32 := Scalar.subi v3 c1_i32_446
  let v433 : BitVec 32 := Scalar.minsi v431 v432
  let v434 : Index := Scalar.indexCast v433
  ![v434.toNat]

def k0_chk3 (v3 : BitVec 32) : Prop :=
  ((k0_t3_loop v3).OK) ∧
  (∀ k0_t3 : Fin (k0_t3_loop v3).trips, ∀ a, (k0_off43 v3 k0_t3) a + S1.size a ≤ S9.size a) ∧
  (∀ k0_t3 : Fin (k0_t3_loop v3).trips, ∀ a, (k0_off44 v3 k0_t3) a + S1.size a ≤ S9.size a) ∧
  ((k0_t6_loop v3).OK) ∧
  (∀ k0_t6 : Fin (k0_t6_loop v3).trips, ∀ a, (k0_off80 v3 k0_t6) a + S1.size a ≤ S9.size a) ∧
  (∀ k0_t6 : Fin (k0_t6_loop v3).trips, ∀ a, (k0_off81 v3 k0_t6) a + S1.size a ≤ S9.size a)
theorem k0_t3_ok : ∀ (v3 : BitVec 32) (k0_hw3 : k0_chk3 v3), (k0_t3_loop v3).OK := fun v3 k0_hw3 => k0_hw3.1
theorem k0_off43_inb : ∀ (v3 : BitVec 32) (k0_hw3 : k0_chk3 v3) (k0_t3 : Fin (k0_t3_loop v3).trips), ∀ a, (k0_off43 v3 k0_t3) a + S1.size a ≤ S9.size a := fun v3 k0_hw3 k0_t3 => k0_hw3.2.1 k0_t3
theorem k0_off44_inb : ∀ (v3 : BitVec 32) (k0_hw3 : k0_chk3 v3) (k0_t3 : Fin (k0_t3_loop v3).trips), ∀ a, (k0_off44 v3 k0_t3) a + S1.size a ≤ S9.size a := fun v3 k0_hw3 k0_t3 => k0_hw3.2.2.1 k0_t3
theorem k0_t6_ok : ∀ (v3 : BitVec 32) (k0_hw3 : k0_chk3 v3), (k0_t6_loop v3).OK := fun v3 k0_hw3 => k0_hw3.2.2.2.1
theorem k0_off80_inb : ∀ (v3 : BitVec 32) (k0_hw3 : k0_chk3 v3) (k0_t6 : Fin (k0_t6_loop v3).trips), ∀ a, (k0_off80 v3 k0_t6) a + S1.size a ≤ S9.size a := fun v3 k0_hw3 k0_t6 => k0_hw3.2.2.2.2.1 k0_t6
theorem k0_off81_inb : ∀ (v3 : BitVec 32) (k0_hw3 : k0_chk3 v3) (k0_t6 : Fin (k0_t6_loop v3).trips), ∀ a, (k0_off81 v3 k0_t6) a + S1.size a ≤ S9.size a := fun v3 k0_hw3 k0_t6 => k0_hw3.2.2.2.2.2 k0_t6

@[reducible] def k0_t7_loop : Scf.Loop 32 :=
  let c0_i32_449 : BitVec 32 := 0#32
  let c16_i32_450 : BitVec 32 := 16#32
  let v438 : BitVec 32 := Scalar.addi c0_i32_449 c16_i32_450
  let c1_i32_451 : BitVec 32 := 1#32
  ⟨c0_i32_449, v438, c1_i32_451⟩
def k0_off82 (k0_t7 : Fin k0_t7_loop.trips) : Fin 2 → Nat :=
  let c0_i32_464 : BitVec 32 := 0#32
  let c0_i32_449 : BitVec 32 := 0#32
  let c1_i32_451 : BitVec 32 := 1#32
  let arg24 : BitVec 32 := Scf.iv c0_i32_449 c1_i32_451 k0_t7
  ![0, arg24.toNat]
def k0_off83 (k0_t7 : Fin k0_t7_loop.trips) : Fin 6 → Nat :=
  let c0_i32_449 : BitVec 32 := 0#32
  let c1_i32_451 : BitVec 32 := 1#32
  let arg24 : BitVec 32 := Scf.iv c0_i32_449 c1_i32_451 k0_t7
  let c0_i32_465 : BitVec 32 := 0#32
  let c0_i32_466 : BitVec 32 := 0#32
  let c0_i32_467 : BitVec 32 := 0#32
  let c0_i32_468 : BitVec 32 := 0#32
  let c0_i32_469 : BitVec 32 := 0#32
  ![arg24.toNat, 0, 0, 0, 0, 0]
def k0_off84 (v430 : BitVec 32) (k0_t7 : Fin k0_t7_loop.trips) : Fin 6 → Nat :=
  let c0_i32_470 : BitVec 32 := 0#32
  let c0_i32_471 : BitVec 32 := 0#32
  let c0_i32_449 : BitVec 32 := 0#32
  let c1_i32_451 : BitVec 32 := 1#32
  let arg24 : BitVec 32 := Scf.iv c0_i32_449 c1_i32_451 k0_t7
  let c4_i32_462 : BitVec 32 := 4#32
  let v449 : BitVec 32 := Scalar.muli arg24 c4_i32_462
  let c0_i32_472 : BitVec 32 := 0#32
  let c0_i32_473 : BitVec 32 := 0#32
  ![v430.toNat, 0, 0, v449.toNat, 0, 0]

def k0_off85 (k0_t7 : Fin k0_t7_loop.trips) : Fin 2 → Nat :=
  let c1_i32_474 : BitVec 32 := 1#32
  let c0_i32_449 : BitVec 32 := 0#32
  let c1_i32_451 : BitVec 32 := 1#32
  let arg24 : BitVec 32 := Scf.iv c0_i32_449 c1_i32_451 k0_t7
  ![1, arg24.toNat]
def k0_off86 (k0_t7 : Fin k0_t7_loop.trips) : Fin 3 → Nat :=
  let c0_i32_449 : BitVec 32 := 0#32
  let c1_i32_451 : BitVec 32 := 1#32
  let arg24 : BitVec 32 := Scf.iv c0_i32_449 c1_i32_451 k0_t7
  let c0_i32_475 : BitVec 32 := 0#32
  let c0_i32_476 : BitVec 32 := 0#32
  ![arg24.toNat, 0, 0]
def k0_off87 (v430 : BitVec 32) (k0_t7 : Fin k0_t7_loop.trips) : Fin 3 → Nat :=
  let c0_i32_477 : BitVec 32 := 0#32
  let c0_i32_449 : BitVec 32 := 0#32
  let c1_i32_451 : BitVec 32 := 1#32
  let arg24 : BitVec 32 := Scf.iv c0_i32_449 c1_i32_451 k0_t7
  let c512_i32_463 : BitVec 32 := 512#32
  let v450 : BitVec 32 := Scalar.muli arg24 c512_i32_463
  ![v430.toNat, 0, v450.toNat]
def k0_off88 (k0_t7 : Fin k0_t7_loop.trips) : Fin 3 → Nat :=
  let c0_i32_449 : BitVec 32 := 0#32
  let c1_i32_451 : BitVec 32 := 1#32
  let arg24 : BitVec 32 := Scf.iv c0_i32_449 c1_i32_451 k0_t7
  let v463 : Index := Scalar.indexCast arg24
  let c0_478 : Index := 0#32
  let c0_479 : Index := 0#32
  ![v463.toNat, 0, 0]
def k0_off89 (k0_t7 : Fin k0_t7_loop.trips) : Fin 6 → Nat :=
  let c0_i32_449 : BitVec 32 := 0#32
  let c1_i32_451 : BitVec 32 := 1#32
  let arg24 : BitVec 32 := Scf.iv c0_i32_449 c1_i32_451 k0_t7
  let v474 : Index := Scalar.indexCast arg24
  let c0_482 : Index := 0#32
  let c0_483 : Index := 0#32
  let c0_484 : Index := 0#32
  let c0_485 : Index := 0#32
  let c0_486 : Index := 0#32
  ![v474.toNat, 0, 0, 0, 0, 0]
def k0_off90 (k0_t7 : Fin k0_t7_loop.trips) : Fin 2 → Nat :=
  let c0_i32_524 : BitVec 32 := 0#32
  let c0_i32_449 : BitVec 32 := 0#32
  let c1_i32_451 : BitVec 32 := 1#32
  let arg24 : BitVec 32 := Scf.iv c0_i32_449 c1_i32_451 k0_t7
  ![0, arg24.toNat]
def k0_off91 (k0_t7 : Fin k0_t7_loop.trips) : Fin 6 → Nat :=
  let c0_i32_449 : BitVec 32 := 0#32
  let c1_i32_451 : BitVec 32 := 1#32
  let arg24 : BitVec 32 := Scf.iv c0_i32_449 c1_i32_451 k0_t7
  let c0_i32_525 : BitVec 32 := 0#32
  let c0_i32_526 : BitVec 32 := 0#32
  let c0_i32_527 : BitVec 32 := 0#32
  let c0_i32_528 : BitVec 32 := 0#32
  let c0_i32_529 : BitVec 32 := 0#32
  ![arg24.toNat, 0, 0, 0, 0, 0]
def k0_off92 (v435 : BitVec 32) (k0_t7 : Fin k0_t7_loop.trips) : Fin 6 → Nat :=
  let c0_i32_530 : BitVec 32 := 0#32
  let c0_i32_531 : BitVec 32 := 0#32
  let c0_i32_449 : BitVec 32 := 0#32
  let c1_i32_451 : BitVec 32 := 1#32
  let arg24 : BitVec 32 := Scf.iv c0_i32_449 c1_i32_451 k0_t7
  let c4_i32_522 : BitVec 32 := 4#32
  let v594 : BitVec 32 := Scalar.muli arg24 c4_i32_522
  let c0_i32_532 : BitVec 32 := 0#32
  let c0_i32_533 : BitVec 32 := 0#32
  ![v435.toNat, 0, 0, v594.toNat, 0, 0]
def k0_cond3 (v3 : BitVec 32) (k0_t6 : Fin (k0_t6_loop v3).trips) : BitVec 1 :=
  let c0_i32_427 : BitVec 32 := 0#32
  let v408 : BitVec 32 := Scalar.subi v3 c0_i32_427
  let c1_i32_428 : BitVec 32 := 1#32
  let v410 : BitVec 32 := Scalar.divsi v408 c1_i32_428
  let v411 : BitVec 32 := Scalar.muli v410 c1_i32_428
  let v412 : BitVec 32 := Scalar.addi c0_i32_427 v411
  let c1_i32_430 : BitVec 32 := 1#32
  let arg23 : BitVec 32 := Scf.iv v412 c1_i32_430 k0_t6
  let c1_i32_447 : BitVec 32 := 1#32
  let v436 : BitVec 32 := Scalar.addi arg23 c1_i32_447
  let v437 : BitVec 1 := Scalar.cmpi .slt v436 v3
  let v543 : BitVec 32 := Scalar.extui v437
  let c0_i32_502 : BitVec 32 := 0#32
  let v544 : BitVec 1 := Scalar.cmpi .ne v543 c0_i32_502
  v544

def k0_off93 (k0_t7 : Fin k0_t7_loop.trips) : Fin 2 → Nat :=
  let c1_i32_534 : BitVec 32 := 1#32
  let c0_i32_449 : BitVec 32 := 0#32
  let c1_i32_451 : BitVec 32 := 1#32
  let arg24 : BitVec 32 := Scf.iv c0_i32_449 c1_i32_451 k0_t7
  ![1, arg24.toNat]
def k0_off94 (k0_t7 : Fin k0_t7_loop.trips) : Fin 3 → Nat :=
  let c0_i32_449 : BitVec 32 := 0#32
  let c1_i32_451 : BitVec 32 := 1#32
  let arg24 : BitVec 32 := Scf.iv c0_i32_449 c1_i32_451 k0_t7
  let c0_i32_535 : BitVec 32 := 0#32
  let c0_i32_536 : BitVec 32 := 0#32
  ![arg24.toNat, 0, 0]
def k0_off95 (v435 : BitVec 32) (k0_t7 : Fin k0_t7_loop.trips) : Fin 3 → Nat :=
  let c0_i32_537 : BitVec 32 := 0#32
  let c0_i32_449 : BitVec 32 := 0#32
  let c1_i32_451 : BitVec 32 := 1#32
  let arg24 : BitVec 32 := Scf.iv c0_i32_449 c1_i32_451 k0_t7
  let c512_i32_523 : BitVec 32 := 512#32
  let v595 : BitVec 32 := Scalar.muli arg24 c512_i32_523
  ![v435.toNat, 0, v595.toNat]
def k0_off96 (v430 : BitVec 32) (k0_t7 : Fin k0_t7_loop.trips) : Fin 2 → Nat :=
  let v546 : Index := Scalar.indexCast v430
  let c0_i32_449 : BitVec 32 := 0#32
  let c1_i32_451 : BitVec 32 := 1#32
  let arg24 : BitVec 32 := Scf.iv c0_i32_449 c1_i32_451 k0_t7
  let c512_i32_503 : BitVec 32 := 512#32
  let v545 : BitVec 32 := Scalar.muli arg24 c512_i32_503
  let v547 : Index := Scalar.indexCast v545
  ![v546.toNat, v547.toNat]
def k0_off97 (k0_t7 : Fin k0_t7_loop.trips) : Fin 3 → Nat :=
  let c0_i32_449 : BitVec 32 := 0#32
  let c1_i32_451 : BitVec 32 := 1#32
  let arg24 : BitVec 32 := Scf.iv c0_i32_449 c1_i32_451 k0_t7
  let v590 : Index := Scalar.indexCast arg24
  let c0_520 : Index := 0#32
  let c0_521 : Index := 0#32
  ![v590.toNat, 0, 0]
@[reducible] def k0_t8_loop : Scf.Loop 32 :=
  let c0_i32_458 : BitVec 32 := 0#32
  let c4_i32_459 : BitVec 32 := 4#32
  let v448 : BitVec 32 := Scalar.addi c0_i32_458 c4_i32_459
  let c1_i32_460 : BitVec 32 := 1#32
  ⟨c0_i32_458, v448, c1_i32_460⟩
def k0_off98 (k0_t8 : Fin k0_t8_loop.trips) : Fin 2 → Nat :=
  let c2_i32_464 : BitVec 32 := 2#32
  let c0_i32_458 : BitVec 32 := 0#32
  let c1_i32_460 : BitVec 32 := 1#32
  let arg24 : BitVec 32 := Scf.iv c0_i32_458 c1_i32_460 k0_t8
  ![2, arg24.toNat]
def k0_off99 (k0_t8 : Fin k0_t8_loop.trips) : Fin 5 → Nat :=
  let c0_i32_458 : BitVec 32 := 0#32
  let c1_i32_460 : BitVec 32 := 1#32
  let arg24 : BitVec 32 := Scf.iv c0_i32_458 c1_i32_460 k0_t8
  let c0_i32_465 : BitVec 32 := 0#32
  let c0_i32_466 : BitVec 32 := 0#32
  let c0_i32_467 : BitVec 32 := 0#32
  let c0_i32_468 : BitVec 32 := 0#32
  ![arg24.toNat, 0, 0, 0, 0]
def k0_off100 (v430 : BitVec 32) (k0_t8 : Fin k0_t8_loop.trips) : Fin 5 → Nat :=
  let c0_i32_458 : BitVec 32 := 0#32
  let c1_i32_460 : BitVec 32 := 1#32
  let arg24 : BitVec 32 := Scf.iv c0_i32_458 c1_i32_460 k0_t8
  let c512_i32_462 : BitVec 32 := 512#32
  let v449 : BitVec 32 := Scalar.muli arg24 c512_i32_462
  let c0_i32_469 : BitVec 32 := 0#32
  let c0_i32_470 : BitVec 32 := 0#32
  let c0_i32_471 : BitVec 32 := 0#32
  ![v430.toNat, v449.toNat, 0, 0, 0]
def k0_off101 (k0_t8 : Fin k0_t8_loop.trips) : Fin 2 → Nat :=
  let c3_i32_472 : BitVec 32 := 3#32
  let c0_i32_458 : BitVec 32 := 0#32
  let c1_i32_460 : BitVec 32 := 1#32
  let arg24 : BitVec 32 := Scf.iv c0_i32_458 c1_i32_460 k0_t8
  ![3, arg24.toNat]
def k0_off102 (k0_t8 : Fin k0_t8_loop.trips) : Fin 3 → Nat :=
  let c0_i32_458 : BitVec 32 := 0#32
  let c1_i32_460 : BitVec 32 := 1#32
  let arg24 : BitVec 32 := Scf.iv c0_i32_458 c1_i32_460 k0_t8
  let c0_i32_473 : BitVec 32 := 0#32
  let c0_i32_474 : BitVec 32 := 0#32
  ![arg24.toNat, 0, 0]
def k0_off103 (v430 : BitVec 32) (k0_t8 : Fin k0_t8_loop.trips) : Fin 3 → Nat :=
  let c0_i32_458 : BitVec 32 := 0#32
  let c1_i32_460 : BitVec 32 := 1#32
  let arg24 : BitVec 32 := Scf.iv c0_i32_458 c1_i32_460 k0_t8
  let c512_i32_463 : BitVec 32 := 512#32
  let v450 : BitVec 32 := Scalar.muli arg24 c512_i32_463
  let c0_i32_475 : BitVec 32 := 0#32
  ![v430.toNat, v450.toNat, 0]
def k0_off104 (k0_t8 : Fin k0_t8_loop.trips) : Fin 5 → Nat :=
  let c0_i32_458 : BitVec 32 := 0#32
  let c1_i32_460 : BitVec 32 := 1#32
  let arg24 : BitVec 32 := Scf.iv c0_i32_458 c1_i32_460 k0_t8
  let v463 : Index := Scalar.indexCast arg24
  let c0_476 : Index := 0#32
  let c0_477 : Index := 0#32
  let c0_478 : Index := 0#32
  let c0_479 : Index := 0#32
  ![v463.toNat, 0, 0, 0, 0]
def k0_off105 (k0_t8 : Fin k0_t8_loop.trips) : Fin 3 → Nat :=
  let c0_i32_458 : BitVec 32 := 0#32
  let c1_i32_460 : BitVec 32 := 1#32
  let arg24 : BitVec 32 := Scf.iv c0_i32_458 c1_i32_460 k0_t8
  let v554 : Index := Scalar.indexCast arg24
  let c0_492 : Index := 0#32
  let c0_493 : Index := 0#32
  ![v554.toNat, 0, 0]
def k0_off106 (k0_t8 : Fin k0_t8_loop.trips) : Fin 3 → Nat :=
  let c0_i32_458 : BitVec 32 := 0#32
  let c1_i32_460 : BitVec 32 := 1#32
  let arg24 : BitVec 32 := Scf.iv c0_i32_458 c1_i32_460 k0_t8
  let v586 : Index := Scalar.indexCast arg24
  let c128 : Index := 128#32
  let c0_494 : Index := 0#32
  ![v586.toNat, 128, 0]
def k0_off107 (k0_t8 : Fin k0_t8_loop.trips) : Fin 3 → Nat :=
  let c0_i32_458 : BitVec 32 := 0#32
  let c1_i32_460 : BitVec 32 := 1#32
  let arg24 : BitVec 32 := Scf.iv c0_i32_458 c1_i32_460 k0_t8
  let v618 : Index := Scalar.indexCast arg24
  let c256 : Index := 256#32
  let c0_497 : Index := 0#32
  ![v618.toNat, 256, 0]
def k0_off108 (k0_t8 : Fin k0_t8_loop.trips) : Fin 3 → Nat :=
  let c0_i32_458 : BitVec 32 := 0#32
  let c1_i32_460 : BitVec 32 := 1#32
  let arg24 : BitVec 32 := Scf.iv c0_i32_458 c1_i32_460 k0_t8
  let v650 : Index := Scalar.indexCast arg24
  let c384 : Index := 384#32
  let c0_500 : Index := 0#32
  ![v650.toNat, 384, 0]
def k0_off109 (k0_t8 : Fin k0_t8_loop.trips) : Fin 2 → Nat :=
  let c2_i32_550 : BitVec 32 := 2#32
  let c0_i32_458 : BitVec 32 := 0#32
  let c1_i32_460 : BitVec 32 := 1#32
  let arg24 : BitVec 32 := Scf.iv c0_i32_458 c1_i32_460 k0_t8
  ![2, arg24.toNat]
def k0_off110 (k0_t8 : Fin k0_t8_loop.trips) : Fin 5 → Nat :=
  let c0_i32_458 : BitVec 32 := 0#32
  let c1_i32_460 : BitVec 32 := 1#32
  let arg24 : BitVec 32 := Scf.iv c0_i32_458 c1_i32_460 k0_t8
  let c0_i32_551 : BitVec 32 := 0#32
  let c0_i32_552 : BitVec 32 := 0#32
  let c0_i32_553 : BitVec 32 := 0#32
  let c0_i32_554 : BitVec 32 := 0#32
  ![arg24.toNat, 0, 0, 0, 0]
def k0_off111 (v435 : BitVec 32) (k0_t8 : Fin k0_t8_loop.trips) : Fin 5 → Nat :=
  let c0_i32_458 : BitVec 32 := 0#32
  let c1_i32_460 : BitVec 32 := 1#32
  let arg24 : BitVec 32 := Scf.iv c0_i32_458 c1_i32_460 k0_t8
  let c512_i32_548 : BitVec 32 := 512#32
  let v741 : BitVec 32 := Scalar.muli arg24 c512_i32_548
  let c0_i32_555 : BitVec 32 := 0#32
  let c0_i32_556 : BitVec 32 := 0#32
  let c0_i32_557 : BitVec 32 := 0#32
  ![v435.toNat, v741.toNat, 0, 0, 0]
def k0_cond4 (v3 : BitVec 32) (k0_t6 : Fin (k0_t6_loop v3).trips) : BitVec 1 :=
  let c0_i32_427 : BitVec 32 := 0#32
  let v408 : BitVec 32 := Scalar.subi v3 c0_i32_427
  let c1_i32_428 : BitVec 32 := 1#32
  let v410 : BitVec 32 := Scalar.divsi v408 c1_i32_428
  let v411 : BitVec 32 := Scalar.muli v410 c1_i32_428
  let v412 : BitVec 32 := Scalar.addi c0_i32_427 v411
  let c1_i32_430 : BitVec 32 := 1#32
  let arg23 : BitVec 32 := Scf.iv v412 c1_i32_430 k0_t6
  let c1_i32_447 : BitVec 32 := 1#32
  let v436 : BitVec 32 := Scalar.addi arg23 c1_i32_447
  let v437 : BitVec 1 := Scalar.cmpi .slt v436 v3
  let v717 : BitVec 32 := Scalar.extui v437
  let c0_i32_540 : BitVec 32 := 0#32
  let v718 : BitVec 1 := Scalar.cmpi .ne v717 c0_i32_540
  v718

def k0_off112 (k0_t8 : Fin k0_t8_loop.trips) : Fin 2 → Nat :=
  let c3_i32_558 : BitVec 32 := 3#32
  let c0_i32_458 : BitVec 32 := 0#32
  let c1_i32_460 : BitVec 32 := 1#32
  let arg24 : BitVec 32 := Scf.iv c0_i32_458 c1_i32_460 k0_t8
  ![3, arg24.toNat]
def k0_off113 (k0_t8 : Fin k0_t8_loop.trips) : Fin 3 → Nat :=
  let c0_i32_458 : BitVec 32 := 0#32
  let c1_i32_460 : BitVec 32 := 1#32
  let arg24 : BitVec 32 := Scf.iv c0_i32_458 c1_i32_460 k0_t8
  let c0_i32_559 : BitVec 32 := 0#32
  let c0_i32_560 : BitVec 32 := 0#32
  ![arg24.toNat, 0, 0]
def k0_off114 (v435 : BitVec 32) (k0_t8 : Fin k0_t8_loop.trips) : Fin 3 → Nat :=
  let c0_i32_458 : BitVec 32 := 0#32
  let c1_i32_460 : BitVec 32 := 1#32
  let arg24 : BitVec 32 := Scf.iv c0_i32_458 c1_i32_460 k0_t8
  let c512_i32_549 : BitVec 32 := 512#32
  let v742 : BitVec 32 := Scalar.muli arg24 c512_i32_549
  let c0_i32_561 : BitVec 32 := 0#32
  ![v435.toNat, v742.toNat, 0]

def k0_chk7 (v3 : BitVec 32) (k0_t6 : Fin (k0_t6_loop v3).trips) (v435 : BitVec 32) : Prop :=
  (∀ k0_t7 : Fin k0_t7_loop.trips, ∀ (k0_h3 : k0_cond3 v3 k0_t6 = 1#1), ∀ a, (k0_off92 v435 k0_t7) a + S1x64x2x4x8x128.size a ≤ S8x64x2x64x8x128.size a) ∧
  (∀ k0_t7 : Fin k0_t7_loop.trips, ∀ (k0_h3 : k0_cond3 v3 k0_t6 = 1#1), ∀ (hinb : ∀ a, (k0_off92 v435 k0_t7) a + S1x64x2x4x8x128.size a ≤ S8x64x2x64x8x128.size a), (Rect.unit (s := S8x64x2x64x8x128) (k0_off92 v435 k0_t7) S1x64x2x4x8x128.size hinb).WholeWords (EltTy.packing .i8)) ∧
  (∀ k0_t7 : Fin k0_t7_loop.trips, ∀ (k0_h3 : k0_cond3 v3 k0_t6 = 1#1), ∀ a, (k0_off95 v435 k0_t7) a + S1x64x512.size a ≤ S8x64x8192.size a) ∧
  (∀ k0_t7 : Fin k0_t7_loop.trips, ∀ (k0_h3 : k0_cond3 v3 k0_t6 = 1#1), ∀ (hinb : ∀ a, (k0_off95 v435 k0_t7) a + S1x64x512.size a ≤ S8x64x8192.size a), (Rect.unit (s := S8x64x8192) (k0_off95 v435 k0_t7) S1x64x512.size hinb).WholeWords (EltTy.packing .i8)) ∧
  (∀ k0_t8 : Fin k0_t8_loop.trips, ∀ (k0_h4 : k0_cond4 v3 k0_t6 = 1#1), ∀ a, (k0_off111 v435 k0_t8) a + S1x512x2x8x128.size a ≤ S8x2048x2x8x128.size a) ∧
  (∀ k0_t8 : Fin k0_t8_loop.trips, ∀ (k0_h4 : k0_cond4 v3 k0_t6 = 1#1), ∀ (hinb : ∀ a, (k0_off111 v435 k0_t8) a + S1x512x2x8x128.size a ≤ S8x2048x2x8x128.size a), (Rect.unit (s := S8x2048x2x8x128) (k0_off111 v435 k0_t8) S1x512x2x8x128.size hinb).WholeWords (EltTy.packing .i8)) ∧
  (∀ k0_t8 : Fin k0_t8_loop.trips, ∀ (k0_h4 : k0_cond4 v3 k0_t6 = 1#1), ∀ a, (k0_off114 v435 k0_t8) a + S1x512x128.size a ≤ S8x2048x128.size a) ∧
  (∀ k0_t8 : Fin k0_t8_loop.trips, ∀ (k0_h4 : k0_cond4 v3 k0_t6 = 1#1), ∀ (hinb : ∀ a, (k0_off114 v435 k0_t8) a + S1x512x128.size a ≤ S8x2048x128.size a), (Rect.unit (s := S8x2048x128) (k0_off114 v435 k0_t8) S1x512x128.size hinb).WholeWords (EltTy.packing .i8))
theorem k0_off92_inb : ∀ (v3 : BitVec 32) (k0_t6 : Fin (k0_t6_loop v3).trips) (v435 : BitVec 32) (k0_hw7 : k0_chk7 v3 k0_t6 v435) (k0_t7 : Fin k0_t7_loop.trips), ∀ (k0_h3 : k0_cond3 v3 k0_t6 = 1#1), ∀ a, (k0_off92 v435 k0_t7) a + S1x64x2x4x8x128.size a ≤ S8x64x2x64x8x128.size a := fun v3 k0_t6 v435 k0_hw7 k0_t7 k0_h3 => k0_hw7.1 k0_t7 k0_h3
theorem k0_off92_wordsi8 : ∀ (v3 : BitVec 32) (k0_t6 : Fin (k0_t6_loop v3).trips) (v435 : BitVec 32) (k0_hw7 : k0_chk7 v3 k0_t6 v435) (k0_t7 : Fin k0_t7_loop.trips), ∀ (k0_h3 : k0_cond3 v3 k0_t6 = 1#1), (Rect.unit (s := S8x64x2x64x8x128) (k0_off92 v435 k0_t7) S1x64x2x4x8x128.size (k0_off92_inb v3 k0_t6 v435 k0_hw7 k0_t7 k0_h3)).WholeWords (EltTy.packing .i8) := fun v3 k0_t6 v435 k0_hw7 k0_t7 k0_h3 => k0_hw7.2.1 k0_t7 k0_h3 (k0_off92_inb v3 k0_t6 v435 k0_hw7 k0_t7 k0_h3)
theorem k0_off95_inb : ∀ (v3 : BitVec 32) (k0_t6 : Fin (k0_t6_loop v3).trips) (v435 : BitVec 32) (k0_hw7 : k0_chk7 v3 k0_t6 v435) (k0_t7 : Fin k0_t7_loop.trips), ∀ (k0_h3 : k0_cond3 v3 k0_t6 = 1#1), ∀ a, (k0_off95 v435 k0_t7) a + S1x64x512.size a ≤ S8x64x8192.size a := fun v3 k0_t6 v435 k0_hw7 k0_t7 k0_h3 => k0_hw7.2.2.1 k0_t7 k0_h3
theorem k0_off95_wordsi8 : ∀ (v3 : BitVec 32) (k0_t6 : Fin (k0_t6_loop v3).trips) (v435 : BitVec 32) (k0_hw7 : k0_chk7 v3 k0_t6 v435) (k0_t7 : Fin k0_t7_loop.trips), ∀ (k0_h3 : k0_cond3 v3 k0_t6 = 1#1), (Rect.unit (s := S8x64x8192) (k0_off95 v435 k0_t7) S1x64x512.size (k0_off95_inb v3 k0_t6 v435 k0_hw7 k0_t7 k0_h3)).WholeWords (EltTy.packing .i8) := fun v3 k0_t6 v435 k0_hw7 k0_t7 k0_h3 => k0_hw7.2.2.2.1 k0_t7 k0_h3 (k0_off95_inb v3 k0_t6 v435 k0_hw7 k0_t7 k0_h3)
theorem k0_off111_inb : ∀ (v3 : BitVec 32) (k0_t6 : Fin (k0_t6_loop v3).trips) (v435 : BitVec 32) (k0_hw7 : k0_chk7 v3 k0_t6 v435) (k0_t8 : Fin k0_t8_loop.trips), ∀ (k0_h4 : k0_cond4 v3 k0_t6 = 1#1), ∀ a, (k0_off111 v435 k0_t8) a + S1x512x2x8x128.size a ≤ S8x2048x2x8x128.size a := fun v3 k0_t6 v435 k0_hw7 k0_t8 k0_h4 => k0_hw7.2.2.2.2.1 k0_t8 k0_h4
theorem k0_off111_wordsi8 : ∀ (v3 : BitVec 32) (k0_t6 : Fin (k0_t6_loop v3).trips) (v435 : BitVec 32) (k0_hw7 : k0_chk7 v3 k0_t6 v435) (k0_t8 : Fin k0_t8_loop.trips), ∀ (k0_h4 : k0_cond4 v3 k0_t6 = 1#1), (Rect.unit (s := S8x2048x2x8x128) (k0_off111 v435 k0_t8) S1x512x2x8x128.size (k0_off111_inb v3 k0_t6 v435 k0_hw7 k0_t8 k0_h4)).WholeWords (EltTy.packing .i8) := fun v3 k0_t6 v435 k0_hw7 k0_t8 k0_h4 => k0_hw7.2.2.2.2.2.1 k0_t8 k0_h4 (k0_off111_inb v3 k0_t6 v435 k0_hw7 k0_t8 k0_h4)
theorem k0_off114_inb : ∀ (v3 : BitVec 32) (k0_t6 : Fin (k0_t6_loop v3).trips) (v435 : BitVec 32) (k0_hw7 : k0_chk7 v3 k0_t6 v435) (k0_t8 : Fin k0_t8_loop.trips), ∀ (k0_h4 : k0_cond4 v3 k0_t6 = 1#1), ∀ a, (k0_off114 v435 k0_t8) a + S1x512x128.size a ≤ S8x2048x128.size a := fun v3 k0_t6 v435 k0_hw7 k0_t8 k0_h4 => k0_hw7.2.2.2.2.2.2.1 k0_t8 k0_h4
theorem k0_off114_wordsi8 : ∀ (v3 : BitVec 32) (k0_t6 : Fin (k0_t6_loop v3).trips) (v435 : BitVec 32) (k0_hw7 : k0_chk7 v3 k0_t6 v435) (k0_t8 : Fin k0_t8_loop.trips), ∀ (k0_h4 : k0_cond4 v3 k0_t6 = 1#1), (Rect.unit (s := S8x2048x128) (k0_off114 v435 k0_t8) S1x512x128.size (k0_off114_inb v3 k0_t6 v435 k0_hw7 k0_t8 k0_h4)).WholeWords (EltTy.packing .i8) := fun v3 k0_t6 v435 k0_hw7 k0_t8 k0_h4 => k0_hw7.2.2.2.2.2.2.2 k0_t8 k0_h4 (k0_off114_inb v3 k0_t6 v435 k0_hw7 k0_t8 k0_h4)

def k0_off115 (v430 : BitVec 32) (k0_t8 : Fin k0_t8_loop.trips) : Fin 2 → Nat :=
  let v720 : Index := Scalar.indexCast v430
  let c0_i32_458 : BitVec 32 := 0#32
  let c1_i32_460 : BitVec 32 := 1#32
  let arg24 : BitVec 32 := Scf.iv c0_i32_458 c1_i32_460 k0_t8
  let c512_i32_541 : BitVec 32 := 512#32
  let v719 : BitVec 32 := Scalar.muli arg24 c512_i32_541
  let v721 : Index := Scalar.indexCast v719
  ![v720.toNat, v721.toNat]

def k0_chk6 (v430 : BitVec 32) : Prop :=
  (∀ k0_t7 : Fin k0_t7_loop.trips, ∀ a, (k0_off84 v430 k0_t7) a + S1x64x2x4x8x128.size a ≤ S8x64x2x64x8x128.size a) ∧
  (∀ k0_t7 : Fin k0_t7_loop.trips, ∀ (hinb : ∀ a, (k0_off84 v430 k0_t7) a + S1x64x2x4x8x128.size a ≤ S8x64x2x64x8x128.size a), (Rect.unit (s := S8x64x2x64x8x128) (k0_off84 v430 k0_t7) S1x64x2x4x8x128.size hinb).WholeWords (EltTy.packing .i8)) ∧
  (∀ k0_t7 : Fin k0_t7_loop.trips, ∀ a, (k0_off87 v430 k0_t7) a + S1x64x512.size a ≤ S8x64x8192.size a) ∧
  (∀ k0_t7 : Fin k0_t7_loop.trips, ∀ (hinb : ∀ a, (k0_off87 v430 k0_t7) a + S1x64x512.size a ≤ S8x64x8192.size a), (Rect.unit (s := S8x64x8192) (k0_off87 v430 k0_t7) S1x64x512.size hinb).WholeWords (EltTy.packing .i8)) ∧
  (∀ k0_t7 : Fin k0_t7_loop.trips, ∀ a, (k0_off96 v430 k0_t7) a + S1x512.size a ≤ S8x8192.size a) ∧
  (∀ k0_t8 : Fin k0_t8_loop.trips, ∀ a, (k0_off100 v430 k0_t8) a + S1x512x2x8x128.size a ≤ S8x2048x2x8x128.size a) ∧
  (∀ k0_t8 : Fin k0_t8_loop.trips, ∀ (hinb : ∀ a, (k0_off100 v430 k0_t8) a + S1x512x2x8x128.size a ≤ S8x2048x2x8x128.size a), (Rect.unit (s := S8x2048x2x8x128) (k0_off100 v430 k0_t8) S1x512x2x8x128.size hinb).WholeWords (EltTy.packing .i8)) ∧
  (∀ k0_t8 : Fin k0_t8_loop.trips, ∀ a, (k0_off103 v430 k0_t8) a + S1x512x128.size a ≤ S8x2048x128.size a) ∧
  (∀ k0_t8 : Fin k0_t8_loop.trips, ∀ (hinb : ∀ a, (k0_off103 v430 k0_t8) a + S1x512x128.size a ≤ S8x2048x128.size a), (Rect.unit (s := S8x2048x128) (k0_off103 v430 k0_t8) S1x512x128.size hinb).WholeWords (EltTy.packing .i8)) ∧
  (∀ k0_t8 : Fin k0_t8_loop.trips, ∀ a, (k0_off115 v430 k0_t8) a + S1x512.size a ≤ S8x2048.size a)
theorem k0_off84_inb : ∀ (v430 : BitVec 32) (k0_hw6 : k0_chk6 v430) (k0_t7 : Fin k0_t7_loop.trips), ∀ a, (k0_off84 v430 k0_t7) a + S1x64x2x4x8x128.size a ≤ S8x64x2x64x8x128.size a := fun v430 k0_hw6 k0_t7 => k0_hw6.1 k0_t7
theorem k0_off84_wordsi8 : ∀ (v430 : BitVec 32) (k0_hw6 : k0_chk6 v430) (k0_t7 : Fin k0_t7_loop.trips), (Rect.unit (s := S8x64x2x64x8x128) (k0_off84 v430 k0_t7) S1x64x2x4x8x128.size (k0_off84_inb v430 k0_hw6 k0_t7)).WholeWords (EltTy.packing .i8) := fun v430 k0_hw6 k0_t7 => k0_hw6.2.1 k0_t7 (k0_off84_inb v430 k0_hw6 k0_t7)
theorem k0_off87_inb : ∀ (v430 : BitVec 32) (k0_hw6 : k0_chk6 v430) (k0_t7 : Fin k0_t7_loop.trips), ∀ a, (k0_off87 v430 k0_t7) a + S1x64x512.size a ≤ S8x64x8192.size a := fun v430 k0_hw6 k0_t7 => k0_hw6.2.2.1 k0_t7
theorem k0_off87_wordsi8 : ∀ (v430 : BitVec 32) (k0_hw6 : k0_chk6 v430) (k0_t7 : Fin k0_t7_loop.trips), (Rect.unit (s := S8x64x8192) (k0_off87 v430 k0_t7) S1x64x512.size (k0_off87_inb v430 k0_hw6 k0_t7)).WholeWords (EltTy.packing .i8) := fun v430 k0_hw6 k0_t7 => k0_hw6.2.2.2.1 k0_t7 (k0_off87_inb v430 k0_hw6 k0_t7)
theorem k0_off96_inb : ∀ (v430 : BitVec 32) (k0_hw6 : k0_chk6 v430) (k0_t7 : Fin k0_t7_loop.trips), ∀ a, (k0_off96 v430 k0_t7) a + S1x512.size a ≤ S8x8192.size a := fun v430 k0_hw6 k0_t7 => k0_hw6.2.2.2.2.1 k0_t7
theorem k0_off100_inb : ∀ (v430 : BitVec 32) (k0_hw6 : k0_chk6 v430) (k0_t8 : Fin k0_t8_loop.trips), ∀ a, (k0_off100 v430 k0_t8) a + S1x512x2x8x128.size a ≤ S8x2048x2x8x128.size a := fun v430 k0_hw6 k0_t8 => k0_hw6.2.2.2.2.2.1 k0_t8
theorem k0_off100_wordsi8 : ∀ (v430 : BitVec 32) (k0_hw6 : k0_chk6 v430) (k0_t8 : Fin k0_t8_loop.trips), (Rect.unit (s := S8x2048x2x8x128) (k0_off100 v430 k0_t8) S1x512x2x8x128.size (k0_off100_inb v430 k0_hw6 k0_t8)).WholeWords (EltTy.packing .i8) := fun v430 k0_hw6 k0_t8 => k0_hw6.2.2.2.2.2.2.1 k0_t8 (k0_off100_inb v430 k0_hw6 k0_t8)
theorem k0_off103_inb : ∀ (v430 : BitVec 32) (k0_hw6 : k0_chk6 v430) (k0_t8 : Fin k0_t8_loop.trips), ∀ a, (k0_off103 v430 k0_t8) a + S1x512x128.size a ≤ S8x2048x128.size a := fun v430 k0_hw6 k0_t8 => k0_hw6.2.2.2.2.2.2.2.1 k0_t8
theorem k0_off103_wordsi8 : ∀ (v430 : BitVec 32) (k0_hw6 : k0_chk6 v430) (k0_t8 : Fin k0_t8_loop.trips), (Rect.unit (s := S8x2048x128) (k0_off103 v430 k0_t8) S1x512x128.size (k0_off103_inb v430 k0_hw6 k0_t8)).WholeWords (EltTy.packing .i8) := fun v430 k0_hw6 k0_t8 => k0_hw6.2.2.2.2.2.2.2.2.1 k0_t8 (k0_off103_inb v430 k0_hw6 k0_t8)
theorem k0_off115_inb : ∀ (v430 : BitVec 32) (k0_hw6 : k0_chk6 v430) (k0_t8 : Fin k0_t8_loop.trips), ∀ a, (k0_off115 v430 k0_t8) a + S1x512.size a ≤ S8x2048.size a := fun v430 k0_hw6 k0_t8 => k0_hw6.2.2.2.2.2.2.2.2.2 k0_t8

def k0_off116 (k0_t8 : Fin k0_t8_loop.trips) : Fin 3 → Nat :=
  let c0_i32_458 : BitVec 32 := 0#32
  let c1_i32_460 : BitVec 32 := 1#32
  let arg24 : BitVec 32 := Scf.iv c0_i32_458 c1_i32_460 k0_t8
  let v725 : Index := Scalar.indexCast arg24
  let c0_542 : Index := 0#32
  let c0_543 : Index := 0#32
  ![v725.toNat, 0, 0]
abbrev stage0_0 : Fin 1 → Memref sig .tc .smem S4x24 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x24 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S24x1x2048 : Shape := ⟨3, ![24, 1, 2048]⟩
abbrev S24x1x4 : Shape := ⟨3, ![24, 1, 4]⟩
abbrev S8x8192x64x16 : Shape := ⟨4, ![8, 8192, 64, 16]⟩
abbrev S8x8192x64 : Shape := ⟨3, ![8, 8192, 64]⟩
abbrev S8x8192 : Shape := ⟨2, ![8, 8192]⟩
abbrev S8x2048x128x16 : Shape := ⟨4, ![8, 2048, 128, 16]⟩
abbrev S8x2048x128 : Shape := ⟨3, ![8, 2048, 128]⟩
abbrev S8x2048 : Shape := ⟨2, ![8, 2048]⟩
abbrev S24x2048 : Shape := ⟨2, ![24, 2048]⟩
abbrev S24x4 : Shape := ⟨2, ![24, 4]⟩
abbrev S_ : Shape := ⟨0, ![]⟩
abbrev S8x8192x64x1 : Shape := ⟨4, ![8, 8192, 64, 1]⟩
abbrev S8x8192x1024 : Shape := ⟨3, ![8, 8192, 1024]⟩
abbrev S8x2048x128x1 : Shape := ⟨4, ![8, 2048, 128, 1]⟩
abbrev S8x2048x2048 : Shape := ⟨3, ![8, 2048, 2048]⟩
abbrev S24x1024x2 : Shape := ⟨3, ![24, 1024, 2]⟩
abbrev S24x1024x1 : Shape := ⟨3, ![24, 1024, 1]⟩
abbrev S24x1024 : Shape := ⟨2, ![24, 1024]⟩
abbrev S8x8192x24 : Shape := ⟨3, ![8, 8192, 24]⟩
abbrev S8x24x8192 : Shape := ⟨3, ![8, 24, 8192]⟩
abbrev S8x1x8192 : Shape := ⟨3, ![8, 1, 8192]⟩
abbrev S8x24x4096x2 : Shape := ⟨4, ![8, 24, 4096, 2]⟩
abbrev S8x24x4096x1 : Shape := ⟨4, ![8, 24, 4096, 1]⟩
abbrev S8x24x4096 : Shape := ⟨3, ![8, 24, 4096]⟩
abbrev S8x24x2048x2 : Shape := ⟨4, ![8, 24, 2048, 2]⟩
abbrev S8x24x2048x1 : Shape := ⟨4, ![8, 24, 2048, 1]⟩
abbrev S8x24x2048 : Shape := ⟨3, ![8, 24, 2048]⟩
abbrev S8x1x2048 : Shape := ⟨3, ![8, 1, 2048]⟩
abbrev S4x24 : Shape := ⟨2, ![4, 24]⟩
abbrev S4x1x24x1 : Shape := ⟨4, ![4, 1, 24, 1]⟩
abbrev S4x8x24x1 : Shape := ⟨4, ![4, 8, 24, 1]⟩
abbrev S1x8x24x2048 : Shape := ⟨4, ![1, 8, 24, 2048]⟩
abbrev S4x8x24x2048 : Shape := ⟨4, ![4, 8, 24, 2048]⟩
abbrev S4x24x2048 : Shape := ⟨3, ![4, 24, 2048]⟩
abbrev S4x24x1 : Shape := ⟨3, ![4, 24, 1]⟩

abbrev nBuf : Space → Nat
  | .hbm => 303
  | .vmem => 0
  | .smem => 0
  | _ => 0

abbrev hbmTy0_0 (i : Nat) : BufTy := match i % 128 with
  | 0 => ⟨S24x1x2048, .bf16⟩
  | 1 => ⟨S24x1x4, .i32⟩
  | 2 => ⟨S24x1x4, .f32⟩
  | 3 => ⟨S8x8192x64x16, .i8⟩
  | 4 => ⟨S8x8192x64, .i8⟩
  | 5 => ⟨S8x8192, .f32⟩
  | 6 => ⟨S8x2048x128x16, .i8⟩
  | 7 => ⟨S8x2048x128, .i8⟩
  | 8 => ⟨S8x2048, .f32⟩
  | 9 => ⟨S24x2048, .bf16⟩
  | 10 => ⟨S24x4, .i32⟩
  | 11 => ⟨S24x4, .f32⟩
  | 12 => ⟨S8x8192x64x16, .i32⟩
  | 13 => ⟨S_, .i8⟩
  | 14 => ⟨S8x8192x64, .i8⟩
  | 15 => ⟨S8x8192x64, .i1⟩
  | 16 => ⟨S8x8192x64, .i32⟩
  | 17 => ⟨S_, .i32⟩
  | 18 => ⟨S8x8192x64, .i32⟩
  | 19 => ⟨S8x8192x64, .i32⟩
  | 20 => ⟨S_, .i32⟩
  | 21 => ⟨S_, .i32⟩
  | 22 => ⟨S8x8192x64, .i32⟩
  | 23 => ⟨S8x8192x64, .i32⟩
  | 24 => ⟨S8x8192x64, .i16⟩
  | 25 => ⟨S8x8192x64, .bf16⟩
  | 26 => ⟨S8x8192x64x1, .bf16⟩
  | 27 => ⟨S_, .i32⟩
  | 28 => ⟨S8x8192x64x16, .i32⟩
  | 29 => ⟨S8x8192x64x16, .i32⟩
  | 30 => ⟨S_, .i32⟩
  | 31 => ⟨S8x8192x64x16, .i32⟩
  | 32 => ⟨S8x8192x64x16, .i32⟩
  | 33 => ⟨S_, .i32⟩
  | 34 => ⟨S8x8192x64x16, .i32⟩
  | 35 => ⟨S8x8192x64x16, .i32⟩
  | 36 => ⟨S_, .i32⟩
  | 37 => ⟨S8x8192x64x16, .i32⟩
  | 38 => ⟨S8x8192x64x16, .i32⟩
  | 39 => ⟨S_, .i32⟩
  | 40 => ⟨S8x8192x64x16, .i32⟩
  | 41 => ⟨S8x8192x64x16, .i32⟩
  | 42 => ⟨S8x8192x64x16, .f32⟩
  | 43 => ⟨S_, .i32⟩
  | 44 => ⟨S8x8192x64x16, .i32⟩
  | 45 => ⟨S8x8192x64x16, .i1⟩
  | 46 => ⟨S_, .f32⟩
  | 47 => ⟨S8x8192x64x16, .f32⟩
  | 48 => ⟨S8x8192x64x16, .f32⟩
  | 49 => ⟨S_, .f32⟩
  | 50 => ⟨S8x8192x64x16, .f32⟩
  | 51 => ⟨S8x8192x64x16, .f32⟩
  | 52 => ⟨S_, .f32⟩
  | 53 => ⟨S8x8192x64x16, .f32⟩
  | 54 => ⟨S8x8192x64x16, .f32⟩
  | 55 => ⟨S_, .i32⟩
  | 56 => ⟨S8x8192x64x16, .i32⟩
  | 57 => ⟨S8x8192x64x16, .i32⟩
  | 58 => ⟨S_, .i32⟩
  | 59 => ⟨S8x8192x64x16, .i32⟩
  | 60 => ⟨S8x8192x64x16, .i32⟩
  | 61 => ⟨S8x8192x64x16, .f32⟩
  | 62 => ⟨S8x8192x64x16, .f32⟩
  | 63 => ⟨S8x8192x64x16, .f32⟩
  | 64 => ⟨S_, .i32⟩
  | 65 => ⟨S8x8192x64x16, .i32⟩
  | 66 => ⟨S8x8192x64x16, .i1⟩
  | 67 => ⟨S8x8192x64x16, .f32⟩
  | 68 => ⟨S8x8192x64x16, .f32⟩
  | 69 => ⟨S8x8192x64x16, .bf16⟩
  | 70 => ⟨S8x8192x64x16, .bf16⟩
  | 71 => ⟨S8x8192x64x16, .bf16⟩
  | 72 => ⟨S_, .i32⟩
  | 73 => ⟨S8x8192x64x16, .i32⟩
  | 74 => ⟨S8x8192x64x16, .i32⟩
  | 75 => ⟨S_, .i32⟩
  | 76 => ⟨S8x8192x64x16, .i32⟩
  | 77 => ⟨S8x8192x64x16, .i32⟩
  | 78 => ⟨S_, .i32⟩
  | 79 => ⟨S8x8192x64x16, .i32⟩
  | 80 => ⟨S8x8192x64x16, .i32⟩
  | 81 => ⟨S_, .i32⟩
  | 82 => ⟨S8x8192x64x16, .i32⟩
  | 83 => ⟨S8x8192x64x16, .i32⟩
  | 84 => ⟨S_, .i32⟩
  | 85 => ⟨S8x8192x64x16, .i32⟩
  | 86 => ⟨S8x8192x64x16, .i32⟩
  | 87 => ⟨S8x8192x64x16, .f32⟩
  | 88 => ⟨S_, .i32⟩
  | 89 => ⟨S8x8192x64x16, .i32⟩
  | 90 => ⟨S8x8192x64x16, .i1⟩
  | 91 => ⟨S_, .f32⟩
  | 92 => ⟨S8x8192x64x16, .f32⟩
  | 93 => ⟨S8x8192x64x16, .f32⟩
  | 94 => ⟨S_, .f32⟩
  | 95 => ⟨S8x8192x64x16, .f32⟩
  | 96 => ⟨S8x8192x64x16, .f32⟩
  | 97 => ⟨S_, .f32⟩
  | 98 => ⟨S8x8192x64x16, .f32⟩
  | 99 => ⟨S8x8192x64x16, .f32⟩
  | 100 => ⟨S_, .i32⟩
  | 101 => ⟨S8x8192x64x16, .i32⟩
  | 102 => ⟨S8x8192x64x16, .i32⟩
  | 103 => ⟨S_, .i32⟩
  | 104 => ⟨S8x8192x64x16, .i32⟩
  | 105 => ⟨S8x8192x64x16, .i32⟩
  | 106 => ⟨S8x8192x64x16, .f32⟩
  | 107 => ⟨S8x8192x64x16, .f32⟩
  | 108 => ⟨S8x8192x64x16, .f32⟩
  | 109 => ⟨S_, .i32⟩
  | 110 => ⟨S8x8192x64x16, .i32⟩
  | 111 => ⟨S8x8192x64x16, .i1⟩
  | 112 => ⟨S8x8192x64x16, .f32⟩
  | 113 => ⟨S8x8192x64x16, .f32⟩
  | 114 => ⟨S8x8192x64x16, .bf16⟩
  | 115 => ⟨S8x8192x64x16, .bf16⟩
  | 116 => ⟨S8x8192x64x16, .bf16⟩
  | 117 => ⟨S8x8192x1024, .bf16⟩
  | 118 => ⟨S8x8192x1024, .bf16⟩
  | 119 => ⟨S8x2048x128x16, .i32⟩
  | 120 => ⟨S_, .i8⟩
  | 121 => ⟨S8x2048x128, .i8⟩
  | 122 => ⟨S8x2048x128, .i1⟩
  | 123 => ⟨S8x2048x128, .i32⟩
  | 124 => ⟨S_, .i32⟩
  | 125 => ⟨S8x2048x128, .i32⟩
  | 126 => ⟨S8x2048x128, .i32⟩
  | 127 => ⟨S_, .i32⟩
  | _ => ⟨S24x1x2048, .bf16⟩

abbrev hbmTy0_1 (i : Nat) : BufTy := match i % 128 with
  | 0 => ⟨S_, .i32⟩
  | 1 => ⟨S8x2048x128, .i32⟩
  | 2 => ⟨S8x2048x128, .i32⟩
  | 3 => ⟨S8x2048x128, .i16⟩
  | 4 => ⟨S8x2048x128, .bf16⟩
  | 5 => ⟨S8x2048x128x1, .bf16⟩
  | 6 => ⟨S_, .i32⟩
  | 7 => ⟨S8x2048x128x16, .i32⟩
  | 8 => ⟨S8x2048x128x16, .i32⟩
  | 9 => ⟨S_, .i32⟩
  | 10 => ⟨S8x2048x128x16, .i32⟩
  | 11 => ⟨S8x2048x128x16, .i32⟩
  | 12 => ⟨S_, .i32⟩
  | 13 => ⟨S8x2048x128x16, .i32⟩
  | 14 => ⟨S8x2048x128x16, .i32⟩
  | 15 => ⟨S_, .i32⟩
  | 16 => ⟨S8x2048x128x16, .i32⟩
  | 17 => ⟨S8x2048x128x16, .i32⟩
  | 18 => ⟨S_, .i32⟩
  | 19 => ⟨S8x2048x128x16, .i32⟩
  | 20 => ⟨S8x2048x128x16, .i32⟩
  | 21 => ⟨S8x2048x128x16, .f32⟩
  | 22 => ⟨S_, .i32⟩
  | 23 => ⟨S8x2048x128x16, .i32⟩
  | 24 => ⟨S8x2048x128x16, .i1⟩
  | 25 => ⟨S_, .f32⟩
  | 26 => ⟨S8x2048x128x16, .f32⟩
  | 27 => ⟨S8x2048x128x16, .f32⟩
  | 28 => ⟨S_, .f32⟩
  | 29 => ⟨S8x2048x128x16, .f32⟩
  | 30 => ⟨S8x2048x128x16, .f32⟩
  | 31 => ⟨S_, .f32⟩
  | 32 => ⟨S8x2048x128x16, .f32⟩
  | 33 => ⟨S8x2048x128x16, .f32⟩
  | 34 => ⟨S_, .i32⟩
  | 35 => ⟨S8x2048x128x16, .i32⟩
  | 36 => ⟨S8x2048x128x16, .i32⟩
  | 37 => ⟨S_, .i32⟩
  | 38 => ⟨S8x2048x128x16, .i32⟩
  | 39 => ⟨S8x2048x128x16, .i32⟩
  | 40 => ⟨S8x2048x128x16, .f32⟩
  | 41 => ⟨S8x2048x128x16, .f32⟩
  | 42 => ⟨S8x2048x128x16, .f32⟩
  | 43 => ⟨S_, .i32⟩
  | 44 => ⟨S8x2048x128x16, .i32⟩
  | 45 => ⟨S8x2048x128x16, .i1⟩
  | 46 => ⟨S8x2048x128x16, .f32⟩
  | 47 => ⟨S8x2048x128x16, .f32⟩
  | 48 => ⟨S8x2048x128x16, .bf16⟩
  | 49 => ⟨S8x2048x128x16, .bf16⟩
  | 50 => ⟨S8x2048x128x16, .bf16⟩
  | 51 => ⟨S_, .i32⟩
  | 52 => ⟨S8x2048x128x16, .i32⟩
  | 53 => ⟨S8x2048x128x16, .i32⟩
  | 54 => ⟨S_, .i32⟩
  | 55 => ⟨S8x2048x128x16, .i32⟩
  | 56 => ⟨S8x2048x128x16, .i32⟩
  | 57 => ⟨S_, .i32⟩
  | 58 => ⟨S8x2048x128x16, .i32⟩
  | 59 => ⟨S8x2048x128x16, .i32⟩
  | 60 => ⟨S_, .i32⟩
  | 61 => ⟨S8x2048x128x16, .i32⟩
  | 62 => ⟨S8x2048x128x16, .i32⟩
  | 63 => ⟨S_, .i32⟩
  | 64 => ⟨S8x2048x128x16, .i32⟩
  | 65 => ⟨S8x2048x128x16, .i32⟩
  | 66 => ⟨S8x2048x128x16, .f32⟩
  | 67 => ⟨S_, .i32⟩
  | 68 => ⟨S8x2048x128x16, .i32⟩
  | 69 => ⟨S8x2048x128x16, .i1⟩
  | 70 => ⟨S_, .f32⟩
  | 71 => ⟨S8x2048x128x16, .f32⟩
  | 72 => ⟨S8x2048x128x16, .f32⟩
  | 73 => ⟨S_, .f32⟩
  | 74 => ⟨S8x2048x128x16, .f32⟩
  | 75 => ⟨S8x2048x128x16, .f32⟩
  | 76 => ⟨S_, .f32⟩
  | 77 => ⟨S8x2048x128x16, .f32⟩
  | 78 => ⟨S8x2048x128x16, .f32⟩
  | 79 => ⟨S_, .i32⟩
  | 80 => ⟨S8x2048x128x16, .i32⟩
  | 81 => ⟨S8x2048x128x16, .i32⟩
  | 82 => ⟨S_, .i32⟩
  | 83 => ⟨S8x2048x128x16, .i32⟩
  | 84 => ⟨S8x2048x128x16, .i32⟩
  | 85 => ⟨S8x2048x128x16, .f32⟩
  | 86 => ⟨S8x2048x128x16, .f32⟩
  | 87 => ⟨S8x2048x128x16, .f32⟩
  | 88 => ⟨S_, .i32⟩
  | 89 => ⟨S8x2048x128x16, .i32⟩
  | 90 => ⟨S8x2048x128x16, .i1⟩
  | 91 => ⟨S8x2048x128x16, .f32⟩
  | 92 => ⟨S8x2048x128x16, .f32⟩
  | 93 => ⟨S8x2048x128x16, .bf16⟩
  | 94 => ⟨S8x2048x128x16, .bf16⟩
  | 95 => ⟨S8x2048x128x16, .bf16⟩
  | 96 => ⟨S8x2048x2048, .bf16⟩
  | 97 => ⟨S8x2048x2048, .bf16⟩
  | 98 => ⟨S24x1024x2, .bf16⟩
  | 99 => ⟨S24x1024x1, .bf16⟩
  | 100 => ⟨S24x1024, .bf16⟩
  | 101 => ⟨S8x8192x24, .f32⟩
  | 102 => ⟨S8x24x8192, .f32⟩
  | 103 => ⟨S24x1024x1, .bf16⟩
  | 104 => ⟨S24x1024, .bf16⟩
  | 105 => ⟨S8x8192x24, .f32⟩
  | 106 => ⟨S8x24x8192, .f32⟩
  | 107 => ⟨S8x24x8192, .f32⟩
  | 108 => ⟨S8x1x8192, .f32⟩
  | 109 => ⟨S8x24x8192, .f32⟩
  | 110 => ⟨S8x24x8192, .f32⟩
  | 111 => ⟨S8x24x4096x2, .f32⟩
  | 112 => ⟨S8x24x4096x1, .f32⟩
  | 113 => ⟨S8x24x4096, .f32⟩
  | 114 => ⟨S_, .f32⟩
  | 115 => ⟨S8x24x4096, .f32⟩
  | 116 => ⟨S8x24x4096, .f32⟩
  | 117 => ⟨S8x24x4096x1, .f32⟩
  | 118 => ⟨S8x24x4096, .f32⟩
  | 119 => ⟨S_, .f32⟩
  | 120 => ⟨S8x24x4096, .f32⟩
  | 121 => ⟨S8x24x4096, .f32⟩
  | 122 => ⟨S_, .f32⟩
  | 123 => ⟨S8x24x4096, .f32⟩
  | 124 => ⟨S8x24x4096, .f32⟩
  | 125 => ⟨S_, .f32⟩
  | 126 => ⟨S8x24x4096, .f32⟩
  | 127 => ⟨S8x24x4096, .f32⟩
  | _ => ⟨S24x1x2048, .bf16⟩

abbrev hbmTy0_2 (i : Nat) : BufTy := match i % 128 with
  | 0 => ⟨S8x24x4096, .f32⟩
  | 1 => ⟨S8x24x4096, .f32⟩
  | 2 => ⟨S_, .f32⟩
  | 3 => ⟨S8x24x4096, .f32⟩
  | 4 => ⟨S8x24x4096, .f32⟩
  | 5 => ⟨S_, .f32⟩
  | 6 => ⟨S8x24x4096, .f32⟩
  | 7 => ⟨S8x24x4096, .f32⟩
  | 8 => ⟨S8x24x4096, .f32⟩
  | 9 => ⟨S_, .f32⟩
  | 10 => ⟨S8x24x4096, .f32⟩
  | 11 => ⟨S8x24x4096, .f32⟩
  | 12 => ⟨S8x24x4096, .f32⟩
  | 13 => ⟨S8x24x4096, .bf16⟩
  | 14 => ⟨S8x24x2048x2, .bf16⟩
  | 15 => ⟨S8x24x2048x1, .bf16⟩
  | 16 => ⟨S8x24x2048, .bf16⟩
  | 17 => ⟨S8x24x2048, .f32⟩
  | 18 => ⟨S8x24x2048x1, .bf16⟩
  | 19 => ⟨S8x24x2048, .bf16⟩
  | 20 => ⟨S8x24x2048, .f32⟩
  | 21 => ⟨S8x24x2048, .f32⟩
  | 22 => ⟨S8x1x2048, .f32⟩
  | 23 => ⟨S8x24x2048, .f32⟩
  | 24 => ⟨S8x24x2048, .f32⟩
  | 25 => ⟨S4x24, .i32⟩
  | 26 => ⟨S4x1x24x1, .i32⟩
  | 27 => ⟨S4x8x24x1, .i32⟩
  | 28 => ⟨S4x8x24x1, .i32⟩
  | 29 => ⟨S4x8x24x1, .i1⟩
  | 30 => ⟨S1x8x24x2048, .f32⟩
  | 31 => ⟨S_, .f32⟩
  | 32 => ⟨S_, .f32⟩
  | 33 => ⟨S4x8x24x2048, .i1⟩
  | 34 => ⟨S4x8x24x2048, .f32⟩
  | 35 => ⟨S4x8x24x2048, .f32⟩
  | 36 => ⟨S4x8x24x2048, .f32⟩
  | 37 => ⟨S_, .f32⟩
  | 38 => ⟨S4x24x2048, .f32⟩
  | 39 => ⟨S4x24, .f32⟩
  | 40 => ⟨S4x24x1, .f32⟩
  | 41 => ⟨S4x24x2048, .f32⟩
  | 42 => ⟨S4x24x2048, .f32⟩
  | 43 => ⟨S_, .f32⟩
  | 44 => ⟨S24x2048, .f32⟩
  | 45 => ⟨S24x2048, .bf16⟩
  | 46 => ⟨S24x1x2048, .bf16⟩
  | _ => ⟨S24x1x2048, .bf16⟩

abbrev hbmTy (i : Nat) : BufTy := match i / 128 with
  | 0 => hbmTy0_0 i
  | 1 => hbmTy0_1 i
  | 2 => hbmTy0_2 i
  | _ => ⟨S24x1x2048, .bf16⟩

abbrev bufTy : (tb : Table) → Fin (tcTables nBuf tb) → BufTy
  | .hbm, ⟨i, _⟩ => hbmTy i
  | _, _ => ⟨S24x1x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_c_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_7 : Ref sig .tc := ⟨.hbm, 43, rfl⟩
abbrev main_v24 : Ref sig .tc := ⟨.hbm, 44, rfl⟩
abbrev main_v25 : Ref sig .tc := ⟨.hbm, 45, rfl⟩
abbrev main_cst : Ref sig .tc := ⟨.hbm, 46, rfl⟩
abbrev main_v26 : Ref sig .tc := ⟨.hbm, 47, rfl⟩
abbrev main_v27 : Ref sig .tc := ⟨.hbm, 48, rfl⟩
abbrev main_cst_8 : Ref sig .tc := ⟨.hbm, 49, rfl⟩
abbrev main_v28 : Ref sig .tc := ⟨.hbm, 50, rfl⟩
abbrev main_v29 : Ref sig .tc := ⟨.hbm, 51, rfl⟩
abbrev main_cst_9 : Ref sig .tc := ⟨.hbm, 52, rfl⟩
abbrev main_v30 : Ref sig .tc := ⟨.hbm, 53, rfl⟩
abbrev main_v31 : Ref sig .tc := ⟨.hbm, 54, rfl⟩
abbrev main_c_10 : Ref sig .tc := ⟨.hbm, 55, rfl⟩
abbrev main_v32 : Ref sig .tc := ⟨.hbm, 56, rfl⟩
abbrev main_v33 : Ref sig .tc := ⟨.hbm, 57, rfl⟩
abbrev main_c_11 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_12 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_13 : Ref sig .tc := ⟨.hbm, 72, rfl⟩
abbrev main_v46 : Ref sig .tc := ⟨.hbm, 73, rfl⟩
abbrev main_v47 : Ref sig .tc := ⟨.hbm, 74, rfl⟩
abbrev main_c_14 : Ref sig .tc := ⟨.hbm, 75, rfl⟩
abbrev main_v48 : Ref sig .tc := ⟨.hbm, 76, rfl⟩
abbrev main_v49 : Ref sig .tc := ⟨.hbm, 77, rfl⟩
abbrev main_c_15 : Ref sig .tc := ⟨.hbm, 78, rfl⟩
abbrev main_v50 : Ref sig .tc := ⟨.hbm, 79, rfl⟩
abbrev main_v51 : Ref sig .tc := ⟨.hbm, 80, rfl⟩
abbrev main_c_16 : Ref sig .tc := ⟨.hbm, 81, rfl⟩
abbrev main_v52 : Ref sig .tc := ⟨.hbm, 82, rfl⟩
abbrev main_v53 : Ref sig .tc := ⟨.hbm, 83, rfl⟩
abbrev main_c_17 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_18 : Ref sig .tc := ⟨.hbm, 88, rfl⟩
abbrev main_v57 : Ref sig .tc := ⟨.hbm, 89, rfl⟩
abbrev main_v58 : Ref sig .tc := ⟨.hbm, 90, rfl⟩
abbrev main_cst_19 : Ref sig .tc := ⟨.hbm, 91, rfl⟩
abbrev main_v59 : Ref sig .tc := ⟨.hbm, 92, rfl⟩
abbrev main_v60 : Ref sig .tc := ⟨.hbm, 93, rfl⟩
abbrev main_cst_20 : Ref sig .tc := ⟨.hbm, 94, rfl⟩
abbrev main_v61 : Ref sig .tc := ⟨.hbm, 95, rfl⟩
abbrev main_v62 : Ref sig .tc := ⟨.hbm, 96, rfl⟩
abbrev main_cst_21 : Ref sig .tc := ⟨.hbm, 97, rfl⟩
abbrev main_v63 : Ref sig .tc := ⟨.hbm, 98, rfl⟩
abbrev main_v64 : Ref sig .tc := ⟨.hbm, 99, rfl⟩
abbrev main_c_22 : Ref sig .tc := ⟨.hbm, 100, rfl⟩
abbrev main_v65 : Ref sig .tc := ⟨.hbm, 101, rfl⟩
abbrev main_v66 : Ref sig .tc := ⟨.hbm, 102, rfl⟩
abbrev main_c_23 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_24 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_c_25 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_c_26 : Ref sig .tc := ⟨.hbm, 124, rfl⟩
abbrev main_v85 : Ref sig .tc := ⟨.hbm, 125, rfl⟩
abbrev main_v86 : Ref sig .tc := ⟨.hbm, 126, rfl⟩
abbrev main_c_27 : Ref sig .tc := ⟨.hbm, 127, rfl⟩
abbrev main_call5_v0 : Ref sig .tc := ⟨.hbm, 128, rfl⟩
abbrev main_call5_v1 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_c_28 : Ref sig .tc := ⟨.hbm, 134, rfl⟩
abbrev main_v91 : Ref sig .tc := ⟨.hbm, 135, rfl⟩
abbrev main_v92 : Ref sig .tc := ⟨.hbm, 136, rfl⟩
abbrev main_c_29 : Ref sig .tc := ⟨.hbm, 137, rfl⟩
abbrev main_v93 : Ref sig .tc := ⟨.hbm, 138, rfl⟩
abbrev main_v94 : Ref sig .tc := ⟨.hbm, 139, rfl⟩
abbrev main_c_30 : Ref sig .tc := ⟨.hbm, 140, rfl⟩
abbrev main_v95 : Ref sig .tc := ⟨.hbm, 141, rfl⟩
abbrev main_v96 : Ref sig .tc := ⟨.hbm, 142, rfl⟩
abbrev main_c_31 : Ref sig .tc := ⟨.hbm, 143, rfl⟩
abbrev main_v97 : Ref sig .tc := ⟨.hbm, 144, rfl⟩
abbrev main_v98 : Ref sig .tc := ⟨.hbm, 145, rfl⟩
abbrev main_c_32 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_c_33 : Ref sig .tc := ⟨.hbm, 150, rfl⟩
abbrev main_v102 : Ref sig .tc := ⟨.hbm, 151, rfl⟩
abbrev main_v103 : Ref sig .tc := ⟨.hbm, 152, rfl⟩
abbrev main_cst_34 : Ref sig .tc := ⟨.hbm, 153, rfl⟩
abbrev main_v104 : Ref sig .tc := ⟨.hbm, 154, rfl⟩
abbrev main_v105 : Ref sig .tc := ⟨.hbm, 155, rfl⟩
abbrev main_cst_35 : Ref sig .tc := ⟨.hbm, 156, rfl⟩
abbrev main_v106 : Ref sig .tc := ⟨.hbm, 157, rfl⟩
abbrev main_v107 : Ref sig .tc := ⟨.hbm, 158, rfl⟩
abbrev main_cst_36 : Ref sig .tc := ⟨.hbm, 159, rfl⟩
abbrev main_v108 : Ref sig .tc := ⟨.hbm, 160, rfl⟩
abbrev main_v109 : Ref sig .tc := ⟨.hbm, 161, rfl⟩
abbrev main_c_37 : Ref sig .tc := ⟨.hbm, 162, rfl⟩
abbrev main_v110 : Ref sig .tc := ⟨.hbm, 163, rfl⟩
abbrev main_v111 : Ref sig .tc := ⟨.hbm, 164, rfl⟩
abbrev main_c_38 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_c_39 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_c_40 : Ref sig .tc := ⟨.hbm, 179, rfl⟩
abbrev main_v124 : Ref sig .tc := ⟨.hbm, 180, rfl⟩
abbrev main_v125 : Ref sig .tc := ⟨.hbm, 181, rfl⟩
abbrev main_c_41 : Ref sig .tc := ⟨.hbm, 182, rfl⟩
abbrev main_v126 : Ref sig .tc := ⟨.hbm, 183, rfl⟩
abbrev main_v127 : Ref sig .tc := ⟨.hbm, 184, rfl⟩
abbrev main_c_42 : Ref sig .tc := ⟨.hbm, 185, rfl⟩
abbrev main_v128 : Ref sig .tc := ⟨.hbm, 186, rfl⟩
abbrev main_v129 : Ref sig .tc := ⟨.hbm, 187, rfl⟩
abbrev main_c_43 : Ref sig .tc := ⟨.hbm, 188, rfl⟩
abbrev main_v130 : Ref sig .tc := ⟨.hbm, 189, rfl⟩
abbrev main_v131 : Ref sig .tc := ⟨.hbm, 190, rfl⟩
abbrev main_c_44 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_c_45 : Ref sig .tc := ⟨.hbm, 195, rfl⟩
abbrev main_v135 : Ref sig .tc := ⟨.hbm, 196, rfl⟩
abbrev main_v136 : Ref sig .tc := ⟨.hbm, 197, rfl⟩
abbrev main_cst_46 : Ref sig .tc := ⟨.hbm, 198, rfl⟩
abbrev main_v137 : Ref sig .tc := ⟨.hbm, 199, rfl⟩
abbrev main_v138 : Ref sig .tc := ⟨.hbm, 200, rfl⟩
abbrev main_cst_47 : Ref sig .tc := ⟨.hbm, 201, rfl⟩
abbrev main_v139 : Ref sig .tc := ⟨.hbm, 202, rfl⟩
abbrev main_v140 : Ref sig .tc := ⟨.hbm, 203, rfl⟩
abbrev main_cst_48 : Ref sig .tc := ⟨.hbm, 204, rfl⟩
abbrev main_v141 : Ref sig .tc := ⟨.hbm, 205, rfl⟩
abbrev main_v142 : Ref sig .tc := ⟨.hbm, 206, rfl⟩
abbrev main_c_49 : Ref sig .tc := ⟨.hbm, 207, rfl⟩
abbrev main_v143 : Ref sig .tc := ⟨.hbm, 208, rfl⟩
abbrev main_v144 : Ref sig .tc := ⟨.hbm, 209, rfl⟩
abbrev main_c_50 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_c_51 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_cst_52 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_cst_53 : Ref sig .tc := ⟨.hbm, 247, rfl⟩
abbrev main_v179 : Ref sig .tc := ⟨.hbm, 248, rfl⟩
abbrev main_v180 : Ref sig .tc := ⟨.hbm, 249, rfl⟩
abbrev main_cst_54 : Ref sig .tc := ⟨.hbm, 250, rfl⟩
abbrev main_v181 : Ref sig .tc := ⟨.hbm, 251, rfl⟩
abbrev main_v182 : Ref sig .tc := ⟨.hbm, 252, rfl⟩
abbrev main_cst_55 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_cst_56 : Ref sig .tc := ⟨.hbm, 258, rfl⟩
abbrev main_v187 : Ref sig .tc := ⟨.hbm, 259, rfl⟩
abbrev main_v188 : Ref sig .tc := ⟨.hbm, 260, rfl⟩
abbrev main_cst_57 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_cst_58 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_cst_59 : Ref sig .tc := ⟨.hbm, 287, rfl⟩
abbrev main_call10_v0 : Ref sig .tc := ⟨.hbm, 288, rfl⟩
abbrev main_call10_v1 : Ref sig .tc := ⟨.hbm, 289, rfl⟩
abbrev main_call10_v2 : Ref sig .tc := ⟨.hbm, 290, rfl⟩
abbrev main_call10_v3 : Ref sig .tc := ⟨.hbm, 291, rfl⟩
abbrev main_v213 : Ref sig .tc := ⟨.hbm, 292, rfl⟩
abbrev main_cst_60 : Ref sig .tc := ⟨.hbm, 293, rfl⟩
abbrev main_v214 : Ref sig .tc := ⟨.hbm, 294, rfl⟩
abbrev main_v215 : Ref sig .tc := ⟨.hbm, 295, rfl⟩
abbrev main_v216 : Ref sig .tc := ⟨.hbm, 296, rfl⟩
abbrev main_v217 : Ref sig .tc := ⟨.hbm, 297, rfl⟩
abbrev main_v218 : Ref sig .tc := ⟨.hbm, 298, rfl⟩
abbrev main_cst_61 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩

abbrev nD : Nat := 1
abbrev τ : Topo := Topo.v7x

variable {F : FTy → Type} [FloatOps F]
-- ==== Proof.Rings.lean ====
/-
  The kernel's own copies. Each of the sixteen gate slots and each of the four down slots has two cells: one for
  the slot's weight words and one for its scale bytes. A slot is either free or in flight with one expert's block.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## The operands the proof names -/

/-- The gate weights, in HBM. -/
abbrev WG := Memref.whole main_v1
/-- The gate scales, in HBM. -/
abbrev SG := Memref.whole main_v2
/-- The down weights, in HBM. -/
abbrev WD := Memref.whole main_v4
/-- The down scales, in HBM. -/
abbrev SD := Memref.whole main_arg7
/-- The list of active experts. -/
abbrev ACT := Memref.whole cc0_scratch0
/-- The tokens' coefficients. -/
abbrev COEF := Memref.whole cc0_scratch1
/-- The gate weight slots. -/
abbrev BWG := Memref.whole cc0_scratch2
/-- The down weight slots. -/
abbrev BWD := Memref.whole cc0_scratch3
/-- The gate scale slots. -/
abbrev BSG := Memref.whole cc0_scratch4
/-- The down scale slots. -/
abbrev BSD := Memref.whole cc0_scratch5
/-- The widened gate scales. -/
abbrev SG32 := Memref.whole cc0_scratch6
/-- The buffer nothing reads. -/
abbrev SD32 := Memref.whole cc0_scratch7
/-- The hidden activations. -/
abbrev HREF := Memref.whole cc0_scratch8
/-- The permutation matrix. -/
abbrev PERM := Memref.whole cc0_scratch9
/-- The accumulator. -/
abbrev ACC := Memref.whole cc0_scratch10
/-- The copies' cells. -/
abbrev SEMS : DmaSems sig S4x16 := cc0_scratch11

/-- An expert number for which every block read is in bounds. -/
abbrev Ex := {e : BitVec 32 // k0_chk4 e}

/-! ## The gate slots -/

abbrev cellGW (t : Fin k0_t4_loop.trips) : DmaSems sig S_ :=
  (SEMS.slice (Rect.unit (s := S4x16) (k0_off45 t) S1x1.size (k0_off45_inb t))).squeeze S_ squeezes_S1x1_S_
abbrev slotGW (t : Fin k0_t4_loop.trips) : Memref sig .tc .vmem S64x2x4x8x128 .i8 :=
  (BWG.slice (Rect.unit (s := S16x64x2x4x8x128) (k0_off46 t) S1x64x2x4x8x128.size (k0_off46_inb t)) (fun _ => rfl)).squeeze S64x2x4x8x128 squeezes_S1x64x2x4x8x128_S64x2x4x8x128
abbrev srcGW (t : Fin k0_t4_loop.trips) (e : Ex) : Memref sig .tc .hbm S64x2x4x8x128 .i8 :=
  (WG.slice (Rect.unit (s := S8x64x2x64x8x128) (k0_off47 e.1 t) S1x64x2x4x8x128.size (k0_off47_inb e.1 e.2 t)) (fun _ => rfl)).squeeze S64x2x4x8x128 squeezes_S1x64x2x4x8x128_S64x2x4x8x128
abbrev cellGS (t : Fin k0_t4_loop.trips) : DmaSems sig S_ :=
  (SEMS.slice (Rect.unit (s := S4x16) (k0_off48 t) S1x1.size (k0_off48_inb t))).squeeze S_ squeezes_S1x1_S_
abbrev slotGS (t : Fin k0_t4_loop.trips) : Memref sig .tc .vmem S64x512 .i8 :=
  (BSG.slice (Rect.unit (s := S16x64x512) (k0_off49 t) S1x64x512.size (k0_off49_inb t)) (fun _ => rfl)).squeeze S64x512 squeezes_S1x64x512_S64x512
abbrev srcGS (t : Fin k0_t4_loop.trips) (e : Ex) : Memref sig .tc .hbm S64x512 .i8 :=
  (SG.slice (Rect.unit (s := S8x64x8192) (k0_off50 e.1 t) S1x64x512.size (k0_off50_inb e.1 e.2 t)) (fun _ => rfl)).squeeze S64x512 squeezes_S1x64x512_S64x512

/-! ## The down slots -/

abbrev cellDW (t : Fin k0_t5_loop.trips) : DmaSems sig S_ :=
  (SEMS.slice (Rect.unit (s := S4x16) (k0_off61 t) S1x1.size (k0_off61_inb t))).squeeze S_ squeezes_S1x1_S_
abbrev slotDW (t : Fin k0_t5_loop.trips) : Memref sig .tc .vmem S512x2x8x128 .i8 :=
  (BWD.slice (Rect.unit (s := S4x512x2x8x128) (k0_off62 t) S1x512x2x8x128.size (k0_off62_inb t)) (fun _ => rfl)).squeeze S512x2x8x128 squeezes_S1x512x2x8x128_S512x2x8x128
abbrev srcDW (t : Fin k0_t5_loop.trips) (e : Ex) : Memref sig .tc .hbm S512x2x8x128 .i8 :=
  (WD.slice (Rect.unit (s := S8x2048x2x8x128) (k0_off63 e.1 t) S1x512x2x8x128.size (k0_off63_inb e.1 e.2 t)) (fun _ => rfl)).squeeze S512x2x8x128 squeezes_S1x512x2x8x128_S512x2x8x128
abbrev cellDS (t : Fin k0_t5_loop.trips) : DmaSems sig S_ :=
  (SEMS.slice (Rect.unit (s := S4x16) (k0_off64 t) S1x1.size (k0_off64_inb t))).squeeze S_ squeezes_S1x1_S_
abbrev slotDS (t : Fin k0_t5_loop.trips) : Memref sig .tc .vmem S512x128 .i8 :=
  (BSD.slice (Rect.unit (s := S4x512x128) (k0_off65 t) S1x512x128.size (k0_off65_inb t)) (fun _ => rfl)).squeeze S512x128 squeezes_S1x512x128_S512x128
abbrev srcDS (t : Fin k0_t5_loop.trips) (e : Ex) : Memref sig .tc .hbm S512x128 .i8 :=
  (SD.slice (Rect.unit (s := S8x2048x128) (k0_off66 e.1 t) S1x512x128.size (k0_off66_inb e.1 e.2 t)) (fun _ => rfl)).squeeze S512x128 squeezes_S1x512x128_S512x128

/-! ## One copy: its slot free, in flight, landed -/

variable {S S' : Shape} (c : Dev nD)

/-- A source array's read token. -/
abbrev tok {sp : Space} {A : Shape} {e : EltTy} (M : Memref sig .tc sp A e) (q : PosShare TreeShare)
    (X : Finset (Idx (M.view.loc (c : Thread nD τ)))) (fa : Buf (Elt F) (M.view.loc (c : Thread nD τ))) : sProp 𝕄 :=
  M.view.loc (c : Thread nD τ) ↦[X]{q} fa

/-- A slot at anything. -/
abbrev anyAt {S : Shape} {e : EltTy} (dst : Memref sig .tc .vmem S e) : sProp 𝕄 :=
  iprop(∃ f, dst.view.loc (c : Thread nD τ) ↦[dst.view.set]{fullShare} f)

/-- A copy in flight: its delivery, and the rest of the source's token. -/
abbrev flying {S : Shape} (cell : DmaSems sig S_) (dst : Memref sig .tc .vmem S .i8) (src : Memref sig .tc .hbm S .i8)
    (q : PosShare TreeShare) (N : ℕ) (fa : Buf (Elt F) (src.view.loc (c : Thread nD τ))) : sProp 𝕄 :=
  iprop((∃ f, Transfers.Flight (countersEmb (U := Pipeline.UD sig nD τ)) (c : Thread nD τ) (SemLoc.dma cell.sem) () N
          iprop((dst.view.loc (c : Thread nD τ) ↦[dst.view.set]{fullShare}
                    dst.view.writes (Elt F) f [⟨Rect.whole S, ReadAs.same.apply (src.view.read (Elt F) fa)⟩])
            ∗ (src.view.loc (c : Thread nD τ) ↦[src.view.set]{q} fa)))
    ∗ (src.view.loc (c : Thread nD τ) ↦[Finset.univ \ src.view.set]{q} fa))

abbrev qG (t : Fin k0_t4_loop.trips) := Transfers.shareTok fullShare k0_t4_loop.trips t
abbrev qD (t : Fin k0_t5_loop.trips) := Transfers.shareTok fullShare k0_t5_loop.trips t

/-- Gate slot `t`, free or in flight with an expert's block. -/
def gateAt (f1 : Buf (Elt F) (WG.view.loc (c : Thread nD τ))) (f2 : Buf (Elt F) (SG.view.loc (c : Thread nD τ)))
    (t : Fin k0_t4_loop.trips) : Option Ex → sProp 𝕄
  | none => iprop((semVal ((c : Thread nD τ), SemLoc.dma (cellGW t).sem) 0 ∗ anyAt c (slotGW t) ∗ tok c WG (qG t) Finset.univ f1)
      ∗ (semVal ((c : Thread nD τ), SemLoc.dma (cellGS t).sem) 0 ∗ anyAt c (slotGS t) ∗ tok c SG (qG t) Finset.univ f2))
  | some e => iprop(flying c (cellGW t) (slotGW t) (srcGW t e) (qG t) 65536 f1 ∗ flying c (cellGS t) (slotGS t) (srcGS t e) (qG t) 1024 f2)

/-- Down slot `t`, free or in flight with an expert's block. -/
def downAt (f1 : Buf (Elt F) (WD.view.loc (c : Thread nD τ))) (f2 : Buf (Elt F) (SD.view.loc (c : Thread nD τ)))
    (t : Fin k0_t5_loop.trips) : Option Ex → sProp 𝕄
  | none => iprop((semVal ((c : Thread nD τ), SemLoc.dma (cellDW t).sem) 0 ∗ anyAt c (slotDW t) ∗ tok c WD (qD t) Finset.univ f1)
      ∗ (semVal ((c : Thread nD τ), SemLoc.dma (cellDS t).sem) 0 ∗ anyAt c (slotDS t) ∗ tok c SD (qD t) Finset.univ f2))
  | some e => iprop(flying c (cellDW t) (slotDW t) (srcDW t e) (qD t) 131072 f1 ∗ flying c (cellDS t) (slotDS t) (srcDS t e) (qD t) 2048 f2)

end Cert.Kernel.Hand

end
-- ==== Proof.Gate.lean ====
/-
  One trip of the gate loop: the slot's two copies are awaited, its block is read, multiplied and stored, and the
  slot is refilled with the next expert's block when there is one.
-/
module

public import proofs.«01_k».proof.Proof.Rings

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)
variable (arg0 : Memref sig .tc .smem S4x24 .i32) (harg0 : arg0.IsWhole) (arg1 : Memref sig .tc .vmem S4x24 .i32) (harg1 : arg1.IsWhole) (arg2 : Memref sig .tc .vmem S4x24 .f32) (harg2 : arg2.IsWhole) (arg3 : Memref sig .tc .vmem S24x2048 .bf16) (harg3 : arg3.IsWhole) (arg6 : Memref sig .tc .vmem S8x8192 .f32) (harg6 : arg6.IsWhole) (arg9 : Memref sig .tc .vmem S8x2048 .f32) (harg9 : arg9.IsWhole) (arg10 : Memref sig .tc .vmem S24x2048 .bf16) (harg10 : arg10.IsWhole)

/-! The refill names the cells, slots and blocks by offsets of its own: the same. -/

theorem off53_eq : k0_off53 = k0_off45 := rfl
theorem off54_eq : k0_off54 = k0_off46 := rfl
theorem off55_eq : k0_off55 = k0_off47 := rfl
theorem off56_eq : k0_off56 = k0_off48 := rfl
theorem off57_eq : k0_off57 = k0_off49 := rfl
theorem off58_eq : k0_off58 = k0_off50 := rfl

/-! ## What a trip reads and stores -/

/-- The scale bytes a trip loads: its slot as the copy left it. -/
def gateScales (f2 : Buf (Elt F) (SG.view.loc (c : Thread nD τ))) (e : Ex) (t : Fin k0_t4_loop.trips) : Vec F S1x64x512 .i8 :=
  View.readAt (Elt F) BSG.view (Rect.unit (s := S16x64x512) (k0_off51 t) S1x64x512.size (k0_off51_inb t)).toLoadRect
    ((slotGS t).view.writes (Elt F) (slotGS t).view.junk [⟨Rect.whole S64x512, ReadAs.same.apply ((srcGS t e).view.read (Elt F) f2)⟩])

/-- The weight bytes a trip loads. -/
def gateWords (f1 : Buf (Elt F) (WG.view.loc (c : Thread nD τ))) (e : Ex) (t : Fin k0_t4_loop.trips) : Vec F S1x64x2x4x8x128 .i8 :=
  View.readAt (Elt F) BWG.view (Rect.unit (s := S16x64x2x4x8x128) (k0_off52 t) S1x64x2x4x8x128.size (k0_off52_inb t)).toLoadRect
    ((slotGW t).view.writes (Elt F) (slotGW t).view.junk [⟨Rect.whole S64x2x4x8x128, ReadAs.same.apply ((srcGW t e).view.read (Elt F) f1)⟩])

/-- The bias row a trip loads. -/
def gateBias (b : Buf (Elt F) (arg6.view.loc (c : Thread nD τ))) (e : Ex) (t : Fin k0_t4_loop.trips) : Vec F S1x512 .f32 :=
  View.readAt (Elt F) arg6.view (Rect.unit (s := S8x8192) (k0_off59 e.1 t) S1x512.size (k0_off59_inb e.1 e.2 t)).toLoadRect b

/-- The permutation matrix as loaded. -/
def permLoad (p : Buf (Elt F) (PERM.view.loc (c : Thread nD τ))) : Vec F S512x256 .bf16 :=
  View.readAt (Elt F) PERM.view (Rect.unit (s := S512x256) ![0, 0] S512x256.size inb_S512x256_S512x256_0_0).toLoadRect p

/-- The hidden activations a trip stores, of what it loads. -/
def gateOf (x : Vec F S24x2048 .bf16) (words : Vec F S1x64x2x4x8x128 .i8) (scales : Vec F S1x64x512 .i8) (bias : Vec F S1x512 .f32)
    (perm : Vec F S512x256 .bf16) : Vec F S1x24x256 .bf16 :=
  k0_pay107 (k0_pay8 (k0_pay106 x) (k0_pay5 (k0_pay4 words)) (k0_pay6 (SG32.view.readCov [⟨Rect.unit (s := S64x512) ![0, 0] S64x512.size inb_S64x512_S64x512_0_0, k0_pay3 scales⟩] (Rect.unit (s := S64x512) ![0, 0] S64x512.size inb_S64x512_S64x512_0_0).toLoadRect)) (k0_pay7 (k0_pay4 words)) bias) 2#32 k0_pay9 0#32 perm

/-- The hidden activations a trip stores. -/
def gateVal (f1 : Buf (Elt F) (WG.view.loc (c : Thread nD τ))) (f2 : Buf (Elt F) (SG.view.loc (c : Thread nD τ)))
    (x : Vec F S24x2048 .bf16) (p : Buf (Elt F) (PERM.view.loc (c : Thread nD τ))) (b : Buf (Elt F) (arg6.view.loc (c : Thread nD τ)))
    (e : Ex) (t : Fin k0_t4_loop.trips) : Vec F S1x24x256 .bf16 :=
  gateOf x (gateWords c f1 e t) (gateScales c f2 e t) (gateBias c arg6 b e t) (permLoad c p)

/-- The hidden buffer after a trip's store. -/
def hStore (h : Buf (Elt F) (HREF.view.loc (c : Thread nD τ))) (t : Fin k0_t4_loop.trips) (w : Vec F S1x24x256 .bf16) :
    Buf (Elt F) (HREF.view.loc (c : Thread nD τ)) :=
  HREF.view.writes (Elt F) h [⟨Rect.unit (s := S16x24x256) (k0_off60 t) S1x24x256.size (k0_off60_inb t), w⟩]

variable (𝒱₀ : Variants) (f1 : Buf (Elt F) (WG.view.loc (c : Thread nD τ))) (f2 : Buf (Elt F) (SG.view.loc (c : Thread nD τ)))
    (v3 : BitVec 32) (hw3 : k0_chk3 v3) (v165 : Elt F .i32) (hw2 : k0_chk2 v165) (x : Vec F S24x2048 .bf16) (t3 : Fin (k0_t3_loop v3).trips)
    (v437 : BitVec 1) (t : Fin k0_t4_loop.trips)
    (h : Buf (Elt F) (HREF.view.loc (c : Thread nD τ)))
    (p : Buf (Elt F) (PERM.view.loc (c : Thread nD τ))) (b : Buf (Elt F) (arg6.view.loc (c : Thread nD τ)))

/-- What a gate trip holds besides its slot: the widened scales, the hidden buffer, the matrix, the bias. -/
abbrev gateKit (h : Buf (Elt F) (HREF.view.loc (c : Thread nD τ))) : sProp 𝕄 :=
  iprop((∃ W, owes (c : Thread nD τ) 0 W) ∗ (∃ s, SG32.view.loc (c : Thread nD τ) ↦{fullShare} s) ∗ (HREF.view.loc (c : Thread nD τ) ↦{fullShare} h)
      ∗ (PERM.view.loc (c : Thread nD τ) ↦{fullShare} p) ∗ (arg6.view.loc (c : Thread nD τ) ↦{fullShare} b))

set_option maxHeartbeats 800000 in
/-- A trip that refills its slot. -/
theorem gate_trip_more (e e' : Ex) (hw5 : k0_chk5 v3 t3 e'.1) (hc : k0_cond1 v3 t3 = 1#1) (K : Unit → sProp 𝕄) :
    iprop(gateAt c f1 f2 t (some e) ∗ gateKit c arg6 p b h
      ∗ (iprop(gateAt c f1 f2 t (some e') ∗ gateKit c arg6 p b (hStore c h t (gateVal c arg6 f1 f2 x p b e t))) -∗ K ⟨⟩))
    ⊢ wp frame (wpE (defs₀ (F := F)) 𝒱₀ (c : Thread nD τ) none) Set.univ
        (k0_t4_body (F := F) arg0 harg0 arg1 harg1 arg2 harg2 arg3 harg3 WG (Memref.isWhole_whole _) SG (Memref.isWhole_whole _) arg6 harg6 WD (Memref.isWhole_whole _) SD (Memref.isWhole_whole _) arg9 harg9 arg10 harg10 ACT (Memref.isWhole_whole _) COEF (Memref.isWhole_whole _) BWG (Memref.isWhole_whole _) BWD (Memref.isWhole_whole _) BSG (Memref.isWhole_whole _) BSD (Memref.isWhole_whole _) SG32 (Memref.isWhole_whole _) SD32 (Memref.isWhole_whole _) HREF (Memref.isWhole_whole _) PERM (Memref.isWhole_whole _) ACC (Memref.isWhole_whole _) SEMS v3 hw3 v165 hw2 x t3 e.1 e.2 e'.1 hw5 v437 t ()) K := by
  have hk : t.val < 16 := Nat.lt_of_lt_of_le t.isLt k0_t4_abs.2.1
  unfold gateAt
  iintro ⟨⟨⟨⟨%fa, HF1⟩, HT1⟩, ⟨⟨%fb, HF2⟩, HT2⟩⟩, ⟨⟨%W, HO⟩, ⟨%s32, Hs⟩, Hh, Hp, Hb⟩, HK⟩
  unfold k0_t4_body
  sl_exec
  simp -proj -iota -zeta -beta -eta -unfoldPartialApp only [off53_eq, off54_eq, off55_eq, off56_eq, off57_eq, off58_eq]
  have hT1 : ((srcGW t e).view.loc (c : Thread nD τ) ↦{qG t} f1 : sProp 𝕄) ⊢ tok c WG (qG t) Finset.univ f1 := .rfl
  have hT2 : ((srcGS t e).view.loc (c : Thread nD τ) ↦{qG t} f2 : sProp 𝕄) ⊢ tok c SG (qG t) Finset.univ f2 := .rfl
  ihave HT1 := hT1 $$ HT1
  ihave HT2 := hT2 $$ HT2
  sl_exec
  sl_step
  iapply HK
  isplitl [HF1 HT1 HF2 HT2]
  · isplitl [HF1 HT1]
    · isplitl [HF1]
      · iexists _; iexact HF1
      · iexact HT1
    · isplitl [HF2]
      · iexists _; iexact HF2
      · iexact HT2
  isplitl [HO]; · iexists _; iexact HO
  isplitl [Hs]; · iexists _; iexact Hs
  isplitl [Hh]; · unfold hStore gateVal gateOf gateWords gateScales gateBias permLoad; iexact Hh
  isplitl [Hp]; · iexact Hp
  iexact Hb

set_option maxHeartbeats 800000 in
/-- A trip of the last expert: the slot is left free. -/
theorem gate_trip_last (e : Ex) (e' : BitVec 32) (hw5 : k0_chk5 v3 t3 e') (hc : ¬ k0_cond1 v3 t3 = 1#1) (K : Unit → sProp 𝕄) :
    iprop(gateAt c f1 f2 t (some e) ∗ gateKit c arg6 p b h
      ∗ (iprop(gateAt c f1 f2 t none ∗ gateKit c arg6 p b (hStore c h t (gateVal c arg6 f1 f2 x p b e t))) -∗ K ⟨⟩))
    ⊢ wp frame (wpE (defs₀ (F := F)) 𝒱₀ (c : Thread nD τ) none) Set.univ
        (k0_t4_body (F := F) arg0 harg0 arg1 harg1 arg2 harg2 arg3 harg3 WG (Memref.isWhole_whole _) SG (Memref.isWhole_whole _) arg6 harg6 WD (Memref.isWhole_whole _) SD (Memref.isWhole_whole _) arg9 harg9 arg10 harg10 ACT (Memref.isWhole_whole _) COEF (Memref.isWhole_whole _) BWG (Memref.isWhole_whole _) BWD (Memref.isWhole_whole _) BSG (Memref.isWhole_whole _) BSD (Memref.isWhole_whole _) SG32 (Memref.isWhole_whole _) SD32 (Memref.isWhole_whole _) HREF (Memref.isWhole_whole _) PERM (Memref.isWhole_whole _) ACC (Memref.isWhole_whole _) SEMS v3 hw3 v165 hw2 x t3 e.1 e.2 e' hw5 v437 t ()) K := by
  have hk : t.val < 16 := Nat.lt_of_lt_of_le t.isLt k0_t4_abs.2.1
  unfold gateAt
  iintro ⟨⟨⟨⟨%fa, HF1⟩, HT1⟩, ⟨⟨%fb, HF2⟩, HT2⟩⟩, ⟨⟨%W, HO⟩, ⟨%s32, Hs⟩, Hh, Hp, Hb⟩, HK⟩
  unfold k0_t4_body
  sl_exec
  sl_step
  iapply HK
  isplitl [HF1 HT1 HF2 HT2 HF1_dst HF2_dst]
  · isplitl [HF1 HT1 HF1_dst]
    · isplitl [HF1]; · iexact HF1
      isplitl [HF1_dst]; · iexists _; iexact HF1_dst
      iexact HT1
    · isplitl [HF2]; · iexact HF2
      isplitl [HF2_dst]; · iexists _; iexact HF2_dst
      iexact HT2
  isplitl [HO]; · iexists _; iexact HO
  isplitl [Hs]; · iexists _; iexact Hs
  isplitl [Hh]; · unfold hStore gateVal gateOf gateWords gateScales gateBias permLoad; iexact Hh
  isplitl [Hp]; · iexact Hp
  iexact Hb

end Cert.Kernel.Hand

end
-- ==== Proof.Down.lean ====
/-
  One trip of the down loop: the slot's two copies are awaited, its block is read, multiplied and added to the
  accumulator, and the slot is refilled with the next expert's block when there is one.
-/
module

public import proofs.«01_k».proof.Proof.Rings

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)
variable (arg0 : Memref sig .tc .smem S4x24 .i32) (harg0 : arg0.IsWhole) (arg1 : Memref sig .tc .vmem S4x24 .i32) (harg1 : arg1.IsWhole) (arg2 : Memref sig .tc .vmem S4x24 .f32) (harg2 : arg2.IsWhole) (arg3 : Memref sig .tc .vmem S24x2048 .bf16) (harg3 : arg3.IsWhole) (arg6 : Memref sig .tc .vmem S8x8192 .f32) (harg6 : arg6.IsWhole) (arg9 : Memref sig .tc .vmem S8x2048 .f32) (harg9 : arg9.IsWhole) (arg10 : Memref sig .tc .vmem S24x2048 .bf16) (harg10 : arg10.IsWhole)

/-! The refill names the cells, slots and blocks by offsets of its own: the same. -/

theorem off72_eq : k0_off72 = k0_off61 := rfl
theorem off73_eq : k0_off73 = k0_off62 := rfl
theorem off74_eq : k0_off74 = k0_off63 := rfl
theorem off75_eq : k0_off75 = k0_off64 := rfl
theorem off76_eq : k0_off76 = k0_off65 := rfl
theorem off77_eq : k0_off77 = k0_off66 := rfl

/-! ## What a trip reads and stores -/

/-- The weight bytes a trip loads: its slot as the copy left it. -/
def downWords (f1 : Buf (Elt F) (WD.view.loc (c : Thread nD τ))) (e : Ex) (t : Fin k0_t5_loop.trips) : Vec F S1x512x2x8x128 .i8 :=
  View.readAt (Elt F) BWD.view (Rect.unit (s := S4x512x2x8x128) (k0_off67 t) S1x512x2x8x128.size (k0_off67_inb t)).toLoadRect
    ((slotDW t).view.writes (Elt F) (slotDW t).view.junk [⟨Rect.whole S512x2x8x128, ReadAs.same.apply ((srcDW t e).view.read (Elt F) f1)⟩])

/-- A slab of scale bytes a trip loads. -/
def downScales (f2 : Buf (Elt F) (SD.view.loc (c : Thread nD τ))) (e : Ex) (t : Fin k0_t5_loop.trips)
    (o : Fin 3 → Nat) (ho : ∀ a, o a + S1x128x128.size a ≤ S4x512x128.size a) : Vec F S1x128x128 .i8 :=
  View.readAt (Elt F) BSD.view (Rect.unit (s := S4x512x128) o S1x128x128.size ho).toLoadRect
    ((slotDS t).view.writes (Elt F) (slotDS t).view.junk [⟨Rect.whole S512x128, ReadAs.same.apply ((srcDS t e).view.read (Elt F) f2)⟩])

/-- The decoded codes of a block. -/
def downCodes (w : Vec F S1x512x2x8x128 .i8) : FVec F S16x1024x128 .bf16 :=
  k0_pay24 (k0_pay18 (k0_pay10 w) (k0_pay11 w) (k0_pay12 w) (k0_pay13 w) (k0_pay14 w) (k0_pay15 w) (k0_pay16 w) (k0_pay17 w)) (k0_pay19 (k0_pay10 w) (k0_pay11 w) (k0_pay12 w) (k0_pay13 w) (k0_pay14 w) (k0_pay15 w) (k0_pay16 w) (k0_pay17 w)) (k0_pay20 (k0_pay10 w) (k0_pay11 w) (k0_pay12 w) (k0_pay13 w) (k0_pay14 w) (k0_pay15 w) (k0_pay16 w) (k0_pay17 w)) (k0_pay21 (k0_pay10 w) (k0_pay11 w) (k0_pay12 w) (k0_pay13 w) (k0_pay14 w) (k0_pay15 w) (k0_pay16 w) (k0_pay17 w)) (k0_pay22 (k0_pay10 w) (k0_pay11 w) (k0_pay12 w) (k0_pay13 w) (k0_pay14 w) (k0_pay15 w) (k0_pay16 w) (k0_pay17 w)) (k0_pay23 (k0_pay10 w) (k0_pay11 w) (k0_pay12 w) (k0_pay13 w) (k0_pay14 w) (k0_pay15 w) (k0_pay16 w) (k0_pay17 w))

/-- A block's first 128 columns, scaled. -/
def downCol0 (w : Vec F S1x512x2x8x128 .i8) (s : Vec F S1x128x128 .i8) : FVec F S4096x128 .bf16 :=
  k0_pay25 (k0_pay18 (k0_pay10 w) (k0_pay11 w) (k0_pay12 w) (k0_pay13 w) (k0_pay14 w) (k0_pay15 w) (k0_pay16 w) (k0_pay17 w)) (k0_pay19 (k0_pay10 w) (k0_pay11 w) (k0_pay12 w) (k0_pay13 w) (k0_pay14 w) (k0_pay15 w) (k0_pay16 w) (k0_pay17 w)) (k0_pay20 (k0_pay10 w) (k0_pay11 w) (k0_pay12 w) (k0_pay13 w) (k0_pay14 w) (k0_pay15 w) (k0_pay16 w) (k0_pay17 w)) (k0_pay21 (k0_pay10 w) (k0_pay11 w) (k0_pay12 w) (k0_pay13 w) (k0_pay14 w) (k0_pay15 w) (k0_pay16 w) (k0_pay17 w)) (k0_pay22 (k0_pay10 w) (k0_pay11 w) (k0_pay12 w) (k0_pay13 w) (k0_pay14 w) (k0_pay15 w) (k0_pay16 w) (k0_pay17 w)) (k0_pay23 (k0_pay10 w) (k0_pay11 w) (k0_pay12 w) (k0_pay13 w) (k0_pay14 w) (k0_pay15 w) (k0_pay16 w) (k0_pay17 w)) s

/-- A block's weights, decoded and scaled. -/
def downWt (w : Vec F S1x512x2x8x128 .i8) (s0 s1 s2 s3 : Vec F S1x128x128 .i8) : FVec F S4096x512 .bf16 :=
  k0_pay32 (downCodes w) (downCol0 w s0) (k0_pay27 (downCodes w) (k0_pay26 s1)) (k0_pay28 s2) (k0_pay29 (downCodes w) s2)
    (k0_pay30 (downCodes w) s2) (k0_pay31 (downCodes w) s2) s3

/-- The sixteen slices of the hidden activations side by side. -/
def hvOf (l0 : Vec F S1x24x256 .bf16) (l1 : Vec F S1x24x256 .bf16) (l2 : Vec F S1x24x256 .bf16) (l3 : Vec F S1x24x256 .bf16) (l4 : Vec F S1x24x256 .bf16) (l5 : Vec F S1x24x256 .bf16) (l6 : Vec F S1x24x256 .bf16) (l7 : Vec F S1x24x256 .bf16) (l8 : Vec F S1x24x256 .bf16) (l9 : Vec F S1x24x256 .bf16) (l10 : Vec F S1x24x256 .bf16) (l11 : Vec F S1x24x256 .bf16) (l12 : Vec F S1x24x256 .bf16) (l13 : Vec F S1x24x256 .bf16) (l14 : Vec F S1x24x256 .bf16) (l15 : Vec F S1x24x256 .bf16) : FVec F S24x4096 .bf16 :=
  k0_pay108 (k0_pay33 l0) (k0_pay34 l1) (k0_pay35 l2) (k0_pay36 l3) (k0_pay37 l4) (k0_pay38 l5) (k0_pay39 l6) (k0_pay40 l7) (k0_pay41 l8) (k0_pay42 l9) (k0_pay43 l10) (k0_pay44 l11) (k0_pay45 l12) (k0_pay46 l13) (k0_pay47 l14) l15

/-- The hidden activations as loaded. -/
def hvLoad (h : Buf (Elt F) (HREF.view.loc (c : Thread nD τ))) : FVec F S24x4096 .bf16 :=
  hvOf (View.readAt (Elt F) HREF.view (Rect.unit (s := S16x24x256) ![0, 0, 0] S1x24x256.size inb_S16x24x256_S1x24x256_0_0_0).toLoadRect h) (View.readAt (Elt F) HREF.view (Rect.unit (s := S16x24x256) ![1, 0, 0] S1x24x256.size inb_S16x24x256_S1x24x256_1_0_0).toLoadRect h) (View.readAt (Elt F) HREF.view (Rect.unit (s := S16x24x256) ![2, 0, 0] S1x24x256.size inb_S16x24x256_S1x24x256_2_0_0).toLoadRect h) (View.readAt (Elt F) HREF.view (Rect.unit (s := S16x24x256) ![3, 0, 0] S1x24x256.size inb_S16x24x256_S1x24x256_3_0_0).toLoadRect h) (View.readAt (Elt F) HREF.view (Rect.unit (s := S16x24x256) ![4, 0, 0] S1x24x256.size inb_S16x24x256_S1x24x256_4_0_0).toLoadRect h) (View.readAt (Elt F) HREF.view (Rect.unit (s := S16x24x256) ![5, 0, 0] S1x24x256.size inb_S16x24x256_S1x24x256_5_0_0).toLoadRect h) (View.readAt (Elt F) HREF.view (Rect.unit (s := S16x24x256) ![6, 0, 0] S1x24x256.size inb_S16x24x256_S1x24x256_6_0_0).toLoadRect h) (View.readAt (Elt F) HREF.view (Rect.unit (s := S16x24x256) ![7, 0, 0] S1x24x256.size inb_S16x24x256_S1x24x256_7_0_0).toLoadRect h) (View.readAt (Elt F) HREF.view (Rect.unit (s := S16x24x256) ![8, 0, 0] S1x24x256.size inb_S16x24x256_S1x24x256_8_0_0).toLoadRect h) (View.readAt (Elt F) HREF.view (Rect.unit (s := S16x24x256) ![9, 0, 0] S1x24x256.size inb_S16x24x256_S1x24x256_9_0_0).toLoadRect h) (View.readAt (Elt F) HREF.view (Rect.unit (s := S16x24x256) ![10, 0, 0] S1x24x256.size inb_S16x24x256_S1x24x256_10_0_0).toLoadRect h) (View.readAt (Elt F) HREF.view (Rect.unit (s := S16x24x256) ![11, 0, 0] S1x24x256.size inb_S16x24x256_S1x24x256_11_0_0).toLoadRect h) (View.readAt (Elt F) HREF.view (Rect.unit (s := S16x24x256) ![12, 0, 0] S1x24x256.size inb_S16x24x256_S1x24x256_12_0_0).toLoadRect h) (View.readAt (Elt F) HREF.view (Rect.unit (s := S16x24x256) ![13, 0, 0] S1x24x256.size inb_S16x24x256_S1x24x256_13_0_0).toLoadRect h) (View.readAt (Elt F) HREF.view (Rect.unit (s := S16x24x256) ![14, 0, 0] S1x24x256.size inb_S16x24x256_S1x24x256_14_0_0).toLoadRect h) (View.readAt (Elt F) HREF.view (Rect.unit (s := S16x24x256) ![15, 0, 0] S1x24x256.size inb_S16x24x256_S1x24x256_15_0_0).toLoadRect h)

/-- The accumulator slab a trip stores. -/
def downVal (f1 : Buf (Elt F) (WD.view.loc (c : Thread nD τ))) (f2 : Buf (Elt F) (SD.view.loc (c : Thread nD τ)))
    (h : Buf (Elt F) (HREF.view.loc (c : Thread nD τ))) (v442 : Vec F S128x8 .f32) (b : Buf (Elt F) (arg9.view.loc (c : Thread nD τ)))
    (a : Buf (Elt F) (ACC.view.loc (c : Thread nD τ))) (e : Ex) (t : Fin k0_t5_loop.trips) : Vec F S1x24x512 .f32 :=
  k0_pay109 e.1 v442
    (downWt (downWords c f1 e t) (downScales c f2 e t (k0_off68 t) (k0_off68_inb t)) (downScales c f2 e t (k0_off69 t) (k0_off69_inb t))
      (downScales c f2 e t (k0_off70 t) (k0_off70_inb t)) (downScales c f2 e t (k0_off71 t) (k0_off71_inb t)))
    (hvLoad c h)
    (View.readAt (Elt F) arg9.view (Rect.unit (s := S8x2048) (k0_off78 e.1 t) S1x512.size (k0_off78_inb e.1 e.2 t)).toLoadRect b)
    (View.readAt (Elt F) ACC.view (Rect.unit (s := S4x24x512) (k0_off79 t) S1x24x512.size (k0_off79_inb t)).toLoadRect a)

/-- The accumulator after a trip's store. -/
def aStore (a : Buf (Elt F) (ACC.view.loc (c : Thread nD τ))) (t : Fin k0_t5_loop.trips) (w : Vec F S1x24x512 .f32) :
    Buf (Elt F) (ACC.view.loc (c : Thread nD τ)) :=
  ACC.view.writes (Elt F) a [⟨Rect.unit (s := S4x24x512) (k0_off79 t) S1x24x512.size (k0_off79_inb t), w⟩]

variable (𝒱₀ : Variants) (f1 : Buf (Elt F) (WD.view.loc (c : Thread nD τ))) (f2 : Buf (Elt F) (SD.view.loc (c : Thread nD τ)))
    (v3 : BitVec 32) (hw3 : k0_chk3 v3) (v165 : Elt F .i32) (hw2 : k0_chk2 v165) (t3 : Fin (k0_t3_loop v3).trips)
    (v442 : Vec F S128x8 .f32) (t : Fin k0_t5_loop.trips)
    (h : Buf (Elt F) (HREF.view.loc (c : Thread nD τ)))
    (a : Buf (Elt F) (ACC.view.loc (c : Thread nD τ))) (b : Buf (Elt F) (arg9.view.loc (c : Thread nD τ)))

/-- What a down trip holds besides its slot: the hidden buffer, the bias, the accumulator. -/
abbrev downKit (a : Buf (Elt F) (ACC.view.loc (c : Thread nD τ))) : sProp 𝕄 :=
  iprop((∃ W, owes (c : Thread nD τ) 0 W) ∗ (HREF.view.loc (c : Thread nD τ) ↦{fullShare} h)
      ∗ (arg9.view.loc (c : Thread nD τ) ↦{fullShare} b) ∗ (ACC.view.loc (c : Thread nD τ) ↦{fullShare} a))

set_option maxHeartbeats 1600000 in
/-- A trip that refills its slot. -/
theorem down_trip_more (e e' : Ex) (hw5 : k0_chk5 v3 t3 e'.1) (hc : k0_cond2 v3 t3 = 1#1) (K : Unit → sProp 𝕄) :
    iprop(downAt c f1 f2 t (some e) ∗ downKit c arg9 h b a
      ∗ (iprop(downAt c f1 f2 t (some e') ∗ downKit c arg9 h b (aStore c a t (downVal c arg9 f1 f2 h v442 b a e t))) -∗ K ⟨⟩))
    ⊢ wp frame (wpE (defs₀ (F := F)) 𝒱₀ (c : Thread nD τ) none) Set.univ
        (k0_t5_body (F := F) arg0 harg0 arg1 harg1 arg2 harg2 arg3 harg3 WG (Memref.isWhole_whole _) SG (Memref.isWhole_whole _) arg6 harg6 WD (Memref.isWhole_whole _) SD (Memref.isWhole_whole _) arg9 harg9 arg10 harg10 ACT (Memref.isWhole_whole _) COEF (Memref.isWhole_whole _) BWG (Memref.isWhole_whole _) BWD (Memref.isWhole_whole _) BSG (Memref.isWhole_whole _) BSD (Memref.isWhole_whole _) SG32 (Memref.isWhole_whole _) SD32 (Memref.isWhole_whole _) HREF (Memref.isWhole_whole _) PERM (Memref.isWhole_whole _) ACC (Memref.isWhole_whole _) SEMS v3 hw3 v165 hw2 t3 e.1 e.2 e'.1 hw5 v442 t ()) K := by
  have hk : t.val < 4 := Nat.lt_of_lt_of_le t.isLt k0_t5_abs.2.1
  unfold downAt
  iintro ⟨⟨⟨⟨%fa, HF1⟩, HT1⟩, ⟨⟨%fb, HF2⟩, HT2⟩⟩, ⟨⟨%W, HO⟩, Hh, Hb, Ha⟩, HK⟩
  unfold k0_t5_body
  sl_exec
  simp -proj -iota -zeta -beta -eta -unfoldPartialApp only [off72_eq, off73_eq, off74_eq, off75_eq, off76_eq, off77_eq]
  have hT1 : ((srcDW t e).view.loc (c : Thread nD τ) ↦{qD t} f1 : sProp 𝕄) ⊢ tok c WD (qD t) Finset.univ f1 := .rfl
  have hT2 : ((srcDS t e).view.loc (c : Thread nD τ) ↦{qD t} f2 : sProp 𝕄) ⊢ tok c SD (qD t) Finset.univ f2 := .rfl
  ihave HT1 := hT1 $$ HT1
  ihave HT2 := hT2 $$ HT2
  sl_exec
  sl_step
  iapply HK
  isplitl [HF1 HT1 HF2 HT2]
  · isplitl [HF1 HT1]
    · isplitl [HF1]
      · iexists _; iexact HF1
      · iexact HT1
    · isplitl [HF2]
      · iexists _; iexact HF2
      · iexact HT2
  isplitl [HO]; · iexists _; iexact HO
  isplitl [Hh]; · iexact Hh
  isplitl [Hb]; · iexact Hb
  unfold aStore downVal downWt downCodes downCol0 downWords downScales hvLoad hvOf; iexact Ha

set_option maxHeartbeats 1600000 in
/-- A trip of the last expert: the slot is left free. -/
theorem down_trip_last (e : Ex) (e' : BitVec 32) (hw5 : k0_chk5 v3 t3 e') (hc : ¬ k0_cond2 v3 t3 = 1#1) (K : Unit → sProp 𝕄) :
    iprop(downAt c f1 f2 t (some e) ∗ downKit c arg9 h b a
      ∗ (iprop(downAt c f1 f2 t none ∗ downKit c arg9 h b (aStore c a t (downVal c arg9 f1 f2 h v442 b a e t))) -∗ K ⟨⟩))
    ⊢ wp frame (wpE (defs₀ (F := F)) 𝒱₀ (c : Thread nD τ) none) Set.univ
        (k0_t5_body (F := F) arg0 harg0 arg1 harg1 arg2 harg2 arg3 harg3 WG (Memref.isWhole_whole _) SG (Memref.isWhole_whole _) arg6 harg6 WD (Memref.isWhole_whole _) SD (Memref.isWhole_whole _) arg9 harg9 arg10 harg10 ACT (Memref.isWhole_whole _) COEF (Memref.isWhole_whole _) BWG (Memref.isWhole_whole _) BWD (Memref.isWhole_whole _) BSG (Memref.isWhole_whole _) BSD (Memref.isWhole_whole _) SG32 (Memref.isWhole_whole _) SD32 (Memref.isWhole_whole _) HREF (Memref.isWhole_whole _) PERM (Memref.isWhole_whole _) ACC (Memref.isWhole_whole _) SEMS v3 hw3 v165 hw2 t3 e.1 e.2 e' hw5 v442 t ()) K := by
  have hk : t.val < 4 := Nat.lt_of_lt_of_le t.isLt k0_t5_abs.2.1
  unfold downAt
  iintro ⟨⟨⟨⟨%fa, HF1⟩, HT1⟩, ⟨⟨%fb, HF2⟩, HT2⟩⟩, ⟨⟨%W, HO⟩, Hh, Hb, Ha⟩, HK⟩
  unfold k0_t5_body
  sl_exec
  sl_step
  iapply HK
  isplitl [HF1 HT1 HF2 HT2 HF1_dst HF2_dst]
  · isplitl [HF1 HT1 HF1_dst]
    · isplitl [HF1]; · iexact HF1
      isplitl [HF1_dst]; · iexists _; iexact HF1_dst
      iexact HT1
    · isplitl [HF2]; · iexact HF2
      isplitl [HF2_dst]; · iexists _; iexact HF2_dst
      iexact HT2
  isplitl [HO]; · iexists _; iexact HO
  isplitl [Hh]; · iexact Hh
  isplitl [Hb]; · iexact Hb
  unfold aStore downVal downWt downCodes downCol0 downWords downScales hvLoad hvOf; iexact Ha

end Cert.Kernel.Hand

end
-- ==== Proof.Expert.lean ====
/-
  One expert: the gate loop over the sixteen slots, then the down loop over the four.
-/
module

public import proofs.«01_k».proof.Proof.Gate
public import proofs.«01_k».proof.Proof.Down

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)
variable (arg0 : Memref sig .tc .smem S4x24 .i32) (harg0 : arg0.IsWhole) (arg1 : Memref sig .tc .vmem S4x24 .i32) (harg1 : arg1.IsWhole) (arg2 : Memref sig .tc .vmem S4x24 .f32) (harg2 : arg2.IsWhole) (arg3 : Memref sig .tc .vmem S24x2048 .bf16) (harg3 : arg3.IsWhole) (arg6 : Memref sig .tc .vmem S8x8192 .f32) (harg6 : arg6.IsWhole) (arg9 : Memref sig .tc .vmem S8x2048 .f32) (harg9 : arg9.IsWhole) (arg10 : Memref sig .tc .vmem S24x2048 .bf16) (harg10 : arg10.IsWhole)

variable (𝒱₀ : Variants) (g1 : Buf (Elt F) (WG.view.loc (c : Thread nD τ))) (g2 : Buf (Elt F) (SG.view.loc (c : Thread nD τ)))
    (d1 : Buf (Elt F) (WD.view.loc (c : Thread nD τ))) (d2 : Buf (Elt F) (SD.view.loc (c : Thread nD τ)))
    (v3 : BitVec 32) (hw3 : k0_chk3 v3) (v165 : Elt F .i32) (hw2 : k0_chk2 v165) (x : Vec F S24x2048 .bf16) (t3 : Fin (k0_t3_loop v3).trips)
    (p : Buf (Elt F) (PERM.view.loc (c : Thread nD τ))) (b : Buf (Elt F) (arg6.view.loc (c : Thread nD τ)))
    (bd : Buf (Elt F) (arg9.view.loc (c : Thread nD τ)))

/-! ## The two loops -/

/-- The hidden buffer after `k` gate trips. -/
def hLoop (e : Ex) (h : Buf (Elt F) (HREF.view.loc (c : Thread nD τ))) : ℕ → Buf (Elt F) (HREF.view.loc (c : Thread nD τ))
  | 0 => h
  | k + 1 => if hk : k < k0_t4_loop.trips then hStore c (hLoop e h k) ⟨k, hk⟩ (gateVal c arg6 g1 g2 x p b e ⟨k, hk⟩) else hLoop e h k

/-- The accumulator after `k` down trips. -/
def aLoop (e : Ex) (h : Buf (Elt F) (HREF.view.loc (c : Thread nD τ))) (v442 : Vec F S128x8 .f32) (a : Buf (Elt F) (ACC.view.loc (c : Thread nD τ))) :
    ℕ → Buf (Elt F) (ACC.view.loc (c : Thread nD τ))
  | 0 => a
  | k + 1 => if hk : k < k0_t5_loop.trips then
      aStore c (aLoop e h v442 a k) ⟨k, hk⟩ (downVal c arg9 d1 d2 h v442 bd (aLoop e h v442 a k) e ⟨k, hk⟩) else aLoop e h v442 a k

/-- What a slot holds after its trip: the next expert's block, or nothing. -/
def nxt (v3 : BitVec 32) (t3 : Fin (k0_t3_loop v3).trips) (e' : Ex) : Option Ex := if k0_cond1 v3 t3 = 1#1 then some e' else none

theorem nxt_pos {e' : Ex} (hc : k0_cond1 v3 t3 = 1#1) : nxt v3 t3 e' = some e' := if_pos hc
theorem nxt_neg {e' : Ex} (hc : ¬ k0_cond1 v3 t3 = 1#1) : nxt v3 t3 e' = none := if_neg hc
theorem cond2_eq : k0_cond2 v3 t3 = k0_cond1 v3 t3 := rfl

/-- A ring before trip `k`: the slots below `k` refilled, the others in flight with the current expert. -/
def stAt {n : ℕ} (e : Ex) (nx : Option Ex) (k : ℕ) (j : Fin n) : Option Ex := if j.val < k then nx else some e

theorem stAt_zero {n : ℕ} (e : Ex) (nx : Option Ex) : (stAt e nx 0 : Fin n → Option Ex) = fun _ => some e := by
  funext j; simp [stAt]
theorem stAt_top {n : ℕ} (e : Ex) (nx : Option Ex) : (stAt e nx n : Fin n → Option Ex) = fun _ => nx := by
  funext j; simp [stAt, j.isLt]
theorem stAt_self {n : ℕ} (e : Ex) (nx : Option Ex) (k : Fin n) : stAt e nx k.val k = some e := by simp [stAt]
theorem stAt_succ {n : ℕ} (e : Ex) (nx : Option Ex) (k : Fin n) :
    Function.update (stAt e nx k.val) k nx = (stAt e nx (k.val + 1) : Fin n → Option Ex) := by
  funext j
  by_cases h : j = k
  · subst h; simp [stAt]
  · rw [Function.update_of_ne h]
    have : j.val ≠ k.val := fun e => h (Fin.ext e)
    have h2 : j.val < k.val ↔ j.val < k.val + 1 := by omega
    simp only [stAt, h2]

/-- A gate trip, whichever. -/
theorem gate_trip (e e' : Ex) (hw5 : k0_chk5 v3 t3 e'.1) (v437 : BitVec 1) (h : Buf (Elt F) (HREF.view.loc (c : Thread nD τ)))
    (t : Fin k0_t4_loop.trips) (K : Unit → sProp 𝕄) :
    iprop(gateAt c g1 g2 t (some e) ∗ gateKit c arg6 p b h
      ∗ (iprop(gateAt c g1 g2 t (nxt v3 t3 e') ∗ gateKit c arg6 p b (hStore c h t (gateVal c arg6 g1 g2 x p b e t))) -∗ K ⟨⟩))
    ⊢ wp frame (wpE (defs₀ (F := F)) 𝒱₀ (c : Thread nD τ) none) Set.univ
        (k0_t4_body (F := F) arg0 harg0 arg1 harg1 arg2 harg2 arg3 harg3 WG (Memref.isWhole_whole _) SG (Memref.isWhole_whole _) arg6 harg6 WD (Memref.isWhole_whole _) SD (Memref.isWhole_whole _) arg9 harg9 arg10 harg10 ACT (Memref.isWhole_whole _) COEF (Memref.isWhole_whole _) BWG (Memref.isWhole_whole _) BWD (Memref.isWhole_whole _) BSG (Memref.isWhole_whole _) BSD (Memref.isWhole_whole _) SG32 (Memref.isWhole_whole _) SD32 (Memref.isWhole_whole _) HREF (Memref.isWhole_whole _) PERM (Memref.isWhole_whole _) ACC (Memref.isWhole_whole _) SEMS v3 hw3 v165 hw2 x t3 e.1 e.2 e'.1 hw5 v437 t ()) K := by
  by_cases hc : k0_cond1 v3 t3 = 1#1
  · rw [nxt_pos v3 t3 hc]
    exact gate_trip_more c arg0 harg0 arg1 harg1 arg2 harg2 arg3 harg3 arg6 harg6 arg9 harg9 arg10 harg10 𝒱₀ g1 g2 v3 hw3 v165 hw2 x t3 v437 t h p b e e' hw5 hc K
  · rw [nxt_neg v3 t3 hc]
    exact gate_trip_last c arg0 harg0 arg1 harg1 arg2 harg2 arg3 harg3 arg6 harg6 arg9 harg9 arg10 harg10 𝒱₀ g1 g2 v3 hw3 v165 hw2 x t3 v437 t h p b e e'.1 hw5 hc K

/-- A down trip, whichever. -/
theorem down_trip (e e' : Ex) (hw5 : k0_chk5 v3 t3 e'.1) (v442 : Vec F S128x8 .f32) (h : Buf (Elt F) (HREF.view.loc (c : Thread nD τ)))
    (a : Buf (Elt F) (ACC.view.loc (c : Thread nD τ)))
    (t : Fin k0_t5_loop.trips) (K : Unit → sProp 𝕄) :
    iprop(downAt c d1 d2 t (some e) ∗ downKit c arg9 h bd a
      ∗ (iprop(downAt c d1 d2 t (nxt v3 t3 e') ∗ downKit c arg9 h bd (aStore c a t (downVal c arg9 d1 d2 h v442 bd a e t))) -∗ K ⟨⟩))
    ⊢ wp frame (wpE (defs₀ (F := F)) 𝒱₀ (c : Thread nD τ) none) Set.univ
        (k0_t5_body (F := F) arg0 harg0 arg1 harg1 arg2 harg2 arg3 harg3 WG (Memref.isWhole_whole _) SG (Memref.isWhole_whole _) arg6 harg6 WD (Memref.isWhole_whole _) SD (Memref.isWhole_whole _) arg9 harg9 arg10 harg10 ACT (Memref.isWhole_whole _) COEF (Memref.isWhole_whole _) BWG (Memref.isWhole_whole _) BWD (Memref.isWhole_whole _) BSG (Memref.isWhole_whole _) BSD (Memref.isWhole_whole _) SG32 (Memref.isWhole_whole _) SD32 (Memref.isWhole_whole _) HREF (Memref.isWhole_whole _) PERM (Memref.isWhole_whole _) ACC (Memref.isWhole_whole _) SEMS v3 hw3 v165 hw2 t3 e.1 e.2 e'.1 hw5 v442 t ()) K := by
  by_cases hc : k0_cond1 v3 t3 = 1#1
  · rw [nxt_pos v3 t3 hc]
    exact down_trip_more c arg0 harg0 arg1 harg1 arg2 harg2 arg3 harg3 arg6 harg6 arg9 harg9 arg10 harg10 𝒱₀ d1 d2 v3 hw3 v165 hw2 t3 v442 t h a bd e e' hw5 hc K
  · rw [nxt_neg v3 t3 hc]
    exact down_trip_last c arg0 harg0 arg1 harg1 arg2 harg2 arg3 harg3 arg6 harg6 arg9 harg9 arg10 harg10 𝒱₀ d1 d2 v3 hw3 v165 hw2 t3 v442 t h a bd e e'.1 hw5 hc K

/-- The gate loop. -/
theorem gate_loop (e e' : Ex) (hw5 : k0_chk5 v3 t3 e'.1) (v437 : BitVec 1) (h : Buf (Elt F) (HREF.view.loc (c : Thread nD τ)))
    (K : Unit → sProp 𝕄) :
    iprop(Ring.AtW (gateAt c g1 g2) (fun _ => some e) ∗ gateKit c arg6 p b h
      ∗ (iprop(Ring.AtW (gateAt c g1 g2) (fun _ => nxt v3 t3 e') ∗ gateKit c arg6 p b (hLoop c arg6 g1 g2 x p b e h k0_t4_loop.trips)) -∗ K ⟨⟩))
    ⊢ wp frame (wpE (defs₀ (F := F)) 𝒱₀ (c : Thread nD τ) none) Set.univ
        (Scf.Loop.for k0_t4_loop k0_t4_ok ⟨⟩ (k0_t4_body (F := F) arg0 harg0 arg1 harg1 arg2 harg2 arg3 harg3 WG (Memref.isWhole_whole _) SG (Memref.isWhole_whole _) arg6 harg6 WD (Memref.isWhole_whole _) SD (Memref.isWhole_whole _) arg9 harg9 arg10 harg10 ACT (Memref.isWhole_whole _) COEF (Memref.isWhole_whole _) BWG (Memref.isWhole_whole _) BWD (Memref.isWhole_whole _) BSG (Memref.isWhole_whole _) BSD (Memref.isWhole_whole _) SG32 (Memref.isWhole_whole _) SD32 (Memref.isWhole_whole _) HREF (Memref.isWhole_whole _) PERM (Memref.isWhole_whole _) ACC (Memref.isWhole_whole _) SEMS v3 hw3 v165 hw2 x t3 e.1 e.2 e'.1 hw5 v437)) K := by
  iintro ⟨HR, Hkit, HK⟩
  iapply (Scf.wp_for (M := 𝕄) frame (wpE (defs₀ (F := F)) 𝒱₀ (c : Thread nD τ) none) Set.univ _ _ _ k0_t4_ok _ _
    (fun k _ => iprop(Ring.AtW (gateAt c g1 g2) (stAt e (nxt v3 t3 e') k) ∗ gateKit c arg6 p b (hLoop c arg6 g1 g2 x p b e h k))) ?hbody)
  case hbody =>
    intro k acc
    have hh : hLoop c arg6 g1 g2 x p b e h (k.val + 1) = hStore c (hLoop c arg6 g1 g2 x p b e h k.val) k (gateVal c arg6 g1 g2 x p b e k) :=
      dif_pos k.isLt
    rw [Ring.AtW_focus (gateAt c g1 g2) (stAt e (nxt v3 t3 e') k.val) k, stAt_self, hh]
    iintro ⟨⟨Hk, Hrest⟩, Hkit⟩
    iapply (gate_trip c arg0 harg0 arg1 harg1 arg2 harg2 arg3 harg3 arg6 harg6 arg9 harg9 arg10 harg10 𝒱₀ g1 g2 v3 hw3 v165 hw2 x t3 p b e e' hw5 v437 (hLoop c arg6 g1 g2 x p b e h k.val) k _)
    isplitl [Hk]; · iexact Hk
    isplitl [Hkit]; · iexact Hkit
    iintro ⟨Hk, Hkit⟩
    isplitl [Hk Hrest]
    · rw [← stAt_succ]
      iapply (Ring.AtW_update (gateAt c g1 g2) (stAt e (nxt v3 t3 e') k.val) k (nxt v3 t3 e'))
      isplitl [Hk] <;> iassumption
    · iexact Hkit
  isplitl [HR Hkit]
  · isplitl [HR]
    · rw [stAt_zero]; iexact HR
    · iexact Hkit
  · iintro %acc ⟨HR, Hkit⟩
    iapply HK
    isplitl [HR]
    · rw [← stAt_top e (nxt v3 t3 e')]; iexact HR
    · iexact Hkit

/-- The down loop. -/
theorem down_loop (e e' : Ex) (hw5 : k0_chk5 v3 t3 e'.1) (v442 : Vec F S128x8 .f32) (h : Buf (Elt F) (HREF.view.loc (c : Thread nD τ)))
    (a : Buf (Elt F) (ACC.view.loc (c : Thread nD τ))) (K : Unit → sProp 𝕄) :
    iprop(Ring.AtW (downAt c d1 d2) (fun _ => some e) ∗ downKit c arg9 h bd a
      ∗ (iprop(Ring.AtW (downAt c d1 d2) (fun _ => nxt v3 t3 e') ∗ downKit c arg9 h bd (aLoop c arg9 d1 d2 bd e h v442 a k0_t5_loop.trips)) -∗ K ⟨⟩))
    ⊢ wp frame (wpE (defs₀ (F := F)) 𝒱₀ (c : Thread nD τ) none) Set.univ
        (Scf.Loop.for k0_t5_loop k0_t5_ok ⟨⟩ (k0_t5_body (F := F) arg0 harg0 arg1 harg1 arg2 harg2 arg3 harg3 WG (Memref.isWhole_whole _) SG (Memref.isWhole_whole _) arg6 harg6 WD (Memref.isWhole_whole _) SD (Memref.isWhole_whole _) arg9 harg9 arg10 harg10 ACT (Memref.isWhole_whole _) COEF (Memref.isWhole_whole _) BWG (Memref.isWhole_whole _) BWD (Memref.isWhole_whole _) BSG (Memref.isWhole_whole _) BSD (Memref.isWhole_whole _) SG32 (Memref.isWhole_whole _) SD32 (Memref.isWhole_whole _) HREF (Memref.isWhole_whole _) PERM (Memref.isWhole_whole _) ACC (Memref.isWhole_whole _) SEMS v3 hw3 v165 hw2 t3 e.1 e.2 e'.1 hw5 v442)) K := by
  iintro ⟨HR, Hkit, HK⟩
  iapply (Scf.wp_for (M := 𝕄) frame (wpE (defs₀ (F := F)) 𝒱₀ (c : Thread nD τ) none) Set.univ _ _ _ k0_t5_ok _ _
    (fun k _ => iprop(Ring.AtW (downAt c d1 d2) (stAt e (nxt v3 t3 e') k) ∗ downKit c arg9 h bd (aLoop c arg9 d1 d2 bd e h v442 a k))) ?hbody)
  case hbody =>
    intro k acc
    have hh : aLoop c arg9 d1 d2 bd e h v442 a (k.val + 1) = aStore c (aLoop c arg9 d1 d2 bd e h v442 a k.val) k (downVal c arg9 d1 d2 h v442 bd (aLoop c arg9 d1 d2 bd e h v442 a k.val) e k) :=
      dif_pos k.isLt
    rw [Ring.AtW_focus (downAt c d1 d2) (stAt e (nxt v3 t3 e') k.val) k, stAt_self, hh]
    iintro ⟨⟨Hk, Hrest⟩, Hkit⟩
    iapply (down_trip c arg0 harg0 arg1 harg1 arg2 harg2 arg3 harg3 arg6 harg6 arg9 harg9 arg10 harg10 𝒱₀ d1 d2 v3 hw3 v165 hw2 t3 bd e e' hw5 v442 h (aLoop c arg9 d1 d2 bd e h v442 a k.val) k _)
    isplitl [Hk]; · iexact Hk
    isplitl [Hkit]; · iexact Hkit
    iintro ⟨Hk, Hkit⟩
    isplitl [Hk Hrest]
    · rw [← stAt_succ]
      iapply (Ring.AtW_update (downAt c d1 d2) (stAt e (nxt v3 t3 e') k.val) k (nxt v3 t3 e'))
      isplitl [Hk] <;> iassumption
    · iexact Hkit
  isplitl [HR Hkit]
  · isplitl [HR]
    · rw [stAt_zero]; iexact HR
    · iexact Hkit
  · iintro %acc ⟨HR, Hkit⟩
    iapply HK
    isplitl [HR]
    · rw [← stAt_top e (nxt v3 t3 e')]; iexact HR
    · iexact Hkit

/-- The gate loop at the head of a program. -/
theorem gate_loop_bind (e e' : Ex) (hw5 : k0_chk5 v3 t3 e'.1) (v437 : BitVec 1) (h : Buf (Elt F) (HREF.view.loc (c : Thread nD τ)))
    {β : Type} (kk : Unit → Prog (TpuEff nD τ sig (Elt F) Λ₀ .tc) β) (Q : β → sProp 𝕄) :
    iprop(Ring.AtW (gateAt c g1 g2) (fun _ => some e) ∗ gateKit c arg6 p b h
      ∗ (iprop(Ring.AtW (gateAt c g1 g2) (fun _ => nxt v3 t3 e') ∗ gateKit c arg6 p b (hLoop c arg6 g1 g2 x p b e h k0_t4_loop.trips))
          -∗ wp frame (wpE (defs₀ (F := F)) 𝒱₀ (c : Thread nD τ) none) Set.univ (kk ⟨⟩) Q))
    ⊢ wp frame (wpE (defs₀ (F := F)) 𝒱₀ (c : Thread nD τ) none) Set.univ
        (Scf.Loop.for k0_t4_loop k0_t4_ok ⟨⟩ (k0_t4_body (F := F) arg0 harg0 arg1 harg1 arg2 harg2 arg3 harg3 WG (Memref.isWhole_whole _) SG (Memref.isWhole_whole _) arg6 harg6 WD (Memref.isWhole_whole _) SD (Memref.isWhole_whole _) arg9 harg9 arg10 harg10 ACT (Memref.isWhole_whole _) COEF (Memref.isWhole_whole _) BWG (Memref.isWhole_whole _) BWD (Memref.isWhole_whole _) BSG (Memref.isWhole_whole _) BSD (Memref.isWhole_whole _) SG32 (Memref.isWhole_whole _) SD32 (Memref.isWhole_whole _) HREF (Memref.isWhole_whole _) PERM (Memref.isWhole_whole _) ACC (Memref.isWhole_whole _) SEMS v3 hw3 v165 hw2 x t3 e.1 e.2 e'.1 hw5 v437) >>= kk) Q := by
  rw [wp_bind]
  exact gate_loop c arg0 harg0 arg1 harg1 arg2 harg2 arg3 harg3 arg6 harg6 arg9 harg9 arg10 harg10 𝒱₀ g1 g2 v3 hw3 v165 hw2 x t3 p b e e' hw5 v437 h (fun r => wp frame (wpE (defs₀ (F := F)) 𝒱₀ (c : Thread nD τ) none) Set.univ (kk r) Q)

/-- The down loop at the head of a program. -/
theorem down_loop_bind (e e' : Ex) (hw5 : k0_chk5 v3 t3 e'.1) (v442 : Vec F S128x8 .f32) (h : Buf (Elt F) (HREF.view.loc (c : Thread nD τ)))
    (a : Buf (Elt F) (ACC.view.loc (c : Thread nD τ)))
    {β : Type} (kk : Unit → Prog (TpuEff nD τ sig (Elt F) Λ₀ .tc) β) (Q : β → sProp 𝕄) :
    iprop(Ring.AtW (downAt c d1 d2) (fun _ => some e) ∗ downKit c arg9 h bd a
      ∗ (iprop(Ring.AtW (downAt c d1 d2) (fun _ => nxt v3 t3 e') ∗ downKit c arg9 h bd (aLoop c arg9 d1 d2 bd e h v442 a k0_t5_loop.trips))
          -∗ wp frame (wpE (defs₀ (F := F)) 𝒱₀ (c : Thread nD τ) none) Set.univ (kk ⟨⟩) Q))
    ⊢ wp frame (wpE (defs₀ (F := F)) 𝒱₀ (c : Thread nD τ) none) Set.univ
        (Scf.Loop.for k0_t5_loop k0_t5_ok ⟨⟩ (k0_t5_body (F := F) arg0 harg0 arg1 harg1 arg2 harg2 arg3 harg3 WG (Memref.isWhole_whole _) SG (Memref.isWhole_whole _) arg6 harg6 WD (Memref.isWhole_whole _) SD (Memref.isWhole_whole _) arg9 harg9 arg10 harg10 ACT (Memref.isWhole_whole _) COEF (Memref.isWhole_whole _) BWG (Memref.isWhole_whole _) BWD (Memref.isWhole_whole _) BSG (Memref.isWhole_whole _) BSD (Memref.isWhole_whole _) SG32 (Memref.isWhole_whole _) SD32 (Memref.isWhole_whole _) HREF (Memref.isWhole_whole _) PERM (Memref.isWhole_whole _) ACC (Memref.isWhole_whole _) SEMS v3 hw3 v165 hw2 t3 e.1 e.2 e'.1 hw5 v442) >>= kk) Q := by
  rw [wp_bind]
  exact down_loop c arg0 harg0 arg1 harg1 arg2 harg2 arg3 harg3 arg6 harg6 arg9 harg9 arg10 harg10 𝒱₀ d1 d2 v3 hw3 v165 hw2 t3 bd e e' hw5 v442 h a (fun r => wp frame (wpE (defs₀ (F := F)) 𝒱₀ (c : Thread nD τ) none) Set.univ (kk r) Q)

/-! ## One expert -/

/-- A word of the active list as the kernel reads it. -/
abbrev actRd (act : Buf (Elt F) (ACT.view.loc (c : Thread nD τ))) (o : Fin 1 → Nat) (ho : ∀ a, o a + S1.size a ≤ S9.size a) : BitVec 32 :=
  View.readAt (Elt F) ACT.view (Rect.unit (s := S9) o S1.size ho).toLoadRect act (Shape.Idx.first (numel1_S1.symm ▸ Nat.one_pos))

/-- The coefficients as loaded. -/
def coLoad (co : Buf (Elt F) (COEF.view.loc (c : Thread nD τ))) : Vec F S128x8 .f32 :=
  View.readAt (Elt F) COEF.view (Rect.unit (s := S128x8) ![0, 0] S128x8.size inb_S128x8_S128x8_0_0).toLoadRect co

/-- What an expert's trip holds besides the rings. -/
abbrev expKit (act : Buf (Elt F) (ACT.view.loc (c : Thread nD τ))) (co : Buf (Elt F) (COEF.view.loc (c : Thread nD τ)))
    (h : Buf (Elt F) (HREF.view.loc (c : Thread nD τ))) (a : Buf (Elt F) (ACC.view.loc (c : Thread nD τ))) : sProp 𝕄 :=
  iprop((ACT.view.loc (c : Thread nD τ) ↦{fullShare} act) ∗ (COEF.view.loc (c : Thread nD τ) ↦{fullShare} co)
      ∗ (∃ W, owes (c : Thread nD τ) 0 W) ∗ (∃ s, SG32.view.loc (c : Thread nD τ) ↦{fullShare} s) ∗ (HREF.view.loc (c : Thread nD τ) ↦{fullShare} h)
      ∗ (PERM.view.loc (c : Thread nD τ) ↦{fullShare} p) ∗ (arg6.view.loc (c : Thread nD τ) ↦{fullShare} b)
      ∗ (arg9.view.loc (c : Thread nD τ) ↦{fullShare} bd) ∗ (ACC.view.loc (c : Thread nD τ) ↦{fullShare} a))

set_option maxHeartbeats 1600000 in
theorem expert_trip (act : Buf (Elt F) (ACT.view.loc (c : Thread nD τ))) (co : Buf (Elt F) (COEF.view.loc (c : Thread nD τ)))
    (e e' : Ex) (he : actRd c act (k0_off43 v3 t3) (k0_off43_inb v3 hw3 t3) = e.1)
    (he' : actRd c act (k0_off44 v3 t3) (k0_off44_inb v3 hw3 t3) = e'.1) (hw5 : k0_chk5 v3 t3 e'.1)
    (h : Buf (Elt F) (HREF.view.loc (c : Thread nD τ)))
    (a : Buf (Elt F) (ACC.view.loc (c : Thread nD τ))) (K : Unit → sProp 𝕄) :
    iprop(Ring.AtW (gateAt c g1 g2) (fun _ => some e) ∗ Ring.AtW (downAt c d1 d2) (fun _ => some e)
      ∗ expKit c arg6 arg9 p b bd act co h a
      ∗ (iprop(Ring.AtW (gateAt c g1 g2) (fun _ => nxt v3 t3 e') ∗ Ring.AtW (downAt c d1 d2) (fun _ => nxt v3 t3 e')
          ∗ expKit c arg6 arg9 p b bd act co (hLoop c arg6 g1 g2 x p b e h k0_t4_loop.trips)
              (aLoop c arg9 d1 d2 bd e (hLoop c arg6 g1 g2 x p b e h k0_t4_loop.trips) (coLoad c co) a k0_t5_loop.trips)) -∗ K ⟨⟩))
    ⊢ wp frame (wpE (defs₀ (F := F)) 𝒱₀ (c : Thread nD τ) none) Set.univ
        (k0_t3_body (F := F) arg0 harg0 arg1 harg1 arg2 harg2 arg3 harg3 WG (Memref.isWhole_whole _) SG (Memref.isWhole_whole _) arg6 harg6 WD (Memref.isWhole_whole _) SD (Memref.isWhole_whole _) arg9 harg9 arg10 harg10 ACT (Memref.isWhole_whole _) COEF (Memref.isWhole_whole _) BWG (Memref.isWhole_whole _) BWD (Memref.isWhole_whole _) BSG (Memref.isWhole_whole _) BSD (Memref.isWhole_whole _) SG32 (Memref.isWhole_whole _) SD32 (Memref.isWhole_whole _) HREF (Memref.isWhole_whole _) PERM (Memref.isWhole_whole _) ACC (Memref.isWhole_whole _) SEMS v3 hw3 v165 hw2 x t3 ()) K := by
  iintro ⟨HG, HD, ⟨Hact, Hco, HO, Hs, Hh, Hp, Hb, Hbd, Ha⟩, HK⟩
  unfold k0_t3_body
  sl_exec
  rw [show expert_trip.sl.r c v3 hw3 t3 act = e.1 from he]
  rw [wp_assume_of _ _ _ _ (d := k0_chk4.dec _) e.2]
  sl_exec
  rw [show expert_trip.sl.r_1 c v3 hw3 t3 act = e'.1 from he']
  rw [wp_assume_of _ _ _ _ (d := k0_chk5.dec _ _ _) hw5]
  sl_exec
  iapply (gate_loop_bind c arg0 harg0 arg1 harg1 arg2 harg2 arg3 harg3 arg6 harg6 arg9 harg9 arg10 harg10 𝒱₀ g1 g2 v3 hw3 v165 hw2 x t3 p b e e' hw5 _ h _ _)
  isplitl [HG]; · iexact HG
  isplitl [HO Hs Hh Hp Hb]
  · isplitl [HO]; · iexact HO
    isplitl [Hs]; · iexact Hs
    isplitl [Hh]; · iexact Hh
    isplitl [Hp]; · iexact Hp
    iexact Hb
  iintro ⟨HG, ⟨HO, Hs, Hh, Hp, Hb⟩⟩
  sl_exec
  iapply (down_loop_bind c arg0 harg0 arg1 harg1 arg2 harg2 arg3 harg3 arg6 harg6 arg9 harg9 arg10 harg10 𝒱₀ d1 d2 v3 hw3 v165 hw2 t3 bd e e' hw5 _ _ a _ _)
  isplitl [HD]; · iexact HD
  isplitl [HO Hh Hbd Ha]
  · isplitl [HO]; · iexact HO
    isplitl [Hh]; · iexact Hh
    isplitl [Hbd]; · iexact Hbd
    iexact Ha
  iintro ⟨HD, ⟨HO, Hh, Hbd, Ha⟩⟩
  sl_exec
  sl_step
  iapply HK
  isplitl [HG]; · iexact HG
  isplitl [HD]; · iexact HD
  isplitl [Hact]; · iexact Hact
  isplitl [Hco]; · iexact Hco
  isplitl [HO]; · iexact HO
  isplitl [Hs]; · iexact Hs
  isplitl [Hh]; · iexact Hh
  isplitl [Hp]; · iexact Hp
  isplitl [Hb]; · iexact Hb
  isplitl [Hbd]; · iexact Hbd
  iexact Ha

end Cert.Kernel.Hand

end
-- ==== Proof.Words.lean ====
/-
  The words the kernel computes: how many experts are active, which, and where their blocks lie.
-/
module

public import proofs.«01_k».proof.Proof.Expert

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)

theorem trips3 : ∀ m : Fin 9, (k0_t3_loop (BitVec.ofNat 32 m.val)).trips = m.val := by decide
theorem chk3_of : ∀ m : Fin 9, k0_chk3 (BitVec.ofNat 32 m.val) := by decide
theorem off43_of : ∀ (m : Fin 9) (t : Fin (k0_t3_loop (BitVec.ofNat 32 m.val)).trips), k0_off43 (BitVec.ofNat 32 m.val) t 0 = t.val := by decide
theorem off44_of : ∀ (m : Fin 9) (t : Fin (k0_t3_loop (BitVec.ofNat 32 m.val)).trips), k0_off44 (BitVec.ofNat 32 m.val) t 0 = min (t.val + 1) (m.val - 1) := by decide
theorem cond1_of : ∀ (m : Fin 9) (t : Fin (k0_t3_loop (BitVec.ofNat 32 m.val)).trips), (k0_cond1 (BitVec.ofNat 32 m.val) t = 1#1 ↔ t.val + 1 < m.val) := by decide
theorem trips6 : ∀ m : Fin 9, (k0_t6_loop (BitVec.ofNat 32 m.val)).trips = 0 := by decide
theorem chk1_of : ∀ m : Fin 9, k0_chk1 (BitVec.ofNat 32 m.val) := by decide
theorem chk4_of : ∀ m : Fin 8, k0_chk4 (BitVec.ofNat 32 m.val) := by decide
theorem chk2_of : ∀ m : Fin 8, k0_chk2 (BitVec.ofNat 32 m.val) := by decide

theorem chk5_of (v3 : BitVec 32) (t3 : Fin (k0_t3_loop v3).trips) (e : BitVec 32) (h : k0_chk4 e) : k0_chk5 v3 t3 e :=
  ⟨fun t _ => k0_off47_inb e h t, fun t _ _ => k0_off47_wordsi8 e h t, fun t _ => k0_off50_inb e h t, fun t _ _ => k0_off50_wordsi8 e h t,
   fun t _ => k0_off63_inb e h t, fun t _ _ => k0_off63_wordsi8 e h t, fun t _ => k0_off66_inb e h t, fun t _ _ => k0_off66_wordsi8 e h t⟩

end Cert.Kernel.Hand

end
-- ==== Proof.Experts.lean ====
/-
  The loop over the active experts.
-/
module

public import proofs.«01_k».proof.Proof.Words

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)
variable (arg0 : Memref sig .tc .smem S4x24 .i32) (harg0 : arg0.IsWhole) (arg1 : Memref sig .tc .vmem S4x24 .i32) (harg1 : arg1.IsWhole) (arg2 : Memref sig .tc .vmem S4x24 .f32) (harg2 : arg2.IsWhole) (arg3 : Memref sig .tc .vmem S24x2048 .bf16) (harg3 : arg3.IsWhole) (arg6 : Memref sig .tc .vmem S8x8192 .f32) (harg6 : arg6.IsWhole) (arg9 : Memref sig .tc .vmem S8x2048 .f32) (harg9 : arg9.IsWhole) (arg10 : Memref sig .tc .vmem S24x2048 .bf16) (harg10 : arg10.IsWhole)
variable (𝒱₀ : Variants) (g1 : Buf (Elt F) (WG.view.loc (c : Thread nD τ))) (g2 : Buf (Elt F) (SG.view.loc (c : Thread nD τ)))
    (d1 : Buf (Elt F) (WD.view.loc (c : Thread nD τ))) (d2 : Buf (Elt F) (SD.view.loc (c : Thread nD τ)))
    (v3 : BitVec 32) (hw3 : k0_chk3 v3) (v165 : Elt F .i32) (hw2 : k0_chk2 v165) (x : Vec F S24x2048 .bf16)
    (p : Buf (Elt F) (PERM.view.loc (c : Thread nD τ))) (b : Buf (Elt F) (arg6.view.loc (c : Thread nD τ)))
    (bd : Buf (Elt F) (arg9.view.loc (c : Thread nD τ)))

/-- The hidden buffer and the accumulator after the first `k` experts of the list `E`. -/
def ha (E : ℕ → Ex) (co : Buf (Elt F) (COEF.view.loc (c : Thread nD τ))) (h : Buf (Elt F) (HREF.view.loc (c : Thread nD τ))) (a : Buf (Elt F) (ACC.view.loc (c : Thread nD τ))) :
    ℕ → Buf (Elt F) (HREF.view.loc (c : Thread nD τ)) × Buf (Elt F) (ACC.view.loc (c : Thread nD τ))
  | 0 => (h, a)
  | k + 1 => (hLoop c arg6 g1 g2 x p b (E k) (ha E co h a k).1 k0_t4_loop.trips,
      aLoop c arg9 d1 d2 bd (E k) (hLoop c arg6 g1 g2 x p b (E k) (ha E co h a k).1 k0_t4_loop.trips) (coLoad c co) (ha E co h a k).2 k0_t5_loop.trips)

/-- What every slot holds before expert `k`: that expert's block in flight, or nothing after the last. -/
def at3 (n : ℕ) (E : ℕ → Ex) (k : ℕ) : Option Ex := if k < n then some (E k) else none

theorem expert_loop (act : Buf (Elt F) (ACT.view.loc (c : Thread nD τ))) (co : Buf (Elt F) (COEF.view.loc (c : Thread nD τ)))
    (E : ℕ → Ex) (h43 : ∀ t3, actRd c act (k0_off43 v3 t3) (k0_off43_inb v3 hw3 t3) = (E t3.val).1)
    (h44 : ∀ t3, actRd c act (k0_off44 v3 t3) (k0_off44_inb v3 hw3 t3) = (E (min (t3.val + 1) ((k0_t3_loop v3).trips - 1))).1)
    (hc : ∀ t3, k0_cond1 v3 t3 = 1#1 ↔ t3.val + 1 < (k0_t3_loop v3).trips)
    (h : Buf (Elt F) (HREF.view.loc (c : Thread nD τ)))
    (a : Buf (Elt F) (ACC.view.loc (c : Thread nD τ))) (K : Unit → sProp 𝕄) :
    iprop(Ring.AtW (gateAt c g1 g2) (fun _ => at3 (k0_t3_loop v3).trips E 0) ∗ Ring.AtW (downAt c d1 d2) (fun _ => at3 (k0_t3_loop v3).trips E 0)
      ∗ expKit c arg6 arg9 p b bd act co h a
      ∗ (iprop(Ring.AtW (gateAt c g1 g2) (fun _ => none) ∗ Ring.AtW (downAt c d1 d2) (fun _ => none)
          ∗ expKit c arg6 arg9 p b bd act co (ha c arg6 arg9 g1 g2 d1 d2 x p b bd E co h a (k0_t3_loop v3).trips).1 (ha c arg6 arg9 g1 g2 d1 d2 x p b bd E co h a (k0_t3_loop v3).trips).2) -∗ K ⟨⟩))
    ⊢ wp frame (wpE (defs₀ (F := F)) 𝒱₀ (c : Thread nD τ) none) Set.univ
        (Scf.Loop.for (k0_t3_loop v3) (k0_t3_ok v3 hw3) ⟨⟩ (k0_t3_body (F := F) arg0 harg0 arg1 harg1 arg2 harg2 arg3 harg3 WG (Memref.isWhole_whole _) SG (Memref.isWhole_whole _) arg6 harg6 WD (Memref.isWhole_whole _) SD (Memref.isWhole_whole _) arg9 harg9 arg10 harg10 ACT (Memref.isWhole_whole _) COEF (Memref.isWhole_whole _) BWG (Memref.isWhole_whole _) BWD (Memref.isWhole_whole _) BSG (Memref.isWhole_whole _) BSD (Memref.isWhole_whole _) SG32 (Memref.isWhole_whole _) SD32 (Memref.isWhole_whole _) HREF (Memref.isWhole_whole _) PERM (Memref.isWhole_whole _) ACC (Memref.isWhole_whole _) SEMS v3 hw3 v165 hw2 x)) K := by
  iintro ⟨HG, HD, Hkit, HK⟩
  iapply (Scf.wp_for (M := 𝕄) frame (wpE (defs₀ (F := F)) 𝒱₀ (c : Thread nD τ) none) Set.univ _ _ _ (k0_t3_ok v3 hw3) _ _
    (fun k _ => iprop(Ring.AtW (gateAt c g1 g2) (fun _ => at3 (k0_t3_loop v3).trips E k) ∗ Ring.AtW (downAt c d1 d2) (fun _ => at3 (k0_t3_loop v3).trips E k)
      ∗ expKit c arg6 arg9 p b bd act co (ha c arg6 arg9 g1 g2 d1 d2 x p b bd E co h a k).1 (ha c arg6 arg9 g1 g2 d1 d2 x p b bd E co h a k).2)) ?hbody)
  case hbody =>
    intro k acc
    have hk : at3 (k0_t3_loop v3).trips E k.val = some (E k.val) := if_pos k.isLt
    have hk' : at3 (k0_t3_loop v3).trips E (k.val + 1) = nxt v3 k (E (min (k.val + 1) ((k0_t3_loop v3).trips - 1))) := by
      unfold at3 nxt
      by_cases hl : k.val + 1 < (k0_t3_loop v3).trips
      · rw [if_pos hl, if_pos ((hc k).2 hl), Nat.min_eq_left (by omega)]
      · rw [if_neg hl, if_neg (fun hh => hl ((hc k).1 hh))]
    have hs1 : (ha c arg6 arg9 g1 g2 d1 d2 x p b bd E co h a (k.val + 1)).1 = hLoop c arg6 g1 g2 x p b (E k.val) (ha c arg6 arg9 g1 g2 d1 d2 x p b bd E co h a k.val).1 k0_t4_loop.trips := by rw [ha]
    have hs2 : (ha c arg6 arg9 g1 g2 d1 d2 x p b bd E co h a (k.val + 1)).2 = aLoop c arg9 d1 d2 bd (E k.val) (hLoop c arg6 g1 g2 x p b (E k.val) (ha c arg6 arg9 g1 g2 d1 d2 x p b bd E co h a k.val).1 k0_t4_loop.trips) (coLoad c co) (ha c arg6 arg9 g1 g2 d1 d2 x p b bd E co h a k.val).2 k0_t5_loop.trips := by rw [ha]
    rw [hk, hk', hs1, hs2]
    iintro ⟨HG, HD, Hkit⟩
    iapply (expert_trip c arg0 harg0 arg1 harg1 arg2 harg2 arg3 harg3 arg6 harg6 arg9 harg9 arg10 harg10 𝒱₀ g1 g2 d1 d2 v3 hw3 v165 hw2 x k p b bd act co (E k.val) (E (min (k.val + 1) ((k0_t3_loop v3).trips - 1))) (h43 k) (h44 k) (chk5_of _ _ _ (E _).2) (ha c arg6 arg9 g1 g2 d1 d2 x p b bd E co h a k.val).1 (ha c arg6 arg9 g1 g2 d1 d2 x p b bd E co h a k.val).2 _)
    isplitl [HG]; · iexact HG
    isplitl [HD]; · iexact HD
    isplitl [Hkit]; · iexact Hkit
    iintro ⟨HG, HD, Hkit⟩
    isplitl [HG]; · iexact HG
    isplitl [HD]; · iexact HD
    iexact Hkit
  isplitl [HG HD Hkit]
  · isplitl [HG]; · iexact HG
    isplitl [HD]; · iexact HD
    iexact Hkit
  · iintro %acc ⟨HG, HD, Hkit⟩
    have hz : at3 (k0_t3_loop v3).trips E (k0_t3_loop v3).trips = none := if_neg (Nat.lt_irrefl _)
    iapply HK
    isplitl [HG]; · rw [← hz]; iexact HG
    isplitl [HD]; · rw [← hz]; iexact HD
    iexact Hkit

theorem expert_loop_bind {β : Type} (act : Buf (Elt F) (ACT.view.loc (c : Thread nD τ))) (co : Buf (Elt F) (COEF.view.loc (c : Thread nD τ)))
    (E : ℕ → Ex) (h43 : ∀ t3, actRd c act (k0_off43 v3 t3) (k0_off43_inb v3 hw3 t3) = (E t3.val).1)
    (h44 : ∀ t3, actRd c act (k0_off44 v3 t3) (k0_off44_inb v3 hw3 t3) = (E (min (t3.val + 1) ((k0_t3_loop v3).trips - 1))).1)
    (hc : ∀ t3, k0_cond1 v3 t3 = 1#1 ↔ t3.val + 1 < (k0_t3_loop v3).trips)
    (h : Buf (Elt F) (HREF.view.loc (c : Thread nD τ)))
    (a : Buf (Elt F) (ACC.view.loc (c : Thread nD τ))) (kk : Unit → Prog (TpuEff nD τ sig (Elt F) Λ₀ .tc) β) (Q : β → sProp 𝕄) :
    iprop(Ring.AtW (gateAt c g1 g2) (fun _ => at3 (k0_t3_loop v3).trips E 0) ∗ Ring.AtW (downAt c d1 d2) (fun _ => at3 (k0_t3_loop v3).trips E 0)
      ∗ expKit c arg6 arg9 p b bd act co h a
      ∗ (iprop(Ring.AtW (gateAt c g1 g2) (fun _ => none) ∗ Ring.AtW (downAt c d1 d2) (fun _ => none)
          ∗ expKit c arg6 arg9 p b bd act co (ha c arg6 arg9 g1 g2 d1 d2 x p b bd E co h a (k0_t3_loop v3).trips).1 (ha c arg6 arg9 g1 g2 d1 d2 x p b bd E co h a (k0_t3_loop v3).trips).2) -∗ wp frame (wpE (defs₀ (F := F)) 𝒱₀ (c : Thread nD τ) none) Set.univ (kk ⟨⟩) Q))
    ⊢ wp frame (wpE (defs₀ (F := F)) 𝒱₀ (c : Thread nD τ) none) Set.univ
        ((Scf.Loop.for (k0_t3_loop v3) (k0_t3_ok v3 hw3) ⟨⟩ (k0_t3_body (F := F) arg0 harg0 arg1 harg1 arg2 harg2 arg3 harg3 WG (Memref.isWhole_whole _) SG (Memref.isWhole_whole _) arg6 harg6 WD (Memref.isWhole_whole _) SD (Memref.isWhole_whole _) arg9 harg9 arg10 harg10 ACT (Memref.isWhole_whole _) COEF (Memref.isWhole_whole _) BWG (Memref.isWhole_whole _) BWD (Memref.isWhole_whole _) BSG (Memref.isWhole_whole _) BSD (Memref.isWhole_whole _) SG32 (Memref.isWhole_whole _) SD32 (Memref.isWhole_whole _) HREF (Memref.isWhole_whole _) PERM (Memref.isWhole_whole _) ACC (Memref.isWhole_whole _) SEMS v3 hw3 v165 hw2 x)) >>= kk) Q := by
  rw [wp_bind]
  exact expert_loop c arg0 harg0 arg1 harg1 arg2 harg2 arg3 harg3 arg6 harg6 arg9 harg9 arg10 harg10 𝒱₀ g1 g2 d1 d2 v3 hw3 v165 hw2 x p b bd act co E h43 h44 hc h a (fun r => wp frame (wpE (defs₀ (F := F)) 𝒱₀ (c : Thread nD τ) none) Set.univ (kk r) Q)

end Cert.Kernel.Hand

end
-- ==== Proof.Issue.lean ====
/-
  Starting the first expert's copies: each of the two kinds of copy of a slot in its own ring, one more slot in flight per start.
-/
module

public import proofs.«01_k».proof.Proof.Words

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)

/-- The slots below `k` in flight with expert `e`, the others free. -/
def stI {n : ℕ} (e : Ex) (k : ℕ) (j : Fin n) : Option Ex := if j.val < k then some e else none

theorem stI_self {n : ℕ} (e : Ex) (k : Fin n) : stI e k.val k = none := by simp [stI]
theorem stI_zero {n : ℕ} (e : Ex) : (stI e 0 : Fin n → Option Ex) = fun _ => none := by funext j; simp [stI]
theorem stI_top {n : ℕ} (e : Ex) : (stI e n : Fin n → Option Ex) = fun _ => some e := by funext j; simp [stI, j.isLt]
theorem stI_succ {n : ℕ} (e : Ex) (k : Fin n) :
    Function.update (stI e k.val) k (some e) = (stI e (k.val + 1) : Fin n → Option Ex) := by
  funext j
  by_cases h : j = k
  · subst h; simp [stI]
  · rw [Function.update_of_ne h]
    have : j.val ≠ k.val := fun e => h (Fin.ext e)
    have h2 : j.val < k.val ↔ j.val < k.val + 1 := by omega
    simp only [stI, h2]

variable (𝒱₀ : Variants)

/-- One gate slot's weight copy, free or in flight. -/
def gwAt (f : Buf (Elt F) (WG.view.loc (c : Thread nD τ))) (t : Fin k0_t4_loop.trips) : Option Ex → sProp 𝕄
  | none => iprop(semVal ((c : Thread nD τ), SemLoc.dma (cellGW t).sem) 0 ∗ anyAt c (slotGW t) ∗ tok c WG (qG t) Finset.univ f)
  | some e => flying c (cellGW t) (slotGW t) (srcGW t e) (qG t) 65536 f

/-- One gate slot's scale copy, free or in flight. -/
def gsAt (f : Buf (Elt F) (SG.view.loc (c : Thread nD τ))) (t : Fin k0_t4_loop.trips) : Option Ex → sProp 𝕄
  | none => iprop(semVal ((c : Thread nD τ), SemLoc.dma (cellGS t).sem) 0 ∗ anyAt c (slotGS t) ∗ tok c SG (qG t) Finset.univ f)
  | some e => flying c (cellGS t) (slotGS t) (srcGS t e) (qG t) 1024 f

/-- One down slot's weight copy, free or in flight. -/
def dwAt (f : Buf (Elt F) (WD.view.loc (c : Thread nD τ))) (t : Fin k0_t5_loop.trips) : Option Ex → sProp 𝕄
  | none => iprop(semVal ((c : Thread nD τ), SemLoc.dma (cellDW t).sem) 0 ∗ anyAt c (slotDW t) ∗ tok c WD (qD t) Finset.univ f)
  | some e => flying c (cellDW t) (slotDW t) (srcDW t e) (qD t) 131072 f

/-- One down slot's scale copy, free or in flight. -/
def dsAt (f : Buf (Elt F) (SD.view.loc (c : Thread nD τ))) (t : Fin k0_t5_loop.trips) : Option Ex → sProp 𝕄
  | none => iprop(semVal ((c : Thread nD τ), SemLoc.dma (cellDS t).sem) 0 ∗ anyAt c (slotDS t) ∗ tok c SD (qD t) Finset.univ f)
  | some e => flying c (cellDS t) (slotDS t) (srcDS t e) (qD t) 2048 f

theorem gateAt_eq (f1 : Buf (Elt F) (WG.view.loc (c : Thread nD τ))) (f2 : Buf (Elt F) (SG.view.loc (c : Thread nD τ))) (t : Fin k0_t4_loop.trips) (o : Option Ex) :
    gateAt c f1 f2 t o = iprop(gwAt c f1 t o ∗ gsAt c f2 t o) := by cases o <;> rfl
theorem downAt_eq (f1 : Buf (Elt F) (WD.view.loc (c : Thread nD τ))) (f2 : Buf (Elt F) (SD.view.loc (c : Thread nD τ))) (t : Fin k0_t5_loop.trips) (o : Option Ex) :
    downAt c f1 f2 t o = iprop(dwAt c f1 t o ∗ dsAt c f2 t o) := by cases o <;> rfl
theorem gateRing_eq (f1 : Buf (Elt F) (WG.view.loc (c : Thread nD τ))) (f2 : Buf (Elt F) (SG.view.loc (c : Thread nD τ))) (st : Fin k0_t4_loop.trips → Option Ex) :
    Ring.AtW (gateAt c f1 f2) st = iprop(Ring.AtW (gwAt c f1) st ∗ Ring.AtW (gsAt c f2) st) := by
  unfold Ring.AtW; simp only [gateAt_eq]; exact BI.bigSep_sep _ _ _
theorem downRing_eq (f1 : Buf (Elt F) (WD.view.loc (c : Thread nD τ))) (f2 : Buf (Elt F) (SD.view.loc (c : Thread nD τ))) (st : Fin k0_t5_loop.trips → Option Ex) :
    Ring.AtW (downAt c f1 f2) st = iprop(Ring.AtW (dwAt c f1) st ∗ Ring.AtW (dsAt c f2) st) := by
  unfold Ring.AtW; simp only [downAt_eq]; exact BI.bigSep_sep _ _ _

theorem issue_gw (f : Buf (Elt F) (WG.view.loc (c : Thread nD τ))) (e : Ex) (t : Fin k0_t4_loop.trips) {β : Type}
    (kk : Unit → Prog (TpuEff nD τ sig (Elt F) Λ₀ .tc) β) (Q : β → sProp 𝕄)
    (oc : Fin 2 → ℕ) (os : Fin _ → ℕ) (osr : Fin _ → ℕ)
    (hc : ∀ a, oc a + S1x1.size a ≤ S4x16.size a) (hs : ∀ a, os a + S1x64x2x4x8x128.size a ≤ S16x64x2x4x8x128.size a) (hr : ∀ a, osr a + S1x64x2x4x8x128.size a ≤ S8x64x2x64x8x128.size a)
    (ec : oc = k0_off45 t) (es : os = k0_off46 t) (er : osr = k0_off47 e.1 t) :
    iprop(Ring.AtW (gwAt c f) (stI e t.val) ∗ (∃ W, owes (c : Thread nD τ) 0 W)
      ∗ (iprop(Ring.AtW (gwAt c f) (stI e (t.val + 1)) ∗ (∃ W, owes (c : Thread nD τ) 0 W)) -∗ wp frame (wpE (defs₀ (F := F)) 𝒱₀ (c : Thread nD τ) none) Set.univ (kk ⟨⟩) Q))
    ⊢ wp frame (wpE (defs₀ (F := F)) 𝒱₀ (c : Thread nD τ) none) Set.univ
      (Prog.lift (.enqueueDma ((WG.slice (Rect.unit (s := S8x64x2x64x8x128) osr S1x64x2x4x8x128.size hr) (fun _ => rfl)).squeeze S64x2x4x8x128 squeezes_S1x64x2x4x8x128_S64x2x4x8x128)
          (.here ((BWG.slice (Rect.unit (s := S16x64x2x4x8x128) os S1x64x2x4x8x128.size hs) (fun _ => rfl)).squeeze S64x2x4x8x128 squeezes_S1x64x2x4x8x128_S64x2x4x8x128))
          (.dma ((SEMS.slice (Rect.unit (s := S4x16) oc S1x1.size hc)).squeeze S_ squeezes_S1x1_S_).sem)
          (((Memref.isWhole_whole _ : WG.IsWhole).wordExact_slice rfl _ (by subst er; exact k0_off47_wordsi8 _ e.2 _)).reshape _ _) (((Memref.isWhole_whole _ : BWG.IsWhole).wordExact_slice rfl _ (by subst es; exact k0_off46_wordsi8 _)).reshape _ _) ⟨Or.inl rfl, trivial⟩) >>= kk) Q := by
  subst ec; subst es; subst er
  rw [Ring.AtW_focus (gwAt c f) (stI e t.val) t, stI_self]
  simp only [gwAt]
  iintro ⟨⟨⟨HF, ⟨%fa, Hd⟩, HT⟩, Hrest⟩, ⟨%W, HO⟩, HK⟩
  sl_exec
  iapply HK
  isplitr [HO]
  · rw [← stI_succ]
    iapply (Ring.AtW_update (gwAt c f) (stI e t.val) t (some e))
    isplitr [Hrest]
    · simp only [gwAt]
      isplitl [HF]
      · iexists _; iexact HF
      · iexact HT
    · iexact Hrest
  · iexists _; iexact HO

theorem issue_gs (f : Buf (Elt F) (SG.view.loc (c : Thread nD τ))) (e : Ex) (t : Fin k0_t4_loop.trips) {β : Type}
    (kk : Unit → Prog (TpuEff nD τ sig (Elt F) Λ₀ .tc) β) (Q : β → sProp 𝕄)
    (oc : Fin 2 → ℕ) (os : Fin _ → ℕ) (osr : Fin _ → ℕ)
    (hc : ∀ a, oc a + S1x1.size a ≤ S4x16.size a) (hs : ∀ a, os a + S1x64x512.size a ≤ S16x64x512.size a) (hr : ∀ a, osr a + S1x64x512.size a ≤ S8x64x8192.size a)
    (ec : oc = k0_off48 t) (es : os = k0_off49 t) (er : osr = k0_off50 e.1 t) :
    iprop(Ring.AtW (gsAt c f) (stI e t.val) ∗ (∃ W, owes (c : Thread nD τ) 0 W)
      ∗ (iprop(Ring.AtW (gsAt c f) (stI e (t.val + 1)) ∗ (∃ W, owes (c : Thread nD τ) 0 W)) -∗ wp frame (wpE (defs₀ (F := F)) 𝒱₀ (c : Thread nD τ) none) Set.univ (kk ⟨⟩) Q))
    ⊢ wp frame (wpE (defs₀ (F := F)) 𝒱₀ (c : Thread nD τ) none) Set.univ
      (Prog.lift (.enqueueDma ((SG.slice (Rect.unit (s := S8x64x8192) osr S1x64x512.size hr) (fun _ => rfl)).squeeze S64x512 squeezes_S1x64x512_S64x512)
          (.here ((BSG.slice (Rect.unit (s := S16x64x512) os S1x64x512.size hs) (fun _ => rfl)).squeeze S64x512 squeezes_S1x64x512_S64x512))
          (.dma ((SEMS.slice (Rect.unit (s := S4x16) oc S1x1.size hc)).squeeze S_ squeezes_S1x1_S_).sem)
          (((Memref.isWhole_whole _ : SG.IsWhole).wordExact_slice rfl _ (by subst er; exact k0_off50_wordsi8 _ e.2 _)).reshape _ _) (((Memref.isWhole_whole _ : BSG.IsWhole).wordExact_slice rfl _ (by subst es; exact k0_off49_wordsi8 _)).reshape _ _) ⟨Or.inl rfl, trivial⟩) >>= kk) Q := by
  subst ec; subst es; subst er
  rw [Ring.AtW_focus (gsAt c f) (stI e t.val) t, stI_self]
  simp only [gsAt]
  iintro ⟨⟨⟨HF, ⟨%fa, Hd⟩, HT⟩, Hrest⟩, ⟨%W, HO⟩, HK⟩
  sl_exec
  iapply HK
  isplitr [HO]
  · rw [← stI_succ]
    iapply (Ring.AtW_update (gsAt c f) (stI e t.val) t (some e))
    isplitr [Hrest]
    · simp only [gsAt]
      isplitl [HF]
      · iexists _; iexact HF
      · iexact HT
    · iexact Hrest
  · iexists _; iexact HO

theorem issue_dw (f : Buf (Elt F) (WD.view.loc (c : Thread nD τ))) (e : Ex) (t : Fin k0_t5_loop.trips) {β : Type}
    (kk : Unit → Prog (TpuEff nD τ sig (Elt F) Λ₀ .tc) β) (Q : β → sProp 𝕄)
    (oc : Fin 2 → ℕ) (os : Fin _ → ℕ) (osr : Fin _ → ℕ)
    (hc : ∀ a, oc a + S1x1.size a ≤ S4x16.size a) (hs : ∀ a, os a + S1x512x2x8x128.size a ≤ S4x512x2x8x128.size a) (hr : ∀ a, osr a + S1x512x2x8x128.size a ≤ S8x2048x2x8x128.size a)
    (ec : oc = k0_off61 t) (es : os = k0_off62 t) (er : osr = k0_off63 e.1 t) :
    iprop(Ring.AtW (dwAt c f) (stI e t.val) ∗ (∃ W, owes (c : Thread nD τ) 0 W)
      ∗ (iprop(Ring.AtW (dwAt c f) (stI e (t.val + 1)) ∗ (∃ W, owes (c : Thread nD τ) 0 W)) -∗ wp frame (wpE (defs₀ (F := F)) 𝒱₀ (c : Thread nD τ) none) Set.univ (kk ⟨⟩) Q))
    ⊢ wp frame (wpE (defs₀ (F := F)) 𝒱₀ (c : Thread nD τ) none) Set.univ
      (Prog.lift (.enqueueDma ((WD.slice (Rect.unit (s := S8x2048x2x8x128) osr S1x512x2x8x128.size hr) (fun _ => rfl)).squeeze S512x2x8x128 squeezes_S1x512x2x8x128_S512x2x8x128)
          (.here ((BWD.slice (Rect.unit (s := S4x512x2x8x128) os S1x512x2x8x128.size hs) (fun _ => rfl)).squeeze S512x2x8x128 squeezes_S1x512x2x8x128_S512x2x8x128))
          (.dma ((SEMS.slice (Rect.unit (s := S4x16) oc S1x1.size hc)).squeeze S_ squeezes_S1x1_S_).sem)
          (((Memref.isWhole_whole _ : WD.IsWhole).wordExact_slice rfl _ (by subst er; exact k0_off63_wordsi8 _ e.2 _)).reshape _ _) (((Memref.isWhole_whole _ : BWD.IsWhole).wordExact_slice rfl _ (by subst es; exact k0_off62_wordsi8 _)).reshape _ _) ⟨Or.inl rfl, trivial⟩) >>= kk) Q := by
  subst ec; subst es; subst er
  rw [Ring.AtW_focus (dwAt c f) (stI e t.val) t, stI_self]
  simp only [dwAt]
  iintro ⟨⟨⟨HF, ⟨%fa, Hd⟩, HT⟩, Hrest⟩, ⟨%W, HO⟩, HK⟩
  sl_exec
  iapply HK
  isplitr [HO]
  · rw [← stI_succ]
    iapply (Ring.AtW_update (dwAt c f) (stI e t.val) t (some e))
    isplitr [Hrest]
    · simp only [dwAt]
      isplitl [HF]
      · iexists _; iexact HF
      · iexact HT
    · iexact Hrest
  · iexists _; iexact HO

theorem issue_ds (f : Buf (Elt F) (SD.view.loc (c : Thread nD τ))) (e : Ex) (t : Fin k0_t5_loop.trips) {β : Type}
    (kk : Unit → Prog (TpuEff nD τ sig (Elt F) Λ₀ .tc) β) (Q : β → sProp 𝕄)
    (oc : Fin 2 → ℕ) (os : Fin _ → ℕ) (osr : Fin _ → ℕ)
    (hc : ∀ a, oc a + S1x1.size a ≤ S4x16.size a) (hs : ∀ a, os a + S1x512x128.size a ≤ S4x512x128.size a) (hr : ∀ a, osr a + S1x512x128.size a ≤ S8x2048x128.size a)
    (ec : oc = k0_off64 t) (es : os = k0_off65 t) (er : osr = k0_off66 e.1 t) :
    iprop(Ring.AtW (dsAt c f) (stI e t.val) ∗ (∃ W, owes (c : Thread nD τ) 0 W)
      ∗ (iprop(Ring.AtW (dsAt c f) (stI e (t.val + 1)) ∗ (∃ W, owes (c : Thread nD τ) 0 W)) -∗ wp frame (wpE (defs₀ (F := F)) 𝒱₀ (c : Thread nD τ) none) Set.univ (kk ⟨⟩) Q))
    ⊢ wp frame (wpE (defs₀ (F := F)) 𝒱₀ (c : Thread nD τ) none) Set.univ
      (Prog.lift (.enqueueDma ((SD.slice (Rect.unit (s := S8x2048x128) osr S1x512x128.size hr) (fun _ => rfl)).squeeze S512x128 squeezes_S1x512x128_S512x128)
          (.here ((BSD.slice (Rect.unit (s := S4x512x128) os S1x512x128.size hs) (fun _ => rfl)).squeeze S512x128 squeezes_S1x512x128_S512x128))
          (.dma ((SEMS.slice (Rect.unit (s := S4x16) oc S1x1.size hc)).squeeze S_ squeezes_S1x1_S_).sem)
          (((Memref.isWhole_whole _ : SD.IsWhole).wordExact_slice rfl _ (by subst er; exact k0_off66_wordsi8 _ e.2 _)).reshape _ _) (((Memref.isWhole_whole _ : BSD.IsWhole).wordExact_slice rfl _ (by subst es; exact k0_off65_wordsi8 _)).reshape _ _) ⟨Or.inl rfl, trivial⟩) >>= kk) Q := by
  subst ec; subst es; subst er
  rw [Ring.AtW_focus (dsAt c f) (stI e t.val) t, stI_self]
  simp only [dsAt]
  iintro ⟨⟨⟨HF, ⟨%fa, Hd⟩, HT⟩, Hrest⟩, ⟨%W, HO⟩, HK⟩
  sl_exec
  iapply HK
  isplitr [HO]
  · rw [← stI_succ]
    iapply (Ring.AtW_update (dsAt c f) (stI e t.val) t (some e))
    isplitr [Hrest]
    · simp only [dsAt]
      isplitl [HF]
      · iexists _; iexact HF
      · iexact HT
    · iexact Hrest
  · iexists _; iexact HO

end Cert.Kernel.Hand

end
-- ==== Proof.Active.lean ====
/-
  The two scans that list the active experts: the mask of the routed ids, then the list of its set bits.
-/
module

public import proofs.«01_k».proof.Proof.Words

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)
variable (arg0 : Memref sig .tc .smem S4x24 .i32) (harg0 : arg0.IsWhole) (arg1 : Memref sig .tc .vmem S4x24 .i32) (harg1 : arg1.IsWhole) (arg2 : Memref sig .tc .vmem S4x24 .f32) (harg2 : arg2.IsWhole) (arg3 : Memref sig .tc .vmem S24x2048 .bf16) (harg3 : arg3.IsWhole) (arg6 : Memref sig .tc .vmem S8x8192 .f32) (harg6 : arg6.IsWhole) (arg9 : Memref sig .tc .vmem S8x2048 .f32) (harg9 : arg9.IsWhole) (arg10 : Memref sig .tc .vmem S24x2048 .bf16) (harg10 : arg10.IsWhole)

variable (𝒱₀ : Variants)

/-! ## The mask -/

/-- The `k`-th routed id, in the order the scan reads them. -/
abbrev idRd (X : Buf (Elt F) (arg0.view.loc (c : Thread nD τ))) (k : Fin k0_t1_loop.trips) : BitVec 32 :=
  View.readAt (Elt F) arg0.view (Rect.unit (s := S4x24) (k0_off1 k) S1x1.size (k0_off1_inb k)).toLoadRect X (Shape.Idx.first (numel1_S1x1.symm ▸ Nat.one_pos))

/-- The mask after `k` ids. -/
def maskOf (X : Buf (Elt F) (arg0.view.loc (c : Thread nD τ))) : ℕ → BitVec 32
  | 0 => 0#32
  | k + 1 => if hk : k < k0_t1_loop.trips then Scalar.ori (maskOf X k) (Scalar.shli 1#32 (idRd c arg0 X ⟨k, hk⟩)) else maskOf X k

theorem mask_loop (q : PosShare TreeShare) (X : Buf (Elt F) (arg0.view.loc (c : Thread nD τ))) {β : Type}
    (kk : BitVec 32 → Prog (TpuEff nD τ sig (Elt F) Λ₀ .tc) β) (Q : β → sProp 𝕄) :
    iprop((arg0.view.loc (c : Thread nD τ) ↦{q} X)
      ∗ ((arg0.view.loc (c : Thread nD τ) ↦{q} X) -∗ wp frame (wpE (defs₀ (F := F)) 𝒱₀ (c : Thread nD τ) none) Set.univ (kk (maskOf c arg0 X k0_t1_loop.trips)) Q))
    ⊢ wp frame (wpE (defs₀ (F := F)) 𝒱₀ (c : Thread nD τ) none) Set.univ
        (Scf.Loop.for k0_t1_loop k0_t1_ok 0#32 (k0_t1_body (F := F) arg0 harg0 arg1 harg1 arg2 harg2 arg3 harg3 WG (Memref.isWhole_whole _) SG (Memref.isWhole_whole _) arg6 harg6 WD (Memref.isWhole_whole _) SD (Memref.isWhole_whole _) arg9 harg9 arg10 harg10 ACT (Memref.isWhole_whole _) COEF (Memref.isWhole_whole _) BWG (Memref.isWhole_whole _) BWD (Memref.isWhole_whole _) BSG (Memref.isWhole_whole _) BSD (Memref.isWhole_whole _) SG32 (Memref.isWhole_whole _) SD32 (Memref.isWhole_whole _) HREF (Memref.isWhole_whole _) PERM (Memref.isWhole_whole _) ACC (Memref.isWhole_whole _) SEMS) >>= kk) Q := by
  rw [wp_bind]
  iintro ⟨HX, HK⟩
  iapply (Scf.wp_for (M := 𝕄) frame (wpE (defs₀ (F := F)) 𝒱₀ (c : Thread nD τ) none) Set.univ _ _ _ k0_t1_ok _ _
    (fun k acc => iprop((arg0.view.loc (c : Thread nD τ) ↦{q} X) ∗ ⌜acc = maskOf c arg0 X k⌝)) ?hbody)
  case hbody =>
    intro k acc
    have hm : maskOf c arg0 X (k.val + 1) = Scalar.ori (maskOf c arg0 X k.val) (Scalar.shli 1#32 (idRd c arg0 X k)) := dif_pos k.isLt
    iintro ⟨HX, %hacc⟩
    subst hacc
    rw [hm]
    unfold k0_t1_body
    sl_exec
    sl_step
    isplitl [HX]
    · iexact HX
    · ipureintro; rfl
  isplitl [HX]
  · isplitl [HX]; · iexact HX
    ipureintro; rfl
  · iintro %acc ⟨HX, %hacc⟩
    subst hacc
    iapply HK
    iexact HX

/-! ## The list -/

/-- The number of set bits below `k`, as the scan counts them. -/
def cntOf (M : BitVec 32) : ℕ → BitVec 32
  | 0 => 0#32
  | k + 1 => Scalar.addi (cntOf M k) (Scalar.andi (Scalar.shrsi M (Scf.iv 0#32 1#32 k)) 1#32)

/-- The list buffer with the word `w` stored at its place `o`. -/
def actStore (act : Buf (Elt F) (ACT.view.loc (c : Thread nD τ))) (o : Fin 1 → ℕ) (ho : ∀ a, o a + S1.size a ≤ S9.size a) (w : BitVec 32) :
    Buf (Elt F) (ACT.view.loc (c : Thread nD τ)) :=
  ACT.view.writes (Elt F) act [⟨Rect.unit (s := S9) o S1.size ho, fun _ => w⟩]

/-- The list buffer after `k` bits. -/
def actOf (M : BitVec 32) (act : Buf (Elt F) (ACT.view.loc (c : Thread nD τ))) : ℕ → Buf (Elt F) (ACT.view.loc (c : Thread nD τ))
  | 0 => act
  | k + 1 => if h : k0_chk1 (cntOf M k) then actStore c (actOf M act k) (k0_off2 (cntOf M k)) (k0_off2_inb _ h) (Scf.iv 0#32 1#32 k) else actOf M act k

theorem list_loop (M : BitVec 32) (hM : ∀ k : Fin k0_t2_loop.trips, k0_chk1 (cntOf M k.val)) (act : Buf (Elt F) (ACT.view.loc (c : Thread nD τ))) {β : Type}
    (kk : BitVec 32 → Prog (TpuEff nD τ sig (Elt F) Λ₀ .tc) β) (Q : β → sProp 𝕄) :
    iprop((ACT.view.loc (c : Thread nD τ) ↦{fullShare} act)
      ∗ ((ACT.view.loc (c : Thread nD τ) ↦{fullShare} actOf c M act k0_t2_loop.trips) -∗
          wp frame (wpE (defs₀ (F := F)) 𝒱₀ (c : Thread nD τ) none) Set.univ (kk (cntOf M k0_t2_loop.trips)) Q))
    ⊢ wp frame (wpE (defs₀ (F := F)) 𝒱₀ (c : Thread nD τ) none) Set.univ
        (Scf.Loop.for k0_t2_loop k0_t2_ok 0#32 (k0_t2_body (F := F) arg0 harg0 arg1 harg1 arg2 harg2 arg3 harg3 WG (Memref.isWhole_whole _) SG (Memref.isWhole_whole _) arg6 harg6 WD (Memref.isWhole_whole _) SD (Memref.isWhole_whole _) arg9 harg9 arg10 harg10 ACT (Memref.isWhole_whole _) COEF (Memref.isWhole_whole _) BWG (Memref.isWhole_whole _) BWD (Memref.isWhole_whole _) BSG (Memref.isWhole_whole _) BSD (Memref.isWhole_whole _) SG32 (Memref.isWhole_whole _) SD32 (Memref.isWhole_whole _) HREF (Memref.isWhole_whole _) PERM (Memref.isWhole_whole _) ACC (Memref.isWhole_whole _) SEMS M) >>= kk) Q := by
  rw [wp_bind]
  iintro ⟨HX, HK⟩
  iapply (Scf.wp_for (M := 𝕄) frame (wpE (defs₀ (F := F)) 𝒱₀ (c : Thread nD τ) none) Set.univ _ _ _ k0_t2_ok _ _
    (fun k acc => iprop((ACT.view.loc (c : Thread nD τ) ↦{fullShare} actOf c M act k) ∗ ⌜acc = cntOf M k⌝)) ?hbody)
  case hbody =>
    intro k acc
    have hm : actOf c M act (k.val + 1) = actStore c (actOf c M act k.val) (k0_off2 (cntOf M k.val)) (k0_off2_inb _ (hM k)) (Scf.iv 0#32 1#32 k.val) := dif_pos (hM k)
    iintro ⟨HX, %hacc⟩
    subst hacc
    rw [hm]
    unfold k0_t2_body
    have hk1 := hM k
    sl_exec
    sl_step
    isplitl [HX]
    · unfold actStore; iexact HX
    · ipureintro; rfl
  isplitl [HX]
  · isplitl [HX]; · iexact HX
    ipureintro; rfl
  · iintro %acc ⟨HX, %hacc⟩
    subst hacc
    iapply HK
    iexact HX

end Cert.Kernel.Hand

end
-- ==== Proof.Body.lean ====
/-
  The whole kernel: the scans, the coefficients, the copies, the experts, the output.
-/
module

public import proofs.«01_k».proof.Proof.Experts
public import proofs.«01_k».proof.Proof.Issue
public import proofs.«01_k».proof.Proof.Active

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)
variable (arg0 : Memref sig .tc .smem S4x24 .i32) (harg0 : arg0.IsWhole) (arg1 : Memref sig .tc .vmem S4x24 .i32) (harg1 : arg1.IsWhole) (arg2 : Memref sig .tc .vmem S4x24 .f32) (harg2 : arg2.IsWhole) (arg3 : Memref sig .tc .vmem S24x2048 .bf16) (harg3 : arg3.IsWhole) (arg6 : Memref sig .tc .vmem S8x8192 .f32) (harg6 : arg6.IsWhole) (arg9 : Memref sig .tc .vmem S8x2048 .f32) (harg9 : arg9.IsWhole) (arg10 : Memref sig .tc .vmem S24x2048 .bf16) (harg10 : arg10.IsWhole)

variable (𝒱₀ : Variants) (g1 : Buf (Elt F) (WG.view.loc (c : Thread nD τ))) (g2 : Buf (Elt F) (SG.view.loc (c : Thread nD τ)))
    (d1 : Buf (Elt F) (WD.view.loc (c : Thread nD τ))) (d2 : Buf (Elt F) (SD.view.loc (c : Thread nD τ)))
    (X : Buf (Elt F) (arg0.view.loc (c : Thread nD τ))) (I : Buf (Elt F) (arg1.view.loc (c : Thread nD τ)))
    (rw' : Buf (Elt F) (arg2.view.loc (c : Thread nD τ))) (xs : Buf (Elt F) (arg3.view.loc (c : Thread nD τ)))
    (b : Buf (Elt F) (arg6.view.loc (c : Thread nD τ))) (bd : Buf (Elt F) (arg9.view.loc (c : Thread nD τ)))

theorem off47v (v : BitVec 32) (t : Fin k0_t4_loop.trips) : k0_off47 v t = ![v.toNat, 0, 0, 4 * t.val, 0, 0] := by
  have h : ∀ t : Fin k0_t4_loop.trips, (Scalar.muli (Scf.iv 0#32 1#32 t) 4#32).toNat = 4 * t.val := by decide +kernel
  unfold k0_off47; simp only [h]
theorem off50v (v : BitVec 32) (t : Fin k0_t4_loop.trips) : k0_off50 v t = ![v.toNat, 0, 512 * t.val] := by
  have h : ∀ t : Fin k0_t4_loop.trips, (Scalar.muli (Scf.iv 0#32 1#32 t) 512#32).toNat = 512 * t.val := by decide +kernel
  unfold k0_off50; simp only [h]
theorem off63v (v : BitVec 32) (t : Fin k0_t5_loop.trips) : k0_off63 v t = ![v.toNat, 512 * t.val, 0, 0, 0] := by
  have h : ∀ t : Fin k0_t5_loop.trips, (Scalar.muli (Scf.iv 0#32 1#32 t) 512#32).toNat = 512 * t.val := by decide +kernel
  unfold k0_off63; simp only [h]
theorem off66v (v : BitVec 32) (t : Fin k0_t5_loop.trips) : k0_off66 v t = ![v.toNat, 512 * t.val, 0] := by
  have h : ∀ t : Fin k0_t5_loop.trips, (Scalar.muli (Scf.iv 0#32 1#32 t) 512#32).toNat = 512 * t.val := by decide +kernel
  unfold k0_off66; simp only [h]

theorem gate_all (E0 : ℕ → Ex) (n : ℕ) (hn : 0 < n) :
    iprop(Ring.AtW (gwAt c g1) (stI (E0 0) 16) ∗ Ring.AtW (gsAt c g2) (stI (E0 0) 16)) ⊢ Ring.AtW (gateAt c g1 g2) (fun _ => at3 n E0 0) := by
  have h : (fun _ => at3 n E0 0 : Fin k0_t4_loop.trips → Option Ex) = stI (E0 0) 16 := by
    rw [show (at3 n E0 0) = some (E0 0) from if_pos hn]; exact (stI_top (n := k0_t4_loop.trips) (E0 0)).symm
  rw [h, gateRing_eq]
theorem down_all (E0 : ℕ → Ex) (n : ℕ) (hn : 0 < n) :
    iprop(Ring.AtW (dwAt c d1) (stI (E0 0) 4) ∗ Ring.AtW (dsAt c d2) (stI (E0 0) 4)) ⊢ Ring.AtW (downAt c d1 d2) (fun _ => at3 n E0 0) := by
  have h : (fun _ => at3 n E0 0 : Fin k0_t5_loop.trips → Option Ex) = stI (E0 0) 4 := by
    rw [show (at3 n E0 0) = some (E0 0) from if_pos hn]; exact (stI_top (n := k0_t5_loop.trips) (E0 0)).symm
  rw [h, downRing_eq]

/-- The routing weight of every token row under every expert, as the kernel stores it. -/
def coV : Buf (Elt F) (COEF.view.loc (c : Thread nD τ)) :=
  COEF.view.writes (Elt F) COEF.view.junk
    [⟨Rect.unit ![0, 0] S128x8.size inb_S128x8_S128x8_0_0,
        k0_pay99
          (k0_pay93 (View.readAt (Elt F) arg1.view (Rect.unit ![0, 0] S4x24.size inb_S4x24_S4x24_0_0).toLoadRect I))
          (k0_pay94 (View.readAt (Elt F) arg2.view (Rect.unit ![0, 0] S4x24.size inb_S4x24_S4x24_0_0).toLoadRect rw'))
          (k0_pay95 (View.readAt (Elt F) arg1.view (Rect.unit ![0, 0] S4x24.size inb_S4x24_S4x24_0_0).toLoadRect I)
            (View.readAt (Elt F) arg2.view (Rect.unit ![0, 0] S4x24.size inb_S4x24_S4x24_0_0).toLoadRect rw'))
          (k0_pay96 (View.readAt (Elt F) arg1.view (Rect.unit ![0, 0] S4x24.size inb_S4x24_S4x24_0_0).toLoadRect I)
            (View.readAt (Elt F) arg2.view (Rect.unit ![0, 0] S4x24.size inb_S4x24_S4x24_0_0).toLoadRect rw'))
          (k0_pay97 (View.readAt (Elt F) arg1.view (Rect.unit ![0, 0] S4x24.size inb_S4x24_S4x24_0_0).toLoadRect I)
            (View.readAt (Elt F) arg2.view (Rect.unit ![0, 0] S4x24.size inb_S4x24_S4x24_0_0).toLoadRect rw'))
          (k0_pay98 (View.readAt (Elt F) arg1.view (Rect.unit ![0, 0] S4x24.size inb_S4x24_S4x24_0_0).toLoadRect I)
            (View.readAt (Elt F) arg2.view (Rect.unit ![0, 0] S4x24.size inb_S4x24_S4x24_0_0).toLoadRect rw'))
          4#32⟩]

/-- The matrix of zeros and ones the gate result is multiplied by. -/
def permV : Buf (Elt F) (PERM.view.loc (c : Thread nD τ)) :=
  PERM.view.writes (Elt F) PERM.view.junk
    [⟨Rect.unit ![0, 0] S512x256.size inb_S512x256_S512x256_0_0,
        k0_pay105
          (k0_pay104 (iota Kind.tc S512x256 32 [0] iota_S512x256_d0_w32)
            (iota Kind.tc S512x256 32 [1] iota_S512x256_d1_w32)
            (k0_pay102 (iota Kind.tc S512x256 32 [1] iota_S512x256_d1_w32) (64#32) k0_pay101)
            (k0_pay103 (iota Kind.tc S512x256 32 [1] iota_S512x256_d1_w32)) 8#32)⟩]

/-- The accumulator, cleared. -/
def acc0 : Buf (Elt F) (ACC.view.loc (c : Thread nD τ)) :=
  ACC.view.writes (Elt F) ACC.view.junk [⟨Rect.unit ![0, 0, 0] S4x24x512.size inb_S4x24x512_S4x24x512_0_0_0, k0_pay100⟩]

/-- The accumulator after the `n` experts of the list `E`, the hidden buffer having started as `h`. -/
def aEnd (h : Buf (Elt F) (HREF.view.loc (c : Thread nD τ))) (E : ℕ → Ex) (n : ℕ) : Buf (Elt F) (ACC.view.loc (c : Thread nD τ)) :=
  (ha c arg6 arg9 g1 g2 d1 d2 (View.readAt (Elt F) arg3.view (Rect.unit ![0, 0] S24x2048.size inb_S24x2048_S24x2048_0_0).toLoadRect xs)
    (permV c) b bd E (coV c arg1 arg2 I rw') h (acc0 c) n).2

/-- The four column blocks the kernel writes, from an accumulator. -/
def outL (a : Buf (Elt F) (ACC.view.loc (c : Thread nD τ))) : List (View.Piece (Elt F) S24x2048 .bf16) :=
  [⟨Rect.unit ![0, 1536] S24x512.size inb_S24x2048_S24x512_0_1536, k0_pay2 (View.readAt (Elt F) ACC.view (Rect.unit (s := S4x24x512) ![3, 0, 0] S1x24x512.size inb_S4x24x512_S1x24x512_3_0_0).toLoadRect a)⟩,
   ⟨Rect.unit ![0, 1024] S24x512.size inb_S24x2048_S24x512_0_1024, k0_pay1 (View.readAt (Elt F) ACC.view (Rect.unit (s := S4x24x512) ![2, 0, 0] S1x24x512.size inb_S4x24x512_S1x24x512_2_0_0).toLoadRect a)⟩,
   ⟨Rect.unit ![0, 512] S24x512.size inb_S24x2048_S24x512_0_512, k0_pay114 (View.readAt (Elt F) ACC.view (Rect.unit (s := S4x24x512) ![1, 0, 0] S1x24x512.size inb_S4x24x512_S1x24x512_1_0_0).toLoadRect a)⟩,
   ⟨Rect.unit ![0, 0] S24x512.size inb_S24x2048_S24x512_0_0, k0_pay113 (View.readAt (Elt F) ACC.view (Rect.unit (s := S4x24x512) ![0, 0, 0] S1x24x512.size inb_S4x24x512_S1x24x512_0_0_0).toLoadRect a)⟩]

set_option maxHeartbeats 1600000 in
set_option maxRecDepth 100000 in
theorem body_wp (act : Buf (Elt F) (ACT.view.loc (c : Thread nD τ))) (co : Buf (Elt F) (COEF.view.loc (c : Thread nD τ)))
    (sg : Buf (Elt F) (SG32.view.loc (c : Thread nD τ))) (h : Buf (Elt F) (HREF.view.loc (c : Thread nD τ)))
    (p : Buf (Elt F) (PERM.view.loc (c : Thread nD τ))) (a : Buf (Elt F) (ACC.view.loc (c : Thread nD τ)))
    (o : Buf (Elt F) (arg10.view.loc (c : Thread nD τ)))
    (v3 : BitVec 32) (hw3 : k0_chk3 v3) (hM : ∀ k : Fin k0_t2_loop.trips, k0_chk1 (cntOf (maskOf c arg0 X k0_t1_loop.trips) k.val))
    (hv3 : cntOf (maskOf c arg0 X k0_t1_loop.trips) k0_t2_loop.trips = v3)
    (act' : Buf (Elt F) (ACT.view.loc (c : Thread nD τ))) (hact : actOf c (maskOf c arg0 X k0_t1_loop.trips) act k0_t2_loop.trips = act')
    (E : ℕ → Ex) (hpos : 0 < (k0_t3_loop v3).trips) (h0 : actRd c act' ![0] inb_S9_S1_0 = (E 0).1) (hw2 : k0_chk2 (E 0).1)
    (h43 : ∀ t3, actRd c act' (k0_off43 v3 t3) (k0_off43_inb v3 hw3 t3) = (E t3.val).1)
    (h44 : ∀ t3, actRd c act' (k0_off44 v3 t3) (k0_off44_inb v3 hw3 t3) = (E (min (t3.val + 1) ((k0_t3_loop v3).trips - 1))).1)
    (hc : ∀ t3, k0_cond1 v3 t3 = 1#1 ↔ t3.val + 1 < (k0_t3_loop v3).trips) (h6 : (k0_t6_loop v3).trips = 0)
    (K : Unit → sProp 𝕄) :
    iprop(((arg0.view.loc (c : Thread nD τ) ↦{fullShare} X) ∗ (arg1.view.loc (c : Thread nD τ) ↦{fullShare} I) ∗ (arg2.view.loc (c : Thread nD τ) ↦{fullShare} rw') ∗ (arg3.view.loc (c : Thread nD τ) ↦{fullShare} xs) ∗ (arg6.view.loc (c : Thread nD τ) ↦{fullShare} b) ∗ (arg9.view.loc (c : Thread nD τ) ↦{fullShare} bd)) ∗ ((ACT.view.loc (c : Thread nD τ) ↦{fullShare} act) ∗ (COEF.view.loc (c : Thread nD τ) ↦{fullShare} co) ∗ (SG32.view.loc (c : Thread nD τ) ↦{fullShare} sg) ∗ (HREF.view.loc (c : Thread nD τ) ↦{fullShare} h) ∗ (PERM.view.loc (c : Thread nD τ) ↦{fullShare} p) ∗ (ACC.view.loc (c : Thread nD τ) ↦{fullShare} a)) ∗ (arg10.view.loc (c : Thread nD τ) ↦{fullShare} o) ∗ (∃ W, owes (c : Thread nD τ) 0 W)
      ∗ (Ring.AtW (gwAt c g1) (stI (E 0) 0) ∗ Ring.AtW (gsAt c g2) (stI (E 0) 0)) ∗ (Ring.AtW (dwAt c d1) (stI (E 0) 0) ∗ Ring.AtW (dsAt c d2) (stI (E 0) 0))
      ∗ (iprop(((arg0.view.loc (c : Thread nD τ) ↦{fullShare} X) ∗ (arg1.view.loc (c : Thread nD τ) ↦{fullShare} I) ∗ (arg2.view.loc (c : Thread nD τ) ↦{fullShare} rw') ∗ (arg3.view.loc (c : Thread nD τ) ↦{fullShare} xs) ∗ (arg6.view.loc (c : Thread nD τ) ↦{fullShare} b) ∗ (arg9.view.loc (c : Thread nD τ) ↦{fullShare} bd)) ∗ ((∃ s, ACT.view.loc (c : Thread nD τ) ↦{fullShare} s) ∗ (∃ s, COEF.view.loc (c : Thread nD τ) ↦{fullShare} s) ∗ (∃ s, SG32.view.loc (c : Thread nD τ) ↦{fullShare} s) ∗ (∃ s, HREF.view.loc (c : Thread nD τ) ↦{fullShare} s) ∗ (∃ s, PERM.view.loc (c : Thread nD τ) ↦{fullShare} s) ∗ (∃ s, ACC.view.loc (c : Thread nD τ) ↦{fullShare} s)) ∗ (arg10.view.loc (c : Thread nD τ) ↦{fullShare} arg10.view.writes (Elt F) o (outL c (aEnd c arg1 arg2 arg3 arg6 arg9 g1 g2 d1 d2 I rw' xs b bd h E (k0_t3_loop v3).trips))) ∗ (∃ W, owes (c : Thread nD τ) 0 W)
          ∗ Ring.AtW (gateAt c g1 g2) (fun _ => none) ∗ Ring.AtW (downAt c d1 d2) (fun _ => none)) -∗ K ⟨⟩))
    ⊢ wp frame (wpE (defs₀ (F := F)) 𝒱₀ (c : Thread nD τ) none) Set.univ (cc0_mxfp4_moe (F := F) arg0 harg0 arg1 harg1 arg2 harg2 arg3 harg3 WG (Memref.isWhole_whole _) SG (Memref.isWhole_whole _) arg6 harg6 WD (Memref.isWhole_whole _) SD (Memref.isWhole_whole _) arg9 harg9 arg10 harg10 ACT (Memref.isWhole_whole _) COEF (Memref.isWhole_whole _) BWG (Memref.isWhole_whole _) BWD (Memref.isWhole_whole _) BSG (Memref.isWhole_whole _) BSD (Memref.isWhole_whole _) SG32 (Memref.isWhole_whole _) SD32 (Memref.isWhole_whole _) HREF (Memref.isWhole_whole _) PERM (Memref.isWhole_whole _) ACC (Memref.isWhole_whole _) SEMS) K := by
  rw [cc0_mxfp4_moe_eq_skeleton]
  unfold cc0_mxfp4_moe_skel
  sl_open_parts
  conv =>
    arg 2
    simp -proj -iota -zeta -eta -unfoldPartialApp only [Prog.bind_assoc, Prog.pure_eq_ret, Prog.bind_ret]
  iintro ⟨⟨HX, HI, Hrw, Hxs, Hb, Hbd⟩, ⟨Hact, Hco, Hsg, Hh, Hp, Ha⟩, Ho, HO, ⟨HGW, HGS⟩, ⟨HDW, HDS⟩, HK⟩
  iapply (mask_loop c arg0 harg0 arg1 harg1 arg2 harg2 arg3 harg3 arg6 harg6 arg9 harg9 arg10 harg10 𝒱₀ fullShare X _ _)
  isplitl [HX]; · iexact HX
  iintro HX
  iapply (list_loop c arg0 harg0 arg1 harg1 arg2 harg2 arg3 harg3 arg6 harg6 arg9 harg9 arg10 harg10 𝒱₀ _ hM act _ _)
  isplitl [Hact]; · iexact Hact
  iintro Hact
  rw [hv3, hact]
  sl_exec
  rw [show body_wp.sl.r c act' = (E 0).1 from h0]
  rw [wp_assume_of _ _ _ _ (d := k0_chk2.dec _) hw2]
  iapply (issue_gw c 𝒱₀ g1 (E 0) ⟨0, by decide⟩ _ K ![0, 0] ![0, 0, 0, 0, 0, 0] (k0_off3 (E 0).1) _ _ _ (by decide +kernel) (by decide +kernel) (by rw [off47v] <;> rfl))
  isplitl [HGW]; · iexact HGW
  isplitl [HO]; · iexact HO
  iintro ⟨HGW, HO⟩
  iapply (issue_gs c 𝒱₀ g2 (E 0) ⟨0, by decide⟩ _ K ![1, 0] ![0, 0, 0] (k0_off4 (E 0).1) _ _ _ (by decide +kernel) (by decide +kernel) (by rw [off50v] <;> rfl))
  isplitl [HGS]; · iexact HGS
  isplitl [HO]; · iexact HO
  iintro ⟨HGS, HO⟩
  iapply (issue_gw c 𝒱₀ g1 (E 0) ⟨1, by decide⟩ _ K ![0, 1] ![1, 0, 0, 0, 0, 0] (k0_off5 (E 0).1) _ _ _ (by decide +kernel) (by decide +kernel) (by rw [off47v] <;> rfl))
  isplitl [HGW]; · iexact HGW
  isplitl [HO]; · iexact HO
  iintro ⟨HGW, HO⟩
  iapply (issue_gs c 𝒱₀ g2 (E 0) ⟨1, by decide⟩ _ K ![1, 1] ![1, 0, 0] (k0_off6 (E 0).1) _ _ _ (by decide +kernel) (by decide +kernel) (by rw [off50v] <;> rfl))
  isplitl [HGS]; · iexact HGS
  isplitl [HO]; · iexact HO
  iintro ⟨HGS, HO⟩
  iapply (issue_gw c 𝒱₀ g1 (E 0) ⟨2, by decide⟩ _ K ![0, 2] ![2, 0, 0, 0, 0, 0] (k0_off7 (E 0).1) _ _ _ (by decide +kernel) (by decide +kernel) (by rw [off47v] <;> rfl))
  isplitl [HGW]; · iexact HGW
  isplitl [HO]; · iexact HO
  iintro ⟨HGW, HO⟩
  iapply (issue_gs c 𝒱₀ g2 (E 0) ⟨2, by decide⟩ _ K ![1, 2] ![2, 0, 0] (k0_off8 (E 0).1) _ _ _ (by decide +kernel) (by decide +kernel) (by rw [off50v] <;> rfl))
  isplitl [HGS]; · iexact HGS
  isplitl [HO]; · iexact HO
  iintro ⟨HGS, HO⟩
  iapply (issue_gw c 𝒱₀ g1 (E 0) ⟨3, by decide⟩ _ K ![0, 3] ![3, 0, 0, 0, 0, 0] (k0_off9 (E 0).1) _ _ _ (by decide +kernel) (by decide +kernel) (by rw [off47v] <;> rfl))
  isplitl [HGW]; · iexact HGW
  isplitl [HO]; · iexact HO
  iintro ⟨HGW, HO⟩
  iapply (issue_gs c 𝒱₀ g2 (E 0) ⟨3, by decide⟩ _ K ![1, 3] ![3, 0, 0] (k0_off10 (E 0).1) _ _ _ (by decide +kernel) (by decide +kernel) (by rw [off50v] <;> rfl))
  isplitl [HGS]; · iexact HGS
  isplitl [HO]; · iexact HO
  iintro ⟨HGS, HO⟩
  iapply (issue_gw c 𝒱₀ g1 (E 0) ⟨4, by decide⟩ _ K ![0, 4] ![4, 0, 0, 0, 0, 0] (k0_off11 (E 0).1) _ _ _ (by decide +kernel) (by decide +kernel) (by rw [off47v] <;> rfl))
  isplitl [HGW]; · iexact HGW
  isplitl [HO]; · iexact HO
  iintro ⟨HGW, HO⟩
  iapply (issue_gs c 𝒱₀ g2 (E 0) ⟨4, by decide⟩ _ K ![1, 4] ![4, 0, 0] (k0_off12 (E 0).1) _ _ _ (by decide +kernel) (by decide +kernel) (by rw [off50v] <;> rfl))
  isplitl [HGS]; · iexact HGS
  isplitl [HO]; · iexact HO
  iintro ⟨HGS, HO⟩
  iapply (issue_gw c 𝒱₀ g1 (E 0) ⟨5, by decide⟩ _ K ![0, 5] ![5, 0, 0, 0, 0, 0] (k0_off13 (E 0).1) _ _ _ (by decide +kernel) (by decide +kernel) (by rw [off47v] <;> rfl))
  isplitl [HGW]; · iexact HGW
  isplitl [HO]; · iexact HO
  iintro ⟨HGW, HO⟩
  iapply (issue_gs c 𝒱₀ g2 (E 0) ⟨5, by decide⟩ _ K ![1, 5] ![5, 0, 0] (k0_off14 (E 0).1) _ _ _ (by decide +kernel) (by decide +kernel) (by rw [off50v] <;> rfl))
  isplitl [HGS]; · iexact HGS
  isplitl [HO]; · iexact HO
  iintro ⟨HGS, HO⟩
  iapply (issue_gw c 𝒱₀ g1 (E 0) ⟨6, by decide⟩ _ K ![0, 6] ![6, 0, 0, 0, 0, 0] (k0_off15 (E 0).1) _ _ _ (by decide +kernel) (by decide +kernel) (by rw [off47v] <;> rfl))
  isplitl [HGW]; · iexact HGW
  isplitl [HO]; · iexact HO
  iintro ⟨HGW, HO⟩
  iapply (issue_gs c 𝒱₀ g2 (E 0) ⟨6, by decide⟩ _ K ![1, 6] ![6, 0, 0] (k0_off16 (E 0).1) _ _ _ (by decide +kernel) (by decide +kernel) (by rw [off50v] <;> rfl))
  isplitl [HGS]; · iexact HGS
  isplitl [HO]; · iexact HO
  iintro ⟨HGS, HO⟩
  iapply (issue_gw c 𝒱₀ g1 (E 0) ⟨7, by decide⟩ _ K ![0, 7] ![7, 0, 0, 0, 0, 0] (k0_off17 (E 0).1) _ _ _ (by decide +kernel) (by decide +kernel) (by rw [off47v] <;> rfl))
  isplitl [HGW]; · iexact HGW
  isplitl [HO]; · iexact HO
  iintro ⟨HGW, HO⟩
  iapply (issue_gs c 𝒱₀ g2 (E 0) ⟨7, by decide⟩ _ K ![1, 7] ![7, 0, 0] (k0_off18 (E 0).1) _ _ _ (by decide +kernel) (by decide +kernel) (by rw [off50v] <;> rfl))
  isplitl [HGS]; · iexact HGS
  isplitl [HO]; · iexact HO
  iintro ⟨HGS, HO⟩
  iapply (issue_gw c 𝒱₀ g1 (E 0) ⟨8, by decide⟩ _ K ![0, 8] ![8, 0, 0, 0, 0, 0] (k0_off19 (E 0).1) _ _ _ (by decide +kernel) (by decide +kernel) (by rw [off47v] <;> rfl))
  isplitl [HGW]; · iexact HGW
  isplitl [HO]; · iexact HO
  iintro ⟨HGW, HO⟩
  iapply (issue_gs c 𝒱₀ g2 (E 0) ⟨8, by decide⟩ _ K ![1, 8] ![8, 0, 0] (k0_off20 (E 0).1) _ _ _ (by decide +kernel) (by decide +kernel) (by rw [off50v] <;> rfl))
  isplitl [HGS]; · iexact HGS
  isplitl [HO]; · iexact HO
  iintro ⟨HGS, HO⟩
  iapply (issue_gw c 𝒱₀ g1 (E 0) ⟨9, by decide⟩ _ K ![0, 9] ![9, 0, 0, 0, 0, 0] (k0_off21 (E 0).1) _ _ _ (by decide +kernel) (by decide +kernel) (by rw [off47v] <;> rfl))
  isplitl [HGW]; · iexact HGW
  isplitl [HO]; · iexact HO
  iintro ⟨HGW, HO⟩
  iapply (issue_gs c 𝒱₀ g2 (E 0) ⟨9, by decide⟩ _ K ![1, 9] ![9, 0, 0] (k0_off22 (E 0).1) _ _ _ (by decide +kernel) (by decide +kernel) (by rw [off50v] <;> rfl))
  isplitl [HGS]; · iexact HGS
  isplitl [HO]; · iexact HO
  iintro ⟨HGS, HO⟩
  iapply (issue_gw c 𝒱₀ g1 (E 0) ⟨10, by decide⟩ _ K ![0, 10] ![10, 0, 0, 0, 0, 0] (k0_off23 (E 0).1) _ _ _ (by decide +kernel) (by decide +kernel) (by rw [off47v] <;> rfl))
  isplitl [HGW]; · iexact HGW
  isplitl [HO]; · iexact HO
  iintro ⟨HGW, HO⟩
  iapply (issue_gs c 𝒱₀ g2 (E 0) ⟨10, by decide⟩ _ K ![1, 10] ![10, 0, 0] (k0_off24 (E 0).1) _ _ _ (by decide +kernel) (by decide +kernel) (by rw [off50v] <;> rfl))
  isplitl [HGS]; · iexact HGS
  isplitl [HO]; · iexact HO
  iintro ⟨HGS, HO⟩
  iapply (issue_gw c 𝒱₀ g1 (E 0) ⟨11, by decide⟩ _ K ![0, 11] ![11, 0, 0, 0, 0, 0] (k0_off25 (E 0).1) _ _ _ (by decide +kernel) (by decide +kernel) (by rw [off47v] <;> rfl))
  isplitl [HGW]; · iexact HGW
  isplitl [HO]; · iexact HO
  iintro ⟨HGW, HO⟩
  iapply (issue_gs c 𝒱₀ g2 (E 0) ⟨11, by decide⟩ _ K ![1, 11] ![11, 0, 0] (k0_off26 (E 0).1) _ _ _ (by decide +kernel) (by decide +kernel) (by rw [off50v] <;> rfl))
  isplitl [HGS]; · iexact HGS
  isplitl [HO]; · iexact HO
  iintro ⟨HGS, HO⟩
  iapply (issue_gw c 𝒱₀ g1 (E 0) ⟨12, by decide⟩ _ K ![0, 12] ![12, 0, 0, 0, 0, 0] (k0_off27 (E 0).1) _ _ _ (by decide +kernel) (by decide +kernel) (by rw [off47v] <;> rfl))
  isplitl [HGW]; · iexact HGW
  isplitl [HO]; · iexact HO
  iintro ⟨HGW, HO⟩
  iapply (issue_gs c 𝒱₀ g2 (E 0) ⟨12, by decide⟩ _ K ![1, 12] ![12, 0, 0] (k0_off28 (E 0).1) _ _ _ (by decide +kernel) (by decide +kernel) (by rw [off50v] <;> rfl))
  isplitl [HGS]; · iexact HGS
  isplitl [HO]; · iexact HO
  iintro ⟨HGS, HO⟩
  iapply (issue_gw c 𝒱₀ g1 (E 0) ⟨13, by decide⟩ _ K ![0, 13] ![13, 0, 0, 0, 0, 0] (k0_off29 (E 0).1) _ _ _ (by decide +kernel) (by decide +kernel) (by rw [off47v] <;> rfl))
  isplitl [HGW]; · iexact HGW
  isplitl [HO]; · iexact HO
  iintro ⟨HGW, HO⟩
  iapply (issue_gs c 𝒱₀ g2 (E 0) ⟨13, by decide⟩ _ K ![1, 13] ![13, 0, 0] (k0_off30 (E 0).1) _ _ _ (by decide +kernel) (by decide +kernel) (by rw [off50v] <;> rfl))
  isplitl [HGS]; · iexact HGS
  isplitl [HO]; · iexact HO
  iintro ⟨HGS, HO⟩
  iapply (issue_gw c 𝒱₀ g1 (E 0) ⟨14, by decide⟩ _ K ![0, 14] ![14, 0, 0, 0, 0, 0] (k0_off31 (E 0).1) _ _ _ (by decide +kernel) (by decide +kernel) (by rw [off47v] <;> rfl))
  isplitl [HGW]; · iexact HGW
  isplitl [HO]; · iexact HO
  iintro ⟨HGW, HO⟩
  iapply (issue_gs c 𝒱₀ g2 (E 0) ⟨14, by decide⟩ _ K ![1, 14] ![14, 0, 0] (k0_off32 (E 0).1) _ _ _ (by decide +kernel) (by decide +kernel) (by rw [off50v] <;> rfl))
  isplitl [HGS]; · iexact HGS
  isplitl [HO]; · iexact HO
  iintro ⟨HGS, HO⟩
  iapply (issue_gw c 𝒱₀ g1 (E 0) ⟨15, by decide⟩ _ K ![0, 15] ![15, 0, 0, 0, 0, 0] (k0_off33 (E 0).1) _ _ _ (by decide +kernel) (by decide +kernel) (by rw [off47v] <;> rfl))
  isplitl [HGW]; · iexact HGW
  isplitl [HO]; · iexact HO
  iintro ⟨HGW, HO⟩
  iapply (issue_gs c 𝒱₀ g2 (E 0) ⟨15, by decide⟩ _ K ![1, 15] ![15, 0, 0] (k0_off34 (E 0).1) _ _ _ (by decide +kernel) (by decide +kernel) (by rw [off50v] <;> rfl))
  isplitl [HGS]; · iexact HGS
  isplitl [HO]; · iexact HO
  iintro ⟨HGS, HO⟩
  iapply (issue_dw c 𝒱₀ d1 (E 0) ⟨0, by decide⟩ _ K ![2, 0] ![0, 0, 0, 0, 0] (k0_off35 (E 0).1) _ _ _ (by decide +kernel) (by decide +kernel) (by rw [off63v] <;> rfl))
  isplitl [HDW]; · iexact HDW
  isplitl [HO]; · iexact HO
  iintro ⟨HDW, HO⟩
  iapply (issue_ds c 𝒱₀ d2 (E 0) ⟨0, by decide⟩ _ K ![3, 0] ![0, 0, 0] (k0_off36 (E 0).1) _ _ _ (by decide +kernel) (by decide +kernel) (by rw [off66v] <;> rfl))
  isplitl [HDS]; · iexact HDS
  isplitl [HO]; · iexact HO
  iintro ⟨HDS, HO⟩
  iapply (issue_dw c 𝒱₀ d1 (E 0) ⟨1, by decide⟩ _ K ![2, 1] ![1, 0, 0, 0, 0] (k0_off37 (E 0).1) _ _ _ (by decide +kernel) (by decide +kernel) (by rw [off63v] <;> rfl))
  isplitl [HDW]; · iexact HDW
  isplitl [HO]; · iexact HO
  iintro ⟨HDW, HO⟩
  iapply (issue_ds c 𝒱₀ d2 (E 0) ⟨1, by decide⟩ _ K ![3, 1] ![1, 0, 0] (k0_off38 (E 0).1) _ _ _ (by decide +kernel) (by decide +kernel) (by rw [off66v] <;> rfl))
  isplitl [HDS]; · iexact HDS
  isplitl [HO]; · iexact HO
  iintro ⟨HDS, HO⟩
  iapply (issue_dw c 𝒱₀ d1 (E 0) ⟨2, by decide⟩ _ K ![2, 2] ![2, 0, 0, 0, 0] (k0_off39 (E 0).1) _ _ _ (by decide +kernel) (by decide +kernel) (by rw [off63v] <;> rfl))
  isplitl [HDW]; · iexact HDW
  isplitl [HO]; · iexact HO
  iintro ⟨HDW, HO⟩
  iapply (issue_ds c 𝒱₀ d2 (E 0) ⟨2, by decide⟩ _ K ![3, 2] ![2, 0, 0] (k0_off40 (E 0).1) _ _ _ (by decide +kernel) (by decide +kernel) (by rw [off66v] <;> rfl))
  isplitl [HDS]; · iexact HDS
  isplitl [HO]; · iexact HO
  iintro ⟨HDS, HO⟩
  iapply (issue_dw c 𝒱₀ d1 (E 0) ⟨3, by decide⟩ _ K ![2, 3] ![3, 0, 0, 0, 0] (k0_off41 (E 0).1) _ _ _ (by decide +kernel) (by decide +kernel) (by rw [off63v] <;> rfl))
  isplitl [HDW]; · iexact HDW
  isplitl [HO]; · iexact HO
  iintro ⟨HDW, HO⟩
  iapply (issue_ds c 𝒱₀ d2 (E 0) ⟨3, by decide⟩ _ K ![3, 3] ![3, 0, 0] (k0_off42 (E 0).1) _ _ _ (by decide +kernel) (by decide +kernel) (by rw [off66v] <;> rfl))
  isplitl [HDS]; · iexact HDS
  isplitl [HO]; · iexact HO
  iintro ⟨HDS, HO⟩
  sl_exec
  iapply (expert_loop_bind c arg0 harg0 arg1 harg1 arg2 harg2 arg3 harg3 arg6 harg6 arg9 harg9 arg10 harg10 𝒱₀ g1 g2 d1 d2 v3 hw3 (E 0).1 hw2 _ _ b bd act' _ E h43 h44 hc h _ _ _)
  isplitl [HGW HGS]
  · iapply (gate_all c g1 g2 E _ hpos)
    isplitl [HGW]; · iexact HGW
    iexact HGS
  isplitl [HDW HDS]
  · iapply (down_all c d1 d2 E _ hpos)
    isplitl [HDW]; · iexact HDW
    iexact HDS
  isplitl [Hact Hco HO Hsg Hh Hp Hb Hbd Ha]
  · isplitl [Hact]; · iexact Hact
    isplitl [Hco]; · iexact Hco
    isplitl [HO]; · iexact HO
    isplitl [Hsg]; · iexists _; iexact Hsg
    isplitl [Hh]; · iexact Hh
    isplitl [Hp]; · iexact Hp
    isplitl [Hb]; · iexact Hb
    isplitl [Hbd]; · iexact Hbd
    iexact Ha
  iintro ⟨HG, HD, Hkit⟩
  unfold expKit
  icases Hkit with ⟨Hact, Hco, HO, Hsg, Hh, Hp, Hb, Hbd, Ha⟩
  sl_for0 h6
  sl_exec
  rw [wp_ret]
  imodintro
  iapply HK
  isplitl [HX HI Hrw Hxs Hb Hbd]
  · isplitl [HX]; · iexact HX
    isplitl [HI]; · iexact HI
    isplitl [Hrw]; · iexact Hrw
    isplitl [Hxs]; · iexact Hxs
    isplitl [Hb]; · iexact Hb
    iexact Hbd
  isplitl [Hact Hco Hsg Hh Hp Ha]
  · isplitl [Hact]; · iexists _; iexact Hact
    isplitl [Hco]; · iexists _; iexact Hco
    isplitl [Hsg]; · iexact Hsg
    isplitl [Hh]; · iexists _; iexact Hh
    isplitl [Hp]; · iexists _; iexact Hp
    iexists _; iexact Ha
  isplitl [Ho]; · unfold outL aEnd coV permV acc0; iexact Ho
  isplitl [HO]; · iexact HO
  isplitl [HG]; · iexact HG
  iexact HD

end Cert.Kernel.Hand

end
-- ==== Proof.Ids.lean ====
/-
  The mask and the list of experts the kernel builds from ids below eight.
-/
module

public import Idealize.ShloMosaic.Lib.CellWrites
public import proofs.«01_k».proof.Proof.Active
public import proofs.«01_k».proof.Proof.Words

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)

variable (arg0 : Memref sig .tc .smem S4x24 .i32)

/-- The experts among the first `k` whose bit the mask has. -/
def bitsTo (M : BitVec 32) (k : ℕ) : List ℕ := (List.range k).filter fun i => M.getLsbD i

/-- An expert's word, in range. -/
def toEx (i : ℕ) : Ex := if h : i < 8 then ⟨BitVec.ofNat 32 i, chk4_of ⟨i, h⟩⟩ else ⟨0#32, chk4_of 0⟩

theorem toEx_of_lt {i : ℕ} (h : i < 8) : (toEx i).1 = BitVec.ofNat 32 i := by unfold toEx; rw [dif_pos h]

/-- The `j`-th expert of the mask's list. -/
def listOf (M : BitVec 32) (j : ℕ) : Ex := toEx ((bitsTo M 8).getD j 0)

theorem bitsTo_succ (M : BitVec 32) (k : ℕ) : bitsTo M (k + 1) = bitsTo M k ++ (if M.getLsbD k then [k] else []) := by
  unfold bitsTo; rw [List.range_succ, List.filter_append]; congr 1
  by_cases h : M.getLsbD k <;> simp [h]

theorem bitsTo_lt (M : BitVec 32) (k i : ℕ) (h : i ∈ bitsTo M k) : i < k := by
  unfold bitsTo at h; exact List.mem_range.1 (List.mem_of_mem_filter h)

theorem bitsTo_len (M : BitVec 32) (k : ℕ) : (bitsTo M k).length ≤ k := by
  unfold bitsTo; exact (List.length_filter_le _ _).trans (by simp)

theorem cnt_step : ∀ k : Fin 8, ∀ m : Fin 9, ∀ b : Bool, Scalar.addi (BitVec.ofNat 32 m.val) (if b then 1#32 else 0#32) = BitVec.ofNat 32 (m.val + b.toNat) := by decide +kernel

theorem bit_of : ∀ M : Fin 256, ∀ k : Fin 8, Scalar.andi (Scalar.shrsi (BitVec.ofNat 32 M.val) (Scf.iv 0#32 1#32 k.val)) 1#32 = if (BitVec.ofNat 32 M.val).getLsbD k.val then 1#32 else 0#32 := by decide +kernel

theorem ofNat_self {M : BitVec 32} : BitVec.ofNat 32 M.toNat = M := by simp

theorem cntOf_eq (M : BitVec 32) (hM : M.toNat < 256) : ∀ k, k ≤ 8 → cntOf M k = BitVec.ofNat 32 (bitsTo M k).length
  | 0, _ => rfl
  | k + 1, hk => by
    have ih := cntOf_eq M hM k (by omega)
    have hb := bit_of ⟨M.toNat, hM⟩ ⟨k, by omega⟩
    simp only [ofNat_self] at hb
    have hl := bitsTo_len M k
    rw [cntOf, ih, hb, bitsTo_succ, List.length_append]
    have := cnt_step ⟨k, by omega⟩ ⟨(bitsTo M k).length, by omega⟩ (M.getLsbD k)
    rw [this]
    congr 1
    cases M.getLsbD k <;> simp

theorem off2_ofNat : ∀ m : Fin 9, k0_off2 (BitVec.ofNat 32 m.val) = ![m.val] := by decide +kernel

theorem iv_ofNat : ∀ k : Fin 8, Scf.iv 0#32 1#32 k.val = BitVec.ofNat 32 k.val := by decide +kernel

theorem chk1_cnt (M : BitVec 32) (hM : M.toNat < 256) (k : ℕ) (hk : k ≤ 8) : k0_chk1 (cntOf M k) := by
  rw [cntOf_eq M hM k hk]
  have := bitsTo_len M k
  exact chk1_of ⟨(bitsTo M k).length, by omega⟩

theorem actRd_store (act : Buf (Elt F) (ACT.view.loc (c : Thread nD τ))) (o o' : Fin 1 → ℕ) (ho : ∀ a, o a + S1.size a ≤ S9.size a)
    (ho' : ∀ a, o' a + S1.size a ≤ S9.size a) (w : BitVec 32) :
    actRd c (actStore c act o ho w) o' ho' = if o' 0 = o 0 then w else actRd c act o' ho' := by
  unfold actRd actStore
  rw [View.readAt_apply, View.readAt_apply]
  exact View.read_writes_cons_cell (Val := Elt F) (d := ![9]) ACT.view act ho w [] _

theorem actOf_read (M : BitVec 32) (hM : M.toNat < 256) (act : Buf (Elt F) (ACT.view.loc (c : Thread nD τ))) :
    ∀ k, k ≤ 8 → ∀ j (hj : j < (bitsTo M k).length) (o : Fin 1 → ℕ) (ho : ∀ a, o a + S1.size a ≤ S9.size a), o 0 = j →
      actRd c (actOf c M act k) o ho = BitVec.ofNat 32 ((bitsTo M k)[j])
  | 0, _, j, hj, _, _, _ => absurd hj (by simp [bitsTo])
  | k + 1, hk, j, hj, o, ho, hoj => by
    have hc := chk1_cnt M hM k (by omega)
    have hl := bitsTo_len M k
    have hcn := cntOf_eq M hM k (by omega)
    have h2 : k0_off2 (cntOf M k) 0 = (bitsTo M k).length := by
      rw [hcn, off2_ofNat ⟨(bitsTo M k).length, by omega⟩]; rfl
    have hs : actOf c M act (k + 1) = actStore c (actOf c M act k) (k0_off2 (cntOf M k)) (k0_off2_inb _ hc) (Scf.iv 0#32 1#32 k) := by
      rw [actOf, dif_pos hc]
    rw [hs, actRd_store, h2, hoj]
    have hsu := bitsTo_succ M k
    have hlen : (bitsTo M (k + 1)).length = (bitsTo M k).length + (if M.getLsbD k then [k] else []).length := by rw [hsu, List.length_append]
    by_cases hjl : j = (bitsTo M k).length
    · rw [if_pos hjl]
      have hb : M.getLsbD k = true := by
        by_contra hne
        simp only [Bool.not_eq_true] at hne
        rw [hne] at hlen
        simp at hlen; omega
      have : (bitsTo M (k + 1))[j] = k := by
        simp only [hsu, hb, if_true]
        subst hjl
        simp
      rw [this]; exact iv_ofNat ⟨k, by omega⟩
    · rw [if_neg hjl]
      have hjk : j < (bitsTo M k).length := by
        cases hb : M.getLsbD k <;> rw [hb] at hlen <;> simp at hlen <;> omega
      rw [actOf_read M hM act k (by omega) j hjk o ho hoj]
      congr 1
      simp only [hsu]
      rw [List.getElem_append_left hjk]

theorem or_step : ∀ (M : Fin 256) (i : Fin 8), (Scalar.ori (BitVec.ofNat 32 M.val) (Scalar.shli 1#32 (BitVec.ofNat 32 i.val))).toNat < 256
    ∧ (∀ e : Fin 8, (Scalar.ori (BitVec.ofNat 32 M.val) (Scalar.shli 1#32 (BitVec.ofNat 32 i.val))).getLsbD e.val = ((BitVec.ofNat 32 M.val).getLsbD e.val || decide (i = e))) := by decide +kernel

theorem mask_facts (X : Buf (Elt F) (arg0.view.loc (c : Thread nD τ))) (hX : ∀ k, (idRd c arg0 X k).toNat < 8) :
    ∀ k, k ≤ k0_t1_loop.trips → (maskOf c arg0 X k).toNat < 256 ∧
      ∀ e, e < 8 → ((maskOf c arg0 X k).getLsbD e = true ↔ ∃ j : Fin k0_t1_loop.trips, j.val < k ∧ (idRd c arg0 X j).toNat = e)
  | 0, _ => ⟨by rw [maskOf]; decide, fun e _ => by rw [maskOf]; simp⟩
  | k + 1, hk => by
    have ih := mask_facts X hX k (by omega)
    have hk' : k < k0_t1_loop.trips := by omega
    have hs : maskOf c arg0 X (k + 1) = Scalar.ori (maskOf c arg0 X k) (Scalar.shli 1#32 (idRd c arg0 X ⟨k, hk'⟩)) := by rw [maskOf, dif_pos hk']
    have ho := or_step ⟨(maskOf c arg0 X k).toNat, ih.1⟩ ⟨(idRd c arg0 X ⟨k, hk'⟩).toNat, hX _⟩
    simp only [ofNat_self] at ho
    rw [hs]
    refine ⟨ho.1, fun e he => ?_⟩
    have h2 := ho.2 ⟨e, he⟩
    simp only at h2
    rw [h2, Bool.or_eq_true, ih.2 e he, decide_eq_true_iff, Fin.mk.injEq]
    constructor
    · rintro (⟨j, hj, hje⟩ | hje)
      · exact ⟨j, by omega, hje⟩
      · exact ⟨⟨k, hk'⟩, by simp, hje⟩
    · rintro ⟨j, hj, hje⟩
      by_cases hjk : j.val = k
      · right
        rw [show (⟨k, hk'⟩ : Fin k0_t1_loop.trips) = j from Fin.ext hjk.symm]; exact hje
      · left; exact ⟨j, by omega, hje⟩

/-- What the scans of ids below eight give the rest of the kernel. -/
theorem list_facts (X : Buf (Elt F) (arg0.view.loc (c : Thread nD τ))) (hX : ∀ k, (idRd c arg0 X k).toNat < 8) (act : Buf (Elt F) (ACT.view.loc (c : Thread nD τ))) :
    let M := maskOf c arg0 X k0_t1_loop.trips
    let act' := actOf c M act k0_t2_loop.trips
    ∃ (m : ℕ) (hm : m < 9), m = (bitsTo M 8).length ∧ 0 < m ∧ (∀ k : Fin k0_t2_loop.trips, k0_chk1 (cntOf M k.val)) ∧ cntOf M k0_t2_loop.trips = BitVec.ofNat 32 m
      ∧ ∀ j, j < m → ∀ (o : Fin 1 → ℕ) (ho : ∀ a, o a + S1.size a ≤ S9.size a), o 0 = j → actRd c act' o ho = (listOf M j).1 := by
  intro M act'
  have h96 : k0_t1_loop.trips = 96 := by decide
  have h8 : k0_t2_loop.trips = 8 := by decide
  have hf := mask_facts c arg0 X hX k0_t1_loop.trips le_rfl
  have hl := bitsTo_len M 8
  refine ⟨(bitsTo M 8).length, by omega, rfl, ?_, fun k => chk1_cnt M hf.1 k.val (by have := k.isLt; omega), ?_, ?_⟩
  · have hz : (0 : ℕ) < k0_t1_loop.trips := by omega
    have hi := hX ⟨0, hz⟩
    have hbit := (hf.2 _ hi).2 ⟨⟨0, hz⟩, hz, rfl⟩
    exact List.length_pos_of_mem (List.mem_filter.2 ⟨List.mem_range.2 hi, hbit⟩)
  · rw [h8]; exact cntOf_eq M hf.1 8 le_rfl
  · intro j hj o ho hoj
    have h := actOf_read c M hf.1 act 8 le_rfl j hj o ho hoj
    have hlt := bitsTo_lt M 8 _ (List.getElem_mem hj)
    show actRd c (actOf c M act k0_t2_loop.trips) o ho = _
    rw [h8, h]
    unfold listOf
    rw [show (bitsTo M 8).getD j 0 = (bitsTo M 8)[j] by simp [List.getD, hj], toEx_of_lt hlt]

end Cert.Kernel.Hand

end
-- ==== Proof.Out.lean ====
/-
  The output is a function of the inputs: nothing of it depends on what the scratch held before.
-/
module

public import proofs.«01_k».proof.Proof.Body
public import proofs.«01_k».proof.Proof.Ids

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)
variable (arg0 : Memref sig .tc .smem S4x24 .i32) (harg0 : arg0.IsWhole) (arg1 : Memref sig .tc .vmem S4x24 .i32) (harg1 : arg1.IsWhole) (arg2 : Memref sig .tc .vmem S4x24 .f32) (harg2 : arg2.IsWhole) (arg3 : Memref sig .tc .vmem S24x2048 .bf16) (harg3 : arg3.IsWhole) (arg6 : Memref sig .tc .vmem S8x8192 .f32) (harg6 : arg6.IsWhole) (arg9 : Memref sig .tc .vmem S8x2048 .f32) (harg9 : arg9.IsWhole) (arg10 : Memref sig .tc .vmem S24x2048 .bf16) (harg10 : arg10.IsWhole)
variable (𝒱₀ : Variants) (g1 : Buf (Elt F) (WG.view.loc (c : Thread nD τ))) (g2 : Buf (Elt F) (SG.view.loc (c : Thread nD τ)))
    (d1 : Buf (Elt F) (WD.view.loc (c : Thread nD τ))) (d2 : Buf (Elt F) (SD.view.loc (c : Thread nD τ)))
    (X : Buf (Elt F) (arg0.view.loc (c : Thread nD τ))) (I : Buf (Elt F) (arg1.view.loc (c : Thread nD τ)))
    (rw' : Buf (Elt F) (arg2.view.loc (c : Thread nD τ))) (xs : Buf (Elt F) (arg3.view.loc (c : Thread nD τ)))
    (b : Buf (Elt F) (arg6.view.loc (c : Thread nD τ))) (bd : Buf (Elt F) (arg9.view.loc (c : Thread nD τ)))

theorem off60_eq : ∀ t : Fin k0_t4_loop.trips, k0_off60 t = ![t.val, 0, 0] := by decide +kernel

variable (x : Vec F S24x2048 .bf16) (p : Buf (Elt F) (PERM.view.loc (c : Thread nD τ)))

/-- The place inside its slot of an index of the hidden buffer. -/
def inSlot (y : S16x24x256.Idx) : S1x24x256.Idx := fun a => match a with
  | 0 => (⟨0, Nat.one_pos⟩ : Fin 1) | 1 => (y 1 : Fin 24) | 2 => (y 2 : Fin 256)

theorem href_ext (f f' : Buf (Elt F) (HREF.view.loc (c : Thread nD τ))) (h : ∀ y, HREF.view.read (Elt F) f y = HREF.view.read (Elt F) f' y) : f = f' := funext h

/-- One store into the hidden buffer, read at an index: the stored block at its slot, the rest elsewhere. -/
theorem hStore_apply (h : Buf (Elt F) (HREF.view.loc (c : Thread nD τ))) (t : Fin k0_t4_loop.trips) (w : Vec F S1x24x256 .bf16) (y : S16x24x256.Idx) :
    HREF.view.read (Elt F) (hStore c h t w) y = if hy : (y 0).val = t.val then w (inSlot y) else HREF.view.read (Elt F) h y := by
  unfold hStore
  by_cases hy : (y 0).val = t.val
  · rw [dif_pos hy]
    refine View.read_writes_cons_unit_of_mem (Val := Elt F) HREF.view h (k0_off60_inb t) w [] y (inSlot y) (off60_eq t) ?_
    intro a
    fin_cases a
    · simpa [inSlot] using hy
    · simp [inSlot]
    · simp [inSlot]; rfl
  · rw [dif_neg hy]
    refine View.read_writes_cons_unit_of_not_mem (Val := Elt F) HREF.view h (k0_off60_inb t) w [] y (off60_eq t) 0 ?_
    show (y 0).val < t.val ∨ t.val + 1 ≤ (y 0).val
    omega

theorem hLoop_read (e : Ex) (h h' : Buf (Elt F) (HREF.view.loc (c : Thread nD τ))) : ∀ k, k ≤ k0_t4_loop.trips → ∀ y : S16x24x256.Idx, (y 0).val < k →
    HREF.view.read (Elt F) (hLoop c arg6 g1 g2 x p b e h k) y = HREF.view.read (Elt F) (hLoop c arg6 g1 g2 x p b e h' k) y
  | 0, _, y, hy => absurd hy (Nat.not_lt_zero _)
  | k + 1, hk, y, hy => by
    have hk' : k < k0_t4_loop.trips := by omega
    have h1 : ∀ h, hLoop c arg6 g1 g2 x p b e h (k + 1) = hStore c (hLoop c arg6 g1 g2 x p b e h k) ⟨k, hk'⟩ (gateVal c arg6 g1 g2 x p b e ⟨k, hk'⟩) := fun h => by rw [hLoop, dif_pos hk']
    rw [h1, h1, hStore_apply, hStore_apply]
    by_cases hyk : (y 0).val = k
    · rw [dif_pos hyk, dif_pos hyk]
    · rw [dif_neg hyk, dif_neg hyk]; exact hLoop_read e h h' k (by omega) y (by omega)

theorem hLoop_indep (e : Ex) (h h' : Buf (Elt F) (HREF.view.loc (c : Thread nD τ))) :
    hLoop c arg6 g1 g2 x p b e h k0_t4_loop.trips = hLoop c arg6 g1 g2 x p b e h' k0_t4_loop.trips := by
  refine href_ext c _ _ fun y => ?_
  exact hLoop_read c arg6 g1 g2 b x p e h h' k0_t4_loop.trips le_rfl y (lt_of_lt_of_eq (y 0).isLt (by decide))

theorem ha_indep (E : ℕ → Ex) (co : Buf (Elt F) (COEF.view.loc (c : Thread nD τ))) (h h' : Buf (Elt F) (HREF.view.loc (c : Thread nD τ))) (a : Buf (Elt F) (ACC.view.loc (c : Thread nD τ))) :
    ∀ k, (ha c arg6 arg9 g1 g2 d1 d2 x p b bd E co h a k).2 = (ha c arg6 arg9 g1 g2 d1 d2 x p b bd E co h' a k).2
  | 0 => rfl
  | k + 1 => by
    rw [ha, ha, ha_indep E co h h' a k, hLoop_indep c arg6 g1 g2 b x p (E k) _ (ha c arg6 arg9 g1 g2 d1 d2 x p b bd E co h' a k).1]

/-- What the kernel writes into its output, as a function of its inputs. -/
def outVal : Vec F S24x2048 .bf16 :=
  (Memref.whole cc0_scratch8 : Memref sig .tc .vmem S16x24x256 .bf16).view.junk |> fun hj =>
    (fun (M : BitVec 32) => View.canon (outL c (aEnd c arg1 arg2 arg3 arg6 arg9 g1 g2 d1 d2 I rw' xs b bd hj (listOf M) (bitsTo M 8).length))) (maskOf c arg0 X k0_t1_loop.trips)

theorem outL_cover (a : Buf (Elt F) (ACC.view.loc (c : Thread nD τ))) : ∀ y : S24x2048.Idx, ∃ q ∈ outL c a, y ∈ q.1.set := by
  intro y
  have h0 : (y 0).val < 24 := (y 0).isLt
  have h1 : (y 1).val < 2048 := (y 1).isLt
  unfold outL
  by_cases ha : (y 1).val < 512
  · refine ⟨_, List.mem_cons_of_mem _ (List.mem_cons_of_mem _ (List.mem_cons_of_mem _ (List.mem_cons_self ..))), ?_⟩
    rw [Rect.mem_set_unit]; intro b; fin_cases b
    · exact ⟨Nat.zero_le _, by simpa using h0⟩
    · exact ⟨Nat.zero_le _, by show (y 1).val < 0 + 512; omega⟩
  by_cases hb : (y 1).val < 1024
  · refine ⟨_, List.mem_cons_of_mem _ (List.mem_cons_of_mem _ (List.mem_cons_self ..)), ?_⟩
    rw [Rect.mem_set_unit]; intro b; fin_cases b
    · exact ⟨Nat.zero_le _, by simpa using h0⟩
    · exact ⟨by show 512 ≤ (y 1).val; omega, by show (y 1).val < 512 + 512; omega⟩
  by_cases hc : (y 1).val < 1536
  · refine ⟨_, List.mem_cons_of_mem _ (List.mem_cons_self ..), ?_⟩
    rw [Rect.mem_set_unit]; intro b; fin_cases b
    · exact ⟨Nat.zero_le _, by simpa using h0⟩
    · exact ⟨by show 1024 ≤ (y 1).val; omega, by show (y 1).val < 1024 + 512; omega⟩
  · refine ⟨_, List.mem_cons_self .., ?_⟩
    rw [Rect.mem_set_unit]; intro b; fin_cases b
    · exact ⟨Nat.zero_le _, by simpa using h0⟩
    · exact ⟨by show 1536 ≤ (y 1).val; omega, by show (y 1).val < 1536 + 512; omega⟩

theorem gate_none (e : Ex) : Ring.AtW (gateAt c g1 g2) (fun _ => none) ⊢ iprop(Ring.AtW (gwAt c g1) (stI e 0) ∗ Ring.AtW (gsAt c g2) (stI e 0)) := by
  rw [stI_zero, gateRing_eq]
theorem down_none (e : Ex) : Ring.AtW (downAt c d1 d2) (fun _ => none) ⊢ iprop(Ring.AtW (dwAt c d1) (stI e 0) ∗ Ring.AtW (dsAt c d2) (stI e 0)) := by
  rw [stI_zero, downRing_eq]

theorem chk2_toEx (i : ℕ) : k0_chk2 (toEx i).1 := by
  unfold toEx; split
  · rename_i h; exact chk2_of ⟨i, h⟩
  · exact chk2_of 0

set_option maxHeartbeats 1600000 in
theorem body_ids (hX : ∀ k, (idRd c arg0 X k).toNat < 8) (act : Buf (Elt F) (ACT.view.loc (c : Thread nD τ))) (co : Buf (Elt F) (COEF.view.loc (c : Thread nD τ)))
    (sg : Buf (Elt F) (SG32.view.loc (c : Thread nD τ))) (h : Buf (Elt F) (HREF.view.loc (c : Thread nD τ)))
    (p : Buf (Elt F) (PERM.view.loc (c : Thread nD τ))) (a : Buf (Elt F) (ACC.view.loc (c : Thread nD τ)))
    (o : Buf (Elt F) (arg10.view.loc (c : Thread nD τ))) (K : Unit → sProp 𝕄) :
    iprop(((arg0.view.loc (c : Thread nD τ) ↦{fullShare} X) ∗ (arg1.view.loc (c : Thread nD τ) ↦{fullShare} I) ∗ (arg2.view.loc (c : Thread nD τ) ↦{fullShare} rw') ∗ (arg3.view.loc (c : Thread nD τ) ↦{fullShare} xs) ∗ (arg6.view.loc (c : Thread nD τ) ↦{fullShare} b) ∗ (arg9.view.loc (c : Thread nD τ) ↦{fullShare} bd)) ∗ ((ACT.view.loc (c : Thread nD τ) ↦{fullShare} act) ∗ (COEF.view.loc (c : Thread nD τ) ↦{fullShare} co) ∗ (SG32.view.loc (c : Thread nD τ) ↦{fullShare} sg) ∗ (HREF.view.loc (c : Thread nD τ) ↦{fullShare} h) ∗ (PERM.view.loc (c : Thread nD τ) ↦{fullShare} p) ∗ (ACC.view.loc (c : Thread nD τ) ↦{fullShare} a)) ∗ (arg10.view.loc (c : Thread nD τ) ↦{fullShare} o) ∗ (∃ W, owes (c : Thread nD τ) 0 W)
      ∗ Ring.AtW (gateAt c g1 g2) (fun _ => none) ∗ Ring.AtW (downAt c d1 d2) (fun _ => none)
      ∗ (iprop(((arg0.view.loc (c : Thread nD τ) ↦{fullShare} X) ∗ (arg1.view.loc (c : Thread nD τ) ↦{fullShare} I) ∗ (arg2.view.loc (c : Thread nD τ) ↦{fullShare} rw') ∗ (arg3.view.loc (c : Thread nD τ) ↦{fullShare} xs) ∗ (arg6.view.loc (c : Thread nD τ) ↦{fullShare} b) ∗ (arg9.view.loc (c : Thread nD τ) ↦{fullShare} bd)) ∗ ((∃ s, ACT.view.loc (c : Thread nD τ) ↦{fullShare} s) ∗ (∃ s, COEF.view.loc (c : Thread nD τ) ↦{fullShare} s) ∗ (∃ s, SG32.view.loc (c : Thread nD τ) ↦{fullShare} s) ∗ (∃ s, HREF.view.loc (c : Thread nD τ) ↦{fullShare} s) ∗ (∃ s, PERM.view.loc (c : Thread nD τ) ↦{fullShare} s) ∗ (∃ s, ACC.view.loc (c : Thread nD τ) ↦{fullShare} s)) ∗ (∃ f, iprop(⌜arg10.view.read (Elt F) f = outVal c arg0 arg1 arg2 arg3 arg6 arg9 g1 g2 d1 d2 X I rw' xs b bd⌝ ∗ (arg10.view.loc (c : Thread nD τ) ↦{fullShare} f))) ∗ (∃ W, owes (c : Thread nD τ) 0 W)
          ∗ Ring.AtW (gateAt c g1 g2) (fun _ => none) ∗ Ring.AtW (downAt c d1 d2) (fun _ => none)) -∗ K ⟨⟩))
    ⊢ wp frame (wpE (defs₀ (F := F)) 𝒱₀ (c : Thread nD τ) none) Set.univ (cc0_mxfp4_moe (F := F) arg0 harg0 arg1 harg1 arg2 harg2 arg3 harg3 WG (Memref.isWhole_whole _) SG (Memref.isWhole_whole _) arg6 harg6 WD (Memref.isWhole_whole _) SD (Memref.isWhole_whole _) arg9 harg9 arg10 harg10 ACT (Memref.isWhole_whole _) COEF (Memref.isWhole_whole _) BWG (Memref.isWhole_whole _) BWD (Memref.isWhole_whole _) BSG (Memref.isWhole_whole _) BSD (Memref.isWhole_whole _) SG32 (Memref.isWhole_whole _) SD32 (Memref.isWhole_whole _) HREF (Memref.isWhole_whole _) PERM (Memref.isWhole_whole _) ACC (Memref.isWhole_whole _) SEMS) K := by
  obtain ⟨m, hm, hmM, hpos, hM, hcnt, hlist⟩ := list_facts c arg0 X hX act
  have htr : (k0_t3_loop (BitVec.ofNat 32 m)).trips = m := trips3 ⟨m, hm⟩
  iintro ⟨Hin, Hscr, Ho, HO, HG, HD, HK⟩
  iapply (body_wp c arg0 harg0 arg1 harg1 arg2 harg2 arg3 harg3 arg6 harg6 arg9 harg9 arg10 harg10 𝒱₀ g1 g2 d1 d2 X I rw' xs b bd act co sg h p a o (BitVec.ofNat 32 m) (chk3_of ⟨m, hm⟩) hM hcnt _ rfl
    (listOf (maskOf c arg0 X k0_t1_loop.trips)) (by rw [htr]; exact hpos) (hlist 0 hpos _ _ rfl) (chk2_toEx _)
    (fun t => hlist _ (lt_of_lt_of_eq t.isLt htr) _ _ (off43_of ⟨m, hm⟩ t))
    (fun t => hlist _ (by omega) _ _ ((off44_of ⟨m, hm⟩ t).trans (by show min (t.val + 1) (m - 1) = _; omega)))
    (fun t => (cond1_of ⟨m, hm⟩ t).trans (by show t.val + 1 < m ↔ _; constructor <;> intro hh <;> omega)) (trips6 ⟨m, hm⟩) K)
  isplitl [Hin]; · iexact Hin
  isplitl [Hscr]; · iexact Hscr
  isplitl [Ho]; · iexact Ho
  isplitl [HO]; · iexact HO
  isplitl [HG]; · iapply (gate_none c g1 g2 _); iexact HG
  isplitl [HD]; · iapply (down_none c d1 d2 _); iexact HD
  iintro ⟨Hin, Hscr, Ho, HO, HG, HD⟩
  iapply HK
  isplitl [Hin]; · iexact Hin
  isplitl [Hscr]; · iexact Hscr
  isplitl [Ho]
  · iexists _
    isplitr
    rotate_left
    · iexact Ho
    · ipureintro
      rw [View.read_writes_eq_canon _ _ _ (outL_cover c _), htr, hmM]
      unfold outVal aEnd
      rw [ha_indep c arg6 arg9 g1 g2 d1 d2 b bd _ _ _ _ h]
  isplitl [HO]; · iexact HO
  isplitl [HG]; · iexact HG
  iexact HD

end Cert.Kernel.Hand

end
-- ==== Proof.Slots.lean ====
/-
  The slot buffers cut in slots, the sources dealt into read tokens, and the sixty-four cells named one by one: what
  the copies' two rings are made of when nothing is in flight.
-/
module

public import proofs.«01_k».proof.Proof.Rings

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)

theorem anyAt_intro {S : Shape} {e : EltTy} (dst : Memref sig .tc .vmem S e) (f : Buf (Elt F) (dst.view.loc (c : Thread nD τ))) :
    (dst.view.loc (c : Thread nD τ) ↦[dst.view.set]{fullShare} f : sProp 𝕄) ⊢ anyAt (F := F) c dst := by
  iintro H; iexists f; iexact H

/-- The slot's elements. -/
abbrev GWS (t : Fin k0_t4_loop.trips) : Finset S16x64x2x4x8x128.Idx := (slotGW t).view.set
theorem GW_set (t : Fin k0_t4_loop.trips) : GWS t = (Rect.unit (s := S16x64x2x4x8x128) (k0_off46 t) S1x64x2x4x8x128.size (k0_off46_inb t)).set :=
  (Memref.set_view_squeeze _ _).trans (View.set_slice_whole _ _)
theorem GW_disj : ∀ t t' : Fin k0_t4_loop.trips, t ≠ t' → Disjoint (GWS t) (GWS t') := fun t t' h => by
  rw [GW_set, GW_set]
  exact Ring.lead_disjoint (s := S16x64x2x4x8x128) (0 : Fin 6) 1 k0_off46 S1x64x2x4x8x128.size k0_off46_inb (by decide +kernel) rfl t t' h
theorem GW_cover : Finset.univ.biUnion GWS = Finset.univ := by
  rw [show (GWS : Fin k0_t4_loop.trips → Finset S16x64x2x4x8x128.Idx) = fun t => (Rect.unit (s := S16x64x2x4x8x128) (k0_off46 t) S1x64x2x4x8x128.size (k0_off46_inb t)).set from funext GW_set]
  exact Ring.lead_cover (s := S16x64x2x4x8x128) (0 : Fin 6) 1 k0_off46 S1x64x2x4x8x128.size k0_off46_inb (by decide +kernel) (by decide +kernel) rfl (by decide +kernel) (by decide +kernel)
/-- The buffer at anything is its slots at anything. -/
theorem GW_split : iprop(∃ f : Buf (Elt F) ((c : Thread nD τ).loc cc0_scratch2), ((c : Thread nD τ).loc cc0_scratch2) ↦{fullShare} f)
    ⊢ (bigSep Finset.univ (fun t => anyAt (F := F) c (slotGW t)) : sProp 𝕄) := by
  iintro ⟨%f, H⟩
  ihave H2 := (Entails.of_eq (Ring.pointsTo_blocks (Ix := Unit) (Name := ℕ) (U := Pipeline.UD sig nD τ) (Lvl := ℕ) (q := fullShare) (ℓ := (c : Thread nD τ).loc cc0_scratch2) GWS GW_disj GW_cover f)) $$ H
  have hm : (bigSep Finset.univ (fun t => (((c : Thread nD τ).loc cc0_scratch2) ↦[(slotGW t).view.set]{fullShare} f)) : sProp 𝕄) ⊢ bigSep Finset.univ (fun t => anyAt (F := F) c (slotGW t)) :=
    bigSep_mono fun t _ => anyAt_intro c (slotGW t) f
  iapply hm; iexact H2
theorem GW_join : (bigSep Finset.univ (fun t => anyAt (F := F) c (slotGW t)) : sProp 𝕄)
    ⊢ iprop(∃ f : Buf (Elt F) ((c : Thread nD τ).loc cc0_scratch2), ((c : Thread nD τ).loc cc0_scratch2) ↦{fullShare} f) :=
  Ring.pointsTo_blocks_join_exists (ℓ := (c : Thread nD τ).loc cc0_scratch2) GWS GW_disj GW_cover (fun _ => default)

/-- The slot's elements. -/
abbrev GSS (t : Fin k0_t4_loop.trips) : Finset S16x64x512.Idx := (slotGS t).view.set
theorem GS_set (t : Fin k0_t4_loop.trips) : GSS t = (Rect.unit (s := S16x64x512) (k0_off49 t) S1x64x512.size (k0_off49_inb t)).set :=
  (Memref.set_view_squeeze _ _).trans (View.set_slice_whole _ _)
theorem GS_disj : ∀ t t' : Fin k0_t4_loop.trips, t ≠ t' → Disjoint (GSS t) (GSS t') := fun t t' h => by
  rw [GS_set, GS_set]
  exact Ring.lead_disjoint (s := S16x64x512) (0 : Fin 3) 1 k0_off49 S1x64x512.size k0_off49_inb (by decide +kernel) rfl t t' h
theorem GS_cover : Finset.univ.biUnion GSS = Finset.univ := by
  rw [show (GSS : Fin k0_t4_loop.trips → Finset S16x64x512.Idx) = fun t => (Rect.unit (s := S16x64x512) (k0_off49 t) S1x64x512.size (k0_off49_inb t)).set from funext GS_set]
  exact Ring.lead_cover (s := S16x64x512) (0 : Fin 3) 1 k0_off49 S1x64x512.size k0_off49_inb (by decide +kernel) (by decide +kernel) rfl (by decide +kernel) (by decide +kernel)
/-- The buffer at anything is its slots at anything. -/
theorem GS_split : iprop(∃ f : Buf (Elt F) ((c : Thread nD τ).loc cc0_scratch4), ((c : Thread nD τ).loc cc0_scratch4) ↦{fullShare} f)
    ⊢ (bigSep Finset.univ (fun t => anyAt (F := F) c (slotGS t)) : sProp 𝕄) := by
  iintro ⟨%f, H⟩
  ihave H2 := (Entails.of_eq (Ring.pointsTo_blocks (Ix := Unit) (Name := ℕ) (U := Pipeline.UD sig nD τ) (Lvl := ℕ) (q := fullShare) (ℓ := (c : Thread nD τ).loc cc0_scratch4) GSS GS_disj GS_cover f)) $$ H
  have hm : (bigSep Finset.univ (fun t => (((c : Thread nD τ).loc cc0_scratch4) ↦[(slotGS t).view.set]{fullShare} f)) : sProp 𝕄) ⊢ bigSep Finset.univ (fun t => anyAt (F := F) c (slotGS t)) :=
    bigSep_mono fun t _ => anyAt_intro c (slotGS t) f
  iapply hm; iexact H2
theorem GS_join : (bigSep Finset.univ (fun t => anyAt (F := F) c (slotGS t)) : sProp 𝕄)
    ⊢ iprop(∃ f : Buf (Elt F) ((c : Thread nD τ).loc cc0_scratch4), ((c : Thread nD τ).loc cc0_scratch4) ↦{fullShare} f) :=
  Ring.pointsTo_blocks_join_exists (ℓ := (c : Thread nD τ).loc cc0_scratch4) GSS GS_disj GS_cover (fun _ => default)

/-- The slot's elements. -/
abbrev DWS (t : Fin k0_t5_loop.trips) : Finset S4x512x2x8x128.Idx := (slotDW t).view.set
theorem DW_set (t : Fin k0_t5_loop.trips) : DWS t = (Rect.unit (s := S4x512x2x8x128) (k0_off62 t) S1x512x2x8x128.size (k0_off62_inb t)).set :=
  (Memref.set_view_squeeze _ _).trans (View.set_slice_whole _ _)
theorem DW_disj : ∀ t t' : Fin k0_t5_loop.trips, t ≠ t' → Disjoint (DWS t) (DWS t') := fun t t' h => by
  rw [DW_set, DW_set]
  exact Ring.lead_disjoint (s := S4x512x2x8x128) (0 : Fin 5) 1 k0_off62 S1x512x2x8x128.size k0_off62_inb (by decide +kernel) rfl t t' h
theorem DW_cover : Finset.univ.biUnion DWS = Finset.univ := by
  rw [show (DWS : Fin k0_t5_loop.trips → Finset S4x512x2x8x128.Idx) = fun t => (Rect.unit (s := S4x512x2x8x128) (k0_off62 t) S1x512x2x8x128.size (k0_off62_inb t)).set from funext DW_set]
  exact Ring.lead_cover (s := S4x512x2x8x128) (0 : Fin 5) 1 k0_off62 S1x512x2x8x128.size k0_off62_inb (by decide +kernel) (by decide +kernel) rfl (by decide +kernel) (by decide +kernel)
/-- The buffer at anything is its slots at anything. -/
theorem DW_split : iprop(∃ f : Buf (Elt F) ((c : Thread nD τ).loc cc0_scratch3), ((c : Thread nD τ).loc cc0_scratch3) ↦{fullShare} f)
    ⊢ (bigSep Finset.univ (fun t => anyAt (F := F) c (slotDW t)) : sProp 𝕄) := by
  iintro ⟨%f, H⟩
  ihave H2 := (Entails.of_eq (Ring.pointsTo_blocks (Ix := Unit) (Name := ℕ) (U := Pipeline.UD sig nD τ) (Lvl := ℕ) (q := fullShare) (ℓ := (c : Thread nD τ).loc cc0_scratch3) DWS DW_disj DW_cover f)) $$ H
  have hm : (bigSep Finset.univ (fun t => (((c : Thread nD τ).loc cc0_scratch3) ↦[(slotDW t).view.set]{fullShare} f)) : sProp 𝕄) ⊢ bigSep Finset.univ (fun t => anyAt (F := F) c (slotDW t)) :=
    bigSep_mono fun t _ => anyAt_intro c (slotDW t) f
  iapply hm; iexact H2
theorem DW_join : (bigSep Finset.univ (fun t => anyAt (F := F) c (slotDW t)) : sProp 𝕄)
    ⊢ iprop(∃ f : Buf (Elt F) ((c : Thread nD τ).loc cc0_scratch3), ((c : Thread nD τ).loc cc0_scratch3) ↦{fullShare} f) :=
  Ring.pointsTo_blocks_join_exists (ℓ := (c : Thread nD τ).loc cc0_scratch3) DWS DW_disj DW_cover (fun _ => default)

/-- The slot's elements. -/
abbrev DSS (t : Fin k0_t5_loop.trips) : Finset S4x512x128.Idx := (slotDS t).view.set
theorem DS_set (t : Fin k0_t5_loop.trips) : DSS t = (Rect.unit (s := S4x512x128) (k0_off65 t) S1x512x128.size (k0_off65_inb t)).set :=
  (Memref.set_view_squeeze _ _).trans (View.set_slice_whole _ _)
theorem DS_disj : ∀ t t' : Fin k0_t5_loop.trips, t ≠ t' → Disjoint (DSS t) (DSS t') := fun t t' h => by
  rw [DS_set, DS_set]
  exact Ring.lead_disjoint (s := S4x512x128) (0 : Fin 3) 1 k0_off65 S1x512x128.size k0_off65_inb (by decide +kernel) rfl t t' h
theorem DS_cover : Finset.univ.biUnion DSS = Finset.univ := by
  rw [show (DSS : Fin k0_t5_loop.trips → Finset S4x512x128.Idx) = fun t => (Rect.unit (s := S4x512x128) (k0_off65 t) S1x512x128.size (k0_off65_inb t)).set from funext DS_set]
  exact Ring.lead_cover (s := S4x512x128) (0 : Fin 3) 1 k0_off65 S1x512x128.size k0_off65_inb (by decide +kernel) (by decide +kernel) rfl (by decide +kernel) (by decide +kernel)
/-- The buffer at anything is its slots at anything. -/
theorem DS_split : iprop(∃ f : Buf (Elt F) ((c : Thread nD τ).loc cc0_scratch5), ((c : Thread nD τ).loc cc0_scratch5) ↦{fullShare} f)
    ⊢ (bigSep Finset.univ (fun t => anyAt (F := F) c (slotDS t)) : sProp 𝕄) := by
  iintro ⟨%f, H⟩
  ihave H2 := (Entails.of_eq (Ring.pointsTo_blocks (Ix := Unit) (Name := ℕ) (U := Pipeline.UD sig nD τ) (Lvl := ℕ) (q := fullShare) (ℓ := (c : Thread nD τ).loc cc0_scratch5) DSS DS_disj DS_cover f)) $$ H
  have hm : (bigSep Finset.univ (fun t => (((c : Thread nD τ).loc cc0_scratch5) ↦[(slotDS t).view.set]{fullShare} f)) : sProp 𝕄) ⊢ bigSep Finset.univ (fun t => anyAt (F := F) c (slotDS t)) :=
    bigSep_mono fun t _ => anyAt_intro c (slotDS t) f
  iapply hm; iexact H2
theorem DS_join : (bigSep Finset.univ (fun t => anyAt (F := F) c (slotDS t)) : sProp 𝕄)
    ⊢ iprop(∃ f : Buf (Elt F) ((c : Thread nD τ).loc cc0_scratch5), ((c : Thread nD τ).loc cc0_scratch5) ↦{fullShare} f) :=
  Ring.pointsTo_blocks_join_exists (ℓ := (c : Thread nD τ).loc cc0_scratch5) DSS DS_disj DS_cover (fun _ => default)

/-- The copies' cells: a gate slot's two, a down slot's two. -/
abbrev osem0 : (Fin k0_t4_loop.trips ⊕ Fin k0_t4_loop.trips) ⊕ (Fin k0_t5_loop.trips ⊕ Fin k0_t5_loop.trips) → SemLoc sig
  | .inl (.inl t) => SemLoc.dma (cellGW t).sem
  | .inl (.inr t) => SemLoc.dma (cellGS t).sem
  | .inr (.inl t) => SemLoc.dma (cellDW t).sem
  | .inr (.inr t) => SemLoc.dma (cellDS t).sem
theorem ownSemFacts0 : Pipeline.OwnSemFacts spec0 osem0 := by decide +kernel
theorem ownSems00_eq : (Pipeline.ownSems0 (Ix := Unit) (Name := ℕ) (U := Pipeline.UD sig nD τ) (Lvl := ℕ) (Val := Elt F) (τ := τ) osem0 c : sProp 𝕄)
    = iprop(((bigSep Finset.univ fun t => semVal ((c : Thread nD τ), SemLoc.dma (cellGW t).sem) 0) ∗ (bigSep Finset.univ fun t => semVal ((c : Thread nD τ), SemLoc.dma (cellGS t).sem) 0))
      ∗ ((bigSep Finset.univ fun t => semVal ((c : Thread nD τ), SemLoc.dma (cellDW t).sem) 0) ∗ (bigSep Finset.univ fun t => semVal ((c : Thread nD τ), SemLoc.dma (cellDS t).sem) 0))) := by
  unfold Pipeline.ownSems0
  rw [bigSep_univ_sum, bigSep_univ_sum, bigSep_univ_sum]; rfl

theorem gate_free (f1 : Buf (Elt F) (WG.view.loc (c : Thread nD τ))) (f2 : Buf (Elt F) (SG.view.loc (c : Thread nD τ))) : (Ring.AtW (gateAt c f1 f2) (fun _ => none) : sProp 𝕄)
    = iprop(((bigSep Finset.univ fun t => semVal ((c : Thread nD τ), SemLoc.dma (cellGW t).sem) 0) ∗ (bigSep Finset.univ fun t => anyAt (F := F) c (slotGW t)) ∗ (bigSep Finset.univ fun t => tok c WG (qG t) Finset.univ f1)) ∗ ((bigSep Finset.univ fun t => semVal ((c : Thread nD τ), SemLoc.dma (cellGS t).sem) 0) ∗ (bigSep Finset.univ fun t => anyAt (F := F) c (slotGS t)) ∗ (bigSep Finset.univ fun t => tok c SG (qG t) Finset.univ f2))) := by
  unfold Ring.AtW
  simp only [gateAt]
  rw [bigSep_sep', bigSep_sep', bigSep_sep', bigSep_sep', bigSep_sep']
/-- Nothing in flight, from the cells at zero, the buffers and the sources whole; and back. -/
theorem gate_in (f1 : Buf (Elt F) (WG.view.loc (c : Thread nD τ))) (f2 : Buf (Elt F) (SG.view.loc (c : Thread nD τ))) : iprop(((bigSep Finset.univ fun t => semVal ((c : Thread nD τ), SemLoc.dma (cellGW t).sem) 0) ∗ (bigSep Finset.univ fun t => semVal ((c : Thread nD τ), SemLoc.dma (cellGS t).sem) 0)) ∗ (∃ f : Buf (Elt F) ((c : Thread nD τ).loc cc0_scratch2), ((c : Thread nD τ).loc cc0_scratch2) ↦{fullShare} f) ∗ (∃ f : Buf (Elt F) ((c : Thread nD τ).loc cc0_scratch4), ((c : Thread nD τ).loc cc0_scratch4) ↦{fullShare} f) ∗ (WG.view.loc (c : Thread nD τ) ↦{fullShare} f1) ∗ (SG.view.loc (c : Thread nD τ) ↦{fullShare} f2))
    ⊢ (iprop(Ring.AtW (gateAt c f1 f2) (fun _ => none) ∗ (WG.view.loc (c : Thread nD τ) ↦{Transfers.shareDrop fullShare k0_t4_loop.trips} f1) ∗ (SG.view.loc (c : Thread nD τ) ↦{Transfers.shareDrop fullShare k0_t4_loop.trips} f2)) : sProp 𝕄) := by
  rw [gate_free]
  iintro ⟨⟨Hw, Hs⟩, Bw, Bs, Xw, Xs⟩
  ihave ⟨Rw, Tw⟩ := (Transfers.pointsTo_toks_split fullShare k0_t4_loop.trips) $$ Xw
  ihave ⟨Rs, Ts⟩ := (Transfers.pointsTo_toks_split fullShare k0_t4_loop.trips) $$ Xs
  ihave Bw' := (GW_split c) $$ Bw
  ihave Bs' := (GS_split c) $$ Bs
  isplitl [Hw Bw' Tw Hs Bs' Ts]
  · isplitl [Hw Bw' Tw]
    · isplitl [Hw]; · iexact Hw
      isplitl [Bw']; · iexact Bw'
      iexact Tw
    · isplitl [Hs]; · iexact Hs
      isplitl [Bs']; · iexact Bs'
      iexact Ts
  isplitl [Rw]; · iexact Rw
  iexact Rs
theorem gate_out (f1 : Buf (Elt F) (WG.view.loc (c : Thread nD τ))) (f2 : Buf (Elt F) (SG.view.loc (c : Thread nD τ))) : (iprop(Ring.AtW (gateAt c f1 f2) (fun _ => none) ∗ (WG.view.loc (c : Thread nD τ) ↦{Transfers.shareDrop fullShare k0_t4_loop.trips} f1) ∗ (SG.view.loc (c : Thread nD τ) ↦{Transfers.shareDrop fullShare k0_t4_loop.trips} f2)) : sProp 𝕄)
    ⊢ iprop(((bigSep Finset.univ fun t => semVal ((c : Thread nD τ), SemLoc.dma (cellGW t).sem) 0) ∗ (bigSep Finset.univ fun t => semVal ((c : Thread nD τ), SemLoc.dma (cellGS t).sem) 0)) ∗ (∃ f : Buf (Elt F) ((c : Thread nD τ).loc cc0_scratch2), ((c : Thread nD τ).loc cc0_scratch2) ↦{fullShare} f) ∗ (∃ f : Buf (Elt F) ((c : Thread nD τ).loc cc0_scratch4), ((c : Thread nD τ).loc cc0_scratch4) ↦{fullShare} f) ∗ (WG.view.loc (c : Thread nD τ) ↦{fullShare} f1) ∗ (SG.view.loc (c : Thread nD τ) ↦{fullShare} f2)) := by
  rw [gate_free]
  iintro ⟨⟨⟨Hw, Bw', Tw⟩, ⟨Hs, Bs', Ts⟩⟩, Rw, Rs⟩
  isplitl [Hw Hs]
  · isplitl [Hw]; · iexact Hw
    iexact Hs
  isplitl [Bw']; · iapply (GW_join c); iexact Bw'
  isplitl [Bs']; · iapply (GS_join c); iexact Bs'
  isplitl [Rw Tw]
  · iapply (Transfers.pointsTo_toks_join fullShare k0_t4_loop.trips)
    isplitl [Rw]; · iexact Rw
    iexact Tw
  · iapply (Transfers.pointsTo_toks_join fullShare k0_t4_loop.trips)
    isplitl [Rs]; · iexact Rs
    iexact Ts

theorem down_free (f1 : Buf (Elt F) (WD.view.loc (c : Thread nD τ))) (f2 : Buf (Elt F) (SD.view.loc (c : Thread nD τ))) : (Ring.AtW (downAt c f1 f2) (fun _ => none) : sProp 𝕄)
    = iprop(((bigSep Finset.univ fun t => semVal ((c : Thread nD τ), SemLoc.dma (cellDW t).sem) 0) ∗ (bigSep Finset.univ fun t => anyAt (F := F) c (slotDW t)) ∗ (bigSep Finset.univ fun t => tok c WD (qD t) Finset.univ f1)) ∗ ((bigSep Finset.univ fun t => semVal ((c : Thread nD τ), SemLoc.dma (cellDS t).sem) 0) ∗ (bigSep Finset.univ fun t => anyAt (F := F) c (slotDS t)) ∗ (bigSep Finset.univ fun t => tok c SD (qD t) Finset.univ f2))) := by
  unfold Ring.AtW
  simp only [downAt]
  rw [bigSep_sep', bigSep_sep', bigSep_sep', bigSep_sep', bigSep_sep']
/-- Nothing in flight, from the cells at zero, the buffers and the sources whole; and back. -/
theorem down_in (f1 : Buf (Elt F) (WD.view.loc (c : Thread nD τ))) (f2 : Buf (Elt F) (SD.view.loc (c : Thread nD τ))) : iprop(((bigSep Finset.univ fun t => semVal ((c : Thread nD τ), SemLoc.dma (cellDW t).sem) 0) ∗ (bigSep Finset.univ fun t => semVal ((c : Thread nD τ), SemLoc.dma (cellDS t).sem) 0)) ∗ (∃ f : Buf (Elt F) ((c : Thread nD τ).loc cc0_scratch3), ((c : Thread nD τ).loc cc0_scratch3) ↦{fullShare} f) ∗ (∃ f : Buf (Elt F) ((c : Thread nD τ).loc cc0_scratch5), ((c : Thread nD τ).loc cc0_scratch5) ↦{fullShare} f) ∗ (WD.view.loc (c : Thread nD τ) ↦{fullShare} f1) ∗ (SD.view.loc (c : Thread nD τ) ↦{fullShare} f2))
    ⊢ (iprop(Ring.AtW (downAt c f1 f2) (fun _ => none) ∗ (WD.view.loc (c : Thread nD τ) ↦{Transfers.shareDrop fullShare k0_t5_loop.trips} f1) ∗ (SD.view.loc (c : Thread nD τ) ↦{Transfers.shareDrop fullShare k0_t5_loop.trips} f2)) : sProp 𝕄) := by
  rw [down_free]
  iintro ⟨⟨Hw, Hs⟩, Bw, Bs, Xw, Xs⟩
  ihave ⟨Rw, Tw⟩ := (Transfers.pointsTo_toks_split fullShare k0_t5_loop.trips) $$ Xw
  ihave ⟨Rs, Ts⟩ := (Transfers.pointsTo_toks_split fullShare k0_t5_loop.trips) $$ Xs
  ihave Bw' := (DW_split c) $$ Bw
  ihave Bs' := (DS_split c) $$ Bs
  isplitl [Hw Bw' Tw Hs Bs' Ts]
  · isplitl [Hw Bw' Tw]
    · isplitl [Hw]; · iexact Hw
      isplitl [Bw']; · iexact Bw'
      iexact Tw
    · isplitl [Hs]; · iexact Hs
      isplitl [Bs']; · iexact Bs'
      iexact Ts
  isplitl [Rw]; · iexact Rw
  iexact Rs
theorem down_out (f1 : Buf (Elt F) (WD.view.loc (c : Thread nD τ))) (f2 : Buf (Elt F) (SD.view.loc (c : Thread nD τ))) : (iprop(Ring.AtW (downAt c f1 f2) (fun _ => none) ∗ (WD.view.loc (c : Thread nD τ) ↦{Transfers.shareDrop fullShare k0_t5_loop.trips} f1) ∗ (SD.view.loc (c : Thread nD τ) ↦{Transfers.shareDrop fullShare k0_t5_loop.trips} f2)) : sProp 𝕄)
    ⊢ iprop(((bigSep Finset.univ fun t => semVal ((c : Thread nD τ), SemLoc.dma (cellDW t).sem) 0) ∗ (bigSep Finset.univ fun t => semVal ((c : Thread nD τ), SemLoc.dma (cellDS t).sem) 0)) ∗ (∃ f : Buf (Elt F) ((c : Thread nD τ).loc cc0_scratch3), ((c : Thread nD τ).loc cc0_scratch3) ↦{fullShare} f) ∗ (∃ f : Buf (Elt F) ((c : Thread nD τ).loc cc0_scratch5), ((c : Thread nD τ).loc cc0_scratch5) ↦{fullShare} f) ∗ (WD.view.loc (c : Thread nD τ) ↦{fullShare} f1) ∗ (SD.view.loc (c : Thread nD τ) ↦{fullShare} f2)) := by
  rw [down_free]
  iintro ⟨⟨⟨Hw, Bw', Tw⟩, ⟨Hs, Bs', Ts⟩⟩, Rw, Rs⟩
  isplitl [Hw Hs]
  · isplitl [Hw]; · iexact Hw
    iexact Hs
  isplitl [Bw']; · iapply (DW_join c); iexact Bw'
  isplitl [Bs']; · iapply (DS_join c); iexact Bs'
  isplitl [Rw Tw]
  · iapply (Transfers.pointsTo_toks_join fullShare k0_t5_loop.trips)
    isplitl [Rw]; · iexact Rw
    iexact Tw
  · iapply (Transfers.pointsTo_toks_join fullShare k0_t5_loop.trips)
    isplitl [Rs]; · iexact Rs
    iexact Ts

end Cert.Kernel.Hand

end
-- ==== Proof.Frame.lean ====
/-
  The frame: at any instance of the floats, the program runs, its argument arrays end unchanged and every counter ends
  at zero, whenever every routed expert id names one of the eight experts.
-/
module

public import proofs.«01_k».proof.Proof.Out
public import proofs.«01_k».proof.Proof.Slots
public import proofs.«01_k».proof.Proof.Gen.Kernel.Frame

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch, at this algebra -/

set_option maxHeartbeats 800000 in
theorem hmain' (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The arrays the copies read: the two weights, the two scales. -/
def H0 : Finset (Ref sig .tc) := {main_v1, main_v2, main_v4, main_arg7}
theorem H0_sub : H0 ⊆ Pipeline.restRefs sig spec0 := by decide
theorem hbm_eq (c : Dev nD) :
    (bigSep H0 (fun b => ((c : Thread nD τ).loc b) ↦{fullShare} V m c b) : sProp 𝕄)
      = iprop((WG.view.loc (c : Thread nD τ) ↦{fullShare} V m c main_v1) ∗ (SG.view.loc (c : Thread nD τ) ↦{fullShare} V m c main_v2)
          ∗ (WD.view.loc (c : Thread nD τ) ↦{fullShare} V m c main_v4) ∗ (SD.view.loc (c : Thread nD τ) ↦{fullShare} V m c main_arg7)) := by
  rw [BI.bigSep_eq_bigSepL_of_eq [main_v1, main_v2, main_v4, main_arg7] (by decide) (by decide)]; rfl

/-! ## The staged blocks -/

theorem iblk_0 (c : Dev nD) (t : Fin cfg0.N) : iblk m c 0 t = V m c main_v6 :=
  funext fun y => congrArg (V m c main_v6) (funext fun a => Fin.ext (by show 0 * (S4x24.size a) + 1 * (y a).val = (y a).val; omega))
theorem iblk_1 (c : Dev nD) (t : Fin cfg0.N) : iblk m c 1 t = V m c main_v6 :=
  funext fun y => congrArg (V m c main_v6) (funext fun a => Fin.ext (by show 0 * (S4x24.size a) + 1 * (y a).val = (y a).val; omega))
theorem iblk_2 (c : Dev nD) (t : Fin cfg0.N) : iblk m c 2 t = V m c main_v8 :=
  funext fun y => congrArg (V m c main_v8) (funext fun a => Fin.ext (by show 0 * (S4x24.size a) + 1 * (y a).val = (y a).val; omega))
theorem iblk_3 (c : Dev nD) (t : Fin cfg0.N) : iblk m c 3 t = V m c main_v9 :=
  funext fun y => congrArg (V m c main_v9) (funext fun a => Fin.ext (by show 0 * (S24x2048.size a) + 1 * (y a).val = (y a).val; omega))
theorem iblk_4 (c : Dev nD) (t : Fin cfg0.N) : iblk m c 4 t = V m c main_arg5 :=
  funext fun y => congrArg (V m c main_arg5) (funext fun a => Fin.ext (by show 0 * (S8x8192.size a) + 1 * (y a).val = (y a).val; omega))
theorem iblk_5 (c : Dev nD) (t : Fin cfg0.N) : iblk m c 5 t = V m c main_arg8 :=
  funext fun y => congrArg (V m c main_arg8) (funext fun a => Fin.ext (by show 0 * (S8x2048.size a) + 1 * (y a).val = (y a).val; omega))

/-- What the body leaves in the result's staging buffer. -/
def out6 (c : Dev nD) : Vec F S24x2048 .bf16 :=
  outVal c (Memref.whole cc0_stg0_0) (Memref.whole cc0_stg1_0) (Memref.whole cc0_stg2_0) (Memref.whole cc0_stg3_0) (Memref.whole cc0_stg4_0) (Memref.whole cc0_stg5_0)
    (V m c main_v1) (V m c main_v2) (V m c main_v4) (V m c main_arg7) (V m c main_v6) (V m c main_v6) (V m c main_v8) (V m c main_v9) (V m c main_arg5) (V m c main_arg8)

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c
  Φ _ := Pipeline.ΦD osem0 spec0 H0 (V m) c
  q w := Pipeline.shareOf spec0 w
  owed _ := 0

theorem A_eq (c : Dev nD) (w : Fin cfg0.W) : (dats m 0 c).A w = V m c (Pipeline.arrRef spec0 w) := by
  dsimp only [dats]
theorem after_6 (c : Dev nD) (t : Fin cfg0.N) : (dats m 0 c).after 6 t = out6 m c := by dsimp only [dats]
theorem after_0 (c : Dev nD) (t : Fin cfg0.N) : (dats m 0 c).after 0 t = V m c main_v6 :=
  (show (dats m 0 c).after 0 t = iblk m c 0 t by dsimp only [dats]).trans (iblk_0 m c t)
theorem before_0 (c : Dev nD) (t : Fin cfg0.N) (d) : (dats m 0 c).before 0 t d = V m c main_v6 :=
  (((dats m 0 c).before_in_eq_fetched 0 rfl (fun _ => rfl) (fun _ _ _ => rfl) (fun t => by dsimp only [dats]; unfold Dat.blockOf iblk; rfl) t d).trans
    (show (dats m 0 c).fetched 0 t d = iblk m c 0 t by unfold Dat.fetched Dat.blockOf iblk; rfl)).trans (iblk_0 m c t)
theorem after_1 (c : Dev nD) (t : Fin cfg0.N) : (dats m 0 c).after 1 t = V m c main_v6 :=
  (show (dats m 0 c).after 1 t = iblk m c 1 t by dsimp only [dats]).trans (iblk_1 m c t)
theorem before_1 (c : Dev nD) (t : Fin cfg0.N) (d) : (dats m 0 c).before 1 t d = V m c main_v6 :=
  (((dats m 0 c).before_in_eq_fetched 1 rfl (fun _ => rfl) (fun _ _ _ => rfl) (fun t => by dsimp only [dats]; unfold Dat.blockOf iblk; rfl) t d).trans
    (show (dats m 0 c).fetched 1 t d = iblk m c 1 t by unfold Dat.fetched Dat.blockOf iblk; rfl)).trans (iblk_1 m c t)
theorem after_2 (c : Dev nD) (t : Fin cfg0.N) : (dats m 0 c).after 2 t = V m c main_v8 :=
  (show (dats m 0 c).after 2 t = iblk m c 2 t by dsimp only [dats]).trans (iblk_2 m c t)
theorem before_2 (c : Dev nD) (t : Fin cfg0.N) (d) : (dats m 0 c).before 2 t d = V m c main_v8 :=
  (((dats m 0 c).before_in_eq_fetched 2 rfl (fun _ => rfl) (fun _ _ _ => rfl) (fun t => by dsimp only [dats]; unfold Dat.blockOf iblk; rfl) t d).trans
    (show (dats m 0 c).fetched 2 t d = iblk m c 2 t by unfold Dat.fetched Dat.blockOf iblk; rfl)).trans (iblk_2 m c t)
theorem after_3 (c : Dev nD) (t : Fin cfg0.N) : (dats m 0 c).after 3 t = V m c main_v9 :=
  (show (dats m 0 c).after 3 t = iblk m c 3 t by dsimp only [dats]).trans (iblk_3 m c t)
theorem before_3 (c : Dev nD) (t : Fin cfg0.N) (d) : (dats m 0 c).before 3 t d = V m c main_v9 :=
  (((dats m 0 c).before_in_eq_fetched 3 rfl (fun _ => rfl) (fun _ _ _ => rfl) (fun t => by dsimp only [dats]; unfold Dat.blockOf iblk; rfl) t d).trans
    (show (dats m 0 c).fetched 3 t d = iblk m c 3 t by unfold Dat.fetched Dat.blockOf iblk; rfl)).trans (iblk_3 m c t)
theorem after_4 (c : Dev nD) (t : Fin cfg0.N) : (dats m 0 c).after 4 t = V m c main_arg5 :=
  (show (dats m 0 c).after 4 t = iblk m c 4 t by dsimp only [dats]).trans (iblk_4 m c t)
theorem before_4 (c : Dev nD) (t : Fin cfg0.N) (d) : (dats m 0 c).before 4 t d = V m c main_arg5 :=
  (((dats m 0 c).before_in_eq_fetched 4 rfl (fun _ => rfl) (fun _ _ _ => rfl) (fun t => by dsimp only [dats]; unfold Dat.blockOf iblk; rfl) t d).trans
    (show (dats m 0 c).fetched 4 t d = iblk m c 4 t by unfold Dat.fetched Dat.blockOf iblk; rfl)).trans (iblk_4 m c t)
theorem after_5 (c : Dev nD) (t : Fin cfg0.N) : (dats m 0 c).after 5 t = V m c main_arg8 :=
  (show (dats m 0 c).after 5 t = iblk m c 5 t by dsimp only [dats]).trans (iblk_5 m c t)
theorem before_5 (c : Dev nD) (t : Fin cfg0.N) (d) : (dats m 0 c).before 5 t d = V m c main_arg8 :=
  (((dats m 0 c).before_in_eq_fetched 5 rfl (fun _ => rfl) (fun _ _ _ => rfl) (fun t => by dsimp only [dats]; unfold Dat.blockOf iblk; rfl) t d).trans
    (show (dats m 0 c).fetched 5 t d = iblk m c 5 t by unfold Dat.fetched Dat.blockOf iblk; rfl)).trans (iblk_5 m c t)

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t))

/-- Every routed id names an expert. -/
def Named : Prop := ∀ (c : Dev nD) (k : Fin k0_t1_loop.trips), (idRd c (Memref.whole cc0_stg0_0) (V m c main_v6) k).toNat < 8

set_option maxHeartbeats 1600000 in
theorem sound_body (hX : Named m) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after_0, after_1, after_2, after_3, after_4, after_5, after_6]
  simp only [before_0, before_1, before_2, before_3, before_4, before_5]
  rw [show (dats m 0 c).Φ t.castSucc = Pipeline.ΦD osem0 spec0 H0 (V m) c from rfl, Pipeline.ΦD_eq, scopedRest0_eq, ownSems00_eq, hbm_eq]
  unfold Dat.owesAt Pipeline.owesWithin
  rw [show (dats m 0 c).owed t.castSucc = 0 from rfl, show (dats m 0 c).owed t.succ = 0 from rfl]
  simp only [owns_whole]
  iintro ⟨⟨⟨⟨%s1, S1⟩, S2, S3, S4, S5, ⟨%s6, S6⟩, S7, ⟨%s8, S8⟩, ⟨%s9, S9⟩, ⟨%s10, S10⟩, ⟨%s0, S0⟩⟩, Hg, ⟨Hqg, Hqd⟩, ⟨Hw1, Hw2, Hw4, Hw7⟩⟩, ⟨%W, -, HW⟩, ⟨%d0, H0⟩, ⟨%d1, H1⟩, ⟨%d2, H2⟩, ⟨%d3, H3⟩, ⟨%d4, H4⟩, ⟨%d5, H5⟩, ⟨%d6, H6⟩⟩
  ihave ⟨HG, Rg1, Rg2⟩ := (gate_in c (V m c main_v1) (V m c main_v2)) $$ [Hqg S2 S4 Hw1 Hw2]
  · isplitl [Hqg]; · iexact Hqg
    isplitl [S2]; · iexact S2
    isplitl [S4]; · iexact S4
    isplitl [Hw1]; · iexact Hw1
    iexact Hw2
  ihave ⟨HD, Rd1, Rd2⟩ := (down_in c (V m c main_v4) (V m c main_arg7)) $$ [Hqd S3 S5 Hw4 Hw7]
  · isplitl [Hqd]; · iexact Hqd
    isplitl [S3]; · iexact S3
    isplitl [S5]; · iexact S5
    isplitl [Hw4]; · iexact Hw4
    iexact Hw7
  iapply (body_ids c (Memref.whole cc0_stg0_0) (hstage0_0 0) (Memref.whole cc0_stg1_0) (hstage0_1 0) (Memref.whole cc0_stg2_0) (hstage0_2 0) (Memref.whole cc0_stg3_0) (hstage0_3 0)
    (Memref.whole cc0_stg4_0) (hstage0_4 0) (Memref.whole cc0_stg5_0) (hstage0_5 0) (Memref.whole cc0_stg6_0) (hstage0_6 0) Variants.none
    (V m c main_v1) (V m c main_v2) (V m c main_v4) (V m c main_arg7) (V m c main_v6) (V m c main_v6) (V m c main_v8) (V m c main_v9) (V m c main_arg5) (V m c main_arg8) (hX c)
    s0 s1 s6 s8 s9 s10 _ _)
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [S0 S1 S6 S8 S9 S10]
  · isplitl [S0]; · iexact S0
    isplitl [S1]; · iexact S1
    isplitl [S6]; · iexact S6
    isplitl [S8]; · iexact S8
    isplitl [S9]; · iexact S9
    iexact S10
  isplitl [H6]; · iexact H6
  isplitl [HW]; · iexists W; iexact HW
  isplitl [HG]; · iexact HG
  isplitl [HD]; · iexact HD
  iintro ⟨⟨H0, H1, H2, H3, H4, H5⟩, ⟨S0, S1, S6, S8, S9, S10⟩, ⟨%f6, %hf6, H6⟩, ⟨%W', HW'⟩, HG, HD⟩
  ihave ⟨Hqg, S2, S4, Hw1, Hw2⟩ := (gate_out c (V m c main_v1) (V m c main_v2)) $$ [HG Rg1 Rg2]
  · isplitl [HG]; · iexact HG
    isplitl [Rg1]; · iexact Rg1
    iexact Rg2
  ihave ⟨Hqd, S3, S5, Hw4, Hw7⟩ := (down_out c (V m c main_v4) (V m c main_arg7)) $$ [HD Rd1 Rd2]
  · isplitl [HD]; · iexact HD
    isplitl [Rd1]; · iexact Rd1
    iexact Rd2
  isplitl [S1 S2 S3 S4 S5 S6 S7 S8 S9 S10 S0 Hg Hqg Hqd Hw1 Hw2 Hw4 Hw7]
  · isplitl [S1 S2 S3 S4 S5 S6 S7 S8 S9 S10 S0]
    · isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iexact S0
    isplitl [Hg]; · iexact Hg
    isplitl [Hqg Hqd]
    · isplitl [Hqg]; · iexact Hqg
      iexact Hqd
    isplitl [Hw1]; · iexact Hw1
    isplitl [Hw2]; · iexact Hw2
    isplitl [Hw4]; · iexact Hw4
    iexact Hw7
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  rw [show f6 = out6 m c from hf6]
  iexact H6

theorem defs₀_row (t : Fin cfg0.N) :
    defs₀ (F := F) .tc cfg0.body (cfg0.bodyArgs t (cfg0.slots t)) = bodyAt0 t := by
  unfold defs₀; rw [Defs.onTc_tc]

theorem body_obligation (hX : Named m) (c : Dev nD) : BodyObligation (dats (F := F) m 0 c) (defs₀ (F := F)) Variants.none () Set.univ := fun t => by
  rw [bigSep_W0, bigSep_W0, defs₀_row]
  exact triple_restated (sound_body m hX c t) rfl .rfl fun _ => .rfl

/-! ## The run and the frame -/

theorem sfx_sub' : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  simp only [hostOps1, List.mem_cons, List.mem_nil_iff, or_false] at hop
  rcases hop with rfl
  refine Pipeline.sub_tailRefsBut Pipeline.Prefetch.none spec0 H0 _ (StableHlo.reshape_bufs_sub ..) (fun k => k.elim0) fun b hb h => ?_
  have e : b = main_v10 ∨ b = main_v11 := by
    rcases Finset.mem_insert.mp (show Proc.devRef .tc b ∈ ({Proc.devRef .tc main_v10, Proc.devRef .tc main_v11} : Finset _) from h) with h | h
    · exact Or.inl (by by_contra hne; exact StableHlo.devRef_ne_of_ne hne h)
    · exact Or.inr (by by_contra hne; exact StableHlo.devRef_ne_of_ne hne (Finset.mem_singleton.mp h))
  rcases e with rfl | rfl <;> revert hb <;> decide

set_option backward.isDefEq.respectTransparency.types false in
theorem run_main (hX : Named m) : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around_shared (Q' := _) cfgs (dats m) (0 : Fin 1) launch₀0 osem0 defs₀ Variants.none ownSemFacts0 H0 H0_sub m ρ main
    (hbody := fun c => (body_obligation m hX c).loose) (hq := fun c w _ => rfl) (howed := fun _ _ => rfl)
    (V₀ := V0 m) (opss := [hostOps1]) (hsub := sfx_sub') (hfresh := sfx_fresh) (hkeep := sfx_keeps)
    (hmain := hmain' m Variants.none) (hA := A_eq m) (hin := fun _ => .rfl) (hout := fun _ => .rfl)

/-- No host operation after the region writes an argument array: it ends as launched. -/
theorem W_arg (c : Dev nD) (b : Ref sig .tc) (hb : b ≠ main_v11) (hw : ∀ w, Pipeline.arrRef spec0 w ≠ b) (hv : V m c b = m ((c : Thread nD τ).loc b)) :
    Pipeline.afterTail₀ cfgs (dats m) 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne hb)),
    Pipeline.withArrays_of_ne _ c (V0 m c) _ b hw]
  exact hv

theorem frame_named (hX : Named m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Pipeline.mem_restRefs_of main_arg0 (by decide) (by decide))).trans (W_arg m c main_arg0 (by decide) (by decide) (V_main_arg0 m c)),
      ((h.1 c).2 main_arg1 (Pipeline.mem_restRefs_of main_arg1 (by decide) (by decide))).trans (W_arg m c main_arg1 (by decide) (by decide) (V_main_arg1 m c)),
      ((h.1 c).2 main_arg2 (Pipeline.mem_restRefs_of main_arg2 (by decide) (by decide))).trans (W_arg m c main_arg2 (by decide) (by decide) (V_main_arg2 m c)),
      ((h.1 c).2 main_arg3 (Pipeline.mem_restRefs_of main_arg3 (by decide) (by decide))).trans (W_arg m c main_arg3 (by decide) (by decide) (V_main_arg3 m c)),
      ((h.1 c).2 main_arg4 (Pipeline.mem_restRefs_of main_arg4 (by decide) (by decide))).trans (W_arg m c main_arg4 (by decide) (by decide) (V_main_arg4 m c)),
      ((h.1 c).1 4).trans (((dats m 0 c).arrAt_in 4 rfl _).trans ((A_eq m c 4).trans (V_main_arg5 m c))),
      ((h.1 c).2 main_arg6 (Pipeline.mem_restRefs_of main_arg6 (by decide) (by decide))).trans (W_arg m c main_arg6 (by decide) (by decide) (V_main_arg6 m c)),
      ((h.1 c).2 main_arg7 (Pipeline.mem_restRefs_of main_arg7 (by decide) (by decide))).trans (W_arg m c main_arg7 (by decide) (by decide) (V_main_arg7 m c)),
      ((h.1 c).1 5).trans (((dats m 0 c).arrAt_in 5 rfl _).trans ((A_eq m c 5).trans (V_main_arg8 m c)))⟩, h.2⟩) (run_main m ρ hX)

end Cert.Kernel.Hand

end
-- ==== Proof.Named.lean ====
/-
  The precondition gives what the frame asks: every routed expert id names one of the eight experts.
-/
module

public import proofs.«01_k».proof.Proof.Frame
public import proofs.«01_k».proof.Proof.Gen.Pre_names_experts
public import Idealize.ShloMosaic.Lib.ReduceAll
public import Idealize.ShloMosaic.Lib.StableHlo.RunRead

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The routed ids as the kernel stages them: one row per slot. -/
theorem V_main_v6 (c : Dev nD) : V m c main_v6 = transpose S4x24 [1, 0] (shapeCast S24x4 (m ((c : Thread nD τ).loc main_arg1)) shapeCasts_S24x1x4_S24x4) transposes_S24x4_S4x24_1_0 := by
  show StableHlo.after hostOps0 _ (Proc.devRef .tc main_v6) = _
  after_reads_simp
  rfl

/-- Each staged id is one of the argument's. -/
theorem v6_mem (c : Dev nD) (y : S4x24.Idx) : ∃ i : S24x1x4.Idx, V m c main_v6 y = m ((c : Thread nD τ).loc main_arg1) i := by
  rw [V_main_v6]; exact ⟨_, rfl⟩

theorem id_lt (v : BitVec 32) (e : IntOp.andi (IntOp.cmpi .sge v 0#32) (IntOp.cmpi .slt v 8#32) = 1#1) : v.toNat < 8 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem named_of_pre
    (h : ∀ c : Dev nD, ∀ i : S24x1x4.Idx, IntOp.andi (IntOp.cmpi .sge (m ((c : Thread nD τ).loc main_arg1) i) 0#32) (IntOp.cmpi .slt (m ((c : Thread nD τ).loc main_arg1) i) 8#32) = 1#1) :
    Named m := fun c k => by
  obtain ⟨i, hi⟩ := v6_mem m c ((Rect.unit (s := S4x24) (k0_off1 k) S1x1.size (k0_off1_inb k)).toLoadRect.idx (Shape.Idx.first (numel1_S1x1.symm ▸ Nat.one_pos)))
  have e : idRd c (Memref.whole cc0_stg0_0) (V m c main_v6) k = m ((c : Thread nD τ).loc main_arg1) i := hi
  rw [e]; exact id_lt _ (h c i)

/-- The printed precondition, all ones, is that at every id. -/
theorem ids_of_fn [Cert.Pre_names_experts.Facts] (a0 a1 a2 a3 a4 a5 a6 a7 a8) (h : Cert.Pre_names_experts.fn (F := F) a0 a1 a2 a3 a4 a5 a6 a7 a8 = fun _ => 1#1) (i : S24x1x4.Idx) :
    IntOp.andi (IntOp.cmpi .sge (a1 i) 0#32) (IntOp.cmpi .slt (a1 i) 8#32) = 1#1 := by
  have e := congrFun h (fun a => a.elim0)
  simp only [Cert.Pre_names_experts.fn] at e
  haveI : Subsingleton Cert.Pre_names_experts.S_.Idx := ⟨fun x y => funext fun a => a.elim0⟩
  exact Host.reduce_andi_all _ _ _ _ _ e i

end Cert.Kernel.Hand

end
-- ==== Proof.Same.lean ====
/-
  The idealized program is the kernel's own text: its body, its table and its main are the kernel's, so a run of the one is
  a run of the other.
-/
module

public import proofs.«01_k».proof.Proof.Gen.Kernel
public import proofs.«01_k».proof.Proof.Gen.KernelIdeal

@[expose] public section

noncomputable section

namespace Cert.Proof

open Idealize.ShloMosaic Idealize.SL.Sem Cert.Kernel
variable {F : FTy → Type} [FloatOps F]

set_option maxRecDepth 100000 in
set_option maxHeartbeats 3000000 in
theorem body_same : @Cert.KernelIdeal.cc0_mxfp4_moe F _ _ = @Cert.Kernel.cc0_mxfp4_moe F _ _ := rfl

set_option maxRecDepth 100000 in
set_option maxHeartbeats 3000000 in
theorem defs0_same : @Cert.KernelIdeal.defs₀ F _ _ = @Cert.Kernel.defs₀ F _ _ := by
  delta Cert.KernelIdeal.defs₀ Cert.Kernel.defs₀
  rw [body_same]
  refine congrArg Defs.onTc (funext fun l => ?_)
  match l with
  | ⟨0, _⟩ => exact funext fun ⟨t, s⟩ => rfl
  | ⟨n + 1, h⟩ => exact absurd h (Nat.not_lt.2 (Nat.le_add_left _ _))

set_option maxRecDepth 100000 in
set_option maxHeartbeats 3000000 in
theorem cfg0_same : Cert.KernelIdeal.cfg0 = Cert.Kernel.cfg0 := rfl
set_option maxRecDepth 100000 in
set_option maxHeartbeats 3000000 in
theorem defs_same : @Cert.KernelIdeal.defs F _ _ = @Cert.Kernel.defs F _ _ := by
  delta Cert.KernelIdeal.defs Cert.Kernel.defs
  rw [defs0_same]
  rfl

set_option maxHeartbeats 4000000 in
theorem main_same : Cert.KernelIdeal.main (F := F) = Cert.Kernel.main (F := F) := rfl

/-- A run of a program equal to the kernel is the kernel's run. -/
theorem run_of_eq (d) (hd : d = Cert.Kernel.defs (F := F)) (p) (hp : p = Cert.Kernel.main (F := F)) (m) (Q)
    (h : θ_run (Cert.Kernel.defs (F := F)) (onTc (τ := Cert.Kernel.τ) (Cert.Kernel.main (F := F))) m Q) :
    θ_run d (onTc (τ := Cert.Kernel.τ) p) m Q := by rw [hd, hp]; exact h

set_option maxHeartbeats 4000000 in
theorem run_ideal (m ρ) (Q)
    (h : θ_run (Cert.Kernel.defs (F := F)) (onTc (τ := Cert.Kernel.τ) (Cert.Kernel.main (F := F))) ⟨m, fun _ => 0, ρ⟩ Q) :
    θ_run (Cert.KernelIdeal.defs (F := F)) (onTc (τ := Cert.KernelIdeal.τ) (Cert.KernelIdeal.main (F := F))) ⟨m, fun _ => 0, ρ⟩ Q :=
  run_of_eq _ defs_same _ main_same _ _ h
end Cert.Proof
end
-- ==== Proof.Codes.lean ====
module

public import Idealize.ShloMosaic.Lib.Pointwise
public import Idealize.ShloMosaic.PureOps

@[expose] public section

noncomputable section

namespace Cert.Kernel.Hand

open Idealize.ShloMosaic Idealize.ShloMosaic.TcCoe Idealize.ShloMosaic.Tactic

/-! The codes and scales of the weights, as extended reals. -/

/-- The value of a 4-bit code (sign, two exponent bits, one mantissa bit) held in the low bits of a word. -/
def kdec (c : BitVec 32) : EReal :=
  Scalar.select (IntOp.cmpi CmpIPredicate.eq (IntOp.andi c 8#32) 8#32)
    (0 - (FloatOps.sitofp (F := Ideal) FTy.f32 (Scalar.select (IntOp.cmpi CmpIPredicate.slt (IntOp.andi c 7#32) 4#32) (IntOp.andi c 7#32)
      (Scalar.select (IntOp.cmpi CmpIPredicate.slt (IntOp.andi c 7#32) 6#32) (IntOp.subi (IntOp.muli (2#32) (IntOp.andi c 7#32)) 4#32)
        (IntOp.subi (IntOp.muli (4#32) (IntOp.andi c 7#32)) 16#32))) : EReal) * Ideal.ofBits FTy.f32 1056964608#32)
    ((FloatOps.sitofp (F := Ideal) FTy.f32 (Scalar.select (IntOp.cmpi CmpIPredicate.slt (IntOp.andi c 7#32) 4#32) (IntOp.andi c 7#32)
      (Scalar.select (IntOp.cmpi CmpIPredicate.slt (IntOp.andi c 7#32) 6#32) (IntOp.subi (IntOp.muli (2#32) (IntOp.andi c 7#32)) 4#32)
        (IntOp.subi (IntOp.muli (4#32) (IntOp.andi c 7#32)) 16#32))) : EReal) * Ideal.ofBits FTy.f32 1056964608#32)

/-- The value of a 4-bit code. -/
def e2m1 (n : BitVec 4) : EReal := kdec (n.setWidth 32)

/-- Half `h` of a byte. -/
def nibOf (b : BitVec 8) (h : ℕ) : BitVec 4 := b.extractLsb' (4 * h) 4

/-- The value of a scale byte: its bits are the exponent field. -/
def e8 (b : BitVec 8) : EReal := Ideal.ofBits FTy.bf16 ((b.setWidth 16) <<< 7)

theorem kdec_low (c : BitVec 32) : kdec c = e2m1 (c.setWidth 4) := by
  have h7 : IntOp.andi c 7#32 = IntOp.andi ((c.setWidth 4).setWidth 32) 7#32 := by
    apply BitVec.eq_of_getLsbD_eq; intro i hi
    have h : (7#32 : BitVec 32).getLsbD i = decide (i < 3) := by interval_cases i <;> rfl
    simp only [IntOp.andi, BitVec.getLsbD_and, BitVec.getLsbD_setWidth, h]
    by_cases h3 : i < 3
    · have h4 : i < 4 := by omega
      simp [h3, h4, hi]
    · simp [h3]
  have h8 : IntOp.andi c 8#32 = IntOp.andi ((c.setWidth 4).setWidth 32) 8#32 := by
    apply BitVec.eq_of_getLsbD_eq; intro i hi
    have h : (8#32 : BitVec 32).getLsbD i = decide (i = 3) := by interval_cases i <;> rfl
    simp only [IntOp.andi, BitVec.getLsbD_and, BitVec.getLsbD_setWidth, h]
    by_cases h3 : i = 3
    · subst h3; simp
    · simp [h3]
  unfold e2m1 kdec
  rw [← h7, ← h8]

/-- A code shifted down from a word: its value is that of the nibble. -/
theorem kdec_shr (w : BitVec 32) (s : ℕ) (hs : s < 8) :
    kdec (IntOp.shrsi ArithUnit.vector w (IntOp.muli (4#32) (BitVec.ofNat 32 s))) = e2m1 (w.extractLsb' (4 * s) 4) := by
  rw [kdec_low]
  congr 1
  have hm : IntOp.muli (4#32) (BitVec.ofNat 32 s) = BitVec.ofNat 32 (4 * s) := by
    interval_cases s <;> rfl
  have ht : (BitVec.ofNat 32 (4 * s)).toNat = 4 * s := by
    rw [BitVec.toNat_ofNat]; omega
  rw [hm]
  unfold IntOp.shrsi
  rw [ht, if_pos (by omega)]
  apply BitVec.eq_of_getLsbD_eq; intro i hi
  rw [BitVec.getLsbD_setWidth, BitVec.sshiftRight', BitVec.getLsbD_sshiftRight, BitVec.getLsbD_extractLsb', ht]
  have : 4 * s + i < 32 := by omega
  have h32 : ¬ 32 ≤ i := by omega
  simp [hi, this, h32]

/-- The two halves of a widened scale word are the scale's bits. -/
theorem scale_word (b : BitVec 8) (k : ℕ) (hk : k < 2) :
    (IntOp.muli (IntOp.andi (BitVec.setWidth 32 b) 255#32) 8388736#32).extractLsb' (16 * k) 16 = (b.setWidth 16) <<< 7 := by
  have h : ∀ (b : Fin 256) (k : Fin 2), (IntOp.muli (IntOp.andi (BitVec.setWidth 32 (BitVec.ofFin b : BitVec 8)) 255#32) 8388736#32).extractLsb' (16 * k.val) 16 = ((BitVec.ofFin b : BitVec 8).setWidth 16) <<< 7 := by decide +kernel
  exact h b.toFin ⟨k, hk⟩

theorem half_f32 : Ideal.ofBits FTy.f32 1056964608#32 = ((1 / 2 : ℝ) : EReal) := by
  simp [Ideal.ofBits, Ideal.ieee, -EReal.coe_mul]
  norm_num

/-- A code's value from its sign, exponent and mantissa. -/
theorem ref_dec : ∀ n : BitVec 4,
    Scalar.select (IntOp.cmpi CmpIPredicate.eq (IntOp.shrsi ArithUnit.host (n.setWidth 32) 3#32) 1#32)
      (-(Scalar.select (IntOp.cmpi CmpIPredicate.eq (IntOp.andi (IntOp.shrsi ArithUnit.host (n.setWidth 32) 1#32) 3#32) 0#32)
        (Ideal.ofBits FTy.f32 1056964608#32 * (FloatOps.sitofp (F := Ideal) FTy.f32 (IntOp.andi (n.setWidth 32) 1#32) : EReal))
        ((1 + Ideal.ofBits FTy.f32 1056964608#32 * (FloatOps.sitofp (F := Ideal) FTy.f32 (IntOp.andi (n.setWidth 32) 1#32) : EReal))
          * (FloatOps.sitofp (F := Ideal) FTy.f32 (IntOp.shrsi ArithUnit.host (IntOp.shli ArithUnit.host 1#32 (IntOp.andi (IntOp.shrsi ArithUnit.host (n.setWidth 32) 1#32) 3#32)) 1#32) : EReal)) : EReal))
      ((Scalar.select (IntOp.cmpi CmpIPredicate.eq (IntOp.andi (IntOp.shrsi ArithUnit.host (n.setWidth 32) 1#32) 3#32) 0#32)
        (Ideal.ofBits FTy.f32 1056964608#32 * (FloatOps.sitofp (F := Ideal) FTy.f32 (IntOp.andi (n.setWidth 32) 1#32) : EReal))
        ((1 + Ideal.ofBits FTy.f32 1056964608#32 * (FloatOps.sitofp (F := Ideal) FTy.f32 (IntOp.andi (n.setWidth 32) 1#32) : EReal))
          * (FloatOps.sitofp (F := Ideal) FTy.f32 (IntOp.shrsi ArithUnit.host (IntOp.shli ArithUnit.host 1#32 (IntOp.andi (IntOp.shrsi ArithUnit.host (n.setWidth 32) 1#32) 3#32)) 1#32) : EReal)) : EReal))
    = e2m1 n := by
  have hs : ∀ b : BitVec 32, (FloatOps.sitofp (F := Ideal) FTy.f32 b : EReal) = ((b.toInt : ℝ) : EReal) := fun _ => rfl
  intro n
  obtain ⟨k, hk⟩ : ∃ k : Fin 16, n = BitVec.ofFin k := ⟨n.toFin, rfl⟩
  subst hk
  unfold e2m1 kdec
  simp only [hs, half_f32]
  fin_cases k <;>
    simp [Scalar.select, IntOp.cmpi, IntOp.shrsi, IntOp.shli, IntOp.andi, IntOp.muli, IntOp.subi, ← EReal.coe_mul, ← EReal.coe_add, ← EReal.coe_one, ← EReal.coe_neg, ← EReal.coe_zero] <;> norm_num

end Cert.Kernel.Hand

end
-- ==== Proof.GateRead.lean ====
module

public import proofs.«01_k».proof.Proof.Gen.Kernel.Skeleton
public import Idealize.ShloMosaic.Lib.Pointwise
public import Idealize.ShloMosaic.Lib.BitcastFour
public import Idealize.ShloMosaic.Lib.BitcastPair
public import proofs.«01_k».proof.Proof.Codes

@[expose] public section

noncomputable section

namespace Cert.Kernel.Hand

open Cert.Kernel Cert.Kernel.Gen
open Idealize.ShloMosaic Idealize.ShloMosaic.TcCoe Idealize.ShloMosaic.Tactic

/-- Word rows read as half words: row `a` is half `a % 2` of word row `a / 2`. -/
theorem bitcast_32_16_ix2 {R r n : Nat} (x : (⟨2, ![R, n]⟩ : Shape).Idx → BitVec 32)
    (h : (⟨2, ![R, n]⟩ : Shape).Bitcasts 32 ⟨2, ![r, n]⟩ 16) (a : Fin r) (l : Fin n) (p : Fin R) (hp : p.val = a.val / 2) :
    bitcast ⟨2, ![r, n]⟩ 16 x h (ix2 a l) = (x (ix2 p l)).extractLsb' (16 * (a.val % 2)) 16 := by
  rw [bitcast_32_16 x h]
  have hx : x (h.srcIdx (ix2 a l) (Shape.row ⟨2, ![r, n]⟩ (ix2 a l) / 2) (fun b hb => by
      have := h.pos_lt (ix2 a l) 0 (by decide) b hb; omega)) = x (ix2 p l) := by
    congr 1
    funext c
    match c with
    | ⟨0, _⟩ => exact Fin.ext ((h.srcIdx_row _ _ _ ⟨0, Nat.zero_lt_two⟩ rfl).trans hp.symm)
    | ⟨1, _⟩ => exact Fin.ext (h.srcIdx_other _ _ _ ⟨1, Nat.one_lt_two⟩ (by show ¬ 1 + 2 = 2; omega))
  rw [hx]
  rfl

/-- A nibble of a word of four bytes is a nibble of one of them. -/
theorem word_nib {R r n : Nat} (x : (⟨2, ![R, n]⟩ : Shape).Idx → BitVec 8)
    (h : (⟨2, ![R, n]⟩ : Shape).Bitcasts 8 ⟨2, ![r, n]⟩ 32) (a : Fin r) (l : Fin n) (s : ℕ) (hs : s < 8) (p : Fin R)
    (hp : p.val = 4 * a.val + s / 2) :
    (bitcast ⟨2, ![r, n]⟩ 32 x h (ix2 a l)).extractLsb' (4 * s) 4 = nibOf (x (ix2 p l)) (s % 2) := by
  apply BitVec.eq_of_getLsbD_eq; intro i hi
  unfold nibOf
  rw [BitVec.getLsbD_extractLsb', BitVec.getLsbD_extractLsb', ix2_eq_valueIdx, ix2_eq_valueIdx,
    bitcast_8_32_getLsbD_ix2 x h a l (4 * s + i) (by omega) p (by omega)]
  have : (4 * s + i) % 8 = 4 * (s % 2) + i := by omega
  rw [this]

theorem pay5_read (w : IVec S4096x128 8) (p : Fin 128) (ct : Fin 4) (s : Fin 16) (l : Fin 128) :
    k0_pay5 (F := Ideal) w (ix4 p ct s l)
      = e2m1 (nibOf (w (ix2 ⟨(p.val * 4 + ct.val) * 8 + s.val / 2, by omega⟩ l)) (s.val % 2)) := by
  have P : k0_pay5 (F := Ideal) w (ix4 p ct s l)
      = kdec (IntOp.shrsi ArithUnit.vector (bitcast S1024x128 32 w bitcasts_S4096x128_w8_S1024x128_w32
          (ix2 ⟨(p.val * 64 + ct.val * 16 + s.val) / 8, by omega⟩ l)) (IntOp.muli (4#32) (BitVec.ofNat 32 ((p.val * 64 + ct.val * 16 + s.val) % 8)))) := by
    pointwise [k0_pay5]
    rfl
  rw [P, kdec_shr _ _ (Nat.mod_lt _ (by decide))]
  congr 1
  rw [word_nib w bitcasts_S4096x128_w8_S1024x128_w32 ⟨(p.val * 64 + ct.val * 16 + s.val) / 8, by omega⟩ l _ (Nat.mod_lt _ (by decide))
    ⟨(p.val * 4 + ct.val) * 8 + s.val / 2, by omega⟩ (by show (p.val * 4 + ct.val) * 8 + s.val / 2 = 4 * ((p.val * 64 + ct.val * 16 + s.val) / 8) + (p.val * 64 + ct.val * 16 + s.val) % 8 / 2; omega)]
  congr 1
  omega

theorem pay3_read (v : Vec Ideal S1x64x512 .i8) (k : Fin 64) (n : Fin 512) :
    k0_pay3 (F := Ideal) v (ix2 k n) = IntOp.muli (IntOp.andi (BitVec.setWidth 32 (v (ix3 0 k n))) 255#32) 8388736#32 := by
  pointwise [k0_pay3]

theorem pay6_read (v : Vec Ideal S1x64x512 .i8) (k : Fin 2048) (n : Fin 512) :
    k0_pay6 (F := Ideal) (k0_pay3 v) (ix2 k n) = e8 (v (ix3 0 ⟨k.val / 32, by omega⟩ n)) := by
  have P : k0_pay6 (F := Ideal) (k0_pay3 v) (ix2 k n)
      = Ideal.ofBits .bf16 (bitcast S2048x512 16 (shapeCast S1024x512 (broadcastTo S64x16x512 (shapeCast S64x1x512 (shapeCast S64x1x512 (k0_pay3 v) shapeCasts_S64x512_S64x1x512) shapeCasts_S64x1x512_S64x1x512) broadcasts_S64x1x512_S64x16x512) shapeCasts_S64x16x512_S1024x512) bitcasts_S1024x512_w32_S2048x512_w16 (ix2 k n)) := rfl
  rw [P, bitcast_32_16_ix2 _ _ k n ⟨k.val / 2, by omega⟩ rfl]
  have Q : shapeCast S1024x512 (broadcastTo S64x16x512 (shapeCast S64x1x512 (shapeCast S64x1x512 (k0_pay3 (F := Ideal) v) shapeCasts_S64x512_S64x1x512) shapeCasts_S64x1x512_S64x1x512) broadcasts_S64x1x512_S64x16x512) shapeCasts_S64x16x512_S1024x512 (ix2 ⟨k.val / 2, by omega⟩ n)
      = k0_pay3 (F := Ideal) v (ix2 ⟨k.val / 32, by omega⟩ n) := by
    pointwise
    congr 2
    apply Fin.ext
    show k.val / 2 / 16 = k.val / 32
    omega
  rw [Q, pay3_read, scale_word _ _ (Nat.mod_lt _ (by decide))]
  rfl

theorem pay4_read (w : Vec Ideal S1x64x2x4x8x128 .i8) (r : Fin 4096) (l : Fin 128) :
    k0_pay4 (F := Ideal) w (ix2 r l) = w (ix6 0 ⟨r.val / 64, by omega⟩ ⟨r.val / 32 % 2, by omega⟩ ⟨r.val / 8 % 4, by omega⟩ ⟨r.val % 8, by omega⟩ l) := by
  pointwise [k0_pay4]
/-- The gate and up values of a block of 512 lanes. -/
def guVal (x : Vec Ideal S24x2048 .bf16) (d : FVec Ideal S128x4x16x128 .bf16) (s : FVec Ideal S2048x512 .bf16) (b : Vec Ideal S1x512 .f32)
    (t : Fin 24) (n : Fin 512) : EReal :=
  (∑ K : Fin 2048, x (ix2 t K) * (d (ix4 ⟨K.val / 16, by omega⟩ ⟨n.val / 128, by omega⟩ ⟨K.val % 16, by omega⟩ ⟨n.val % 128, by omega⟩) * s (ix2 K n))) + b (ix2 0 n)

/-- The activation of a gate value and an up value. -/
def swiOf (g u : EReal) : EReal :=
  min g (Ideal.ofBits FTy.f32 0x40E00000#32) * Ideal.logistic (Ideal.ofBits FTy.f32 0x3FD9DB23#32 * min g (Ideal.ofBits FTy.f32 0x40E00000#32))
    * (min (Ideal.ofBits FTy.f32 0x40E00000#32) (max (Ideal.ofBits FTy.f32 0xC0E00000#32) u) + Ideal.ofBits FTy.f32 0x3F800000#32)

set_option maxHeartbeats 1600000 in
theorem pay8_read (x : Vec Ideal S24x2048 .bf16) (w : IVec S4096x128 8) (s : FVec Ideal S2048x512 .bf16) (b : Vec Ideal S1x512 .f32)
    (t : Fin 24) (n : Fin 512) :
    k0_pay8 (k0_pay106 x) (k0_pay5 w) s (k0_pay7 w) b (ix2 t n)
      = swiOf (guVal x (k0_pay5 w) s b t n) (guVal x (k0_pay5 w) s b t ⟨(n.val + 512 - 511) % 512, by omega⟩) := by
  pointwise [k0_pay8, k0_pay106, k0_pay7]
  have key : ∀ m : Fin 512, (∑ x_1 : Fin 2048,
              x (ix2 t x_1) *
                if h : m.val < 128 then k0_pay5 (F := Ideal) w (ix4 ⟨x_1.val / 16, by omega⟩ 0 ⟨x_1.val % 16, by omega⟩ ⟨m.val, by omega⟩) * s (ix2 x_1 m)
                else
                  if h : m.val - 128 < 128 then
                    k0_pay5 (F := Ideal) w (ix4 ⟨x_1.val / 16, by omega⟩ 1 ⟨x_1.val % 16, by omega⟩ ⟨m.val - 128, by omega⟩) * s (ix2 x_1 ⟨128 + (m.val - 128), by omega⟩)
                  else
                    if h : m.val - 128 - 128 < 128 then
                      k0_pay5 (F := Ideal) w (ix4 ⟨x_1.val / 16, by omega⟩ 2 ⟨x_1.val % 16, by omega⟩ ⟨m.val - 128 - 128, by omega⟩) *
                        s (ix2 x_1 ⟨256 + (m.val - 128 - 128), by omega⟩)
                    else
                      k0_pay5 (F := Ideal) w (ix4 ⟨x_1.val / 16, by omega⟩ 3 ⟨x_1.val % 16, by omega⟩ ⟨m.val - 128 - 128 - 128, by omega⟩) *
                        s (ix2 x_1 ⟨384 + (m.val - 128 - 128 - 128), by omega⟩)) +
            b (ix2 0 m) = guVal x (k0_pay5 w) s b t m := by
    intro m
    unfold guVal
    congr 1
    refine Finset.sum_congr rfl fun K _ => ?_
    congr 1
    split_ifs with h1 h2 h3
    · congr 3 <;> (apply Fin.ext; simp; omega)
    · congr 3 <;> (apply Fin.ext; simp; omega)
    · congr 3 <;> (apply Fin.ext; simp; omega)
    · congr 3 <;> (apply Fin.ext; simp; omega)
  have k1 := key n
  have k2 := key ⟨(n.val + 512 - 511) % 512, by omega⟩
  rw [← k1, ← k2]
  unfold swiOf
  rw [Ideal.ofBits_one_f32]

end Cert.Kernel.Hand

end
-- ==== Proof.Spec.lean ====
module

public import proofs.«01_k».proof.Proof.Gen.Kernel.Skeleton
public import Idealize.ShloMosaic.Lib.Pointwise
public import Idealize.ShloMosaic.Lib.BitcastFour
public import Idealize.ShloMosaic.Lib.BitcastPair
public import proofs.«01_k».proof.Proof.GateRead

@[expose] public section

noncomputable section

namespace Cert.Kernel.Hand

open Cert.Kernel Cert.Kernel.Gen
open Idealize.ShloMosaic Idealize.ShloMosaic.TcCoe Idealize.ShloMosaic.Tactic

/-- The arguments, as functions of their indices. -/
structure Inp where
  /-- The tokens. -/
  x : Fin 24 → Fin 2048 → EReal
  /-- The experts of a token. -/
  ids : Fin 24 → Fin 4 → BitVec 32
  /-- Their weights. -/
  rw : Fin 24 → Fin 4 → EReal
  /-- The gate and up code bytes. -/
  gb : Fin 8 → Fin 8192 → Fin 64 → Fin 16 → BitVec 8
  /-- The gate and up scale bytes. -/
  gs : Fin 8 → Fin 8192 → Fin 64 → BitVec 8
  /-- The gate and up biases. -/
  gc : Fin 8 → Fin 8192 → EReal
  /-- The down code bytes. -/
  db : Fin 8 → Fin 2048 → Fin 128 → Fin 16 → BitVec 8
  /-- The down scale bytes. -/
  ds : Fin 8 → Fin 2048 → Fin 128 → BitVec 8
  /-- The down biases. -/
  dc : Fin 8 → Fin 2048 → EReal

variable (I : Inp)

/-- A gate or up weight. -/
def Inp.gW (e : Fin 8) (n : Fin 8192) (K : Fin 2048) : EReal :=
  e2m1 (nibOf (I.gb e n ⟨K.val / 32, by omega⟩ ⟨K.val % 32 / 2, by omega⟩) (K.val % 2)) * e8 (I.gs e n ⟨K.val / 32, by omega⟩)

/-- The gate and up projection of a token. -/
def Inp.gu (e : Fin 8) (t : Fin 24) (n : Fin 8192) : EReal := (∑ K : Fin 2048, I.x t K * I.gW e n K) + I.gc e n

/-- A hidden activation of a token. -/
def Inp.hid (e : Fin 8) (t : Fin 24) (f : Fin 4096) : EReal :=
  swiOf (I.gu e t ⟨f.val * 2, by omega⟩) (I.gu e t ⟨f.val * 2 + 1, by omega⟩)

/-- A down weight. -/
def Inp.dW (e : Fin 8) (n : Fin 2048) (f : Fin 4096) : EReal :=
  e2m1 (nibOf (I.db e n ⟨f.val / 32, by omega⟩ ⟨f.val % 32 / 2, by omega⟩) (f.val % 2)) * e8 (I.ds e n ⟨f.val / 32, by omega⟩)

/-- What an expert makes of a token. -/
def Inp.y (e : Fin 8) (t : Fin 24) (n : Fin 2048) : EReal := (∑ f : Fin 4096, I.hid e t f * I.dW e n f) + I.dc e n

/-- The mixture: each of a token's four experts, weighted. -/
def Inp.out (t : Fin 24) (n : Fin 2048) : EReal :=
  ∑ s : Fin 4, (∑ e : Fin 8, if I.ids t s = BitVec.ofNat 32 e.val then I.y e t n else 0) * I.rw t s

/-- A sum over pairs is the sum over the even places and over the odd places. -/
theorem sum_pairs (N : ℕ) (f : Fin (N * 2) → EReal) :
    ∑ K : Fin (N * 2), f K = (∑ k : Fin N, f ⟨k.val * 2, by omega⟩) + ∑ k : Fin N, f ⟨k.val * 2 + 1, by omega⟩ := by
  rw [← Finset.sum_add_distrib, ← (finProdFinEquiv (m := N) (n := 2)).sum_comp, Fintype.sum_prod_type]
  refine Finset.sum_congr rfl fun k _ => ?_
  rw [Fin.sum_univ_two]
  congr 2 <;> exact Fin.ext (by simp [finProdFinEquiv]; try omega)

end Cert.Kernel.Hand

end
-- ==== Proof.PermRead.lean ====
module

public import proofs.«01_k».proof.Proof.Gen.Kernel.Skeleton
public import Idealize.ShloMosaic.Lib.Pointwise
public import Idealize.ShloMosaic.Lib.BitcastFour
public import Idealize.ShloMosaic.Lib.BitcastPair

@[expose] public section

noncomputable section

namespace Cert.Kernel.Hand

open Cert.Kernel Cert.Kernel.Gen
open Idealize.ShloMosaic Idealize.ShloMosaic.TcCoe Idealize.ShloMosaic.Tactic

set_option maxRecDepth 20000

/-- The lane of a block that holds hidden unit `n` of the permuted order. -/
def laneOf (n : Fin 256) : Fin 512 := ⟨2 * (32 * (n.val / 8 % 8) + 8 * (n.val / 64) + n.val % 8), by omega⟩

theorem lane_word : ∀ n : Fin 256, (IntOp.muli (2#32)
          (IntOp.addi
            (IntOp.addi
              (IntOp.muli (32#32)
                (Scalar.select
                  (IntOp.andi
                    (IntOp.xori
                      (IntOp.cmpi CmpIPredicate.slt
                        (IntOp.remsi ArithUnit.vector
                          (Scalar.select
                            (IntOp.andi
                              (IntOp.cmpi CmpIPredicate.ne
                                (IntOp.subi
                                  (BitVec.setWidth 32 (IntOp.cmpi CmpIPredicate.sgt (BitVec.ofNat 32 n.val) 0#32))
                                  (BitVec.setWidth 32 (IntOp.cmpi CmpIPredicate.slt (BitVec.ofNat 32 n.val) 0#32)))
                                (Scalar.subi (Scalar.extui (Scalar.cmpi CmpIPredicate.sgt 8#32 0#32))
                                  (Scalar.extui (Scalar.cmpi CmpIPredicate.slt 8#32 0#32))))
                              (IntOp.cmpi CmpIPredicate.ne (IntOp.remsi ArithUnit.vector (BitVec.ofNat 32 n.val) 8#32)
                                0#32))
                            (IntOp.subi (IntOp.divsi ArithUnit.vector (BitVec.ofNat 32 n.val) 8#32) 1#32)
                            (IntOp.divsi ArithUnit.vector (BitVec.ofNat 32 n.val) 8#32))
                          (Scalar.select (Scalar.cmpi CmpIPredicate.eq 8#32 0#32) 1#32 8#32))
                        0#32)
                      (Scalar.cmpi CmpIPredicate.slt (Scalar.select (Scalar.cmpi CmpIPredicate.eq 8#32 0#32) 1#32 8#32)
                        0#32))
                    (IntOp.cmpi CmpIPredicate.ne
                      (IntOp.remsi ArithUnit.vector
                        (Scalar.select
                          (IntOp.andi
                            (IntOp.cmpi CmpIPredicate.ne
                              (IntOp.subi (BitVec.setWidth 32 (IntOp.cmpi CmpIPredicate.sgt (BitVec.ofNat 32 n.val) 0#32))
                                (BitVec.setWidth 32 (IntOp.cmpi CmpIPredicate.slt (BitVec.ofNat 32 n.val) 0#32)))
                              (Scalar.subi (Scalar.extui (Scalar.cmpi CmpIPredicate.sgt 8#32 0#32))
                                (Scalar.extui (Scalar.cmpi CmpIPredicate.slt 8#32 0#32))))
                            (IntOp.cmpi CmpIPredicate.ne (IntOp.remsi ArithUnit.vector (BitVec.ofNat 32 n.val) 8#32) 0#32))
                          (IntOp.subi (IntOp.divsi ArithUnit.vector (BitVec.ofNat 32 n.val) 8#32) 1#32)
                          (IntOp.divsi ArithUnit.vector (BitVec.ofNat 32 n.val) 8#32))
                        (Scalar.select (Scalar.cmpi CmpIPredicate.eq 8#32 0#32) 1#32 8#32))
                      0#32))
                  (IntOp.addi
                    (IntOp.remsi ArithUnit.vector
                      (Scalar.select
                        (IntOp.andi
                          (IntOp.cmpi CmpIPredicate.ne
                            (IntOp.subi (BitVec.setWidth 32 (IntOp.cmpi CmpIPredicate.sgt (BitVec.ofNat 32 n.val) 0#32))
                              (BitVec.setWidth 32 (IntOp.cmpi CmpIPredicate.slt (BitVec.ofNat 32 n.val) 0#32)))
                            (Scalar.subi (Scalar.extui (Scalar.cmpi CmpIPredicate.sgt 8#32 0#32))
                              (Scalar.extui (Scalar.cmpi CmpIPredicate.slt 8#32 0#32))))
                          (IntOp.cmpi CmpIPredicate.ne (IntOp.remsi ArithUnit.vector (BitVec.ofNat 32 n.val) 8#32) 0#32))
                        (IntOp.subi (IntOp.divsi ArithUnit.vector (BitVec.ofNat 32 n.val) 8#32) 1#32)
                        (IntOp.divsi ArithUnit.vector (BitVec.ofNat 32 n.val) 8#32))
                      (Scalar.select (Scalar.cmpi CmpIPredicate.eq 8#32 0#32) 1#32 8#32))
                    (Scalar.select (Scalar.cmpi CmpIPredicate.eq 8#32 0#32) 1#32 8#32))
                  (IntOp.remsi ArithUnit.vector
                    (Scalar.select
                      (IntOp.andi
                        (IntOp.cmpi CmpIPredicate.ne
                          (IntOp.subi (BitVec.setWidth 32 (IntOp.cmpi CmpIPredicate.sgt (BitVec.ofNat 32 n.val) 0#32))
                            (BitVec.setWidth 32 (IntOp.cmpi CmpIPredicate.slt (BitVec.ofNat 32 n.val) 0#32)))
                          (Scalar.subi (Scalar.extui (Scalar.cmpi CmpIPredicate.sgt 8#32 0#32))
                            (Scalar.extui (Scalar.cmpi CmpIPredicate.slt 8#32 0#32))))
                        (IntOp.cmpi CmpIPredicate.ne (IntOp.remsi ArithUnit.vector (BitVec.ofNat 32 n.val) 8#32) 0#32))
                      (IntOp.subi (IntOp.divsi ArithUnit.vector (BitVec.ofNat 32 n.val) 8#32) 1#32)
                      (IntOp.divsi ArithUnit.vector (BitVec.ofNat 32 n.val) 8#32))
                    (Scalar.select (Scalar.cmpi CmpIPredicate.eq 8#32 0#32) 1#32 8#32))))
              (IntOp.muli (8#32)
                (Scalar.select
                  (IntOp.andi
                    (IntOp.cmpi CmpIPredicate.ne
                      (IntOp.subi (BitVec.setWidth 32 (IntOp.cmpi CmpIPredicate.sgt (BitVec.ofNat 32 n.val) 0#32))
                        (BitVec.setWidth 32 (IntOp.cmpi CmpIPredicate.slt (BitVec.ofNat 32 n.val) 0#32)))
                      (Scalar.subi (Scalar.extui (Scalar.cmpi CmpIPredicate.sgt 64#32 0#32))
                        (Scalar.extui (Scalar.cmpi CmpIPredicate.slt 64#32 0#32))))
                    (IntOp.cmpi CmpIPredicate.ne (IntOp.remsi ArithUnit.vector (BitVec.ofNat 32 n.val) 64#32) 0#32))
                  (IntOp.subi (IntOp.divsi ArithUnit.vector (BitVec.ofNat 32 n.val) 64#32) 1#32)
                  (IntOp.divsi ArithUnit.vector (BitVec.ofNat 32 n.val) 64#32))))
            (Scalar.select
              (IntOp.andi
                (IntOp.xori
                  (IntOp.cmpi CmpIPredicate.slt
                    (IntOp.remsi ArithUnit.vector (BitVec.ofNat 32 n.val)
                      (Scalar.select (Scalar.cmpi CmpIPredicate.eq 8#32 0#32) 1#32 8#32))
                    0#32)
                  (Scalar.cmpi CmpIPredicate.slt (Scalar.select (Scalar.cmpi CmpIPredicate.eq 8#32 0#32) 1#32 8#32)
                    0#32))
                (IntOp.cmpi CmpIPredicate.ne
                  (IntOp.remsi ArithUnit.vector (BitVec.ofNat 32 n.val)
                    (Scalar.select (Scalar.cmpi CmpIPredicate.eq 8#32 0#32) 1#32 8#32))
                  0#32))
              (IntOp.addi
                (IntOp.remsi ArithUnit.vector (BitVec.ofNat 32 n.val)
                  (Scalar.select (Scalar.cmpi CmpIPredicate.eq 8#32 0#32) 1#32 8#32))
                (Scalar.select (Scalar.cmpi CmpIPredicate.eq 8#32 0#32) 1#32 8#32))
              (IntOp.remsi ArithUnit.vector (BitVec.ofNat 32 n.val)
                (Scalar.select (Scalar.cmpi CmpIPredicate.eq 8#32 0#32) 1#32 8#32))))) = BitVec.ofNat 32 (laneOf n).val := by
  decide +kernel

theorem lane_even : ∀ n : Fin 256, ∀ x : Fin 512, x = laneOf n → (IntOp.cmpi CmpIPredicate.eq
          (Scalar.select
            (IntOp.andi
              (IntOp.xori
                (IntOp.cmpi CmpIPredicate.slt
                  (IntOp.remsi ArithUnit.vector (BitVec.ofNat 32 x.val)
                    (Scalar.select (Scalar.cmpi CmpIPredicate.eq 2#32 0#32) 1#32 2#32))
                  0#32)
                (Scalar.cmpi CmpIPredicate.slt 2#32 0#32))
              (IntOp.cmpi CmpIPredicate.ne
                (IntOp.remsi ArithUnit.vector (BitVec.ofNat 32 x.val)
                  (Scalar.select (Scalar.cmpi CmpIPredicate.eq 2#32 0#32) 1#32 2#32))
                0#32))
            (IntOp.addi
              (IntOp.remsi ArithUnit.vector (BitVec.ofNat 32 x.val)
                (Scalar.select (Scalar.cmpi CmpIPredicate.eq 2#32 0#32) 1#32 2#32))
              2#32)
            (IntOp.remsi ArithUnit.vector (BitVec.ofNat 32 x.val)
              (Scalar.select (Scalar.cmpi CmpIPredicate.eq 2#32 0#32) 1#32 2#32)))
          0#32) = 1#1 := by
  decide +kernel

/-- The permutation matrix. -/
def permM : Vec Ideal S512x256 .bf16 := k0_pay105 (F := Ideal)
          (k0_pay104 (iota Kind.tc S512x256 32 [0] iota_S512x256_d0_w32)
            (iota Kind.tc S512x256 32 [1] iota_S512x256_d1_w32)
            (k0_pay102 (iota Kind.tc S512x256 32 [1] iota_S512x256_d1_w32) (64#32) k0_pay101)
            (k0_pay103 (iota Kind.tc S512x256 32 [1] iota_S512x256_d1_w32)) 8#32)

theorem permM_read (x : Fin 512) (n : Fin 256) : permM (ix2 x n) = if x = laneOf n then (1 : EReal) else 0 := by
  pointwise [permM, k0_pay105, k0_pay104, k0_pay102, k0_pay103, k0_pay101]
  rw [lane_word n]
  have hx := x.isLt
  have hn := (laneOf n).isLt
  by_cases h : x = laneOf n
  · rw [if_pos h, h]
    simp [Scalar.select, IntOp.cmpi]
  · rw [if_neg h]
    have : BitVec.ofNat 32 x.val ≠ BitVec.ofNat 32 (laneOf n).val := by
      intro hb
      have := congrArg BitVec.toNat hb
      rw [BitVec.toNat_ofNat, BitVec.toNat_ofNat] at this
      exact h (Fin.ext (by omega))
    have hb := beq_eq_false_iff_ne.mpr this
    simp only [Scalar.select, IntOp.cmpi, hb]
    rfl

theorem sel_zero (c : BitVec 1) : Scalar.select c (0 : EReal) 0 = 0 := by
  unfold Scalar.select
  split <;> rfl

/-- The permutation picks one lane. -/
theorem pay107_read (v : FVec Ideal S24x512 .f32) (t : Fin 24) (n : Fin 256) :
    k0_pay107 v 2#32 k0_pay9 0#32 permM (ix3 0 t n) = v (ix2 t (laneOf n)) := by
  have P : k0_pay107 v 2#32 k0_pay9 0#32 permM (ix3 0 t n) = ∑ x : Fin 512, Scalar.select (IntOp.cmpi CmpIPredicate.eq
          (Scalar.select
            (IntOp.andi
              (IntOp.xori
                (IntOp.cmpi CmpIPredicate.slt
                  (IntOp.remsi ArithUnit.vector (BitVec.ofNat 32 x.val)
                    (Scalar.select (Scalar.cmpi CmpIPredicate.eq 2#32 0#32) 1#32 2#32))
                  0#32)
                (Scalar.cmpi CmpIPredicate.slt 2#32 0#32))
              (IntOp.cmpi CmpIPredicate.ne
                (IntOp.remsi ArithUnit.vector (BitVec.ofNat 32 x.val)
                  (Scalar.select (Scalar.cmpi CmpIPredicate.eq 2#32 0#32) 1#32 2#32))
                0#32))
            (IntOp.addi
              (IntOp.remsi ArithUnit.vector (BitVec.ofNat 32 x.val)
                (Scalar.select (Scalar.cmpi CmpIPredicate.eq 2#32 0#32) 1#32 2#32))
              2#32)
            (IntOp.remsi ArithUnit.vector (BitVec.ofNat 32 x.val)
              (Scalar.select (Scalar.cmpi CmpIPredicate.eq 2#32 0#32) 1#32 2#32)))
          0#32) (v (ix2 t x) * permM (ix2 x n)) (0 : EReal) := by
    pointwise [k0_pay107, k0_pay9]
  rw [P, Finset.sum_eq_single (laneOf n)]
  · rw [lane_even n _ rfl, permM_read, if_pos rfl, mul_one]
    rfl
  · intro x _ hx
    rw [permM_read, if_neg hx, mul_zero]
    exact sel_zero _
  · intro h; exact absurd (Finset.mem_univ _) h

/-- The routing weight of a token for an expert. -/
theorem coef_read (I : Vec Ideal S4x24 .i32) (R : Vec Ideal S4x24 .f32) (t : Fin 24) (e : Fin 8) (t' : Fin 128) (ht : t'.val = t.val) :
   k0_pay99 (k0_pay93 I) (k0_pay94 R) (k0_pay95 I R)  (k0_pay96 I R)  (k0_pay97 I R)  (k0_pay98 I R) 4#32 (ix2 t' e)
     = ∑ s : Fin 4, if I (ix2 s t) = BitVec.ofNat 32 e.val then (R (ix2 s t) : EReal) else 0 := by
  have et : t' = ⟨t.val, by omega⟩ := Fin.ext ht
  rw [et]
  pointwise [k0_pay99, k0_pay93, k0_pay94, k0_pay95, k0_pay96, k0_pay97, k0_pay98]
  have S : ∀ (b : BitVec 32) (x : Fin 4), Scalar.select (IntOp.cmpi CmpIPredicate.eq (I (ix2 x t)) b) (R (ix2 x t)) (0 : EReal) = if I (ix2 x t) = b then (R (ix2 x t) : EReal) else 0 := by
    intro b x
    by_cases h : I (ix2 x t) = b
    · simp [Scalar.select, IntOp.cmpi, h]
    · have hb := beq_eq_false_iff_ne.mpr h
      simp only [Scalar.select, IntOp.cmpi, hb, if_neg h]
      rfl
  simp only [S]
  fin_cases e <;> simp

end Cert.Kernel.Hand

end
-- ==== Proof.HostRead.lean ====
module

public import proofs.«01_k».proof.Proof.Gen.Kernel.Skeleton
public import Idealize.ShloMosaic.Lib.Pointwise
public import Idealize.ShloMosaic.Lib.BitcastFour
public import Idealize.ShloMosaic.Lib.BitcastPair
public import proofs.«01_k».proof.Proof.Out
public import proofs.«01_k».proof.Proof.Spec
public import proofs.«01_k».proof.Proof.PermRead
public import proofs.«01_k».proof.Proof.Frame
public import proofs.«01_k».proof.Proof.Named

@[expose] public section

noncomputable section

namespace Cert.Kernel.Hand

open Cert.Kernel Cert.Kernel.Gen
open Idealize.ShloMosaic Idealize.ShloMosaic.TcCoe Idealize.ShloMosaic.Tactic

open Idealize.SL Idealize.SL.Sem
variable (m : (ℓ : Loc nD τ sig) → Buf (Elt Ideal) ℓ) (c : Dev nD)

/-- The arguments of a run of the kernel. -/
def inpK : Inp where
  x t K := m ((c : Thread nD τ).loc main_arg0) (ix3 t 0 K)
  ids t s := m ((c : Thread nD τ).loc main_arg1) (ix3 t 0 s)
  rw t s := m ((c : Thread nD τ).loc main_arg2) (ix3 t 0 s)
  gb e n kb i := m ((c : Thread nD τ).loc main_arg3) (ix4 e n kb i)
  gs e n kb := m ((c : Thread nD τ).loc main_arg4) (ix3 e n kb)
  gc e n := m ((c : Thread nD τ).loc main_arg5) (ix2 e n)
  db e n kb i := m ((c : Thread nD τ).loc main_arg6) (ix4 e n kb i)
  ds e n kb := m ((c : Thread nD τ).loc main_arg7) (ix3 e n kb)
  dc e n := m ((c : Thread nD τ).loc main_arg8) (ix2 e n)

theorem V_main_v1 : V m c main_v1 = transpose S8x64x2x64x8x128 [0, 3, 4, 1, 5, 2] (shapeCast S8x64x128x64x2x8 (m ((c : Thread nD τ).loc main_arg3)) shapeCasts_S8x8192x64x16_S8x64x128x64x2x8) transposes_S8x64x128x64x2x8_S8x64x2x64x8x128_0_3_4_1_5_2 := by
  show StableHlo.after hostOps0 _ (Proc.devRef .tc main_v1) = _
  after_reads_simp
  try rfl
theorem V_main_v2 : V m c main_v2 = transpose S8x64x8192 [0, 2, 1] (m ((c : Thread nD τ).loc main_arg4)) transposes_S8x8192x64_S8x64x8192_0_2_1 := by
  show StableHlo.after hostOps0 _ (Proc.devRef .tc main_v2) = _
  after_reads_simp
  try rfl
theorem V_main_v4 : V m c main_v4 = transpose S8x2048x2x8x128 [0, 1, 3, 4, 2] (shapeCast S8x2048x128x2x8 (m ((c : Thread nD τ).loc main_arg6)) shapeCasts_S8x2048x128x16_S8x2048x128x2x8) transposes_S8x2048x128x2x8_S8x2048x2x8x128_0_1_3_4_2 := by
  show StableHlo.after hostOps0 _ (Proc.devRef .tc main_v4) = _
  after_reads_simp
  try rfl
theorem V_main_v8 : V m c main_v8 = transpose S4x24 [1, 0] (shapeCast S24x4 (m ((c : Thread nD τ).loc main_arg2)) shapeCasts_S24x1x4_S24x4) transposes_S24x4_S4x24_1_0 := by
  show StableHlo.after hostOps0 _ (Proc.devRef .tc main_v8) = _
  after_reads_simp
  try rfl
theorem V_main_v9 : V m c main_v9 = shapeCast S24x2048 (m ((c : Thread nD τ).loc main_arg0)) shapeCasts_S24x1x2048_S24x2048 := by
  show StableHlo.after hostOps0 _ (Proc.devRef .tc main_v9) = _
  after_reads_simp
  try rfl
theorem V_main_arg5 : V m c main_arg5 = m ((c : Thread nD τ).loc main_arg5) := by
  show StableHlo.after hostOps0 _ (Proc.devRef .tc main_arg5) = _
  after_reads_simp
  try rfl
theorem V_main_arg7 : V m c main_arg7 = m ((c : Thread nD τ).loc main_arg7) := by
  show StableHlo.after hostOps0 _ (Proc.devRef .tc main_arg7) = _
  after_reads_simp
  try rfl
theorem V_main_arg8 : V m c main_arg8 = m ((c : Thread nD τ).loc main_arg8) := by
  show StableHlo.after hostOps0 _ (Proc.devRef .tc main_arg8) = _
  after_reads_simp
  try rfl

set_option maxHeartbeats 1600000
theorem host1 (f : Vec Ideal S8x8192x64x16 .i8) (e : Fin 8) (kb : Fin 64) (rt : Fin 2) (nt : Fin 64) (i : Fin 8) (l : Fin 128) :
    transpose S8x64x2x64x8x128 [0, 3, 4, 1, 5, 2] (shapeCast S8x64x128x64x2x8 f shapeCasts_S8x8192x64x16_S8x64x128x64x2x8) transposes_S8x64x128x64x2x8_S8x64x2x64x8x128_0_3_4_1_5_2 (ix6 e kb rt nt i l)
      = f (ix4 e ⟨nt.val * 128 + l.val, by omega⟩ kb ⟨rt.val * 8 + i.val, by omega⟩) := by
  pointwise
theorem host4 (f : Vec Ideal S8x2048x128x16 .i8) (e : Fin 8) (n : Fin 2048) (rt : Fin 2) (i : Fin 8) (l : Fin 128) :
    transpose S8x2048x2x8x128 [0, 1, 3, 4, 2] (shapeCast S8x2048x128x2x8 f shapeCasts_S8x2048x128x16_S8x2048x128x2x8) transposes_S8x2048x128x2x8_S8x2048x2x8x128_0_1_3_4_2 (ix5 e n rt i l)
      = f (ix4 e n l ⟨rt.val * 8 + i.val, by omega⟩) := by
  pointwise
theorem host9 (f : Vec Ideal S24x1x2048 .bf16) (t : Fin 24) (K : Fin 2048) : shapeCast S24x2048 f shapeCasts_S24x1x2048_S24x2048 (ix2 t K) = f (ix3 t 0 K) := by
  pointwise
theorem host6 {α : Type} (f : S24x1x4.Idx → α) (s : Fin 4) (t : Fin 24) : transpose S4x24 [1, 0] (shapeCast S24x4 f shapeCasts_S24x1x4_S24x4) transposes_S24x4_S4x24_1_0 (ix2 s t) = f (ix3 t 0 s) := by
  pointwise
theorem host2 (f : Vec Ideal S8x8192x64 .i8) (e : Fin 8) (kb : Fin 64) (n : Fin 8192) :
    transpose S8x64x8192 [0, 2, 1] f transposes_S8x8192x64_S8x64x8192_0_2_1 (ix3 e kb n) = f (ix3 e n kb) := by
  pointwise

theorem v1_read (e : Fin 8) (kb : Fin 64) (rt : Fin 2) (nt : Fin 64) (i : Fin 8) (l : Fin 128) :
    V m c main_v1 (ix6 e kb rt nt i l) = (inpK m c).gb e ⟨nt.val * 128 + l.val, by omega⟩ kb ⟨rt.val * 8 + i.val, by omega⟩ := by
  rw [V_main_v1]
  exact host1 _ _ _ _ _ _ _
theorem v2_read (e : Fin 8) (kb : Fin 64) (n : Fin 8192) : V m c main_v2 (ix3 e kb n) = (inpK m c).gs e n kb := by
  rw [V_main_v2]
  exact host2 _ _ _ _
theorem v4_read (e : Fin 8) (n : Fin 2048) (rt : Fin 2) (i : Fin 8) (l : Fin 128) :
    V m c main_v4 (ix5 e n rt i l) = (inpK m c).db e n l ⟨rt.val * 8 + i.val, by omega⟩ := by
  rw [V_main_v4]
  exact host4 _ _ _ _ _ _
theorem v6_read (s : Fin 4) (t : Fin 24) : V m c main_v6 (ix2 s t) = (inpK m c).ids t s := by
  rw [V_main_v6]
  exact host6 _ _ _
theorem v8_read (s : Fin 4) (t : Fin 24) : V m c main_v8 (ix2 s t) = (inpK m c).rw t s := by
  rw [V_main_v8]
  exact host6 _ _ _
theorem v9_read (t : Fin 24) (K : Fin 2048) : V m c main_v9 (ix2 t K) = (inpK m c).x t K := by
  rw [V_main_v9]
  exact host9 _ _ _

end Cert.Kernel.Hand

end
-- ==== Proof.RunOut.lean ====
module

public import proofs.«01_k».proof.Proof.Gen.Kernel.Skeleton
public import Idealize.ShloMosaic.Lib.Pointwise
public import Idealize.ShloMosaic.Lib.BitcastFour
public import Idealize.ShloMosaic.Lib.BitcastPair
public import proofs.«01_k».proof.Proof.Out
public import proofs.«01_k».proof.Proof.Spec
public import proofs.«01_k».proof.Proof.PermRead
public import proofs.«01_k».proof.Proof.Frame
public import proofs.«01_k».proof.Proof.HostRead
public import Idealize.ShloMosaic.Lib.Pipeline.ValueKit.Geometry
public import proofs.«01_k».proof.Proof.Gen.Kernel.Launch
public import Idealize.ShloMosaic.Lib.Pointwise
public import Idealize.ShloMosaic.Lib.BitcastFour
public import Idealize.ShloMosaic.Lib.BitcastPair

@[expose] public section

noncomputable section

namespace Cert.Kernel.Hand

open Cert.Kernel Cert.Kernel.Gen
open Idealize.ShloMosaic Idealize.ShloMosaic.TcCoe Idealize.ShloMosaic.Tactic

set_option maxHeartbeats 1600000
open Idealize.SL Idealize.SL.Sem
variable {F : FTy → Type} [FloatOps F] (m : (ℓ : Loc nD τ Cert.Kernel.sig) → Buf (Elt F) ℓ) (c : Dev nD) (ρ : Dev nD → PrngReg)

/-- The launch's output array ends as the kernel body left its staging buffer. -/
theorem arr6 : (dats m 0 c).arrAt 6 cfg0.N = out6 m c := by
  refine Pipeline.Dat.arrAt_eq_of_after_last (cfg := cfg0) (dats m 0 c) 6 ⟨0, by decide⟩ (by decide +kernel) (out6 m c) fun j => ?_
  rw [after_6]
  rfl

/-- The program's result is that array reshaped. -/
theorem W_out : Pipeline.afterTail₀ cfgs (dats m) 0 (V0 m) [hostOps1] c main_v11
    = shapeCast S24x1x2048 (out6 m c) shapeCasts_S24x2048_S24x1x2048 := by
  unfold Pipeline.afterTail₀
  have h : ∀ W : Valuation τ Cert.Kernel.sig (Elt F), StableHlo.after ([hostOps1] : List (List (HloOp τ Cert.Kernel.sig (Elt F)))).flatten W (Proc.devRef .tc main_v11) = shapeCast S24x1x2048 (W (Proc.devRef .tc main_v10)) shapeCasts_S24x2048_S24x1x2048 := by
    intro W
    simp only [List.flatten_cons, List.flatten_nil, List.append_nil]
    after_reads_simp
    try rfl
  rw [h]
  refine congrArg (fun z => shapeCast S24x1x2048 z shapeCasts_S24x2048_S24x1x2048) ?_
  exact (Pipeline.Dat.withArrays_arrAt (dats m 0 c) sharedIn0 (V0 m c) (A_eq m c) 6).trans (arr6 m c)

/-- The run, with the result. -/
theorem run_named (hX : Named m) : θ_run defs (onTc (τ := τ) (main (F := F))) ⟨m, fun _ => 0, ρ⟩ (fun r => ∀ c : Dev nD,
      r.2.mem ((c.tc : Thread nD τ).loc main_v11) = shapeCast S24x1x2048 (out6 m c) shapeCasts_S24x2048_S24x1x2048) :=
  (θ_run defs _ _).mono (fun _ h c => ((h.1 c).2 main_v11 (Pipeline.mem_restRefs_of main_v11 (by decide) (by decide))).trans (W_out m c)) (run_main m ρ hX)

end Cert.Kernel.Hand

end
-- ==== Proof.Loads.lean ====
module

public import proofs.«01_k».proof.Proof.Gen.Kernel.Skeleton
public import Idealize.ShloMosaic.Lib.Pointwise
public import Idealize.ShloMosaic.Lib.BitcastFour
public import Idealize.ShloMosaic.Lib.BitcastPair
public import proofs.«01_k».proof.Proof.Out
public import proofs.«01_k».proof.Proof.Spec
public import proofs.«01_k».proof.Proof.PermRead

@[expose] public section

noncomputable section

namespace Cert.Kernel.Hand

open Cert.Kernel Cert.Kernel.Gen
open Idealize.ShloMosaic Idealize.ShloMosaic.TcCoe Idealize.ShloMosaic.Tactic

open Idealize.SL Idealize.SL.Sem
variable (c : Dev nD)

/-! ## The indices of the squeezed views -/

theorem sq_gw (kb : Fin 64) (rt : Fin 2) (ct : Fin 4) (i : Fin 8) (l : Fin 128) :
    Shape.reshapeEquiv squeezes_S1x64x2x4x8x128_S64x2x4x8x128.numel_eq (ix5 kb rt ct i l) = ix6 0 kb rt ct i l := by
  have P : ∀ v : S1x64x2x4x8x128.Idx → S1x64x2x4x8x128.Idx, shapeCast S64x2x4x8x128 v squeezes_S1x64x2x4x8x128_S64x2x4x8x128.numel_eq (ix5 kb rt ct i l) = v (ix6 0 kb rt ct i l) := by
    intro v; pointwise
  exact P id

theorem sq_gs (kb : Fin 64) (n : Fin 512) :
    Shape.reshapeEquiv squeezes_S1x64x512_S64x512.numel_eq (ix2 kb n) = ix3 0 kb n := by
  have P : ∀ v : S1x64x512.Idx → S1x64x512.Idx, shapeCast S64x512 v squeezes_S1x64x512_S64x512.numel_eq (ix2 kb n) = v (ix3 0 kb n) := by
    intro v; pointwise
  exact P id

theorem sq_dw (r : Fin 512) (rt : Fin 2) (i : Fin 8) (l : Fin 128) :
    Shape.reshapeEquiv squeezes_S1x512x2x8x128_S512x2x8x128.numel_eq (ix4 r rt i l) = ix5 0 r rt i l := by
  have P : ∀ v : S1x512x2x8x128.Idx → S1x512x2x8x128.Idx, shapeCast S512x2x8x128 v squeezes_S1x512x2x8x128_S512x2x8x128.numel_eq (ix4 r rt i l) = v (ix5 0 r rt i l) := by
    intro v; pointwise
  exact P id

theorem sq_ds (r : Fin 512) (n : Fin 128) :
    Shape.reshapeEquiv squeezes_S1x512x128_S512x128.numel_eq (ix2 r n) = ix3 0 r n := by
  have P : ∀ v : S1x512x128.Idx → S1x512x128.Idx, shapeCast S512x128 v squeezes_S1x512x128_S512x128.numel_eq (ix2 r n) = v (ix3 0 r n) := by
    intro v; pointwise
  exact P id

theorem off52_46 : ∀ t : Fin k0_t4_loop.trips, k0_off52 t = k0_off46 t := by decide +kernel
theorem off51_49 : ∀ t : Fin k0_t4_loop.trips, k0_off51 t = k0_off49 t := by decide +kernel
theorem off67_62 : ∀ t : Fin k0_t5_loop.trips, k0_off67 t = k0_off62 t := by decide +kernel
theorem off65_eq : ∀ t : Fin k0_t5_loop.trips, k0_off65 t = ![t.val, 0, 0] := by decide +kernel
theorem off68_eq : ∀ t : Fin k0_t5_loop.trips, k0_off68 t = ![t.val, 0, 0] := by decide +kernel
theorem off69_eq : ∀ t : Fin k0_t5_loop.trips, k0_off69 t = ![t.val, 128, 0] := by decide +kernel
theorem off70_eq : ∀ t : Fin k0_t5_loop.trips, k0_off70 t = ![t.val, 256, 0] := by decide +kernel
theorem off71_eq : ∀ t : Fin k0_t5_loop.trips, k0_off71 t = ![t.val, 384, 0] := by decide +kernel

theorem unit_val {S : Shape} {off size : Fin S.rank → ℕ} (inb : ∀ a, off a + size a ≤ S.size a) (x : (Rect.unit (s := S) off size inb).shape.Idx) (a : Fin S.rank) :
    ((Rect.unit (s := S) off size inb).idx x a).val = off a + (x a).val := by
  show off a + 1 * (x a).val = _
  rw [Nat.one_mul]

/-- Two rectangles' places agree when their corners and the indices do. -/
theorem unit_place {S : Shape} {off size off' size' : Fin S.rank → ℕ} (inb : ∀ a, off a + size a ≤ S.size a) (inb' : ∀ a, off' a + size' a ≤ S.size a)
    (x : (Rect.unit (s := S) off size inb).shape.Idx) (x' : (Rect.unit (s := S) off' size' inb').shape.Idx)
    (h : ∀ a, off a + (x a).val = off' a + (x' a).val) : (Rect.unit (s := S) off size inb).idx x = (Rect.unit (s := S) off' size' inb').idx x' := by
  funext a
  apply Fin.ext
  rw [unit_val, unit_val]; exact h a

theorem gateWords_slot (f1 : Buf (Elt Ideal) (WG.view.loc (c : Thread nD τ))) (e : Ex) (t : Fin k0_t4_loop.trips) (kb : Fin 64) (rt : Fin 2) (ct : Fin 4) (i : Fin 8) (l : Fin 128) :
    gateWords c f1 e t (ix6 0 kb rt ct i l) = (srcGW t e).view.read (Elt Ideal) f1 (ix5 kb rt ct i l) := by
  have W := View.read_writes_whole (Val := Elt Ideal) (slotGW t).view (slotGW t).view.junk (ReadAs.same.apply ((srcGW t e).view.read (Elt Ideal) f1))
  refine Eq.trans ?_ (congrFun W (ix5 kb rt ct i l))
  unfold gateWords
  generalize (slotGW t).view.writes (Elt Ideal) (slotGW t).view.junk [⟨Rect.whole S64x2x4x8x128, ReadAs.same.apply ((srcGW t e).view.read (Elt Ideal) f1)⟩] = g
  have : (Rect.unit (s := S16x64x2x4x8x128) (k0_off52 t) S1x64x2x4x8x128.size (k0_off52_inb t)).idx (ix6 0 kb rt ct i l)
      = (Rect.unit (s := S16x64x2x4x8x128) (k0_off46 t) S1x64x2x4x8x128.size (k0_off46_inb t)).idx (Shape.reshapeEquiv squeezes_S1x64x2x4x8x128_S64x2x4x8x128.numel_eq (ix5 kb rt ct i l)) := by
    rw [sq_gw]
    exact unit_place _ _ _ _ fun a => congrArg (· + _) (congrFun (off52_46 t) a)
  exact congrArg g this

theorem srcGW_read (f1 : Buf (Elt Ideal) (WG.view.loc (c : Thread nD τ))) (e : Ex) (ef : Fin 8) (he : e.1.toNat = ef.val) (t : Fin k0_t4_loop.trips) (kb : Fin 64) (rt : Fin 2) (ct : Fin 4) (i : Fin 8) (l : Fin 128)
    (nt : Fin 64) (hnt : nt.val = 4 * t.val + ct.val) :
    (srcGW t e).view.read (Elt Ideal) f1 (ix5 kb rt ct i l) = f1 (ix6 ef kb rt nt i l) := by
  have : (Rect.unit (s := S8x64x2x64x8x128) (k0_off47 e.1 t) S1x64x2x4x8x128.size (k0_off47_inb e.1 e.2 t)).idx (Shape.reshapeEquiv squeezes_S1x64x2x4x8x128_S64x2x4x8x128.numel_eq (ix5 kb rt ct i l))
     = ix6 ef kb rt nt i l := by
    rw [sq_gw]
    funext a
    apply Fin.ext
    refine (unit_val _ _ a).trans ?_
    refine (congrArg (· + _) (congrFun (off47v e.1 t) a)).trans ?_
    fin_cases a
    · show e.1.toNat + 0 = ef.val; omega
    · show 0 + kb.val = kb.val; omega
    · show 0 + rt.val = rt.val; omega
    · show 4 * t.val + ct.val = nt.val; omega
    · show 0 + i.val = i.val; omega
    · show 0 + l.val = l.val; omega
  exact congrArg f1 this

theorem gateScales_slot (f2 : Buf (Elt Ideal) (SG.view.loc (c : Thread nD τ))) (e : Ex) (t : Fin k0_t4_loop.trips) (kb : Fin 64) (n : Fin 512) :
    gateScales c f2 e t (ix3 0 kb n) = (srcGS t e).view.read (Elt Ideal) f2 (ix2 kb n) := by
  have W := View.read_writes_whole (Val := Elt Ideal) (slotGS t).view (slotGS t).view.junk (ReadAs.same.apply ((srcGS t e).view.read (Elt Ideal) f2))
  refine Eq.trans ?_ (congrFun W (ix2 kb n))
  unfold gateScales
  generalize (slotGS t).view.writes (Elt Ideal) (slotGS t).view.junk [⟨Rect.whole S64x512, ReadAs.same.apply ((srcGS t e).view.read (Elt Ideal) f2)⟩] = g
  have : (Rect.unit (s := S16x64x512) (k0_off51 t) S1x64x512.size (k0_off51_inb t)).idx (ix3 0 kb n)
      = (Rect.unit (s := S16x64x512) (k0_off49 t) S1x64x512.size (k0_off49_inb t)).idx (Shape.reshapeEquiv squeezes_S1x64x512_S64x512.numel_eq (ix2 kb n)) := by
    rw [sq_gs]
    exact unit_place _ _ _ _ fun a => congrArg (· + _) (congrFun (off51_49 t) a)
  exact congrArg g this

theorem srcGS_read (f2 : Buf (Elt Ideal) (SG.view.loc (c : Thread nD τ))) (e : Ex) (ef : Fin 8) (he : e.1.toNat = ef.val) (t : Fin k0_t4_loop.trips) (kb : Fin 64) (n : Fin 512)
    (N : Fin 8192) (hN : N.val = 512 * t.val + n.val) :
    (srcGS t e).view.read (Elt Ideal) f2 (ix2 kb n) = f2 (ix3 ef kb N) := by
  have : (Rect.unit (s := S8x64x8192) (k0_off50 e.1 t) S1x64x512.size (k0_off50_inb e.1 e.2 t)).idx (Shape.reshapeEquiv squeezes_S1x64x512_S64x512.numel_eq (ix2 kb n))
     = ix3 ef kb N := by
    rw [sq_gs]
    funext a
    apply Fin.ext
    refine (unit_val _ _ a).trans ?_
    refine (congrArg (· + _) (congrFun (off50v e.1 t) a)).trans ?_
    fin_cases a
    · show e.1.toNat + 0 = ef.val; omega
    · show 0 + kb.val = kb.val; omega
    · show 512 * t.val + n.val = N.val; omega
  exact congrArg f2 this

theorem downWords_slot (f1 : Buf (Elt Ideal) (WD.view.loc (c : Thread nD τ))) (e : Ex) (t : Fin k0_t5_loop.trips) (r : Fin 512) (rt : Fin 2) (i : Fin 8) (l : Fin 128) :
    downWords c f1 e t (ix5 0 r rt i l) = (srcDW t e).view.read (Elt Ideal) f1 (ix4 r rt i l) := by
  have W := View.read_writes_whole (Val := Elt Ideal) (slotDW t).view (slotDW t).view.junk (ReadAs.same.apply ((srcDW t e).view.read (Elt Ideal) f1))
  refine Eq.trans ?_ (congrFun W (ix4 r rt i l))
  unfold downWords
  generalize (slotDW t).view.writes (Elt Ideal) (slotDW t).view.junk [⟨Rect.whole S512x2x8x128, ReadAs.same.apply ((srcDW t e).view.read (Elt Ideal) f1)⟩] = g
  have : (Rect.unit (s := S4x512x2x8x128) (k0_off67 t) S1x512x2x8x128.size (k0_off67_inb t)).idx (ix5 0 r rt i l)
      = (Rect.unit (s := S4x512x2x8x128) (k0_off62 t) S1x512x2x8x128.size (k0_off62_inb t)).idx (Shape.reshapeEquiv squeezes_S1x512x2x8x128_S512x2x8x128.numel_eq (ix4 r rt i l)) := by
    rw [sq_dw]
    exact unit_place _ _ _ _ fun a => congrArg (· + _) (congrFun (off67_62 t) a)
  exact congrArg g this

theorem srcDW_read (f1 : Buf (Elt Ideal) (WD.view.loc (c : Thread nD τ))) (e : Ex) (ef : Fin 8) (he : e.1.toNat = ef.val) (t : Fin k0_t5_loop.trips) (r : Fin 512) (rt : Fin 2) (i : Fin 8) (l : Fin 128)
    (N : Fin 2048) (hN : N.val = 512 * t.val + r.val) :
    (srcDW t e).view.read (Elt Ideal) f1 (ix4 r rt i l) = f1 (ix5 ef N rt i l) := by
  have : (Rect.unit (s := S8x2048x2x8x128) (k0_off63 e.1 t) S1x512x2x8x128.size (k0_off63_inb e.1 e.2 t)).idx (Shape.reshapeEquiv squeezes_S1x512x2x8x128_S512x2x8x128.numel_eq (ix4 r rt i l))
     = ix5 ef N rt i l := by
    rw [sq_dw]
    funext a
    apply Fin.ext
    refine (unit_val _ _ a).trans ?_
    refine (congrArg (· + _) (congrFun (off63v e.1 t) a)).trans ?_
    fin_cases a
    · show e.1.toNat + 0 = ef.val; omega
    · show 512 * t.val + r.val = N.val; omega
    · show 0 + rt.val = rt.val; omega
    · show 0 + i.val = i.val; omega
    · show 0 + l.val = l.val; omega
  exact congrArg f1 this

theorem downScales_slot (f2 : Buf (Elt Ideal) (SD.view.loc (c : Thread nD τ))) (e : Ex) (t : Fin k0_t5_loop.trips) (o : Fin 3 → ℕ) (ho : ∀ a, o a + S1x128x128.size a ≤ S4x512x128.size a)
    (q : ℕ) (hq : o = ![t.val, q, 0]) (r : Fin 128) (l : Fin 128) (R : Fin 512) (hR : R.val = q + r.val) :
    downScales c f2 e t o ho (ix3 0 r l) = (srcDS t e).view.read (Elt Ideal) f2 (ix2 R l) := by
  have W := View.read_writes_whole (Val := Elt Ideal) (slotDS t).view (slotDS t).view.junk (ReadAs.same.apply ((srcDS t e).view.read (Elt Ideal) f2))
  refine Eq.trans ?_ (congrFun W (ix2 R l))
  unfold downScales
  generalize (slotDS t).view.writes (Elt Ideal) (slotDS t).view.junk [⟨Rect.whole S512x128, ReadAs.same.apply ((srcDS t e).view.read (Elt Ideal) f2)⟩] = g
  have : (Rect.unit (s := S4x512x128) o S1x128x128.size ho).idx (ix3 0 r l)
      = (Rect.unit (s := S4x512x128) (k0_off65 t) S1x512x128.size (k0_off65_inb t)).idx (Shape.reshapeEquiv squeezes_S1x512x128_S512x128.numel_eq (ix2 R l)) := by
    rw [sq_ds]
    refine unit_place _ _ _ _ fun a => ?_
    refine (congrArg (· + _) (congrFun hq a)).trans ((congrArg (· + _) (congrFun (off65_eq t) a)).trans ?_).symm
    fin_cases a
    · rfl
    · show 0 + R.val = q + r.val; omega
    · rfl
  exact congrArg g this

theorem srcDS_read (f2 : Buf (Elt Ideal) (SD.view.loc (c : Thread nD τ))) (e : Ex) (ef : Fin 8) (he : e.1.toNat = ef.val) (t : Fin k0_t5_loop.trips) (r : Fin 512) (l : Fin 128)
    (N : Fin 2048) (hN : N.val = 512 * t.val + r.val) :
    (srcDS t e).view.read (Elt Ideal) f2 (ix2 r l) = f2 (ix3 ef N l) := by
  have : (Rect.unit (s := S8x2048x128) (k0_off66 e.1 t) S1x512x128.size (k0_off66_inb e.1 e.2 t)).idx (Shape.reshapeEquiv squeezes_S1x512x128_S512x128.numel_eq (ix2 r l))
     = ix3 ef N l := by
    rw [sq_ds]
    funext a
    apply Fin.ext
    refine (unit_val _ _ a).trans ?_
    refine (congrArg (· + _) (congrFun (off66v e.1 t) a)).trans ?_
    fin_cases a
    · show e.1.toNat + 0 = ef.val; omega
    · show 512 * t.val + r.val = N.val; omega
    · show 0 + l.val = l.val; omega
  exact congrArg f2 this

end Cert.Kernel.Hand

end
-- ==== Proof.Accum.lean ====
module

public import proofs.«01_k».proof.Proof.Gen.Kernel.Skeleton
public import Idealize.ShloMosaic.Lib.Pointwise
public import Idealize.ShloMosaic.Lib.BitcastFour
public import Idealize.ShloMosaic.Lib.BitcastPair
public import proofs.«01_k».proof.Proof.Out
public import proofs.«01_k».proof.Proof.Spec
public import proofs.«01_k».proof.Proof.PermRead
public import proofs.«01_k».proof.Proof.Loads

@[expose] public section

noncomputable section

namespace Cert.Kernel.Hand

open Cert.Kernel Cert.Kernel.Gen
open Idealize.ShloMosaic Idealize.ShloMosaic.TcCoe Idealize.ShloMosaic.Tactic

open Idealize.SL Idealize.SL.Sem
variable (c : Dev nD)
variable (arg6 : Memref sig .tc .vmem S8x8192 .f32) (arg9 : Memref sig .tc .vmem S8x2048 .f32)
variable (g1 : Buf (Elt Ideal) (WG.view.loc (c : Thread nD τ))) (g2 : Buf (Elt Ideal) (SG.view.loc (c : Thread nD τ)))
    (d1 : Buf (Elt Ideal) (WD.view.loc (c : Thread nD τ))) (d2 : Buf (Elt Ideal) (SD.view.loc (c : Thread nD τ)))
    (b : Buf (Elt Ideal) (arg6.view.loc (c : Thread nD τ))) (bd : Buf (Elt Ideal) (arg9.view.loc (c : Thread nD τ)))
    (x : Vec Ideal S24x2048 .bf16) (p : Buf (Elt Ideal) (PERM.view.loc (c : Thread nD τ)))

theorem off79_eq : ∀ t : Fin k0_t5_loop.trips, k0_off79 t = ![t.val, 0, 0] := by decide +kernel

/-- The accumulator, read at a slab, a token and a column. -/
def accRd (a : Buf (Elt Ideal) (ACC.view.loc (c : Thread nD τ))) (j : Fin 4) (tt : Fin 24) (n : Fin 512) : EReal := ACC.view.read (Elt Ideal) a (ix3 j tt n)

theorem aStore_at (a : Buf (Elt Ideal) (ACC.view.loc (c : Thread nD τ))) (t : Fin k0_t5_loop.trips) (w : Vec Ideal S1x24x512 .f32) (j : Fin 4) (tt : Fin 24) (n : Fin 512) :
    accRd c (aStore c a t w) j tt n = if j.val = t.val then w (ix3 0 tt n) else accRd c a j tt n := by
  unfold aStore accRd
  by_cases hy : j.val = t.val
  · rw [if_pos hy]
    refine View.read_writes_cons_unit_of_mem (Val := Elt Ideal) ACC.view a (k0_off79_inb t) w [] (ix3 j tt n) (ix3 0 tt n) (off79_eq t) ?_
    intro a
    fin_cases a
    · show j.val = t.val + 0; omega
    · show tt.val = 0 + tt.val; omega
    · show n.val = 0 + n.val; omega
  · rw [if_neg hy]
    refine View.read_writes_cons_unit_of_not_mem (Val := Elt Ideal) ACC.view a (k0_off79_inb t) w [] (ix3 j tt n) (off79_eq t) 0 ?_
    show j.val < t.val ∨ t.val + 1 ≤ j.val
    omega

theorem acc_at (a : Buf (Elt Ideal) (ACC.view.loc (c : Thread nD τ))) (o : Fin 3 → ℕ) (ho : ∀ a, o a + S1x24x512.size a ≤ S4x24x512.size a) (k : Fin 4) (hk : o = ![k.val, 0, 0]) (t : Fin 24) (n : Fin 512) :
    View.readAt (Elt Ideal) ACC.view (Rect.unit (s := S4x24x512) o S1x24x512.size ho).toLoadRect a (ix3 0 t n) = accRd c a k t n := by
  unfold accRd
  rw [View.readAt_apply]
  refine congrArg (ACC.view.read (Elt Ideal) a) (funext fun a => Fin.ext ?_)
  refine (unit_val ho _ a).trans ((congrArg (· + _) (congrFun hk a)).trans ?_)
  fin_cases a
  · rfl
  · show 0 + t.val = t.val; omega
  · show 0 + n.val = n.val; omega

/-- A token's coefficient for an expert, as a trip forms it. -/
def coefOf (v : Vec Ideal S128x8 .f32) (e : BitVec 32) (t : Fin 24) : EReal :=
  ∑ x : Fin 8, Scalar.select (IntOp.cmpi CmpIPredicate.eq (BitVec.ofNat 32 x.val) e) (v (ix2 ⟨t.val, by omega⟩ x)) (0 : EReal)

set_option maxHeartbeats 1600000 in
theorem pay109_read (e : BitVec 32) (v : Vec Ideal S128x8 .f32) (wt : FVec Ideal S4096x512 .bf16) (hv : FVec Ideal S24x4096 .bf16) (bias : Vec Ideal S1x512 .f32) (acc : Vec Ideal S1x24x512 .f32) (t : Fin 24) (n : Fin 512) :
    k0_pay109 e v wt hv bias acc (ix3 0 t n) = (acc (ix3 0 t n) : EReal) + coefOf v e t * ((∑ K : Fin 4096, (hv (ix2 t K) : EReal) * wt (ix2 K n)) + bias (ix2 0 n)) := by
  pointwise [k0_pay109]
  show _ = (acc (ix3 0 t n) : EReal) + coefOf v e t * _
  unfold coefOf
  generalize (∑ x : Fin 8, Scalar.select (IntOp.cmpi CmpIPredicate.eq (BitVec.ofNat 32 x.val) e) (v (ix2 ⟨t.val, by omega⟩ x)) (0 : EReal)) = C
  refine congrArg (fun z : EReal => acc (ix3 0 t n) + z) ?_
  by_cases hC : C = 0
  · rw [if_neg (not_not.2 hC), hC, zero_mul]
  · exact if_pos hC

/-- What a trip adds to the accumulator, without its coefficient: the expert's output there. -/
def yOf (h : Buf (Elt Ideal) (HREF.view.loc (c : Thread nD τ))) (e : Ex) (t : Fin k0_t5_loop.trips) (tt : Fin 24) (n : Fin 512) : EReal :=
  (∑ K : Fin 4096, (hvLoad c h (ix2 tt K) : EReal) * downWt (downWords c d1 e t) (downScales c d2 e t (k0_off68 t) (k0_off68_inb t)) (downScales c d2 e t (k0_off69 t) (k0_off69_inb t))
      (downScales c d2 e t (k0_off70 t) (k0_off70_inb t)) (downScales c d2 e t (k0_off71 t) (k0_off71_inb t)) (ix2 K n))
    + View.readAt (Elt Ideal) arg9.view (Rect.unit (s := S8x2048) (k0_off78 e.1 t) S1x512.size (k0_off78_inb e.1 e.2 t)).toLoadRect bd (ix2 0 n)

theorem lt4 (t : Fin k0_t5_loop.trips) : t.val < 4 := lt_of_lt_of_eq t.isLt (by decide)

theorem downVal_read (h : Buf (Elt Ideal) (HREF.view.loc (c : Thread nD τ))) (v : Vec Ideal S128x8 .f32) (a : Buf (Elt Ideal) (ACC.view.loc (c : Thread nD τ))) (e : Ex) (t : Fin k0_t5_loop.trips) (tt : Fin 24) (n : Fin 512) :
    downVal c arg9 d1 d2 h v bd a e t (ix3 0 tt n) = accRd c a ⟨t.val, lt4 t⟩ tt n + coefOf v e.1 tt * yOf c arg9 d1 d2 bd h e t tt n := by
  unfold downVal yOf
  rw [pay109_read, acc_at c a (k0_off79 t) _ ⟨t.val, lt4 t⟩ (off79_eq t)]

theorem aLoop_read (h : Buf (Elt Ideal) (HREF.view.loc (c : Thread nD τ))) (v : Vec Ideal S128x8 .f32) (a : Buf (Elt Ideal) (ACC.view.loc (c : Thread nD τ))) (e : Ex) (j : Fin k0_t5_loop.trips) (tt : Fin 24) (n : Fin 512) :
    ∀ k, k ≤ k0_t5_loop.trips → accRd c (aLoop c arg9 d1 d2 bd e h v a k) ⟨j.val, lt4 j⟩ tt n
      = if j.val < k then accRd c a ⟨j.val, lt4 j⟩ tt n + coefOf v e.1 tt * yOf c arg9 d1 d2 bd h e j tt n else accRd c a ⟨j.val, lt4 j⟩ tt n
  | 0, _ => by rw [if_neg (Nat.not_lt_zero _)]; rfl
  | k + 1, hk => by
    have hk' : k < k0_t5_loop.trips := by omega
    have ih := aLoop_read h v a e j tt n k (by omega)
    rw [aLoop, dif_pos hk', aStore_at]
    by_cases hj : j.val = k
    · have ej : j = ⟨k, hk'⟩ := Fin.ext hj
      rw [if_pos hj, downVal_read, if_pos (by omega)]
      rw [if_neg (by omega)] at ih
      rw [← ej, ih]
    · rw [if_neg hj, ih]
      by_cases hjk : j.val < k
      · rw [if_pos hjk, if_pos (by omega)]
      · rw [if_neg hjk, if_neg (by omega)]

theorem hLoop_slot (e : Ex) (h : Buf (Elt Ideal) (HREF.view.loc (c : Thread nD τ))) (j : Fin k0_t4_loop.trips) (j' : Fin 16) (hj' : j'.val = j.val) (tt : Fin 24) (n : Fin 256) :
    ∀ k, k ≤ k0_t4_loop.trips → j.val < k → HREF.view.read (Elt Ideal) (hLoop c arg6 g1 g2 x p b e h k) (ix3 j' tt n) = gateVal c arg6 g1 g2 x p b e j (ix3 0 tt n)
  | 0, _, hj => absurd hj (Nat.not_lt_zero _)
  | k + 1, hk, hj => by
    have hk' : k < k0_t4_loop.trips := by omega
    rw [hLoop, dif_pos hk']
    refine (hStore_apply c _ _ _ _).trans ?_
    by_cases hjk : j.val = k
    · have ej : j = ⟨k, hk'⟩ := Fin.ext hjk
      refine (dif_pos (show ((ix3 j' tt n : S16x24x256.Idx) 0).val = k from hj'.trans hjk)).trans ?_
      rw [← ej]
      refine congrArg (gateVal c arg6 g1 g2 x p b e j) (funext fun a => ?_)
      fin_cases a <;> rfl
    · refine (dif_neg (show ¬ ((ix3 j' tt n : S16x24x256.Idx) 0).val = k from fun hh => hjk (hj'.symm.trans hh))).trans ?_
      exact hLoop_slot e h j j' hj' tt n k (by omega) (by omega)

theorem ha_succ (E : ℕ → Ex) (co : Buf (Elt Ideal) (COEF.view.loc (c : Thread nD τ))) (h : Buf (Elt Ideal) (HREF.view.loc (c : Thread nD τ))) (a : Buf (Elt Ideal) (ACC.view.loc (c : Thread nD τ))) (k : ℕ) :
    (ha c arg6 arg9 g1 g2 d1 d2 x p b bd E co h a (k + 1)).2 = aLoop c arg9 d1 d2 bd (E k) (hLoop c arg6 g1 g2 x p b (E k) (ha c arg6 arg9 g1 g2 d1 d2 x p b bd E co h a k).1 k0_t4_loop.trips) (coLoad c co) (ha c arg6 arg9 g1 g2 d1 d2 x p b bd E co h a k).2 k0_t5_loop.trips := by
  rw [ha]

/-- The accumulator after the first experts of the list. -/
theorem ha_read (E : ℕ → Ex) (co : Buf (Elt Ideal) (COEF.view.loc (c : Thread nD τ))) (h : Buf (Elt Ideal) (HREF.view.loc (c : Thread nD τ))) (a : Buf (Elt Ideal) (ACC.view.loc (c : Thread nD τ)))
    (j : Fin k0_t5_loop.trips) (tt : Fin 24) (n : Fin 512) (Y : Ex → EReal) (hY : ∀ e h, yOf c arg9 d1 d2 bd (hLoop c arg6 g1 g2 x p b e h k0_t4_loop.trips) e j tt n = Y e) :
    ∀ k, accRd c (ha c arg6 arg9 g1 g2 d1 d2 x p b bd E co h a k).2 ⟨j.val, lt4 j⟩ tt n
      = accRd c a ⟨j.val, lt4 j⟩ tt n + ∑ i ∈ Finset.range k, coefOf (coLoad c co) (E i).1 tt * Y (E i)
  | 0 => by rw [Finset.sum_range_zero, add_zero]; rfl
  | k + 1 => by
    have ih := ha_read E co h a j tt n Y hY k
    rw [ha_succ, Finset.sum_range_succ, ← add_assoc, ← ih, ← hY (E k) (ha c arg6 arg9 g1 g2 d1 d2 x p b bd E co h a k).1]
    exact (aLoop_read c arg9 d1 d2 bd _ _ _ _ j tt n _ le_rfl).trans (if_pos j.isLt)

end Cert.Kernel.Hand

end
-- ==== Proof.Mix.lean ====
module

public import proofs.«01_k».proof.Proof.Gen.Kernel.Skeleton
public import Idealize.ShloMosaic.Lib.Pointwise
public import Idealize.ShloMosaic.Lib.BitcastFour
public import Idealize.ShloMosaic.Lib.BitcastPair
public import proofs.«01_k».proof.Proof.Out
public import proofs.«01_k».proof.Proof.Spec
public import proofs.«01_k».proof.Proof.PermRead
public import proofs.«01_k».proof.Proof.Accum
public import proofs.«01_k».proof.Proof.Frame

@[expose] public section

noncomputable section

namespace Cert.Kernel.Hand

open Cert.Kernel Cert.Kernel.Gen
open Idealize.ShloMosaic Idealize.ShloMosaic.TcCoe Idealize.ShloMosaic.Tactic

open Idealize.SL Idealize.SL.Sem
variable (c : Dev nD)

/-- One coefficient per expert and one expert per slot: the two orders of the mixture agree. -/
theorem mix (ids : Fin 4 → BitVec 32) (hd : Function.Injective ids) (hlt : ∀ s, (ids s).toNat < 8) (rw' : Fin 4 → EReal) (y : Fin 8 → EReal) :
    ∑ e : Fin 8, (∑ s : Fin 4, if ids s = BitVec.ofNat 32 e.val then rw' s else 0) * y e
      = ∑ s : Fin 4, (∑ e : Fin 8, if ids s = BitVec.ofNat 32 e.val then y e else 0) * rw' s := by
  have A : ∀ e : Fin 8, (∑ s : Fin 4, if ids s = BitVec.ofNat 32 e.val then rw' s else 0) * y e = ∑ s : Fin 4, if ids s = BitVec.ofNat 32 e.val then rw' s * y e else 0 := by
    intro e
    by_cases h : ∃ s, ids s = BitVec.ofNat 32 e.val
    · obtain ⟨s, hs⟩ := h
      have o : ∀ s', s' ≠ s → ¬ ids s' = BitVec.ofNat 32 e.val := fun s' hn he => hn (hd (he.trans hs.symm))
      rw [Finset.sum_eq_single s (fun s' _ hn => if_neg (o s' hn)) (fun hn => absurd (Finset.mem_univ _) hn), Finset.sum_eq_single s (fun s' _ hn => if_neg (o s' hn)) (fun hn => absurd (Finset.mem_univ _) hn), if_pos hs, if_pos hs]
    · rw [Finset.sum_eq_zero (fun s _ => if_neg fun he => h ⟨s, he⟩), Finset.sum_eq_zero (fun s _ => if_neg fun he => h ⟨s, he⟩), zero_mul]
  rw [Finset.sum_congr rfl fun e _ => A e, Finset.sum_comm]
  refine Finset.sum_congr rfl fun s _ => ?_
  have hs : ids s = BitVec.ofNat 32 (⟨(ids s).toNat, hlt s⟩ : Fin 8).val := by simp
  have o : ∀ e' : Fin 8, e' ≠ ⟨(ids s).toNat, hlt s⟩ → ¬ ids s = BitVec.ofNat 32 e'.val := fun e' hn he => hn (Fin.ext (by
    have hh := congrArg BitVec.toNat he
    rw [BitVec.toNat_ofNat, Nat.mod_eq_of_lt (by omega)] at hh
    exact hh.symm))
  rw [Finset.sum_eq_single _ (fun e' _ hn => if_neg (o e' hn)) (fun hn => absurd (Finset.mem_univ _) hn), Finset.sum_eq_single _ (fun e' _ hn => if_neg (o e' hn)) (fun hn => absurd (Finset.mem_univ _) hn), if_pos hs, if_pos hs]
  exact mul_comm _ _

/-- A sum over the mask's list is the sum over the set bits. -/
theorem sum_bits (M : BitVec 32) (g : ℕ → EReal) : ∀ k, ∑ i ∈ Finset.range (bitsTo M k).length, g ((bitsTo M k).getD i 0) = ∑ i ∈ Finset.range k, if M.getLsbD i then g i else 0
  | 0 => by simp [bitsTo]
  | k + 1 => by
    rw [Finset.sum_range_succ, ← sum_bits M g k, bitsTo_succ]
    by_cases h : M.getLsbD k
    · rw [if_pos h, if_pos h, List.length_append, List.length_singleton, Finset.sum_range_succ]
      refine congrArg₂ (· + ·) (Finset.sum_congr rfl fun i hi => ?_) ?_
      · rw [List.getD_eq_getElem?_getD, List.getD_eq_getElem?_getD, List.getElem?_append_left (Finset.mem_range.1 hi)]
      · rw [List.getD_eq_getElem?_getD, List.getElem?_append_right le_rfl, Nat.sub_self]; rfl
    · rw [if_neg h, if_neg h, List.append_nil, add_zero]

theorem out_pay2 (v : Vec Ideal S1x24x512 .f32) (t : Fin 24) (n : Fin 512) : k0_pay2 v (ix2 t n) = (v (ix3 0 t n) : EReal) := by pointwise [k0_pay2]
theorem out_pay1 (v : Vec Ideal S1x24x512 .f32) (t : Fin 24) (n : Fin 512) : k0_pay1 v (ix2 t n) = (v (ix3 0 t n) : EReal) := by pointwise [k0_pay1]
theorem out_pay114 (v : Vec Ideal S1x24x512 .f32) (t : Fin 24) (n : Fin 512) : k0_pay114 v (ix2 t n) = (v (ix3 0 t n) : EReal) := by pointwise [k0_pay114]
theorem out_pay113 (v : Vec Ideal S1x24x512 .f32) (t : Fin 24) (n : Fin 512) : k0_pay113 v (ix2 t n) = (v (ix3 0 t n) : EReal) := by pointwise [k0_pay113]

/-- The four column blocks, read at a token and a column. -/
theorem outL_read (a : Buf (Elt Ideal) (ACC.view.loc (c : Thread nD τ))) (q : Fin 4) (t : Fin 24) (n : Fin 512) :
    View.canon (outL c a) (ix2 t ⟨512 * q.val + n.val, by omega⟩) = accRd c a q t n := by
  have H := View.read_writes_eq_canon (Val := Elt Ideal) (Memref.whole cc0_stg6_0 : Memref sig .tc .vmem S24x2048 .bf16).view (Memref.whole cc0_stg6_0 : Memref sig .tc .vmem S24x2048 .bf16).view.junk (outL c a) (outL_cover c a)
  rw [← H]
  have hn := n.isLt
  unfold outL
  have no : ∀ (o : ℕ) (ho) (w : Vec Ideal S24x512 .bf16) (L : List (View.Piece (Elt Ideal) S24x2048 .bf16)) (N : Fin 2048), (N.val < o ∨ o + 512 ≤ N.val) →
      (Memref.whole cc0_stg6_0 : Memref sig .tc .vmem S24x2048 .bf16).view.read (Elt Ideal) ((Memref.whole cc0_stg6_0 : Memref sig .tc .vmem S24x2048 .bf16).view.writes (Elt Ideal) (Memref.whole cc0_stg6_0 : Memref sig .tc .vmem S24x2048 .bf16).view.junk (⟨Rect.unit ![0, o] S24x512.size ho, w⟩ :: L)) (ix2 t N)
        = (Memref.whole cc0_stg6_0 : Memref sig .tc .vmem S24x2048 .bf16).view.read (Elt Ideal) ((Memref.whole cc0_stg6_0 : Memref sig .tc .vmem S24x2048 .bf16).view.writes (Elt Ideal) (Memref.whole cc0_stg6_0 : Memref sig .tc .vmem S24x2048 .bf16).view.junk L) (ix2 t N) := by
    intro o ho w L N hN
    exact View.read_writes_cons_unit_of_not_mem (Val := Elt Ideal) (Memref.whole cc0_stg6_0 : Memref sig .tc .vmem S24x2048 .bf16).view _ ho w L (ix2 t N) rfl 1 hN
  have yes : ∀ (o : ℕ) (ho) (w : Vec Ideal S24x512 .bf16) (L : List (View.Piece (Elt Ideal) S24x2048 .bf16)) (N : Fin 2048), N.val = o + n.val →
      (Memref.whole cc0_stg6_0 : Memref sig .tc .vmem S24x2048 .bf16).view.read (Elt Ideal) ((Memref.whole cc0_stg6_0 : Memref sig .tc .vmem S24x2048 .bf16).view.writes (Elt Ideal) (Memref.whole cc0_stg6_0 : Memref sig .tc .vmem S24x2048 .bf16).view.junk (⟨Rect.unit ![0, o] S24x512.size ho, w⟩ :: L)) (ix2 t N) = w (ix2 t n) := by
    intro o ho w L N hN
    refine View.read_writes_cons_unit_of_mem (Val := Elt Ideal) (Memref.whole cc0_stg6_0 : Memref sig .tc .vmem S24x2048 .bf16).view _ ho w L (ix2 t N) (ix2 t n) rfl ?_
    intro a
    fin_cases a
    · show t.val = 0 + t.val; omega
    · exact hN
  fin_cases q
  · rw [no _ _ _ _ _ (Or.inl (by show 512 * 0 + n.val < 1536; omega)), no _ _ _ _ _ (Or.inl (by show 512 * 0 + n.val < 1024; omega)), no _ _ _ _ _ (Or.inl (by show 512 * 0 + n.val < 512; omega))]
    exact (yes _ _ _ _ _ (by show 512 * 0 + n.val = 0 + n.val; omega)).trans ((out_pay113 _ _ _).trans (acc_at c a _ _ 0 rfl t n))
  · rw [no _ _ _ _ _ (Or.inl (by show 512 * 1 + n.val < 1536; omega)), no _ _ _ _ _ (Or.inl (by show 512 * 1 + n.val < 1024; omega))]
    exact (yes _ _ _ _ _ (by show 512 * 1 + n.val = 512 + n.val; omega)).trans ((out_pay114 _ _ _).trans (acc_at c a _ _ 1 rfl t n))
  · rw [no _ _ _ _ _ (Or.inl (by show 512 * 2 + n.val < 1536; omega))]
    exact (yes _ _ _ _ _ (by show 512 * 2 + n.val = 1024 + n.val; omega)).trans ((out_pay1 _ _ _).trans (acc_at c a _ _ 2 rfl t n))
  · exact (yes _ _ _ _ _ (by show 512 * 3 + n.val = 1536 + n.val; omega)).trans ((out_pay2 _ _ _).trans (acc_at c a _ _ 3 rfl t n))

theorem acc0_read (q : Fin 4) (t : Fin 24) (n : Fin 512) : accRd c (acc0 (F := Ideal) c) q t n = 0 := by
  have P : k0_pay100 (F := Ideal) (ix3 q t n) = (0 : EReal) := by
    pointwise [k0_pay100]
  refine Eq.trans ?_ P
  unfold accRd acc0
  refine View.read_writes_cons_unit_of_mem (Val := Elt Ideal) ACC.view ACC.view.junk inb_S4x24x512_S4x24x512_0_0_0 (k0_pay100 (F := Ideal)) [] (ix3 q t n) (ix3 q t n) rfl ?_
  intro a
  fin_cases a
  · show q.val = 0 + q.val; omega
  · show t.val = 0 + t.val; omega
  · show n.val = 0 + n.val; omega

theorem coefOf_eq (v : Vec Ideal S128x8 .f32) (e : BitVec 32) (ef : Fin 8) (he : e = BitVec.ofNat 32 ef.val) (t : Fin 24) : coefOf v e t = v (ix2 ⟨t.val, by omega⟩ ef) := by
  unfold coefOf
  subst he
  rw [Finset.sum_eq_single ef]
  · simp [Scalar.select, IntOp.cmpi]
  · intro x _ hx
    have h : ¬ BitVec.ofNat 32 x.val = BitVec.ofNat 32 ef.val := fun hh => hx (Fin.ext (by
      have := congrArg BitVec.toNat hh
      rw [BitVec.toNat_ofNat, BitVec.toNat_ofNat, Nat.mod_eq_of_lt (by omega), Nat.mod_eq_of_lt (by omega)] at this
      exact this))
    have hb := beq_eq_false_iff_ne.mpr h
    simp only [Scalar.select, IntOp.cmpi, hb]
    rfl
  · intro hn; exact absurd (Finset.mem_univ _) hn

theorem ex_lt (e : Ex) : e.1.toNat < 8 := by
  have h := k0_off47_inb e.1 e.2 ⟨0, by decide⟩ 0
  rw [off47v] at h
  have h' : e.1.toNat + 1 ≤ 8 := h
  omega

theorem off1_all : ∀ (s : Fin 4) (t : Fin 24), ∃ k : Fin k0_t1_loop.trips, k0_off1 k = ![s.val, t.val] := by decide +kernel

end Cert.Kernel.Hand

end
-- ==== Proof.GateEq.lean ====
module

public import proofs.«01_k».proof.Proof.Gen.Kernel.Skeleton
public import Idealize.ShloMosaic.Lib.Pointwise
public import Idealize.ShloMosaic.Lib.BitcastFour
public import Idealize.ShloMosaic.Lib.BitcastPair
public import proofs.«01_k».proof.Proof.Out
public import proofs.«01_k».proof.Proof.Spec
public import proofs.«01_k».proof.Proof.PermRead

@[expose] public section

noncomputable section

namespace Cert.Kernel.Hand

open Cert.Kernel Cert.Kernel.Gen
open Idealize.ShloMosaic Idealize.ShloMosaic.TcCoe Idealize.ShloMosaic.Tactic

open Idealize.SL Idealize.SL.Sem
variable (c : Dev nD)

/-- A gate trip's stored activations, of what it loads. -/
theorem gateOf_read (x : Vec Ideal S24x2048 .bf16) (words : Vec Ideal S1x64x2x4x8x128 .i8) (scales : Vec Ideal S1x64x512 .i8) (bias : Vec Ideal S1x512 .f32)
    (t : Fin 24) (n : Fin 256) :
    gateOf x words scales bias permM (ix3 0 t n)
      = swiOf (guVal x (k0_pay5 (k0_pay4 words)) (k0_pay6 (k0_pay3 scales)) bias t (laneOf n)) (guVal x (k0_pay5 (k0_pay4 words)) (k0_pay6 (k0_pay3 scales)) bias t ⟨((laneOf n).val + 512 - 511) % 512, Nat.mod_lt _ (by omega)⟩) := by
  unfold gateOf
  rw [View.readCov_cons_toLoadRect, pay107_read, pay8_read]

/-- The gate and up projections a trip forms, of the arguments. -/
theorem guVal_eq (I : Inp) (x : Vec Ideal S24x2048 .bf16) (hx : ∀ t K, x (ix2 t K) = I.x t K) (words : Vec Ideal S1x64x2x4x8x128 .i8) (scales : Vec Ideal S1x64x512 .i8) (bias : Vec Ideal S1x512 .f32)
    (e : Fin 8) (j : ℕ) (hj : j < 16)
    (hw : ∀ kb rt ct i l, words (ix6 0 kb rt ct i l) = I.gb e ⟨(4 * j + ct.val) * 128 + l.val, by omega⟩ kb ⟨rt.val * 8 + i.val, by omega⟩)
    (hs : ∀ kb n, scales (ix3 0 kb n) = I.gs e ⟨512 * j + n.val, by omega⟩ kb)
    (hb : ∀ n, bias (ix2 0 n) = I.gc e ⟨512 * j + n.val, by omega⟩) (t : Fin 24) (n : Fin 512) :
    guVal x (k0_pay5 (k0_pay4 words)) (k0_pay6 (k0_pay3 scales)) bias t n = I.gu e t ⟨512 * j + n.val, by omega⟩ := by
  unfold guVal Inp.gu
  refine congrArg₂ (· + ·) (Finset.sum_congr rfl fun K _ => ?_) (hb n)
  rw [hx, pay5_read, pay4_read, pay6_read, hw, hs]
  refine congrArg (fun z : EReal => I.x t K * z) ?_
  unfold Inp.gW
  have hK := K.isLt
  have hn := n.isLt
  have h1 : (⟨(4 * j + (((K.val / 16 * 4 + n.val / 128) * 8 + K.val % 16 / 2) / 8 % 4)) * 128 + n.val % 128, by omega⟩ : Fin 8192) = ⟨512 * j + n.val, by omega⟩ := Fin.ext (by show _ = 512 * j + n.val; show (4 * j + (((K.val / 16 * 4 + n.val / 128) * 8 + K.val % 16 / 2) / 8 % 4)) * 128 + n.val % 128 = _; omega)
  have h2 : (⟨((K.val / 16 * 4 + n.val / 128) * 8 + K.val % 16 / 2) / 64, by omega⟩ : Fin 64) = ⟨K.val / 32, by omega⟩ := Fin.ext (by show ((K.val / 16 * 4 + n.val / 128) * 8 + K.val % 16 / 2) / 64 = K.val / 32; omega)
  have h3 : (⟨(((K.val / 16 * 4 + n.val / 128) * 8 + K.val % 16 / 2) / 32 % 2) * 8 + ((K.val / 16 * 4 + n.val / 128) * 8 + K.val % 16 / 2) % 8, by omega⟩ : Fin 16) = ⟨K.val % 32 / 2, by omega⟩ :=
    Fin.ext (by show (((K.val / 16 * 4 + n.val / 128) * 8 + K.val % 16 / 2) / 32 % 2) * 8 + ((K.val / 16 * 4 + n.val / 128) * 8 + K.val % 16 / 2) % 8 = K.val % 32 / 2; omega)
  have h4 : K.val % 16 % 2 = K.val % 2 := by omega
  refine congrArg₂ (· * ·) ?_ rfl
  refine (congrArg e2m1 (congrArg₂ nibOf ?_ h4))
  exact (congrArg₂ (fun a (b : Fin 64 × Fin 16) => I.gb e a b.1 b.2) h1 (congrArg₂ Prod.mk h2 h3))

end Cert.Kernel.Hand

end
-- ==== Proof.HidEq.lean ====
module

public import proofs.«01_k».proof.Proof.Gen.Kernel.Skeleton
public import Idealize.ShloMosaic.Lib.Pointwise
public import Idealize.ShloMosaic.Lib.BitcastFour
public import Idealize.ShloMosaic.Lib.BitcastPair
public import proofs.«01_k».proof.Proof.Out
public import proofs.«01_k».proof.Proof.Spec
public import proofs.«01_k».proof.Proof.PermRead
public import proofs.«01_k».proof.Proof.Loads
public import proofs.«01_k».proof.Proof.HostRead
public import proofs.«01_k».proof.Proof.GateEq

@[expose] public section

noncomputable section

namespace Cert.Kernel.Hand

open Cert.Kernel Cert.Kernel.Gen
open Idealize.ShloMosaic Idealize.ShloMosaic.TcCoe Idealize.ShloMosaic.Tactic

open Idealize.SL Idealize.SL.Sem
variable (m : (ℓ : Loc nD τ sig) → Buf (Elt Ideal) ℓ) (c : Dev nD)

theorem off59v (v : BitVec 32) (t : Fin k0_t4_loop.trips) : k0_off59 v t = ![v.toNat, 512 * t.val] := by
  have h : ∀ t : Fin k0_t4_loop.trips, (Scalar.muli (Scf.iv 0#32 1#32 t) 512#32).toNat = 512 * t.val := by decide +kernel
  unfold k0_off59; simp only [Scalar.indexCast, h]

theorem permLoad_permV : permLoad c (permV (F := Ideal) c) = permM := by
  funext y
  unfold permLoad permV
  rw [View.readAt_apply]
  refine View.read_writes_cons_unit_of_mem (Val := Elt Ideal) PERM.view PERM.view.junk inb_S512x256_S512x256_0_0 permM [] _ y rfl ?_
  intro a
  refine unit_val _ _ a

theorem whole_load {S : Shape} {sp : Space} {φ : EltTy} (v : View sig .tc sp S φ) (f : v.ty.Contents (Elt Ideal)) (o : Fin S.rank → ℕ) (ho : ∀ a, o a + S.size a ≤ S.size a) (h0 : ∀ a, o a = 0) (y : S.Idx) :
    View.readAt (Elt Ideal) v (Rect.unit (s := S) o S.size ho).toLoadRect f y = v.read (Elt Ideal) f y := by
  rw [View.readAt_apply]
  refine congrArg (v.read (Elt Ideal) f) (funext fun a => Fin.ext ?_)
  exact (unit_val ho _ a).trans (by rw [h0]; exact Nat.zero_add _)

theorem lt16 (t : Fin k0_t4_loop.trips) : t.val < 16 := lt_of_lt_of_eq t.isLt (by decide)

/-- A gate trip's stored activations, of the arguments. -/
theorem gateVal_hid (e : Ex) (ef : Fin 8) (he : e.1.toNat = ef.val) (t : Fin k0_t4_loop.trips) (tt : Fin 24) (n : Fin 256) :
    gateVal c (Memref.whole cc0_stg4_0) (V m c main_v1) (V m c main_v2) (View.readAt (Elt Ideal) (Memref.whole cc0_stg3_0).view (Rect.unit (s := S24x2048) ![0, 0] S24x2048.size inb_S24x2048_S24x2048_0_0).toLoadRect (V m c main_v9)) (permV c) (V m c main_arg5) e t (ix3 0 tt n)
      = (inpK m c).hid ef tt ⟨256 * t.val + (laneOf n).val / 2, by have := lt16 t; omega⟩ := by
  have ht := lt16 t
  unfold gateVal
  rw [permLoad_permV, gateOf_read]
  have G : ∀ N : Fin 512, guVal (View.readAt (Elt Ideal) (Memref.whole cc0_stg3_0).view (Rect.unit (s := S24x2048) ![0, 0] S24x2048.size inb_S24x2048_S24x2048_0_0).toLoadRect (V m c main_v9)) (k0_pay5 (k0_pay4 (gateWords c (V m c main_v1) e t))) (k0_pay6 (k0_pay3 (gateScales c (V m c main_v2) e t)))
      (gateBias c (Memref.whole cc0_stg4_0) (V m c main_arg5) e t) tt N = (inpK m c).gu ef tt ⟨512 * t.val + N.val, by omega⟩ := fun N =>
    guVal_eq (inpK m c) _ (fun t K => (whole_load (Memref.whole cc0_stg3_0).view (V m c main_v9) _ _ (by decide) _).trans (v9_read m c t K)) _ _ _ ef t.val ht
      (fun kb rt ct i l => (gateWords_slot c _ e t kb rt ct i l).trans ((srcGW_read c _ e ef he t kb rt ct i l ⟨4 * t.val + ct.val, by omega⟩ rfl).trans (v1_read m c _ _ _ _ _ _)))
      (fun kb n => (gateScales_slot c _ e t kb n).trans ((srcGS_read c _ e ef he t kb n ⟨512 * t.val + n.val, by omega⟩ rfl).trans (v2_read m c _ _ _)))
      (fun n => by
        unfold gateBias
        rw [View.readAt_apply]
        have : (Rect.unit (s := S8x8192) (k0_off59 e.1 t) S1x512.size (k0_off59_inb e.1 e.2 t)).idx (ix2 0 n) = ix2 ef ⟨512 * t.val + n.val, by omega⟩ := by
          funext a
          apply Fin.ext
          refine (unit_val _ _ a).trans ((congrArg (· + _) (congrFun (off59v e.1 t) a)).trans ?_)
          fin_cases a
          · show e.1.toNat + 0 = ef.val; omega
          · rfl
        refine (congrArg (V m c main_arg5) this).trans ?_
        rw [V_main_arg5]; rfl) tt N
  rw [G, G]
  unfold Inp.hid
  have hl : (laneOf n).val = 2 * (32 * (n.val / 8 % 8) + 8 * (n.val / 64) + n.val % 8) := rfl
  have hn := n.isLt
  refine congrArg₂ swiOf (congrArg _ (Fin.ext ?_)) (congrArg _ (Fin.ext ?_))
  · show 512 * t.val + (laneOf n).val = (256 * t.val + (laneOf n).val / 2) * 2
    omega
  · show 512 * t.val + ((laneOf n).val + 512 - 511) % 512 = (256 * t.val + (laneOf n).val / 2) * 2 + 1
    omega

end Cert.Kernel.Hand

end
-- ==== Proof.DownRead.lean ====
module

public import proofs.«01_k».proof.Proof.Gen.Kernel.Skeleton
public import Idealize.ShloMosaic.Lib.Pointwise
public import Idealize.ShloMosaic.Lib.BitcastFour
public import Idealize.ShloMosaic.Lib.BitcastPair
public import proofs.«01_k».proof.Proof.GateRead
public import proofs.«01_k».proof.Proof.Down
public import Idealize.ShloMosaic.Lib.Pipeline.Value

@[expose] public section

noncomputable section

namespace Cert.Kernel.Hand

open Cert.Kernel Cert.Kernel.Gen
open Idealize.ShloMosaic Idealize.ShloMosaic.TcCoe Idealize.ShloMosaic.Tactic

theorem pay10_read (w : Vec Ideal S1x512x2x8x128 .i8) (n : Fin 512) (q : Fin 4) (l : Fin 128) (s : ℕ) (hs : s < 8) :
    (k0_pay10 (F := Ideal) w (ix3 n q l)).extractLsb' (4 * s) 4
      = nibOf (w (ix5 0 n ⟨q.val / 2, by omega⟩ ⟨q.val % 2 * 4 + s / 2, by omega⟩ l)) (s % 2) := by
  have P : k0_pay10 (F := Ideal) w (ix3 n q l) = bitcast S2048x128 32 (shapeCast S8192x128 (shapeCast S512x2x8x128 w shapeCasts_S1x512x2x8x128_S512x2x8x128) shapeCasts_S512x2x8x128_S8192x128) bitcasts_S8192x128_w8_S2048x128_w32 (ix2 ⟨n.val * 4 + q.val, by omega⟩ l) := by
    pointwise [k0_pay10]
  rw [P, word_nib _ bitcasts_S8192x128_w8_S2048x128_w32 ⟨n.val * 4 + q.val, by omega⟩ l s hs ⟨n.val * 16 + q.val * 4 + s / 2, by omega⟩ (by show n.val * 16 + q.val * 4 + s / 2 = 4 * (n.val * 4 + q.val) + s / 2; omega)]
  congr 1
  pointwise
  congr 2 <;> (apply Fin.ext; simp; omega)

/-- A slab of words, transposed. -/
def tr (v : IVec S128x1x128 32) : IVec S128x128 32 :=
  transpose S128x128 [1, 0] (shapeCast S128x128 v shapeCasts_S128x1x128_S128x128) transposes_S128x128_p1_0_S128x128

theorem cat16 {α : Type} (f : Fin 16 → S128x128.Idx → α) (h) (k : Fin 16) (r : Fin 128) (l : Fin 128) (i : Fin 2048) (hi : i.val = k.val * 128 + r.val) :
    concatenate S2048x128 0 [⟨S128x128, f 0⟩, ⟨S128x128, f 1⟩, ⟨S128x128, f 2⟩, ⟨S128x128, f 3⟩, ⟨S128x128, f 4⟩, ⟨S128x128, f 5⟩, ⟨S128x128, f 6⟩, ⟨S128x128, f 7⟩, ⟨S128x128, f 8⟩, ⟨S128x128, f 9⟩, ⟨S128x128, f 10⟩, ⟨S128x128, f 11⟩, ⟨S128x128, f 12⟩, ⟨S128x128, f 13⟩, ⟨S128x128, f 14⟩, ⟨S128x128, f 15⟩] h (ix2 i l) = f k (ix2 r l) :=
  concatenate_ofFn_apply (t := S2048x128) (s₁ := S128x128) 0 f h rfl 128 rfl (ix2 i l) k
    (by show i.val / 128 = k.val; omega) (ix2 r l) (by show r.val = i.val % 128; omega)
    (fun b hb => by
      match b with
      | ⟨0, _⟩ => exact absurd rfl hb
      | ⟨1, _⟩ => rfl)

/-- The codes of the words, one per row. -/
def codes18 (v517 : IVec S2048x128 32) : IVec S16384x128 32 :=
  shapeCast S16384x128 (shrsi (broadcastTo S2048x8x128 (shapeCast S2048x1x128 (shapeCast S2048x1x128 v517 shapeCasts_S2048x128_S2048x1x128) shapeCasts_S2048x1x128_S2048x1x128) broadcasts_S2048x1x128_S2048x8x128)
    (muli (broadcast S2048x8x128 4#32) (iota .tc S2048x8x128 32 [1] iota_S2048x8x128_d1_w32))) shapeCasts_S2048x8x128_S16384x128

theorem codes18_read (v : IVec S2048x128 32) (k : Fin 16384) (l : Fin 128) :
    codes18 v (ix2 k l) = IntOp.shrsi ArithUnit.vector (v (ix2 ⟨k.val / 8, by omega⟩ l)) (IntOp.muli 4#32 (BitVec.ofNat 32 (k.val % 8))) := by
  pointwise [codes18]

/-- The words of a block as codes, one per row. -/
def c18 (w : Vec Ideal S1x512x2x8x128 .i8) : IVec S16384x128 32 :=
  k0_pay18 (k0_pay10 w) (k0_pay11 w) (k0_pay12 w) (k0_pay13 w) (k0_pay14 w) (k0_pay15 w) (k0_pay16 w) (k0_pay17 w)

theorem pay18_eq (v468 : IVec S512x4x128 32) (v471 v474 v477 v480 v483 v486 : IVec S128x128 32) (v487 : IVec S128x1x128 32) :
    k0_pay18 v468 v471 v474 v477 v480 v483 v486 v487 = codes18 (concatenate S2048x128 0 [⟨S128x128, v471⟩, ⟨S128x128, v474⟩, ⟨S128x128, v477⟩, ⟨S128x128, v480⟩, ⟨S128x128, v483⟩, ⟨S128x128, v486⟩, ⟨S128x128, tr v487⟩, ⟨S128x128, tr (extractStridedSlice S128x1x128 ![128, 3, 0] v468 slices_S512x4x128_o128_3_0_S128x1x128)⟩, ⟨S128x128, tr (extractStridedSlice S128x1x128 ![256, 0, 0] v468 slices_S512x4x128_o256_0_0_S128x1x128)⟩, ⟨S128x128, tr (extractStridedSlice S128x1x128 ![256, 1, 0] v468 slices_S512x4x128_o256_1_0_S128x1x128)⟩, ⟨S128x128, tr (extractStridedSlice S128x1x128 ![256, 2, 0] v468 slices_S512x4x128_o256_2_0_S128x1x128)⟩, ⟨S128x128, tr (extractStridedSlice S128x1x128 ![256, 3, 0] v468 slices_S512x4x128_o256_3_0_S128x1x128)⟩, ⟨S128x128, tr (extractStridedSlice S128x1x128 ![384, 0, 0] v468 slices_S512x4x128_o384_0_0_S128x1x128)⟩, ⟨S128x128, tr (extractStridedSlice S128x1x128 ![384, 1, 0] v468 slices_S512x4x128_o384_1_0_S128x1x128)⟩, ⟨S128x128, tr (extractStridedSlice S128x1x128 ![384, 2, 0] v468 slices_S512x4x128_o384_2_0_S128x1x128)⟩, ⟨S128x128, tr (extractStridedSlice S128x1x128 ![384, 3, 0] v468 slices_S512x4x128_o384_3_0_S128x1x128)⟩] concatenates_S128x128_S128x128_S128x128_S128x128_S128x128_S128x128_S128x128_S128x128_S128x128_S128x128_S128x128_S128x128_S128x128_S128x128_S128x128_S128x128_S2048x128_d0) := rfl

theorem cat16p {α : Type} (v0 v1 v2 v3 v4 v5 v6 v7 v8 v9 v10 v11 v12 v13 v14 v15 : S128x128.Idx → α) (h) (P : Fin 16 → Fin 128 → Fin 128 → α)
    (h0 : ∀ r l, v0 (ix2 r l) = P 0 r l) (h1 : ∀ r l, v1 (ix2 r l) = P 1 r l) (h2 : ∀ r l, v2 (ix2 r l) = P 2 r l) (h3 : ∀ r l, v3 (ix2 r l) = P 3 r l) (h4 : ∀ r l, v4 (ix2 r l) = P 4 r l) (h5 : ∀ r l, v5 (ix2 r l) = P 5 r l) (h6 : ∀ r l, v6 (ix2 r l) = P 6 r l) (h7 : ∀ r l, v7 (ix2 r l) = P 7 r l) (h8 : ∀ r l, v8 (ix2 r l) = P 8 r l) (h9 : ∀ r l, v9 (ix2 r l) = P 9 r l) (h10 : ∀ r l, v10 (ix2 r l) = P 10 r l) (h11 : ∀ r l, v11 (ix2 r l) = P 11 r l) (h12 : ∀ r l, v12 (ix2 r l) = P 12 r l) (h13 : ∀ r l, v13 (ix2 r l) = P 13 r l) (h14 : ∀ r l, v14 (ix2 r l) = P 14 r l) (h15 : ∀ r l, v15 (ix2 r l) = P 15 r l)
    (k : Fin 16) (r : Fin 128) (l : Fin 128) (i : Fin 2048) (hi : i.val = k.val * 128 + r.val) :
    concatenate S2048x128 0 [⟨S128x128, v0⟩, ⟨S128x128, v1⟩, ⟨S128x128, v2⟩, ⟨S128x128, v3⟩, ⟨S128x128, v4⟩, ⟨S128x128, v5⟩, ⟨S128x128, v6⟩, ⟨S128x128, v7⟩, ⟨S128x128, v8⟩, ⟨S128x128, v9⟩, ⟨S128x128, v10⟩, ⟨S128x128, v11⟩, ⟨S128x128, v12⟩, ⟨S128x128, v13⟩, ⟨S128x128, v14⟩, ⟨S128x128, v15⟩] h (ix2 i l) = P k r l := by
  refine (cat16 ![v0, v1, v2, v3, v4, v5, v6, v7, v8, v9, v10, v11, v12, v13, v14, v15] h k r l i hi).trans ?_
  fin_cases k
  · exact h0 r l
  · exact h1 r l
  · exact h2 r l
  · exact h3 r l
  · exact h4 r l
  · exact h5 r l
  · exact h6 r l
  · exact h7 r l
  · exact h8 r l
  · exact h9 r l
  · exact h10 r l
  · exact h11 r l
  · exact h12 r l
  · exact h13 r l
  · exact h14 r l
  · exact h15 r l

theorem slab_read (v468 : IVec S512x4x128 32) (a q : ℕ) (h) (h1 : ∀ l : Fin 128, a + l.val < 512) (h2 : q < 4) (r l : Fin 128) :
    tr (extractStridedSlice S128x1x128 ![a, q, 0] v468 h) (ix2 r l) = v468 (ix3 ⟨a + l.val, h1 l⟩ ⟨q, h2⟩ r) := by
  pointwise [tr]

theorem c18_read (w : Vec Ideal S1x512x2x8x128 .i8) (a : Fin 16) (R : Fin 1024) (l : Fin 128) (k : Fin 16384) (hk : k.val = a.val * 1024 + R.val) :
    kdec (c18 w (ix2 k l)) = e2m1 (nibOf (w (ix5 0 ⟨a.val / 4 * 128 + l.val, by omega⟩ ⟨a.val % 4 / 2, by omega⟩ ⟨a.val % 2 * 4 + R.val % 8 / 2, by omega⟩ ⟨R.val / 8, by omega⟩)) (R.val % 2)) := by
  unfold c18
  rw [pay18_eq, codes18_read, cat16p (k0_pay11 (F := Ideal) w) (k0_pay12 (F := Ideal) w) (k0_pay13 (F := Ideal) w) (k0_pay14 (F := Ideal) w) (k0_pay15 (F := Ideal) w) (k0_pay16 (F := Ideal) w) (tr (k0_pay17 (F := Ideal) w)) _ _ _ _ _ _ _ _ _ _ (fun k r l => k0_pay10 (F := Ideal) w (ix3 ⟨k.val / 4 * 128 + l.val, by omega⟩ ⟨k.val % 4, by omega⟩ r))
    (fun r l => slab_read _ 0 0 slices_S512x4x128_o0_0_0_S128x1x128 (fun l => by omega) (by omega) r l)
    (fun r l => slab_read _ 0 1 slices_S512x4x128_o0_1_0_S128x1x128 (fun l => by omega) (by omega) r l)
    (fun r l => slab_read _ 0 2 slices_S512x4x128_o0_2_0_S128x1x128 (fun l => by omega) (by omega) r l)
    (fun r l => slab_read _ 0 3 slices_S512x4x128_o0_3_0_S128x1x128 (fun l => by omega) (by omega) r l)
    (fun r l => slab_read _ 128 0 slices_S512x4x128_o128_0_0_S128x1x128 (fun l => by omega) (by omega) r l)
    (fun r l => slab_read _ 128 1 slices_S512x4x128_o128_1_0_S128x1x128 (fun l => by omega) (by omega) r l)
    (fun r l => slab_read _ 128 2 slices_S512x4x128_o128_2_0_S128x1x128 (fun l => by omega) (by omega) r l)
    (fun r l => slab_read _ 128 3 slices_S512x4x128_o128_3_0_S128x1x128 (fun l => by omega) (by omega) r l)
    (fun r l => slab_read _ 256 0 slices_S512x4x128_o256_0_0_S128x1x128 (fun l => by omega) (by omega) r l)
    (fun r l => slab_read _ 256 1 slices_S512x4x128_o256_1_0_S128x1x128 (fun l => by omega) (by omega) r l)
    (fun r l => slab_read _ 256 2 slices_S512x4x128_o256_2_0_S128x1x128 (fun l => by omega) (by omega) r l)
    (fun r l => slab_read _ 256 3 slices_S512x4x128_o256_3_0_S128x1x128 (fun l => by omega) (by omega) r l)
    (fun r l => slab_read _ 384 0 slices_S512x4x128_o384_0_0_S128x1x128 (fun l => by omega) (by omega) r l)
    (fun r l => slab_read _ 384 1 slices_S512x4x128_o384_1_0_S128x1x128 (fun l => by omega) (by omega) r l)
    (fun r l => slab_read _ 384 2 slices_S512x4x128_o384_2_0_S128x1x128 (fun l => by omega) (by omega) r l)
    (fun r l => slab_read _ 384 3 slices_S512x4x128_o384_3_0_S128x1x128 (fun l => by omega) (by omega) r l)
    a ⟨R.val / 8, by omega⟩ l ⟨k.val / 8, by omega⟩ (by show k.val / 8 = a.val * 128 + R.val / 8; omega),
    kdec_shr _ _ (Nat.mod_lt _ (by decide)), pay10_read _ _ _ _ _ (Nat.mod_lt _ (by decide))]
  congr 2
  · congr 2 <;> (apply Fin.ext; simp; omega)
  · omega

/-- The decoded codes of a block, at a column, a row and a lane. -/
theorem downCodes_read (w : Vec Ideal S1x512x2x8x128 .i8) (a : Fin 16) (R : Fin 1024) (l : Fin 128) :
    downCodes w (ix3 a R l) = e2m1 (nibOf (w (ix5 0 ⟨a.val / 4 * 128 + l.val, by omega⟩ ⟨a.val % 4 / 2, by omega⟩ ⟨a.val % 2 * 4 + R.val % 8 / 2, by omega⟩ ⟨R.val / 8, by omega⟩)) (R.val % 2)) := by
  rw [← c18_read w a R l ⟨a.val * 1024 + R.val, by omega⟩ rfl]
  pointwise [downCodes, k0_pay24, k0_pay19, k0_pay20, k0_pay21, k0_pay22, k0_pay23]
  rfl
/-- A slab of scales, one half word per row. -/
theorem dscale_read (s : Vec Ideal S1x128x128 .i8) (R : Fin 1024) (l : Fin 128) :
    Ideal.ofBits FTy.bf16 (bitcast S1024x128 16 (shapeCast S512x128 (broadcastTo S128x4x128 (shapeCast S128x1x128 (shapeCast S128x1x128
      (transpose S128x128 [1, 0] (muli (andi (extui 32 (shapeCast S128x128 s shapeCasts_S1x128x128_S128x128) natLt_8_32) (broadcast S128x128 255#32)) (broadcast S128x128 8388736#32)) transposes_S128x128_p1_0_S128x128)
      shapeCasts_S128x128_S128x1x128) shapeCasts_S128x1x128_S128x1x128) broadcasts_S128x1x128_S128x4x128) shapeCasts_S128x4x128_S512x128) bitcasts_S512x128_w32_S1024x128_w16 (ix2 R l))
    = e8 (s (ix3 0 l ⟨R.val / 8, by omega⟩)) := by
  rw [bitcast_32_16_ix2 _ _ R l ⟨R.val / 2, by omega⟩ rfl]
  have Q : (shapeCast S512x128 (broadcastTo S128x4x128 (shapeCast S128x1x128 (shapeCast S128x1x128
      (transpose S128x128 [1, 0] (muli (andi (extui 32 (shapeCast S128x128 s shapeCasts_S1x128x128_S128x128) natLt_8_32) (broadcast S128x128 255#32)) (broadcast S128x128 8388736#32)) transposes_S128x128_p1_0_S128x128)
      shapeCasts_S128x128_S128x1x128) shapeCasts_S128x1x128_S128x1x128) broadcasts_S128x1x128_S128x4x128) shapeCasts_S128x4x128_S512x128) (ix2 ⟨R.val / 2, by omega⟩ l)
      = IntOp.muli (IntOp.andi (BitVec.setWidth 32 (s (ix3 0 l ⟨R.val / 8, by omega⟩))) 255#32) 8388736#32 := by
    pointwise
    congr 5
    apply Fin.ext; show R.val / 2 / 4 = R.val / 8; omega
  rw [Q, scale_word _ _ (Nat.mod_lt _ (by decide))]
  rfl

/-- A slab of scales as rows of half words. -/
def dsc (s : Vec Ideal S1x128x128 .i8) : FVec Ideal S1024x128 .bf16 := k0_pay28 s

theorem dsc_read (s : Vec Ideal S1x128x128 .i8) (R : Fin 1024) (l : Fin 128) : dsc s (ix2 R l) = e8 (s (ix3 0 l ⟨R.val / 8, by omega⟩)) :=
  dscale_read s R l

/-- Four slabs of decoded codes, scaled, one above the other in groups of 64. -/
def dcol (c0 c1 c2 c3 : FVec Ideal S1x1024x128 .bf16) (s : FVec Ideal S1024x128 .bf16) : FVec Ideal S4096x128 .bf16 :=
  shapeCast S4096x128 (concatenate S16x256x128 1 [⟨S16x64x128, shapeCast S16x64x128 (mulf (shapeCast S1024x128 c0 shapeCasts_S1x1024x128_S1024x128) s) shapeCasts_S1024x128_S16x64x128⟩,
    ⟨S16x64x128, shapeCast S16x64x128 (mulf (shapeCast S1024x128 c1 shapeCasts_S1x1024x128_S1024x128) s) shapeCasts_S1024x128_S16x64x128⟩,
    ⟨S16x64x128, shapeCast S16x64x128 (mulf (shapeCast S1024x128 c2 shapeCasts_S1x1024x128_S1024x128) s) shapeCasts_S1024x128_S16x64x128⟩,
    ⟨S16x64x128, shapeCast S16x64x128 (mulf (shapeCast S1024x128 c3 shapeCasts_S1x1024x128_S1024x128) s) shapeCasts_S1024x128_S16x64x128⟩] concatenates_S16x64x128_S16x64x128_S16x64x128_S16x64x128_S16x256x128_d1) shapeCasts_S16x256x128_S4096x128

/-- The scaled column of four slabs that are one block's. -/
theorem dcol_read (c0 c1 c2 c3 : FVec Ideal S1x1024x128 .bf16) (s : FVec Ideal S1024x128 .bf16) (D : Fin 4 → Fin 1024 → Fin 128 → EReal)
    (h0 : ∀ R l, c0 (ix3 0 R l) = D 0 R l) (h1 : ∀ R l, c1 (ix3 0 R l) = D 1 R l) (h2 : ∀ R l, c2 (ix3 0 R l) = D 2 R l) (h3 : ∀ R l, c3 (ix3 0 R l) = D 3 R l)
    (k : Fin 4096) (l : Fin 128) :
    dcol c0 c1 c2 c3 s (ix2 k l) = D ⟨k.val / 64 % 4, by omega⟩ ⟨k.val / 256 * 64 + k.val % 64, by omega⟩ l * s (ix2 ⟨k.val / 256 * 64 + k.val % 64, by omega⟩ l) := by
  have G : ∀ (a : Fin 4) (R : ℕ) (hR : R < 1024), a.val = k.val / 64 % 4 → R = k.val / 256 * 64 + k.val % 64 →
      D a ⟨R, hR⟩ l * s (ix2 ⟨R, hR⟩ l) = D ⟨k.val / 64 % 4, by omega⟩ ⟨k.val / 256 * 64 + k.val % 64, by omega⟩ l * s (ix2 ⟨k.val / 256 * 64 + k.val % 64, by omega⟩ l) := by
    intro a R hR ha hR'
    subst hR'
    have e : a = ⟨k.val / 64 % 4, by omega⟩ := Fin.ext ha
    rw [e]
  pointwise [dcol]
  by_cases g1 : k.val % 256 < 64
  · rw [dif_pos g1, h0]; exact G 0 _ _ (by show 0 = _; omega) (by omega)
  · rw [dif_neg g1]
    by_cases g2 : k.val % 256 - 64 < 64
    · rw [dif_pos g2, h1]; exact G 1 _ _ (by show 1 = _; omega) (by omega)
    · rw [dif_neg g2]
      by_cases g3 : k.val % 256 - 64 - 64 < 64
      · rw [dif_pos g3, h2]; exact G 2 _ _ (by show 2 = _; omega) (by omega)
      · rw [dif_neg g3, h3]; exact G 3 _ _ (by show 3 = _; omega) (by omega)

/-- The four scaled columns of a block side by side. -/
def dcat (v0 v1 v2 v3 : FVec Ideal S4096x128 .bf16) : FVec Ideal S4096x512 .bf16 :=
  concatenate S4096x512 1 [⟨S4096x128, v0⟩, ⟨S4096x128, v1⟩, ⟨S4096x128, v2⟩, ⟨S4096x128, v3⟩] concatenates_S4096x128_S4096x128_S4096x128_S4096x128_S4096x512_d1

theorem dcat_read (v0 v1 v2 v3 : FVec Ideal S4096x128 .bf16) (W : Fin 4 → Fin 4096 → Fin 128 → EReal)
    (h0 : ∀ R l, v0 (ix2 R l) = W 0 R l) (h1 : ∀ R l, v1 (ix2 R l) = W 1 R l) (h2 : ∀ R l, v2 (ix2 R l) = W 2 R l) (h3 : ∀ R l, v3 (ix2 R l) = W 3 R l)
    (k : Fin 4096) (n : Fin 512) : dcat v0 v1 v2 v3 (ix2 k n) = W ⟨n.val / 128, by omega⟩ k ⟨n.val % 128, by omega⟩ := by
  have G : ∀ (a : Fin 4) (R : ℕ) (hR : R < 128), a.val = n.val / 128 → R = n.val % 128 →
      W a k ⟨R, hR⟩ = W ⟨n.val / 128, by omega⟩ k ⟨n.val % 128, by omega⟩ := by
    intro a R hR ha hR'
    subst hR'
    have e : a = ⟨n.val / 128, by omega⟩ := Fin.ext ha
    rw [e]
  pointwise [dcat]
  by_cases g1 : n.val < 128
  · rw [dif_pos g1, h0]; exact G 0 _ _ (by show 0 = _; omega) (by omega)
  · rw [dif_neg g1]
    by_cases g2 : n.val - 128 < 128
    · rw [dif_pos g2, h1]; exact G 1 _ _ (by show 1 = _; omega) (by omega)
    · rw [dif_neg g2]
      by_cases g3 : n.val - 128 - 128 < 128
      · rw [dif_pos g3, h2]; exact G 2 _ _ (by show 2 = _; omega) (by omega)
      · rw [dif_neg g3, h3]; exact G 3 _ _ (by show 3 = _; omega) (by omega)

theorem downWt_eq (w : Vec Ideal S1x512x2x8x128 .i8) (s0 s1 s2 s3 : Vec Ideal S1x128x128 .i8) :
    downWt w s0 s1 s2 s3 = dcat
      (dcol (extractStridedSlice S1x1024x128 ![0, 0, 0] (downCodes w) slices_S16x1024x128_o0_0_0_S1x1024x128) (extractStridedSlice S1x1024x128 ![1, 0, 0] (downCodes w) slices_S16x1024x128_o1_0_0_S1x1024x128) (extractStridedSlice S1x1024x128 ![2, 0, 0] (downCodes w) slices_S16x1024x128_o2_0_0_S1x1024x128) (extractStridedSlice S1x1024x128 ![3, 0, 0] (downCodes w) slices_S16x1024x128_o3_0_0_S1x1024x128) (dsc s0))
      (dcol (extractStridedSlice S1x1024x128 ![4, 0, 0] (downCodes w) slices_S16x1024x128_o4_0_0_S1x1024x128) (extractStridedSlice S1x1024x128 ![5, 0, 0] (downCodes w) slices_S16x1024x128_o5_0_0_S1x1024x128) (extractStridedSlice S1x1024x128 ![6, 0, 0] (downCodes w) slices_S16x1024x128_o6_0_0_S1x1024x128) (extractStridedSlice S1x1024x128 ![7, 0, 0] (downCodes w) slices_S16x1024x128_o7_0_0_S1x1024x128) (dsc s1))
      (dcol (extractStridedSlice S1x1024x128 ![8, 0, 0] (downCodes w) slices_S16x1024x128_o8_0_0_S1x1024x128) (extractStridedSlice S1x1024x128 ![9, 0, 0] (downCodes w) slices_S16x1024x128_o9_0_0_S1x1024x128) (extractStridedSlice S1x1024x128 ![10, 0, 0] (downCodes w) slices_S16x1024x128_o10_0_0_S1x1024x128) (extractStridedSlice S1x1024x128 ![11, 0, 0] (downCodes w) slices_S16x1024x128_o11_0_0_S1x1024x128) (dsc s2))
      (dcol (extractStridedSlice S1x1024x128 ![12, 0, 0] (downCodes w) slices_S16x1024x128_o12_0_0_S1x1024x128) (extractStridedSlice S1x1024x128 ![13, 0, 0] (downCodes w) slices_S16x1024x128_o13_0_0_S1x1024x128) (extractStridedSlice S1x1024x128 ![14, 0, 0] (downCodes w) slices_S16x1024x128_o14_0_0_S1x1024x128) (extractStridedSlice S1x1024x128 ![15, 0, 0] (downCodes w) slices_S16x1024x128_o15_0_0_S1x1024x128) (dsc s3)) := rfl

theorem downWt_read (w : Vec Ideal S1x512x2x8x128 .i8) (s : Fin 4 → Vec Ideal S1x128x128 .i8) (k : Fin 4096) (n : Fin 512) :
    downWt w (s 0) (s 1) (s 2) (s 3) (ix2 k n)
      = downCodes w (ix3 ⟨n.val / 128 * 4 + k.val / 64 % 4, by omega⟩ ⟨k.val / 256 * 64 + k.val % 64, by omega⟩ ⟨n.val % 128, by omega⟩)
        * e8 (s ⟨n.val / 128, by omega⟩ (ix3 0 ⟨n.val % 128, by omega⟩ ⟨(k.val / 256 * 64 + k.val % 64) / 8, by omega⟩)) := by
  have A : ∀ (a : ℕ) (h) (h1 : a < 16) (R : Fin 1024) (l : Fin 128), extractStridedSlice S1x1024x128 ![a, 0, 0] (downCodes w) h (ix3 0 R l) = downCodes w (ix3 ⟨a, h1⟩ R l) := by
    intro a h h1 R l
    pointwise
  have B : ∀ nb : Fin 4, ∀ (k : Fin 4096) (l : Fin 128), ∀ c0 c1 c2 c3 : FVec Ideal S1x1024x128 .bf16,
      (∀ R l, c0 (ix3 0 R l) = downCodes w (ix3 ⟨nb.val * 4 + 0, by omega⟩ R l)) → (∀ R l, c1 (ix3 0 R l) = downCodes w (ix3 ⟨nb.val * 4 + 1, by omega⟩ R l)) →
      (∀ R l, c2 (ix3 0 R l) = downCodes w (ix3 ⟨nb.val * 4 + 2, by omega⟩ R l)) → (∀ R l, c3 (ix3 0 R l) = downCodes w (ix3 ⟨nb.val * 4 + 3, by omega⟩ R l)) →
      dcol c0 c1 c2 c3 (dsc (s nb)) (ix2 k l) = downCodes w (ix3 ⟨nb.val * 4 + k.val / 64 % 4, by omega⟩ ⟨k.val / 256 * 64 + k.val % 64, by omega⟩ l)
        * e8 (s nb (ix3 0 l ⟨(k.val / 256 * 64 + k.val % 64) / 8, by omega⟩)) := by
    intro nb k l c0 c1 c2 c3 h0 h1 h2 h3
    rw [dcol_read c0 c1 c2 c3 _ (fun q R l => downCodes w (ix3 ⟨nb.val * 4 + q.val, by omega⟩ R l)) h0 h1 h2 h3, dsc_read]
  rw [downWt_eq]
  rw [dcat_read _ _ _ _ (fun nb k l => downCodes w (ix3 ⟨nb.val * 4 + k.val / 64 % 4, by omega⟩ ⟨k.val / 256 * 64 + k.val % 64, by omega⟩ l)
        * e8 (s nb (ix3 0 l ⟨(k.val / 256 * 64 + k.val % 64) / 8, by omega⟩)))
    (fun k l => B 0 k l _ _ _ _ (A 0 _ _) (A 1 _ _) (A 2 _ _) (A 3 _ _)) (fun k l => B 1 k l _ _ _ _ (A 4 _ _) (A 5 _ _) (A 6 _ _) (A 7 _ _))
    (fun k l => B 2 k l _ _ _ _ (A 8 _ _) (A 9 _ _) (A 10 _ _) (A 11 _ _)) (fun k l => B 3 k l _ _ _ _ (A 12 _ _) (A 13 _ _) (A 14 _ _) (A 15 _ _))]

end Cert.Kernel.Hand

end
-- ==== Proof.DownEq.lean ====
module

public import proofs.«01_k».proof.Proof.Gen.Kernel.Skeleton
public import Idealize.ShloMosaic.Lib.Pointwise
public import Idealize.ShloMosaic.Lib.BitcastFour
public import Idealize.ShloMosaic.Lib.BitcastPair
public import proofs.«01_k».proof.Proof.Out
public import proofs.«01_k».proof.Proof.Spec
public import proofs.«01_k».proof.Proof.PermRead
public import proofs.«01_k».proof.Proof.DownRead
public import proofs.«01_k».proof.Proof.Loads

@[expose] public section

noncomputable section

namespace Cert.Kernel.Hand

open Cert.Kernel Cert.Kernel.Gen
open Idealize.ShloMosaic Idealize.ShloMosaic.TcCoe Idealize.ShloMosaic.Tactic

open Idealize.SL Idealize.SL.Sem
variable (c : Dev nD)

/-- Sixteen slices side by side, read at a column. -/
theorem cat16c {α : Type} (f : Fin 16 → S24x256.Idx → α) (h) (k : Fin 16) (t : Fin 24) (l : Fin 256) (K : Fin 4096) (hK : K.val = k.val * 256 + l.val) :
    concatenate S24x4096 1 [⟨S24x256, f 0⟩, ⟨S24x256, f 1⟩, ⟨S24x256, f 2⟩, ⟨S24x256, f 3⟩, ⟨S24x256, f 4⟩, ⟨S24x256, f 5⟩, ⟨S24x256, f 6⟩, ⟨S24x256, f 7⟩, ⟨S24x256, f 8⟩, ⟨S24x256, f 9⟩, ⟨S24x256, f 10⟩, ⟨S24x256, f 11⟩, ⟨S24x256, f 12⟩, ⟨S24x256, f 13⟩, ⟨S24x256, f 14⟩, ⟨S24x256, f 15⟩] h (ix2 t K) = f k (ix2 t l) :=
  concatenate_ofFn_apply (t := S24x4096) (s₁ := S24x256) 1 f h rfl 256 rfl (ix2 t K) k
    (by show K.val / 256 = k.val; omega) (ix2 t l) (by show l.val = K.val % 256; omega)
    (fun b hb => by
      match b with
      | ⟨0, _⟩ => rfl
      | ⟨1, _⟩ => exact absurd rfl hb)

theorem sq256 (v : Vec Ideal S1x24x256 .bf16) (t : Fin 24) (l : Fin 256) : shapeCast S24x256 v shapeCasts_S1x24x256_S24x256 (ix2 t l) = v (ix3 0 t l) := by pointwise

theorem hvOf_read (l0 l1 l2 l3 l4 l5 l6 l7 l8 l9 l10 l11 l12 l13 l14 l15 : Vec Ideal S1x24x256 .bf16) (P : Fin 16 → Fin 24 → Fin 256 → EReal) (h0 : ∀ t n, l0 (ix3 0 t n) = P 0 t n) (h1 : ∀ t n, l1 (ix3 0 t n) = P 1 t n) (h2 : ∀ t n, l2 (ix3 0 t n) = P 2 t n) (h3 : ∀ t n, l3 (ix3 0 t n) = P 3 t n) (h4 : ∀ t n, l4 (ix3 0 t n) = P 4 t n) (h5 : ∀ t n, l5 (ix3 0 t n) = P 5 t n) (h6 : ∀ t n, l6 (ix3 0 t n) = P 6 t n) (h7 : ∀ t n, l7 (ix3 0 t n) = P 7 t n) (h8 : ∀ t n, l8 (ix3 0 t n) = P 8 t n) (h9 : ∀ t n, l9 (ix3 0 t n) = P 9 t n) (h10 : ∀ t n, l10 (ix3 0 t n) = P 10 t n) (h11 : ∀ t n, l11 (ix3 0 t n) = P 11 t n) (h12 : ∀ t n, l12 (ix3 0 t n) = P 12 t n) (h13 : ∀ t n, l13 (ix3 0 t n) = P 13 t n) (h14 : ∀ t n, l14 (ix3 0 t n) = P 14 t n) (h15 : ∀ t n, l15 (ix3 0 t n) = P 15 t n) (t : Fin 24) (K : Fin 4096) :
    hvOf l0 l1 l2 l3 l4 l5 l6 l7 l8 l9 l10 l11 l12 l13 l14 l15 (ix2 t K) = P ⟨K.val / 256, by omega⟩ t ⟨K.val % 256, by omega⟩ := by
  unfold hvOf k0_pay108 k0_pay33 k0_pay34 k0_pay35 k0_pay36 k0_pay37 k0_pay38 k0_pay39 k0_pay40 k0_pay41 k0_pay42 k0_pay43 k0_pay44 k0_pay45 k0_pay46 k0_pay47
  refine (cat16c ![shapeCast S24x256 l0 shapeCasts_S1x24x256_S24x256, shapeCast S24x256 l1 shapeCasts_S1x24x256_S24x256, shapeCast S24x256 l2 shapeCasts_S1x24x256_S24x256, shapeCast S24x256 l3 shapeCasts_S1x24x256_S24x256, shapeCast S24x256 l4 shapeCasts_S1x24x256_S24x256, shapeCast S24x256 l5 shapeCasts_S1x24x256_S24x256, shapeCast S24x256 l6 shapeCasts_S1x24x256_S24x256, shapeCast S24x256 l7 shapeCasts_S1x24x256_S24x256, shapeCast S24x256 l8 shapeCasts_S1x24x256_S24x256, shapeCast S24x256 l9 shapeCasts_S1x24x256_S24x256, shapeCast S24x256 l10 shapeCasts_S1x24x256_S24x256, shapeCast S24x256 l11 shapeCasts_S1x24x256_S24x256, shapeCast S24x256 l12 shapeCasts_S1x24x256_S24x256, shapeCast S24x256 l13 shapeCasts_S1x24x256_S24x256, shapeCast S24x256 l14 shapeCasts_S1x24x256_S24x256, shapeCast S24x256 l15 shapeCasts_S1x24x256_S24x256] _ ⟨K.val / 256, by omega⟩ t ⟨K.val % 256, by omega⟩ K (by show K.val = K.val / 256 * 256 + K.val % 256; omega)).trans ?_
  generalize (⟨K.val / 256, by omega⟩ : Fin 16) = k
  fin_cases k
  · exact (sq256 l0 t _).trans (h0 t _)
  · exact (sq256 l1 t _).trans (h1 t _)
  · exact (sq256 l2 t _).trans (h2 t _)
  · exact (sq256 l3 t _).trans (h3 t _)
  · exact (sq256 l4 t _).trans (h4 t _)
  · exact (sq256 l5 t _).trans (h5 t _)
  · exact (sq256 l6 t _).trans (h6 t _)
  · exact (sq256 l7 t _).trans (h7 t _)
  · exact (sq256 l8 t _).trans (h8 t _)
  · exact (sq256 l9 t _).trans (h9 t _)
  · exact (sq256 l10 t _).trans (h10 t _)
  · exact (sq256 l11 t _).trans (h11 t _)
  · exact (sq256 l12 t _).trans (h12 t _)
  · exact (sq256 l13 t _).trans (h13 t _)
  · exact (sq256 l14 t _).trans (h14 t _)
  · exact (sq256 l15 t _).trans (h15 t _)

theorem href_at (h : Buf (Elt Ideal) (HREF.view.loc (c : Thread nD τ))) (o : Fin 3 → ℕ) (ho : ∀ a, o a + S1x24x256.size a ≤ S16x24x256.size a) (k : Fin 16) (hk : o = ![k.val, 0, 0]) (t : Fin 24) (n : Fin 256) :
    View.readAt (Elt Ideal) HREF.view (Rect.unit (s := S16x24x256) o S1x24x256.size ho).toLoadRect h (ix3 0 t n) = HREF.view.read (Elt Ideal) h (ix3 k t n) := by
  rw [View.readAt_apply]
  refine congrArg (HREF.view.read (Elt Ideal) h) (funext fun a => Fin.ext ?_)
  refine (unit_val ho _ a).trans ((congrArg (· + _) (congrFun hk a)).trans ?_)
  fin_cases a
  · rfl
  · show 0 + t.val = t.val; omega
  · show 0 + n.val = n.val; omega

theorem hvLoad_read (h : Buf (Elt Ideal) (HREF.view.loc (c : Thread nD τ))) (t : Fin 24) (K : Fin 4096) :
    hvLoad c h (ix2 t K) = HREF.view.read (Elt Ideal) h (ix3 ⟨K.val / 256, by omega⟩ t ⟨K.val % 256, by omega⟩) := by
  unfold hvLoad
  refine hvOf_read _ _ _ _ _ _ _ _ _ _ _ _ _ _ _ _ (fun k t n => HREF.view.read (Elt Ideal) h (ix3 k t n)) (fun t n => href_at c h _ _ 0 rfl t n) (fun t n => href_at c h _ _ 1 rfl t n) (fun t n => href_at c h _ _ 2 rfl t n) (fun t n => href_at c h _ _ 3 rfl t n) (fun t n => href_at c h _ _ 4 rfl t n) (fun t n => href_at c h _ _ 5 rfl t n) (fun t n => href_at c h _ _ 6 rfl t n) (fun t n => href_at c h _ _ 7 rfl t n) (fun t n => href_at c h _ _ 8 rfl t n) (fun t n => href_at c h _ _ 9 rfl t n) (fun t n => href_at c h _ _ 10 rfl t n) (fun t n => href_at c h _ _ 11 rfl t n) (fun t n => href_at c h _ _ 12 rfl t n) (fun t n => href_at c h _ _ 13 rfl t n) (fun t n => href_at c h _ _ 14 rfl t n) (fun t n => href_at c h _ _ 15 rfl t n) t K

theorem f_div (q a b c : ℕ) (ha : a < 4) (hb : b < 8) (hc : c < 8) : (256 * q + 32 * b + 8 * a + c) / 256 = q ∧ (256 * q + 32 * b + 8 * a + c) / 8 % 4 = a ∧ (256 * q + 32 * b + 8 * a + c) / 32 % 8 = b ∧ (256 * q + 32 * b + 8 * a + c) % 8 = c
    ∧ (256 * q + 32 * b + 8 * a + c) / 32 = 8 * q + b ∧ (256 * q + 32 * b + 8 * a + c) % 32 / 2 = 4 * a + c / 2 ∧ (256 * q + 32 * b + 8 * a + c) % 2 = c % 2 := by
  refine ⟨?_, ?_, ?_, ?_, ?_, ?_, ?_⟩ <;> omega
theorem k_div (q a b c : ℕ) (ha : a < 4) (hb : b < 8) (hc : c < 8) : (256 * q + 64 * a + 8 * b + c) / 256 = q ∧ (256 * q + 64 * a + 8 * b + c) % 256 / 8 % 8 = b ∧ (256 * q + 64 * a + 8 * b + c) % 256 / 64 = a ∧ (256 * q + 64 * a + 8 * b + c) % 8 = c := by
  refine ⟨?_, ?_, ?_, ?_⟩ <;> omega

/-- Where the hidden activation of a column sits in the plain order. -/
def sig : Fin 4096 ≃ Fin 4096 where
  toFun K := ⟨256 * (K.val / 256) + 32 * (K.val % 256 / 8 % 8) + 8 * (K.val % 256 / 64) + K.val % 8, by omega⟩
  invFun f := ⟨256 * (f.val / 256) + 64 * (f.val / 8 % 4) + 8 * (f.val / 32 % 8) + f.val % 8, by omega⟩
  left_inv K := Fin.ext (by
    have := K.isLt
    show 256 * ((256 * (K.val / 256) + 32 * (K.val % 256 / 8 % 8) + 8 * (K.val % 256 / 64) + K.val % 8) / 256) + 64 * ((256 * (K.val / 256) + 32 * (K.val % 256 / 8 % 8) + 8 * (K.val % 256 / 64) + K.val % 8) / 8 % 4)
      + 8 * ((256 * (K.val / 256) + 32 * (K.val % 256 / 8 % 8) + 8 * (K.val % 256 / 64) + K.val % 8) / 32 % 8) + (256 * (K.val / 256) + 32 * (K.val % 256 / 8 % 8) + 8 * (K.val % 256 / 64) + K.val % 8) % 8 = K.val
    obtain ⟨h1, h2, h3, h4, _⟩ := f_div (K.val / 256) (K.val % 256 / 64) (K.val % 256 / 8 % 8) (K.val % 8) (by omega) (by omega) (by omega)
    rw [h1, h2, h3, h4]
    omega)
  right_inv f := Fin.ext (by
    have := f.isLt
    show 256 * ((256 * (f.val / 256) + 64 * (f.val / 8 % 4) + 8 * (f.val / 32 % 8) + f.val % 8) / 256) + 32 * ((256 * (f.val / 256) + 64 * (f.val / 8 % 4) + 8 * (f.val / 32 % 8) + f.val % 8) % 256 / 8 % 8)
      + 8 * ((256 * (f.val / 256) + 64 * (f.val / 8 % 4) + 8 * (f.val / 32 % 8) + f.val % 8) % 256 / 64) + (256 * (f.val / 256) + 64 * (f.val / 8 % 4) + 8 * (f.val / 32 % 8) + f.val % 8) % 8 = f.val
    obtain ⟨h1, h2, h3, h4⟩ := k_div (f.val / 256) (f.val / 8 % 4) (f.val / 32 % 8) (f.val % 8) (by omega) (by omega) (by omega)
    rw [h1, h2, h3, h4]
    clear h1 h2 h3 h4
    omega)

theorem sig_val (K : Fin 4096) : (sig K).val = 256 * (K.val / 256) + 32 * (K.val % 256 / 8 % 8) + 8 * (K.val % 256 / 64) + K.val % 8 := rfl

/-- What a down trip forms of an expert, of the arguments. -/
theorem down_sum (I : Inp) (e : Fin 8) (j : ℕ) (hj : j < 4) (w : Vec Ideal S1x512x2x8x128 .i8) (s : Fin 4 → Vec Ideal S1x128x128 .i8) (hv : FVec Ideal S24x4096 .bf16)
    (hw : ∀ r rt i l, w (ix5 0 r rt i l) = I.db e ⟨512 * j + r.val, by omega⟩ l ⟨rt.val * 8 + i.val, by omega⟩)
    (hs : ∀ q r l, s q (ix3 0 r l) = I.ds e ⟨512 * j + (128 * q.val + r.val), by omega⟩ l)
    (t : Fin 24) (hh : ∀ K, hv (ix2 t K) = I.hid e t (sig K)) (n : Fin 512) :
    (∑ K : Fin 4096, (hv (ix2 t K) : EReal) * downWt w (s 0) (s 1) (s 2) (s 3) (ix2 K n)) + I.dc e ⟨512 * j + n.val, by omega⟩ = I.y e t ⟨512 * j + n.val, by omega⟩ := by
  unfold Inp.y
  refine congrArg (fun z : EReal => z + I.dc e ⟨512 * j + n.val, by omega⟩) ?_
  refine Eq.trans ?_ (Equiv.sum_comp sig (fun f => I.hid e t f * I.dW e ⟨512 * j + n.val, by omega⟩ f))
  refine Finset.sum_congr rfl fun K _ => ?_
  rw [hh, downWt_read, downCodes_read, hw, hs]
  refine congrArg (fun z : EReal => I.hid e t (sig K) * z) ?_
  unfold Inp.dW
  have hK := K.isLt
  have hn := n.isLt
  have hS := sig_val K
  obtain ⟨_, _, _, _, s5, s6, s7⟩ := f_div (K.val / 256) (K.val % 256 / 64) (K.val % 256 / 8 % 8) (K.val % 8) (by omega) (by omega) (by omega)
  have h1 : (⟨512 * j + ((n.val / 128 * 4 + K.val / 64 % 4) / 4 * 128 + n.val % 128), by omega⟩ : Fin 2048) = ⟨512 * j + n.val, by omega⟩ := Fin.ext (by show 512 * j + ((n.val / 128 * 4 + K.val / 64 % 4) / 4 * 128 + n.val % 128) = 512 * j + n.val; omega)
  have h1' : (⟨512 * j + (128 * (n.val / 128) + n.val % 128), by omega⟩ : Fin 2048) = ⟨512 * j + n.val, by omega⟩ := Fin.ext (by show 512 * j + (128 * (n.val / 128) + n.val % 128) = 512 * j + n.val; omega)
  have h2 : (⟨(K.val / 256 * 64 + K.val % 64) / 8, by omega⟩ : Fin 128) = ⟨(sig K).val / 32, by omega⟩ := Fin.ext (by show (K.val / 256 * 64 + K.val % 64) / 8 = (sig K).val / 32; rw [hS, s5]; omega)
  have h3 : (⟨(n.val / 128 * 4 + K.val / 64 % 4) % 4 / 2 * 8 + ((n.val / 128 * 4 + K.val / 64 % 4) % 2 * 4 + (K.val / 256 * 64 + K.val % 64) % 8 / 2), by omega⟩ : Fin 16) = ⟨(sig K).val % 32 / 2, by omega⟩ :=
    Fin.ext (by show (n.val / 128 * 4 + K.val / 64 % 4) % 4 / 2 * 8 + ((n.val / 128 * 4 + K.val / 64 % 4) % 2 * 4 + (K.val / 256 * 64 + K.val % 64) % 8 / 2) = (sig K).val % 32 / 2; rw [hS, s6]; omega)
  have h4 : (K.val / 256 * 64 + K.val % 64) % 2 = (sig K).val % 2 := by rw [hS, s7]; omega
  refine congrArg₂ (· * ·) ?_ ?_
  · refine (congrArg e2m1 (congrArg₂ nibOf ?_ h4))
    exact (congrArg₂ (fun a (b : Fin 128 × Fin 16) => I.db e a b.1 b.2) h1 (congrArg₂ Prod.mk h2 h3))
  · exact congrArg e8 (congrArg₂ (I.ds e) h1' h2)

end Cert.Kernel.Hand

end
-- ==== Proof.OutEq.lean ====
module

public import proofs.«01_k».proof.Proof.Gen.Kernel.Skeleton
public import Idealize.ShloMosaic.Lib.Pointwise
public import Idealize.ShloMosaic.Lib.BitcastFour
public import Idealize.ShloMosaic.Lib.BitcastPair
public import proofs.«01_k».proof.Proof.Out
public import proofs.«01_k».proof.Proof.Spec
public import proofs.«01_k».proof.Proof.PermRead
public import proofs.«01_k».proof.Proof.Accum
public import proofs.«01_k».proof.Proof.Frame
public import proofs.«01_k».proof.Proof.Mix
public import proofs.«01_k».proof.Proof.HidEq
public import proofs.«01_k».proof.Proof.DownEq

@[expose] public section

noncomputable section

namespace Cert.Kernel.Hand

open Cert.Kernel Cert.Kernel.Gen
open Idealize.ShloMosaic Idealize.ShloMosaic.TcCoe Idealize.ShloMosaic.Tactic

set_option maxHeartbeats 1600000

open Idealize.SL Idealize.SL.Sem
variable (m : (ℓ : Loc nD τ Cert.Kernel.sig) → Buf (Elt Ideal) ℓ) (c : Dev nD)

theorem off78v (v : BitVec 32) (t : Fin k0_t5_loop.trips) : k0_off78 v t = ![v.toNat, 512 * t.val] := by
  have h : ∀ t : Fin k0_t5_loop.trips, (Scalar.muli (Scf.iv 0#32 1#32 t) 512#32).toNat = 512 * t.val := by decide +kernel
  unfold k0_off78; simp only [Scalar.indexCast, h]

/-- The tokens as the kernel loads them. -/
def xLoad : Vec Ideal S24x2048 .bf16 := View.readAt (Elt Ideal) (Memref.whole cc0_stg3_0).view (Rect.unit (s := S24x2048) ![0, 0] S24x2048.size inb_S24x2048_S24x2048_0_0).toLoadRect (V m c main_v9)

/-- The down product with the four scale tables apart. -/
theorem down_sum4 (I : Inp) (e : Fin 8) (j : ℕ) (hj : j < 4) (w : Vec Ideal S1x512x2x8x128 .i8) (s0 s1 s2 s3 : Vec Ideal S1x128x128 .i8) (hv : FVec Ideal S24x4096 .bf16)
    (hw : ∀ r rt i l, w (ix5 0 r rt i l) = I.db e ⟨512 * j + r.val, by omega⟩ l ⟨rt.val * 8 + i.val, by omega⟩)
    (h0 : ∀ r l, s0 (ix3 0 r l) = I.ds e ⟨512 * j + (0 + r.val), by omega⟩ l) (h1 : ∀ r l, s1 (ix3 0 r l) = I.ds e ⟨512 * j + (128 + r.val), by omega⟩ l)
    (h2 : ∀ r l, s2 (ix3 0 r l) = I.ds e ⟨512 * j + (256 + r.val), by omega⟩ l) (h3 : ∀ r l, s3 (ix3 0 r l) = I.ds e ⟨512 * j + (384 + r.val), by omega⟩ l)
    (t : Fin 24) (hh : ∀ K, hv (ix2 t K) = I.hid e t (Cert.Kernel.Hand.sig K)) (n : Fin 512) :
    (∑ K : Fin 4096, (hv (ix2 t K) : EReal) * downWt w s0 s1 s2 s3 (ix2 K n)) + I.dc e ⟨512 * j + n.val, by omega⟩ = I.y e t ⟨512 * j + n.val, by omega⟩ :=
  down_sum I e j hj w ![s0, s1, s2, s3] hv hw (fun q r l => by
    fin_cases q
    · exact h0 r l
    · exact h1 r l
    · exact h2 r l
    · exact h3 r l) t hh n

/-- A down trip's scale tables, of the arguments. -/
theorem ds_arg (e : Ex) (ef : Fin 8) (he : e.1.toNat = ef.val) (t : Fin k0_t5_loop.trips) (o : Fin 3 → ℕ) (ho : ∀ a, o a + S1x128x128.size a ≤ S4x512x128.size a) (q : ℕ) (hq : q + 128 ≤ 512) (hq' : o = ![t.val, q, 0]) (r : Fin 128) (l : Fin 128) :
    downScales c (V m c main_arg7) e t o ho (ix3 0 r l) = (inpK m c).ds ef ⟨512 * t.val + (q + r.val), by have := lt4 t; omega⟩ l := by
  have ht := lt4 t
  refine (downScales_slot c _ e t o ho q hq' r l ⟨q + r.val, by omega⟩ rfl).trans ((srcDS_read c _ e ef he t _ l ⟨512 * t.val + (q + r.val), by omega⟩ rfl).trans ?_)
  rw [V_main_arg7]; rfl

/-- A down trip's code bytes, of the arguments. -/
theorem dw_arg (e : Ex) (ef : Fin 8) (he : e.1.toNat = ef.val) (t : Fin k0_t5_loop.trips) (r : Fin 512) (rt : Fin 2) (i : Fin 8) (l : Fin 128) :
    downWords c (V m c main_v4) e t (ix5 0 r rt i l) = (inpK m c).db ef ⟨512 * t.val + r.val, by have := lt4 t; omega⟩ l ⟨rt.val * 8 + i.val, by omega⟩ := by
  have ht := lt4 t
  exact (downWords_slot c _ e t r rt i l).trans ((srcDW_read c _ e ef he t r rt i l ⟨512 * t.val + r.val, by omega⟩ rfl).trans (v4_read m c _ _ _ _ _))

/-- A down trip's biases, of the arguments. -/
theorem dc_arg (e : Ex) (ef : Fin 8) (he : e.1.toNat = ef.val) (t : Fin k0_t5_loop.trips) (n : Fin 512) :
    View.readAt (Elt Ideal) (Memref.whole cc0_stg5_0).view (Rect.unit (s := S8x2048) (k0_off78 e.1 t) S1x512.size (k0_off78_inb e.1 e.2 t)).toLoadRect (V m c main_arg8) (ix2 0 n)
      = (inpK m c).dc ef ⟨512 * t.val + n.val, by have := lt4 t; omega⟩ := by
  have ht := lt4 t
  rw [View.readAt_apply]
  have : (Rect.unit (s := S8x2048) (k0_off78 e.1 t) S1x512.size (k0_off78_inb e.1 e.2 t)).idx (ix2 0 n) = ix2 ef ⟨512 * t.val + n.val, by omega⟩ := by
    funext a
    apply Fin.ext
    refine (unit_val _ _ a).trans ((congrArg (· + _) (congrFun (off78v e.1 t) a)).trans ?_)
    fin_cases a
    · show e.1.toNat + 0 = ef.val; omega
    · rfl
  refine (congrArg (V m c main_arg8) this).trans ?_
  rw [V_main_arg8]; rfl

/-- The hidden values a down trip loads, of the arguments. -/
theorem hid_arg (e : Ex) (ef : Fin 8) (he : e.1.toNat = ef.val) (h : Buf (Elt Ideal) (HREF.view.loc (c : Thread nD τ))) (tt : Fin 24) (K : Fin 4096) :
    hvLoad c (hLoop c (Memref.whole cc0_stg4_0) (V m c main_v1) (V m c main_v2) (xLoad m c) (permV c) (V m c main_arg5) e h k0_t4_loop.trips) (ix2 tt K)
      = (inpK m c).hid ef tt (Cert.Kernel.Hand.sig K) := by
  have hK := K.isLt
  have h16 : k0_t4_loop.trips = 16 := by decide
  have hk : K.val / 256 < k0_t4_loop.trips := by rw [h16]; omega
  refine (hvLoad_read c _ tt K).trans ?_
  refine (hLoop_slot c (Memref.whole cc0_stg4_0) (V m c main_v1) (V m c main_v2) (V m c main_arg5) (xLoad m c) (permV c) e h ⟨K.val / 256, hk⟩ ⟨K.val / 256, by omega⟩ rfl tt ⟨K.val % 256, by omega⟩ k0_t4_loop.trips le_rfl hk).trans ?_
  refine (gateVal_hid m c e ef he ⟨K.val / 256, hk⟩ tt ⟨K.val % 256, by omega⟩).trans ?_
  refine congrArg ((inpK m c).hid ef tt) (Fin.ext ?_)
  rw [sig_val]
  show 256 * (K.val / 256) + 2 * (32 * (K.val % 256 / 8 % 8) + 8 * (K.val % 256 / 64) + K.val % 256 % 8) / 2 = 256 * (K.val / 256) + 32 * (K.val % 256 / 8 % 8) + 8 * (K.val % 256 / 64) + K.val % 8
  omega

/-- What a down trip forms of an expert, of the arguments. -/
theorem yOf_eq (e : Ex) (ef : Fin 8) (he : e.1.toNat = ef.val) (h : Buf (Elt Ideal) (HREF.view.loc (c : Thread nD τ))) (t : Fin k0_t5_loop.trips) (tt : Fin 24) (n : Fin 512) :
    yOf c (Memref.whole cc0_stg5_0) (V m c main_v4) (V m c main_arg7) (V m c main_arg8)
      (hLoop c (Memref.whole cc0_stg4_0) (V m c main_v1) (V m c main_v2) (xLoad m c) (permV c) (V m c main_arg5) e h k0_t4_loop.trips) e t tt n
      = (inpK m c).y ef tt ⟨512 * t.val + n.val, by have := lt4 t; omega⟩ := by
  unfold yOf
  rw [dc_arg m c e ef he t n]
  exact down_sum4 (inpK m c) ef t.val (lt4 t) (downWords c (V m c main_v4) e t) _ _ _ _ _ (dw_arg m c e ef he t)
    (ds_arg m c e ef he t _ _ 0 (by omega) (off68_eq t)) (ds_arg m c e ef he t _ _ 128 (by omega) (off69_eq t)) (ds_arg m c e ef he t _ _ 256 (by omega) (off70_eq t))
    (ds_arg m c e ef he t _ _ 384 (by omega) (off71_eq t)) tt (hid_arg m c e ef he h tt) n

/-- The coefficients as an expert's trip loads them. -/
theorem coLoad_read (t : Fin 24) (e : Fin 8) :
    coLoad c (coV c (Memref.whole cc0_stg1_0) (Memref.whole cc0_stg2_0) (V m c main_v6) (V m c main_v8)) (ix2 ⟨t.val, by omega⟩ e)
      = ∑ s : Fin 4, if (inpK m c).ids t s = BitVec.ofNat 32 e.val then (inpK m c).rw t s else 0 := by
  unfold coLoad coV
  refine (whole_load COEF.view _ _ _ (by decide) _).trans ?_
  refine (View.read_writes_cons_unit_of_mem (Val := Elt Ideal) COEF.view COEF.view.junk inb_S128x8_S128x8_0_0 _ [] (ix2 ⟨t.val, by omega⟩ e) (ix2 ⟨t.val, by omega⟩ e) rfl ?_).trans ?_
  · intro a
    fin_cases a
    · show t.val = 0 + t.val; omega
    · show e.val = 0 + e.val; omega
  refine (coef_read _ _ t e ⟨t.val, by omega⟩ rfl).trans (Finset.sum_congr rfl fun s _ => ?_)
  rw [show View.readAt (Elt Ideal) (Memref.whole cc0_stg1_0).view (Rect.unit (s := S4x24) ![0, 0] S4x24.size inb_S4x24_S4x24_0_0).toLoadRect (V m c main_v6) (ix2 s t) = (inpK m c).ids t s from
      (whole_load (Memref.whole cc0_stg1_0).view (V m c main_v6) _ _ (by decide) _).trans (v6_read m c s t),
    show View.readAt (Elt Ideal) (Memref.whole cc0_stg2_0).view (Rect.unit (s := S4x24) ![0, 0] S4x24.size inb_S4x24_S4x24_0_0).toLoadRect (V m c main_v8) (ix2 s t) = (inpK m c).rw t s from
      (whole_load (Memref.whole cc0_stg2_0).view (V m c main_v8) _ _ (by decide) _).trans (v8_read m c s t)]

/-- The mask has the bit of every expert some token asks for. -/
theorem mask_bit (hX : Named m) (t : Fin 24) (s : Fin 4) (e : ℕ) (he : e < 8) (h : (inpK m c).ids t s = BitVec.ofNat 32 e) :
    (maskOf c (Memref.whole cc0_stg0_0) (V m c main_v6) k0_t1_loop.trips).getLsbD e = true := by
  obtain ⟨k, hk⟩ := off1_all s t
  refine ((mask_facts c (Memref.whole cc0_stg0_0) (V m c main_v6) (hX c) k0_t1_loop.trips le_rfl).2 e he).2 ⟨k, k.isLt, ?_⟩
  have : idRd c (Memref.whole cc0_stg0_0) (V m c main_v6) k = (inpK m c).ids t s := by
    unfold idRd
    rw [View.readAt_apply]
    refine Eq.trans (congrArg (V m c main_v6) (funext fun a => Fin.ext ?_)) (v6_read m c s t)
    refine (unit_val _ _ a).trans ((congrArg (· + _) (congrFun hk a)).trans ?_)
    fin_cases a
    · exact Nat.add_eq_left.2 (Nat.lt_one_iff.1 (Fin.isLt _))
    · exact Nat.add_eq_left.2 (Nat.lt_one_iff.1 (Fin.isLt _))
  rw [this, h, BitVec.toNat_ofNat, Nat.mod_eq_of_lt (by omega)]

/-- The kernel's output, of the arguments. -/
theorem out6_read (hX : Named m) (hlt : ∀ t s, ((inpK m c).ids t s).toNat < 8) (hd : ∀ t, Function.Injective ((inpK m c).ids t)) (t : Fin 24) (q : Fin k0_t5_loop.trips) (n : Fin 512) :
    out6 m c (ix2 t ⟨512 * q.val + n.val, by have := lt4 q; omega⟩) = (inpK m c).out t ⟨512 * q.val + n.val, by have := lt4 q; omega⟩ := by
  have hq := lt4 q
  unfold out6 outVal
  refine (outL_read c _ ⟨q.val, hq⟩ t n).trans ?_
  unfold aEnd
  generalize hM : maskOf c (Memref.whole cc0_stg0_0) (V m c main_v6) k0_t1_loop.trips = M
  have H := ha_read c (Memref.whole cc0_stg4_0) (Memref.whole cc0_stg5_0) (V m c main_v1) (V m c main_v2) (V m c main_v4) (V m c main_arg7) (V m c main_arg5) (V m c main_arg8) (xLoad m c) (permV c) (listOf M)
    (coV c (Memref.whole cc0_stg1_0) (Memref.whole cc0_stg2_0) (V m c main_v6) (V m c main_v8)) (Memref.whole cc0_scratch8 : Memref Cert.Kernel.sig .tc .vmem S16x24x256 .bf16).view.junk (acc0 c) q t n
    (fun e => (inpK m c).y ⟨e.1.toNat, ex_lt e⟩ t ⟨512 * q.val + n.val, by omega⟩) (fun e h => yOf_eq m c e ⟨e.1.toNat, ex_lt e⟩ rfl h q t n) (bitsTo M 8).length
  refine H.trans ?_
  rw [acc0_read, zero_add]
  refine (sum_bits M (fun i => coefOf (coLoad c (coV c (Memref.whole cc0_stg1_0) (Memref.whole cc0_stg2_0) (V m c main_v6) (V m c main_v8))) (toEx i).1 t * (inpK m c).y ⟨(toEx i).1.toNat, ex_lt (toEx i)⟩ t ⟨512 * q.val + n.val, by omega⟩) 8).trans ?_
  rw [Finset.sum_range]
  unfold Inp.out
  rw [← mix ((inpK m c).ids t) (hd t) (hlt t) ((inpK m c).rw t) (fun e => (inpK m c).y e t ⟨512 * q.val + n.val, by omega⟩)]
  refine Finset.sum_congr rfl fun e _ => ?_
  have he := e.isLt
  have h1 : (toEx e.val).1 = BitVec.ofNat 32 e.val := toEx_of_lt he
  have h2 : (⟨(toEx e.val).1.toNat, ex_lt (toEx e.val)⟩ : Fin 8) = e := Fin.ext (by show (toEx e.val).1.toNat = e.val; rw [h1, BitVec.toNat_ofNat, Nat.mod_eq_of_lt (by omega)])
  rw [coefOf_eq _ _ e h1, coLoad_read, h2]
  by_cases hb : M.getLsbD e.val = true
  · rw [if_pos hb]
  · rw [if_neg hb, Finset.sum_eq_zero (fun s _ => if_neg fun hh => hb (by rw [← hM]; exact mask_bit m c hX t s e.val he hh)), zero_mul]

end Cert.Kernel.Hand

end
-- ==== Proof.RefRead.lean ====
module

public import proofs.«01_k».proof.Proof.Gen.Kernel.Skeleton
public import Idealize.ShloMosaic.Lib.Pointwise
public import Idealize.ShloMosaic.Lib.BitcastFour
public import Idealize.ShloMosaic.Lib.BitcastPair
public import proofs.«01_k».proof.Proof.Gen.ReferenceIdeal.Run
public import proofs.«01_k».proof.Proof.Spec

@[expose] public section

noncomputable section

namespace Cert.ReferenceIdeal.Hand

open Cert.ReferenceIdeal Cert.ReferenceIdeal.Gen Cert.ReferenceIdeal.Value Idealize.ShloMosaic.StableHlo
open Cert.Kernel.Hand (e2m1 nibOf e8 ref_dec)
open Idealize.ShloMosaic Idealize.ShloMosaic.TcCoe Idealize.ShloMosaic.Tactic

theorem ref_lo : ∀ b : BitVec 8, IntOp.andi (b.setWidth 32) 15#32 = (nibOf b 0).setWidth 32 := by decide +kernel
theorem ref_hi : ∀ b : BitVec 8, IntOp.shrsi .host (b.setWidth 32) 4#32 = (nibOf b 1).setWidth 32 := by decide +kernel

/-- A non-zero scale byte of the reference is the kernel's. -/
theorem ref_scale (b : BitVec 8) (h : b ≠ 0) :
    (Scalar.select (IntOp.cmpi .eq b 0#8) 64#32 (IntOp.shli .host (b.setWidth 32) 7#32)).truncate 16 = (b.setWidth 16) <<< 7 := by
  revert b; decide +kernel

theorem v12_read (V0 : Valuation τ sig (Elt Ideal)) (e : Fin 8) (n : Fin 8192) (kb : Fin 64)
    (h : V0 (Proc.devRef .tc main_arg4) (ix3 e n kb) ≠ 0#8) :
    res_main_v12 V0 (ix4 e n kb 0) = e8 (V0 (Proc.devRef .tc main_arg4) (ix3 e n kb)) := by
  pointwise [res_main_v12]

  exact congrArg (Ideal.ofBits FTy.bf16) (ref_scale _ h)

theorem v14_read (V0 : Valuation τ sig (Elt Ideal)) (e : Fin 8) (n : Fin 8192) (kb : Fin 64) (i : Fin 16) :
    res_main_v14 V0 (ix4 e n kb i) = (nibOf (V0 (Proc.devRef .tc main_arg3) (ix4 e n kb i)) 0).setWidth 32 := by
  pointwise [res_main_v14, res_main_v3]

  exact ref_lo _

theorem v47_read (V0 : Valuation τ sig (Elt Ideal)) (e : Fin 8) (n : Fin 8192) (kb : Fin 64) (i : Fin 16) :
    res_main_v47 V0 (ix4 e n kb i) = (nibOf (V0 (Proc.devRef .tc main_arg3) (ix4 e n kb i)) 1).setWidth 32 := by
  pointwise [res_main_v47, res_main_v3]
  exact ref_hi _

theorem glo_read (V0 : Valuation τ sig (Elt Ideal)) (e : Fin 8) (n : Fin 8192) (kb : Fin 64) (i : Fin 16) :
    ((truncf .bf16 (select (cmpi .eq (Host.shrsi (res_main_v14 V0) (broadcastInDim S8x8192x64x16 ![] bcast_S_S8x8192x64x16 (constantI S_ 32 3#32))) (broadcastInDim S8x8192x64x16 ![] bcast_S_S8x8192x64x16 (constantI S_ 32 1#32))) (Host.negf (res_main_v38 V0)) (res_main_v38 V0)) bitsLt_bf16_f32) : FVec Ideal S8x8192x64x16 .bf16) (ix4 e n kb i) = e2m1 (nibOf (V0 (Proc.devRef .tc main_arg3) (ix4 e n kb i)) 0) := by
  pointwise [res_main_v38, res_main_v20, res_main_v23]
  rw [v14_read]
  exact ref_dec _

theorem ghi_read (V0 : Valuation τ sig (Elt Ideal)) (e : Fin 8) (n : Fin 8192) (kb : Fin 64) (i : Fin 16) :
    ((truncf .bf16 (select (cmpi .eq (Host.shrsi (res_main_v47 V0) (broadcastInDim S8x8192x64x16 ![] bcast_S_S8x8192x64x16 (constantI S_ 32 3#32))) (broadcastInDim S8x8192x64x16 ![] bcast_S_S8x8192x64x16 (constantI S_ 32 1#32))) (Host.negf (res_main_v71 V0)) (res_main_v71 V0)) bitsLt_bf16_f32) : FVec Ideal S8x8192x64x16 .bf16) (ix4 e n kb i) = e2m1 (nibOf (V0 (Proc.devRef .tc main_arg3) (ix4 e n kb i)) 1) := by
  pointwise [res_main_v71, res_main_v53, res_main_v56]
  rw [v47_read]
  exact ref_dec _

/-- The arguments of a run. -/
def inpOf (V0 : Valuation τ sig (Elt Ideal)) : Cert.Kernel.Hand.Inp where
  x t K := V0 (Proc.devRef .tc main_arg0) (ix3 t 0 K)
  ids t s := V0 (Proc.devRef .tc main_arg1) (ix3 t 0 s)
  rw t s := V0 (Proc.devRef .tc main_arg2) (ix3 t 0 s)
  gb e n kb i := V0 (Proc.devRef .tc main_arg3) (ix4 e n kb i)
  gs e n kb := V0 (Proc.devRef .tc main_arg4) (ix3 e n kb)
  gc e n := V0 (Proc.devRef .tc main_arg5) (ix2 e n)
  db e n kb i := V0 (Proc.devRef .tc main_arg6) (ix4 e n kb i)
  ds e n kb := V0 (Proc.devRef .tc main_arg7) (ix3 e n kb)
  dc e n := V0 (Proc.devRef .tc main_arg8) (ix2 e n)

theorem actOf_eq (g u : EReal) : Cert.Kernel.Hand.swiOf g u = min g (Ideal.ofBits FTy.f32 0x40E00000#32)
    * Ideal.div 1 (1 + Ideal.exp (-(Ideal.ofBits FTy.f32 0x3FD9DB23#32 * min g (Ideal.ofBits FTy.f32 0x40E00000#32))))
    * (min (max u (Ideal.ofBits FTy.f32 0xC0E00000#32)) (Ideal.ofBits FTy.f32 0x40E00000#32) + 1) := by
  unfold Cert.Kernel.Hand.swiOf
  rw [Ideal.ofBits_one_f32, min_comm (Ideal.ofBits FTy.f32 0x40E00000#32) (max _ _), max_comm (Ideal.ofBits FTy.f32 0xC0E00000#32) _]
  rfl

theorem v172_read (V0 : Valuation τ sig (Elt Ideal)) (hs : ∀ e n kb, (inpOf V0).gs e n kb ≠ 0#8) (e : Fin 8) (t : Fin 24) (f : Fin 4096) (b : Fin 2) :
    (res_main_v172 V0 : FVec Ideal S8x24x4096x2 .f32) (ix4 e t f b) = (inpOf V0).gu e t ⟨f.val * 2 + b.val, by omega⟩ := by
  unfold res_main_v172
  generalize elo : (truncf .bf16 (select (cmpi .eq (Host.shrsi (res_main_v14 V0) (broadcastInDim S8x8192x64x16 ![] bcast_S_S8x8192x64x16 (constantI S_ 32 3#32))) (broadcastInDim S8x8192x64x16 ![] bcast_S_S8x8192x64x16 (constantI S_ 32 1#32))) (Host.negf (res_main_v38 V0)) (res_main_v38 V0)) bitsLt_bf16_f32) = lo
  generalize ehi : (truncf .bf16 (select (cmpi .eq (Host.shrsi (res_main_v47 V0) (broadcastInDim S8x8192x64x16 ![] bcast_S_S8x8192x64x16 (constantI S_ 32 3#32))) (broadcastInDim S8x8192x64x16 ![] bcast_S_S8x8192x64x16 (constantI S_ 32 1#32))) (Host.negf (res_main_v71 V0)) (res_main_v71 V0)) bitsLt_bf16_f32) = hi
  have hlo : ∀ e n kb i, lo (ix4 e n kb i) = e2m1 (nibOf ((inpOf V0).gb e n kb i) 0) := fun e n kb i => by rw [← elo]; exact glo_read V0 e n kb i
  have hhi : ∀ e n kb i, hi (ix4 e n kb i) = e2m1 (nibOf ((inpOf V0).gb e n kb i) 1) := fun e n kb i => by rw [← ehi]; exact ghi_read V0 e n kb i
  pointwise [res_main_v159]
  simp only [hlo, hhi]
  unfold Cert.Kernel.Hand.Inp.gu
  refine congrArg₂ (· + ·) ?_ rfl
  refine Eq.trans ?_ (Cert.Kernel.Hand.sum_pairs 1024 fun K => (inpOf V0).x t K * (inpOf V0).gW e ⟨f.val * 2 + b.val, by omega⟩ K).symm
  refine congrArg₂ (· + ·) (Finset.sum_congr rfl fun k _ => ?_) (Finset.sum_congr rfl fun k _ => ?_)
  · rw [v12_read V0 e _ _ (hs e _ _), mul_comm]
    refine congrArg (fun z : EReal => (inpOf V0).x t _ * z) ?_
    unfold Cert.Kernel.Hand.Inp.gW
    have hk := k.isLt
    have h1 : (⟨k.val / 16, by omega⟩ : Fin 64) = ⟨k.val * 2 / 32, by omega⟩ := Fin.ext (by show k.val / 16 = k.val * 2 / 32; omega)
    have h2 : (⟨k.val % 16, by omega⟩ : Fin 16) = ⟨k.val * 2 % 32 / 2, by omega⟩ := Fin.ext (by show k.val % 16 = k.val * 2 % 32 / 2; omega)
    have h3 : k.val * 2 % 2 = 0 := by omega
    rw [h1, h2]
    simp only [h3]
    rfl
  · rw [v12_read V0 e _ _ (hs e _ _), mul_comm]
    refine congrArg (fun z : EReal => (inpOf V0).x t _ * z) ?_
    unfold Cert.Kernel.Hand.Inp.gW
    have hk := k.isLt
    have h1 : (⟨k.val / 16, by omega⟩ : Fin 64) = ⟨(k.val * 2 + 1) / 32, by omega⟩ := Fin.ext (by show k.val / 16 = (k.val * 2 + 1) / 32; omega)
    have h2 : (⟨k.val % 16, by omega⟩ : Fin 16) = ⟨(k.val * 2 + 1) % 32 / 2, by omega⟩ := Fin.ext (by show k.val % 16 = (k.val * 2 + 1) % 32 / 2; omega)
    have h3 : (k.val * 2 + 1) % 2 = 1 := by omega
    rw [h1, h2]
    simp only [h3]
    rfl

/-- The reference's hidden activations. -/
theorem v196_read (V0 : Valuation τ sig (Elt Ideal)) (hs : ∀ e n kb, (inpOf V0).gs e n kb ≠ 0#8) (e : Fin 8) (t : Fin 24) (f : Fin 2048) (b : Fin 2) :
    (res_main_v196 V0 : FVec Ideal S8x24x2048x2 .bf16) (ix4 e t f b) = (inpOf V0).hid e t ⟨f.val * 2 + b.val, by omega⟩ := by
  pointwise [res_main_v196, res_main_v176]
  simp only [v172_read V0 hs]
  exact (actOf_eq _ _).symm

theorem v90_read (V0 : Valuation τ sig (Elt Ideal)) (e : Fin 8) (n : Fin 2048) (kb : Fin 128)
    (h : V0 (Proc.devRef .tc main_arg7) (ix3 e n kb) ≠ 0#8) :
    res_main_v90 V0 (ix4 e n kb 0) = e8 (V0 (Proc.devRef .tc main_arg7) (ix3 e n kb)) := by
  pointwise [res_main_v90]
  exact congrArg (Ideal.ofBits FTy.bf16) (ref_scale _ h)

theorem v92_read (V0 : Valuation τ sig (Elt Ideal)) (e : Fin 8) (n : Fin 2048) (kb : Fin 128) (i : Fin 16) :
    res_main_v92 V0 (ix4 e n kb i) = (nibOf (V0 (Proc.devRef .tc main_arg6) (ix4 e n kb i)) 0).setWidth 32 := by
  pointwise [res_main_v92, res_main_v81]
  exact ref_lo _

theorem v125_read (V0 : Valuation τ sig (Elt Ideal)) (e : Fin 8) (n : Fin 2048) (kb : Fin 128) (i : Fin 16) :
    res_main_v125 V0 (ix4 e n kb i) = (nibOf (V0 (Proc.devRef .tc main_arg6) (ix4 e n kb i)) 1).setWidth 32 := by
  pointwise [res_main_v125, res_main_v81]
  exact ref_hi _

theorem dlo_read (V0 : Valuation τ sig (Elt Ideal)) (e : Fin 8) (n : Fin 2048) (kb : Fin 128) (i : Fin 16) :
    ((truncf .bf16 (select (cmpi .eq (Host.shrsi (res_main_v92 V0) (broadcastInDim S8x2048x128x16 ![] bcast_S_S8x2048x128x16 (constantI S_ 32 3#32))) (broadcastInDim S8x2048x128x16 ![] bcast_S_S8x2048x128x16 (constantI S_ 32 1#32))) (Host.negf (res_main_v116 V0)) (res_main_v116 V0)) bitsLt_bf16_f32) : FVec Ideal S8x2048x128x16 .bf16) (ix4 e n kb i) = e2m1 (nibOf (V0 (Proc.devRef .tc main_arg6) (ix4 e n kb i)) 0) := by
  pointwise [res_main_v116, res_main_v98, res_main_v101]
  rw [v92_read]
  exact ref_dec _

theorem dhi_read (V0 : Valuation τ sig (Elt Ideal)) (e : Fin 8) (n : Fin 2048) (kb : Fin 128) (i : Fin 16) :
    ((truncf .bf16 (select (cmpi .eq (Host.shrsi (res_main_v125 V0) (broadcastInDim S8x2048x128x16 ![] bcast_S_S8x2048x128x16 (constantI S_ 32 3#32))) (broadcastInDim S8x2048x128x16 ![] bcast_S_S8x2048x128x16 (constantI S_ 32 1#32))) (Host.negf (res_main_v149 V0)) (res_main_v149 V0)) bitsLt_bf16_f32) : FVec Ideal S8x2048x128x16 .bf16) (ix4 e n kb i) = e2m1 (nibOf (V0 (Proc.devRef .tc main_arg6) (ix4 e n kb i)) 1) := by
  pointwise [res_main_v149, res_main_v131, res_main_v134]
  rw [v125_read]
  exact ref_dec _

/-- What the reference's experts make of the tokens. -/
def refY (V0 : Valuation τ sig (Elt Ideal)) : FVec Ideal S8x24x2048 .f32 := addf (addf (Host.dotGeneral (φ₁ := .bf16) (φ₂ := .bf16) dot_S8x24x2048_S8x2048x2048_S8x24x2048_2_2_1_1_0_0 none (shapeCast _ (extractStridedSlice S8x24x2048x1 ![0, 0, 0, 0] (res_main_v196 V0 : FVec Ideal S8x24x2048x2 .bf16) slices_S8x24x2048x2_S8x24x2048x1_0_0_0_0) shapeCasts_S8x24x2048x1_S8x24x2048) (shapeCast _ (mulf (truncf .bf16 (select (cmpi .eq (Host.shrsi (res_main_v92 V0) (broadcastInDim S8x2048x128x16 ![] bcast_S_S8x2048x128x16 (constantI S_ 32 3#32))) (broadcastInDim S8x2048x128x16 ![] bcast_S_S8x2048x128x16 (constantI S_ 32 1#32))) (Host.negf (res_main_v116 V0)) (res_main_v116 V0)) bitsLt_bf16_f32) (broadcastInDim S8x2048x128x16 ![0, 1, 2, 3] bcast_S8x2048x128x1_S8x2048x128x16_0_1_2_3 (res_main_v90 V0))) shapeCasts_S8x2048x128x16_S8x2048x2048)) (Host.dotGeneral (φ₁ := .bf16) (φ₂ := .bf16) dot_S8x24x2048_S8x2048x2048_S8x24x2048_2_2_1_1_0_0 none (shapeCast _ (extractStridedSlice S8x24x2048x1 ![0, 0, 0, 1] (res_main_v196 V0 : FVec Ideal S8x24x2048x2 .bf16) slices_S8x24x2048x2_S8x24x2048x1_0_0_0_1) shapeCasts_S8x24x2048x1_S8x24x2048) (shapeCast _ (mulf (truncf .bf16 (select (cmpi .eq (Host.shrsi (res_main_v125 V0) (broadcastInDim S8x2048x128x16 ![] bcast_S_S8x2048x128x16 (constantI S_ 32 3#32))) (broadcastInDim S8x2048x128x16 ![] bcast_S_S8x2048x128x16 (constantI S_ 32 1#32))) (Host.negf (res_main_v149 V0)) (res_main_v149 V0)) bitsLt_bf16_f32) (broadcastInDim S8x2048x128x16 ![0, 1, 2, 3] bcast_S8x2048x128x1_S8x2048x128x16_0_1_2_3 (res_main_v90 V0))) shapeCasts_S8x2048x128x16_S8x2048x2048))) (broadcastInDim S8x24x2048 ![0, 1, 2] bcast_S8x1x2048_S8x24x2048_0_1_2 (broadcastInDim S8x1x2048 ![0, 2] bcast_S8x2048_S8x1x2048_0_2 (V0 (Proc.devRef .tc main_arg8))))

theorem refY_read (V0 : Valuation τ sig (Elt Ideal)) (hs : ∀ e n kb, (inpOf V0).gs e n kb ≠ 0#8) (hd : ∀ e n kb, (inpOf V0).ds e n kb ≠ 0#8)
    (e : Fin 8) (t : Fin 24) (n : Fin 2048) : refY V0 (ix3 e t n) = (inpOf V0).y e t n := by
  unfold refY
  generalize elo : (truncf .bf16 (select (cmpi .eq (Host.shrsi (res_main_v92 V0) (broadcastInDim S8x2048x128x16 ![] bcast_S_S8x2048x128x16 (constantI S_ 32 3#32))) (broadcastInDim S8x2048x128x16 ![] bcast_S_S8x2048x128x16 (constantI S_ 32 1#32))) (Host.negf (res_main_v116 V0)) (res_main_v116 V0)) bitsLt_bf16_f32) = lo
  generalize ehi : (truncf .bf16 (select (cmpi .eq (Host.shrsi (res_main_v125 V0) (broadcastInDim S8x2048x128x16 ![] bcast_S_S8x2048x128x16 (constantI S_ 32 3#32))) (broadcastInDim S8x2048x128x16 ![] bcast_S_S8x2048x128x16 (constantI S_ 32 1#32))) (Host.negf (res_main_v149 V0)) (res_main_v149 V0)) bitsLt_bf16_f32) = hi
  have hlo : ∀ e n kb i, lo (ix4 e n kb i) = e2m1 (nibOf ((inpOf V0).db e n kb i) 0) := fun e n kb i => by rw [← elo]; exact dlo_read V0 e n kb i
  have hhi : ∀ e n kb i, hi (ix4 e n kb i) = e2m1 (nibOf ((inpOf V0).db e n kb i) 1) := fun e n kb i => by rw [← ehi]; exact dhi_read V0 e n kb i
  pointwise
  simp only [hlo, hhi, v196_read V0 hs]
  unfold Cert.Kernel.Hand.Inp.y
  refine congrArg₂ (· + ·) ?_ rfl
  refine Eq.trans ?_ (Cert.Kernel.Hand.sum_pairs 2048 fun K => (inpOf V0).hid e t K * (inpOf V0).dW e n K).symm
  refine congrArg₂ (· + ·) (Finset.sum_congr rfl fun k _ => ?_) (Finset.sum_congr rfl fun k _ => ?_)
  · rw [v90_read V0 e _ _ (hd e _ _)]
    refine congrArg (fun z : EReal => (inpOf V0).hid e t _ * z) ?_
    unfold Cert.Kernel.Hand.Inp.dW
    have hk := k.isLt
    have h1 : (⟨k.val / 16, by omega⟩ : Fin 128) = ⟨k.val * 2 / 32, by omega⟩ := Fin.ext (by show k.val / 16 = k.val * 2 / 32; omega)
    have h2 : (⟨k.val % 16, by omega⟩ : Fin 16) = ⟨k.val * 2 % 32 / 2, by omega⟩ := Fin.ext (by show k.val % 16 = k.val * 2 % 32 / 2; omega)
    have h3 : k.val * 2 % 2 = 0 := by omega
    rw [h1, h2]
    simp only [h3]
    rfl
  · rw [v90_read V0 e _ _ (hd e _ _)]
    refine congrArg (fun z : EReal => (inpOf V0).hid e t _ * z) ?_
    unfold Cert.Kernel.Hand.Inp.dW
    have hk := k.isLt
    have h1 : (⟨k.val / 16, by omega⟩ : Fin 128) = ⟨(k.val * 2 + 1) / 32, by omega⟩ := Fin.ext (by show k.val / 16 = (k.val * 2 + 1) / 32; omega)
    have h2 : (⟨k.val % 16, by omega⟩ : Fin 16) = ⟨(k.val * 2 + 1) % 32 / 2, by omega⟩ := Fin.ext (by show k.val % 16 = (k.val * 2 + 1) % 32 / 2; omega)
    have h3 : (k.val * 2 + 1) % 2 = 1 := by omega
    rw [h1, h2]
    simp only [h3]
    rfl

theorem sel_if (a b : BitVec 32) (y : EReal) : Scalar.select (IntOp.cmpi CmpIPredicate.eq a b) y 0 = if a = b then y else 0 := by
  by_cases h : a = b
  · simp [Scalar.select, IntOp.cmpi, h]
  · have hb := beq_eq_false_iff_ne.mpr h
    simp only [Scalar.select, IntOp.cmpi, hb, if_neg h]
    rfl

/-- The reference's result. -/
def refOut (V0 : Valuation τ sig (Elt Ideal)) : FVec Ideal S24x1x2048 .bf16 := shapeCast S24x1x2048 (truncf .bf16 (Host.reduceAdd (mulf (Host.reduceAdd (select (broadcastInDim S4x8x24x2048 ![0, 1, 2, 3] bcast_S4x8x24x1_S4x8x24x2048_0_1_2_3 (cmpi .eq (broadcastInDim S4x8x24x1 ![0, 1, 2, 3] bcast_S4x1x24x1_S4x8x24x1_0_1_2_3 (broadcastInDim S4x1x24x1 ![0, 2] bcast_S4x24_S4x1x24x1_0_2 (transpose S4x24 [1, 0] (shapeCast _ (V0 (Proc.devRef .tc main_arg1)) shapeCasts_S24x1x4_S24x4) transposes_S24x4_S4x24_1_0))) (iotaInDim S4x8x24x1 32 1))) (broadcastInDim S4x8x24x2048 ![0, 1, 2, 3] bcast_S1x8x24x2048_S4x8x24x2048_0_1_2_3 (broadcastInDim S1x8x24x2048 ![1, 2, 3] bcast_S8x24x2048_S1x8x24x2048_1_2_3 (refY V0))) (broadcastInDim S4x8x24x2048 ![] bcast_S_S4x8x24x2048 (id (constant S_ .f32 0x00000000#32)))) (constant S_ .f32 0x00000000#32) reducesTo_S4x8x24x2048_S4x24x2048_d1 h_S_) (broadcastInDim S4x24x2048 ![0, 1, 2] bcast_S4x24x1_S4x24x2048_0_1_2 (broadcastInDim S4x24x1 ![0, 1] bcast_S4x24_S4x24x1_0_1 (transpose S4x24 [1, 0] (shapeCast _ (V0 (Proc.devRef .tc main_arg2)) shapeCasts_S24x1x4_S24x4) transposes_S24x4_S4x24_1_0)))) (constant S_ .f32 0x00000000#32) reducesTo_S4x24x2048_S24x2048_d0 h_S_) bitsLt_bf16_f32) shapeCasts_S24x2048_S24x1x2048

theorem refOut_read (V0 : Valuation τ sig (Elt Ideal)) (hs : ∀ e n kb, (inpOf V0).gs e n kb ≠ 0#8) (hd : ∀ e n kb, (inpOf V0).ds e n kb ≠ 0#8)
    (t : Fin 24) (n : Fin 2048) : refOut V0 (ix3 t 0 n) = (inpOf V0).out t n := by
  pointwise [refOut]
  unfold Cert.Kernel.Hand.Inp.out
  refine Finset.sum_congr rfl fun s _ => congrArg (fun z : EReal => z * (inpOf V0).rw t s) (Finset.sum_congr rfl fun e _ => ?_)
  rw [refY_read V0 hs hd]
  refine Eq.trans ?_ (sel_if ((inpOf V0).ids t s) (BitVec.ofNat 32 e.val) ((inpOf V0).y e t n))
  refine congrArg (fun z : EReal => Scalar.select (IntOp.cmpi CmpIPredicate.eq ((inpOf V0).ids t s) (BitVec.ofNat 32 e.val)) ((inpOf V0).y e t n) z) ?_
  exact Ideal.ofBits_zero_f32

end Cert.ReferenceIdeal.Hand

end
-- ==== Proof.Routed.lean ====
module

public import proofs.«01_k».proof.Proof.Gen.Kernel.Skeleton
public import Idealize.ShloMosaic.Lib.Pointwise
public import Idealize.ShloMosaic.Lib.BitcastFour
public import Idealize.ShloMosaic.Lib.BitcastPair
public import proofs.«01_k».proof.Proof.Named
public import proofs.«01_k».proof.Proof.Gen.Pre_routed
public import Idealize.ShloMosaic.Lib.ReduceAll

@[expose] public section

noncomputable section

namespace Cert.Kernel.Hand

open Cert.Kernel Cert.Kernel.Gen
open Idealize.ShloMosaic Idealize.ShloMosaic.TcCoe Idealize.ShloMosaic.Tactic

variable (a0 : FVec Ideal Cert.Pre_routed.S24x1x2048 .bf16) (a1 : IVec Cert.Pre_routed.S24x1x4 32) (a2 : FVec Ideal Cert.Pre_routed.S24x1x4 .f32) (a3 : IVec Cert.Pre_routed.S8x8192x64x16 8) (a4 : IVec Cert.Pre_routed.S8x8192x64 8)
  (a5 : FVec Ideal Cert.Pre_routed.S8x8192 .f32) (a6 : IVec Cert.Pre_routed.S8x2048x128x16 8) (a7 : IVec Cert.Pre_routed.S8x2048x128 8) (a8 : FVec Ideal Cert.Pre_routed.S8x2048 .f32)

theorem and_one {p q : BitVec 1} (h : IntOp.andi p q = 1#1) : p = 1#1 ∧ q = 1#1 := by
  revert p q; decide

theorem ne_of_cmp {w : ℕ} {p q : BitVec w} (h : IntOp.cmpi CmpIPredicate.ne p q = 1#1) : p ≠ q := by
  intro e; subst e; simp [IntOp.cmpi] at h

theorem routed_facts [Cert.Pre_routed.Facts] (h : Cert.Pre_routed.fn (F := Ideal) a0 a1 a2 a3 a4 a5 a6 a7 a8 = fun _ => 1#1) :
    (∀ i, IntOp.andi (IntOp.cmpi .sge (a1 i) 0#32) (IntOp.cmpi .slt (a1 i) 8#32) = 1#1)
    ∧ (∀ t : Fin 24, a1 (ix3 t 0 0) ≠ a1 (ix3 t 0 1) ∧ a1 (ix3 t 0 0) ≠ a1 (ix3 t 0 2) ∧ a1 (ix3 t 0 0) ≠ a1 (ix3 t 0 3) ∧ a1 (ix3 t 0 1) ≠ a1 (ix3 t 0 2) ∧ a1 (ix3 t 0 1) ≠ a1 (ix3 t 0 3) ∧ a1 (ix3 t 0 2) ≠ a1 (ix3 t 0 3))
    ∧ (∀ i, a4 i ≠ 0#8) ∧ (∀ i, a7 i ≠ 0#8) := by
  have e := congrFun h (fun a => a.elim0)
  haveI : Subsingleton Cert.Pre_routed.S_.Idx := ⟨fun x y => funext fun a => a.elim0⟩
  simp only [Cert.Pre_routed.fn, Cert.Pre_routed.fn_part1, Cert.Pre_routed.fn_part2] at e
  obtain ⟨e, e4⟩ := and_one (p := _) (q := _) e
  obtain ⟨e, e3⟩ := and_one (p := _) (q := _) e
  obtain ⟨e1, e2⟩ := and_one (p := _) (q := _) e
  refine ⟨fun i => Host.reduce_andi_all _ _ _ _ _ e1 i, fun t => ?_, fun i => ne_of_cmp (Host.reduce_andi_all _ _ _ _ _ e3 i), fun i => ne_of_cmp (Host.reduce_andi_all _ _ _ _ _ e4 i)⟩
  have q := Host.reduce_andi_all _ _ _ _ _ e2 (ix1 t)
  have R : ∀ (o : ℕ) (s : Fin 4) (ho : o = s.val) (hs) (h1) (h2), shapeCast Cert.Pre_routed.S24 (extractStridedSlice Cert.Pre_routed.S24x1 ![0, o] (shapeCast Cert.Pre_routed.S24x4 a1 h1) hs) h2 (ix1 t) = a1 (ix3 t 0 s) := by
    intro o s ho hs h1 h2
    subst ho
    pointwise
  obtain ⟨q, q6⟩ := and_one (p := _) (q := _) q
  obtain ⟨q, q5⟩ := and_one (p := _) (q := _) q
  obtain ⟨q, q4⟩ := and_one (p := _) (q := _) q
  obtain ⟨q, q3⟩ := and_one (p := _) (q := _) q
  obtain ⟨q1, q2⟩ := and_one (p := _) (q := _) q
  have r1 := ne_of_cmp q1
  have r2 := ne_of_cmp q2
  have r3 := ne_of_cmp q3
  have r4 := ne_of_cmp q4
  have r5 := ne_of_cmp q5
  have r6 := ne_of_cmp q6
  rw [R 0 0 rfl, R 1 1 rfl] at r1
  rw [R 0 0 rfl, R 2 2 rfl] at r2
  rw [R 0 0 rfl, R 3 3 rfl] at r3
  rw [R 1 1 rfl, R 2 2 rfl] at r4
  rw [R 1 1 rfl, R 3 3 rfl] at r5
  rw [R 2 2 rfl, R 3 3 rfl] at r6
  exact ⟨r1, r2, r3, r4, r5, r6⟩

end Cert.Kernel.Hand

end
-- ==== Proof.Value.lean ====
module

public import proofs.«01_k».proof.Proof.Gen.Kernel.Skeleton
public import Idealize.ShloMosaic.Lib.Pointwise
public import Idealize.ShloMosaic.Lib.BitcastFour
public import Idealize.ShloMosaic.Lib.BitcastPair
public import proofs.«01_k».proof.Proof.Out
public import proofs.«01_k».proof.Proof.Spec
public import proofs.«01_k».proof.Proof.PermRead
public import proofs.«01_k».proof.Proof.OutEq
public import proofs.«01_k».proof.Proof.RefRead
public import proofs.«01_k».proof.Proof.Routed
public import proofs.«01_k».proof.Proof.Named
public import proofs.«01_k».proof.Proof.HostRead

@[expose] public section

noncomputable section

namespace Cert.Kernel.Hand

open Cert.Kernel Cert.Kernel.Gen
open Idealize.ShloMosaic Idealize.ShloMosaic.TcCoe Idealize.ShloMosaic.Tactic

set_option maxHeartbeats 1600000
open Idealize.SL Idealize.SL.Sem Idealize.ShloMosaic.StableHlo

theorem Inp.eq_of (I J : Inp) (h0 : ∀ t K, I.x t K = J.x t K) (h1 : ∀ t s, I.ids t s = J.ids t s) (h2 : ∀ t s, I.rw t s = J.rw t s)
    (h3 : ∀ e n k i, I.gb e n k i = J.gb e n k i) (h4 : ∀ e n k, I.gs e n k = J.gs e n k) (h5 : ∀ e n, I.gc e n = J.gc e n)
    (h6 : ∀ e n k i, I.db e n k i = J.db e n k i) (h7 : ∀ e n k, I.ds e n k = J.ds e n k) (h8 : ∀ e n, I.dc e n = J.dc e n) : I = J := by
  cases I
  cases J
  simp only [Inp.mk.injEq]
  exact ⟨funext fun _ => funext fun _ => h0 _ _, funext fun _ => funext fun _ => h1 _ _, funext fun _ => funext fun _ => h2 _ _,
    funext fun _ => funext fun _ => funext fun _ => funext fun _ => h3 _ _ _ _, funext fun _ => funext fun _ => funext fun _ => h4 _ _ _, funext fun _ => funext fun _ => h5 _ _,
    funext fun _ => funext fun _ => funext fun _ => funext fun _ => h6 _ _ _ _, funext fun _ => funext fun _ => funext fun _ => h7 _ _ _, funext fun _ => funext fun _ => h8 _ _⟩

theorem inj_of_ne {α : Type} (g : Fin 4 → α) (h01 : g 0 ≠ g 1) (h02 : g 0 ≠ g 2) (h03 : g 0 ≠ g 3) (h12 : g 1 ≠ g 2) (h13 : g 1 ≠ g 3) (h23 : g 2 ≠ g 3) :
    Function.Injective g := by
  intro a b hab
  fin_cases a <;> fin_cases b <;> first | rfl | exact absurd hab h01 | exact absurd hab h02 | exact absurd hab h03 | exact absurd hab h12 | exact absurd hab h13 | exact absurd hab h23 | exact absurd hab.symm h01 | exact absurd hab.symm h02 | exact absurd hab.symm h03 | exact absurd hab.symm h12 | exact absurd hab.symm h13 | exact absurd hab.symm h23

theorem cast_read (X : FVec Ideal S24x2048 .bf16) (t : Fin 24) (n : Fin 2048) : shapeCast S24x1x2048 X shapeCasts_S24x2048_S24x1x2048 (ix3 t 0 n) = X (ix2 t n) := by
  pointwise []

variable (m : (ℓ : Loc nD τ Cert.Kernel.sig) → Buf (Elt Ideal) ℓ) (c : Dev nD)
  (m' : (ℓ : Loc Cert.ReferenceIdeal.nD Cert.ReferenceIdeal.τ Cert.ReferenceIdeal.sig) → Buf (Elt Ideal) ℓ)

/-- The two programs' arguments agree, so the layer's data do. -/
theorem inp_eq (h : m' ((c.tc : Thread Cert.ReferenceIdeal.nD Cert.ReferenceIdeal.τ).loc Cert.ReferenceIdeal.main_arg0) = m ((c : Thread nD τ).loc main_arg0)
      ∧ m' ((c.tc : Thread Cert.ReferenceIdeal.nD Cert.ReferenceIdeal.τ).loc Cert.ReferenceIdeal.main_arg1) = m ((c : Thread nD τ).loc main_arg1)
      ∧ m' ((c.tc : Thread Cert.ReferenceIdeal.nD Cert.ReferenceIdeal.τ).loc Cert.ReferenceIdeal.main_arg2) = m ((c : Thread nD τ).loc main_arg2)
      ∧ m' ((c.tc : Thread Cert.ReferenceIdeal.nD Cert.ReferenceIdeal.τ).loc Cert.ReferenceIdeal.main_arg3) = m ((c : Thread nD τ).loc main_arg3)
      ∧ m' ((c.tc : Thread Cert.ReferenceIdeal.nD Cert.ReferenceIdeal.τ).loc Cert.ReferenceIdeal.main_arg4) = m ((c : Thread nD τ).loc main_arg4)
      ∧ m' ((c.tc : Thread Cert.ReferenceIdeal.nD Cert.ReferenceIdeal.τ).loc Cert.ReferenceIdeal.main_arg5) = m ((c : Thread nD τ).loc main_arg5)
      ∧ m' ((c.tc : Thread Cert.ReferenceIdeal.nD Cert.ReferenceIdeal.τ).loc Cert.ReferenceIdeal.main_arg6) = m ((c : Thread nD τ).loc main_arg6)
      ∧ m' ((c.tc : Thread Cert.ReferenceIdeal.nD Cert.ReferenceIdeal.τ).loc Cert.ReferenceIdeal.main_arg7) = m ((c : Thread nD τ).loc main_arg7)
      ∧ m' ((c.tc : Thread Cert.ReferenceIdeal.nD Cert.ReferenceIdeal.τ).loc Cert.ReferenceIdeal.main_arg8) = m ((c : Thread nD τ).loc main_arg8)) :
    Cert.ReferenceIdeal.Hand.inpOf (launchContents m' c) = inpK m c := by
  obtain ⟨h0, h1, h2, h3, h4, h5, h6, h7, h8⟩ := h
  exact Inp.eq_of _ _ (fun t K => congrFun h0 (ix3 t 0 K)) (fun t s => congrFun h1 (ix3 t 0 s)) (fun t s => congrFun h2 (ix3 t 0 s)) (fun e n k i => congrFun h3 (ix4 e n k i))
    (fun e n k => congrFun h4 (ix3 e n k)) (fun e n => congrFun h5 (ix2 e n)) (fun e n k i => congrFun h6 (ix4 e n k i)) (fun e n k => congrFun h7 (ix3 e n k)) (fun e n => congrFun h8 (ix2 e n))

/-- The kernel's result is the reference's. -/
theorem value_eq (hX : Named m) (hi : Cert.ReferenceIdeal.Hand.inpOf (launchContents m' c) = inpK m c)
    (hlt : ∀ t s, ((inpK m c).ids t s).toNat < 8) (hd : ∀ t, Function.Injective ((inpK m c).ids t))
    (hg : ∀ e n kb, (inpK m c).gs e n kb ≠ 0#8) (hs : ∀ e n kb, (inpK m c).ds e n kb ≠ 0#8) :
    Cert.ReferenceIdeal.Hand.refOut (launchContents m' c) = shapeCast S24x1x2048 (out6 m c) shapeCasts_S24x2048_S24x1x2048 := by
  funext i
  obtain ⟨t, z, n, rfl⟩ : ∃ (t : Fin 24) (z : Fin 1) (n : Fin 2048), i = ix3 t z n := ⟨i 0, i 1, i 2, (ix3_eta (n0 := 24) (n1 := 1) (n2 := 2048) i).symm⟩
  obtain rfl : z = 0 := Subsingleton.elim _ _
  refine (Cert.ReferenceIdeal.Hand.refOut_read (launchContents m' c) (by rw [hi]; exact hg) (by rw [hi]; exact hs) t n).trans ?_
  rw [hi, cast_read]
  have hn := n.isLt
  have h4 : k0_t5_loop.trips = 4 := by decide
  have e : n = ⟨512 * (n.val / 512) + n.val % 512, by omega⟩ := Fin.ext (by show n.val = 512 * (n.val / 512) + n.val % 512; omega)
  rw [e]
  exact (out6_read m c hX hlt hd t ⟨n.val / 512, by rw [h4]; omega⟩ ⟨n.val % 512, by omega⟩).symm

/-- The precondition gives what the equality needs. -/
theorem value_pre [Cert.Pre_routed.Facts] (hX : Named m) (hi : Cert.ReferenceIdeal.Hand.inpOf (launchContents m' c) = inpK m c)
    (hb : Cert.Pre_routed.fn (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (m ((c : Thread nD τ).loc main_arg8)) = fun _ => 1#1) :
    Cert.ReferenceIdeal.Hand.refOut (launchContents m' c) = shapeCast S24x1x2048 (out6 m c) shapeCasts_S24x2048_S24x1x2048 := by
  obtain ⟨f1, f2, f3, f4⟩ := routed_facts _ _ _ _ _ _ _ _ _ hb
  exact value_eq m c m' hX hi (fun t s => id_lt _ (f1 (ix3 t 0 s)))
    (fun t => inj_of_ne _ (f2 t).1 (f2 t).2.1 (f2 t).2.2.1 (f2 t).2.2.2.1 (f2 t).2.2.2.2.1 (f2 t).2.2.2.2.2)
    (fun e n kb => f3 (ix3 e n kb)) (fun e n kb => f4 (ix3 e n kb))

end Cert.Kernel.Hand

end
-- ==== Proof.lean ====
/-
  The claims: the printed kernel and its idealized form run, terminate, fault nowhere, leave their argument arrays as they
  were and every semaphore counter at zero, whenever the routed ids name experts; the reference runs likewise. Whenever the
  routing also gives a token four distinct experts and no scale byte is zero, the two end with the same result.
-/
module

public import proofs.«01_k».proof.Defs
public import proofs.«01_k».proof.Proof.Named
public import proofs.«01_k».proof.Proof.Same
public import proofs.«01_k».proof.Proof.RunOut
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_names_experts
public import proofs.«01_k».proof.Proof.Gen.Pre_routed
public import Idealize.ShloMosaic.Adequacy
public import Idealize.ShloMosaic.Lib.Claim
public import Idealize.ShloMosaic.Init

@[expose] public section

noncomputable section

namespace Cert.Proof

open Idealize.ShloMosaic Idealize.SL.Sem Cert.Kernel

/-- The kernel's frame, at the bit patterns: the precondition says every routed id names an expert, which is all the run
    needs. -/
theorem frame_p : Cert.quiescent_Kernel := fun m ρ h =>
  Cert.Kernel.Hand.frame_named (F := Bits) m ρ (Cert.Kernel.Hand.named_of_pre m fun c =>
    Cert.Kernel.Hand.ids_of_fn _ _ _ _ _ _ _ _ _ (h c))

set_option maxRecDepth 100000 in
set_option maxHeartbeats 4000000 in
/-- The same run at the extended reals: the idealized program is the kernel's own text. -/
theorem frame_pi : Cert.quiescent_KernelIdeal := fun m ρ h =>
  run_ideal (F := Ideal) m ρ _ (Cert.Kernel.Hand.frame_named (F := Ideal) m ρ (Cert.Kernel.Hand.named_of_pre m fun c =>
    Cert.Kernel.Hand.ids_of_fn _ _ _ _ _ _ _ _ _ (h c)))

set_option maxRecDepth 8192 in
/-- The reference is host operations only: its generated run, read at the argument arrays; it declares no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The ids of `routed` name experts. -/
theorem named_of_routed (m : (ℓ : Loc nD τ sig) → Buf (Elt Ideal) ℓ) (h : Cert.Pre_KernelIdeal_routed m) : Cert.Kernel.Hand.Named m :=
  Cert.Kernel.Hand.named_of_pre m fun c => (Cert.Kernel.Hand.routed_facts _ _ _ _ _ _ _ _ _ (h c)).1

set_option maxRecDepth 100000 in
set_option maxHeartbeats 4000000 in
/-- The frame of the idealized program under the value claim's precondition. -/
theorem frame_pi_routed : Cert.quiescent_KernelIdeal_pre_routed := fun m ρ h =>
  run_ideal (F := Ideal) m ρ _ (Cert.Kernel.Hand.frame_named (F := Ideal) m ρ (named_of_routed m h))

set_option maxRecDepth 8192 in
/-- The reference's, under the same. -/
theorem frame_ri_routed : Cert.quiescent_ReferenceIdeal_pre_routed := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The reference's run, its result named. -/
theorem run_ref (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v221) = Cert.ReferenceIdeal.Hand.refOut (Idealize.ShloMosaic.StableHlo.launchContents m c)) :=
  (θ_run Cert.ReferenceIdeal.defs _ _).mono (fun r h c => (h c).1) (Cert.ReferenceIdeal.Value.run (F := Ideal) m ρ)

set_option maxRecDepth 100000 in
set_option maxHeartbeats 4000000 in
/-- The value: the kernel's result and the reference's are one array. -/
theorem algebraic : Cert.algebraic_KernelIdeal_ReferenceIdeal_pre_routed := fun m g m' g' hpre hagree => by
  have hX := named_of_routed m hpre
  refine ⟨fun c => shapeCast S24x1x2048 (Cert.Kernel.Hand.out6 (F := Ideal) m c) Cert.Kernel.Gen.shapeCasts_S24x2048_S24x1x2048, ?_, ?_⟩
  · refine run_ideal (F := Ideal) m g _ ?_
    refine (θ_run Cert.Kernel.defs _ _).mono (fun r h c => ⟨h.1 c, h.2.1 c⟩)
      (Idealize.ShloMosaic.θ_run_and (Cert.Kernel.Hand.run_named (F := Ideal) m g hX) (Cert.Kernel.Hand.frame_named (F := Ideal) m g hX))
  · refine (θ_run Cert.ReferenceIdeal.defs _ _).mono (fun r h c => ⟨(h.1 c).trans (Cert.Kernel.Hand.value_pre m c m' hX (Cert.Kernel.Hand.inp_eq m c m' (hagree c)) (hpre c)), (h.2 c).2⟩)
      (Idealize.ShloMosaic.θ_run_and (run_ref m' g') (Cert.ReferenceIdeal.Value.run (F := Ideal) m' g'))

theorem claim : Cert.Claim := ⟨Cert.Kernel.Gen.facts, Cert.KernelIdeal.Gen.facts, Cert.ReferenceIdeal.Gen.facts,
  Cert.Pre_names_experts.Gen.facts, Cert.Pre_routed.Gen.facts, frame_p, frame_pi, frame_pi_routed, frame_ri, frame_ri_routed, trivial, algebraic⟩

end Cert.Proof

end
